-- ==== Defs.lean ====
def Pre_Kernel [hPre_sizes_fit : Cert.Pre_sizes_fit.Facts] (m : (ℓ : Loc Cert.Kernel.nD Cert.Kernel.τ Cert.Kernel.sig) → Buf (Elt Bits) ℓ) : Prop :=
  ∀ c : Dev Cert.Kernel.nD,
    (Cert.Pre_sizes_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_sizes_fit : Cert.Pre_sizes_fit.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_sizes_fit_rows_finite [hPre_sizes_fit_rows_finite : Cert.Pre_sizes_fit_rows_finite.Facts] (m : (ℓ : Loc Cert.KernelIdeal.nD Cert.KernelIdeal.τ Cert.KernelIdeal.sig) → Buf (Elt Ideal) ℓ) : Prop :=
  ∀ c : Dev Cert.KernelIdeal.nD,
    (Cert.Pre_sizes_fit_rows_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sizes_fit_rows_finite [hPre_sizes_fit_rows_finite : Cert.Pre_sizes_fit_rows_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sizes_fit_rows_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_sizes_fit : Cert.Pre_sizes_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_sizes_fit : Cert.Pre_sizes_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_sizes_fit_rows_finite [hKernelIdeal : Cert.KernelIdeal.Facts] [hPre_sizes_fit_rows_finite : Cert.Pre_sizes_fit_rows_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sizes_fit_rows_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_sizes_fit_rows_finite [hReferenceIdeal : Cert.ReferenceIdeal.Facts] [hPre_sizes_fit_rows_finite : Cert.Pre_sizes_fit_rows_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sizes_fit_rows_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_sizes_fit_rows_finite [hKernelIdeal : Cert.KernelIdeal.Facts] [hReferenceIdeal : Cert.ReferenceIdeal.Facts] [hPre_sizes_fit_rows_finite : Cert.Pre_sizes_fit_rows_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sizes_fit_rows_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_sizes_fit : Cert.Pre_sizes_fit.Facts) (hPre_sizes_fit_rows_finite : Cert.Pre_sizes_fit_rows_finite.Facts),
    quiescent_Kernel (hKernel := hKernel) (hPre_sizes_fit := hPre_sizes_fit)
    ∧ quiescent_KernelIdeal (hKernelIdeal := hKernelIdeal) (hPre_sizes_fit := hPre_sizes_fit)
    ∧ quiescent_KernelIdeal_pre_sizes_fit_rows_finite (hKernelIdeal := hKernelIdeal) (hPre_sizes_fit_rows_finite := hPre_sizes_fit_rows_finite)
    ∧ quiescent_ReferenceIdeal (hReferenceIdeal := hReferenceIdeal)
    ∧ quiescent_ReferenceIdeal_pre_sizes_fit_rows_finite (hReferenceIdeal := hReferenceIdeal) (hPre_sizes_fit_rows_finite := hPre_sizes_fit_rows_finite)
    ∧ preserves_Kernel_KernelIdeal
    ∧ algebraic_KernelIdeal_ReferenceIdeal_pre_sizes_fit_rows_finite (hKernelIdeal := hKernelIdeal) (hReferenceIdeal := hReferenceIdeal) (hPre_sizes_fit_rows_finite := hPre_sizes_fit_rows_finite)
-- ==== Pre_sizes_fit.lean ====
abbrev S768x5120 : Shape := ⟨2, ![768, 5120]⟩
abbrev S9 : Shape := ⟨1, ![9]⟩
abbrev S9x5120x3072 : Shape := ⟨3, ![9, 5120, 3072]⟩
abbrev S9x3072 : Shape := ⟨2, ![9, 3072]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel

variable [Facts]

def fn {F : FTy → Type} [FloatOps F] (main_arg0 : FVec F S768x5120 .bf16) (main_arg1 : IVec S9 32) (main_arg2 : FVec F S9x5120x3072 .fp8e4m3) (main_arg3 : FVec F S9x3072 .f32) : IVec S_ 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 768#32
  let main_v2 : IVec S9 32 := broadcastInDim S9 ![] bcast_S_S9 main_c_0
  let main_v3 : IVec S9 1 := cmpi .sle main_arg1 main_v2
  let main_v4 : IVec S9 1 := andi main_v1 main_v3
  let main_c_1 : IVec S_ 1 := constantI S_ 1 1#1
  let main_v5 : IVec S_ 1 := (fun x v => Host.reduce IntOp.andi x v reducesTo_S9_S_d0 h_S_) main_v4 main_c_1
  let main_c_2 : IVec S_ 32 := constantI S_ 32 0#32
  let main_v6 : IVec S_ 32 := (fun x v => Host.reduce IntOp.addi x v reducesTo_S9_S_d0 h_S_) main_arg1 main_c_2
  let main_c_3 : IVec S_ 32 := constantI S_ 32 768#32
  let main_v7 : IVec S_ 1 := cmpi .eq main_v6 main_c_3
  let main_v8 : IVec S_ 1 := andi main_v5 main_v7
  main_v8
-- ==== Pre_sizes_fit_rows_finite.lean ====
abbrev S768x5120 : Shape := ⟨2, ![768, 5120]⟩
abbrev S9 : Shape := ⟨1, ![9]⟩
abbrev S9x5120x3072 : Shape := ⟨3, ![9, 5120, 3072]⟩
abbrev S9x3072 : Shape := ⟨2, ![9, 3072]⟩
abbrev S_ : Shape := ⟨0, ![]⟩

class Facts : Prop where
  bcast_S_S9 : S_.BroadcastsInDim S9 (![] : Fin 0 → Fin S9.rank)
  reducesTo_S9_S_d0 : S9.ReducesTo [0] S_
  h_S_ : 0 < S_.numel
  bitsLt_bf16_f32 : FTy.bits .bf16 < FTy.bits .f32
  bcast_S_S768x5120 : S_.BroadcastsInDim S768x5120 (![] : Fin 0 → Fin S768x5120.rank)
  reducesTo_S768x5120_S_d0_1 : S768x5120.ReducesTo [0, 1] S_

variable [Facts]

def fn {F : FTy → Type} [FloatOps F] (main_arg0 : FVec F S768x5120 .bf16) (main_arg1 : IVec S9 32) (main_arg2 : FVec F S9x5120x3072 .fp8e4m3) (main_arg3 : FVec F S9x3072 .f32) : IVec S_ 1 :=
  let main_c : IVec S_ 32 := constantI S_ 32 0#32
  let main_v0 : IVec S9 32 := broadcastInDim S9 ![] bcast_S_S9 main_c
  let main_v1 : IVec S9 1 := cmpi .sge main_arg1 main_v0
  let main_c_0 : IVec S_ 32 := constantI S_ 32 768#32
  let main_v2 : IVec S9 32 := broadcastInDim S9 ![] bcast_S_S9 main_c_0
  let main_v3 : IVec S9 1 := cmpi .sle main_arg1 main_v2
  let main_v4 : IVec S9 1 := andi main_v1 main_v3
  let main_c_1 : IVec S_ 1 := constantI S_ 1 1#1
  let main_v5 : IVec S_ 1 := (fun x v => Host.reduce IntOp.andi x v reducesTo_S9_S_d0 h_S_) main_v4 main_c_1
  let main_c_2 : IVec S_ 32 := constantI S_ 32 0#32
  let main_v6 : IVec S_ 32 := (fun x v => Host.reduce IntOp.addi x v reducesTo_S9_S_d0 h_S_) main_arg1 main_c_2
  let main_c_3 : IVec S_ 32 := constantI S_ 32 768#32
  let main_v7 : IVec S_ 1 := cmpi .eq main_v6 main_c_3
  let main_v8 : IVec S_ 1 := andi main_v5 main_v7
  let main_v9 : FVec F S768x5120 .f32 := (extf .f32 · bitsLt_bf16_f32) main_arg0
  let main_v10 : FVec F S768x5120 .f32 := Host.absf main_v9
  let main_cst : FVec F S_ .f32 := constant S_ .f32 0x7F7F0000#32
  let main_v11 : FVec F S768x5120 .f32 := broadcastInDim S768x5120 ![] bcast_S_S768x5120 main_cst
  let main_v12 : IVec S768x5120 1 := cmpf .ole main_v10 main_v11
  let main_c_4 : IVec S_ 1 := constantI S_ 1 1#1
  let main_v13 : IVec S_ 1 := (fun x v => Host.reduce IntOp.andi x v reducesTo_S768x5120_S_d0_1 h_S_) main_v12 main_c_4
  let main_v14 : IVec S_ 1 := andi main_v8 main_v13
  main_v14
-- ==== Kernel.lean ====
abbrev S768x5120 : Shape := ⟨2, ![768, 5120]⟩
abbrev S9 : Shape := ⟨1, ![9]⟩
abbrev S9x5120x3072 : Shape := ⟨3, ![9, 5120, 3072]⟩
abbrev S9x3072 : Shape := ⟨2, ![9, 3072]⟩
abbrev S768x3072 : Shape := ⟨2, ![768, 3072]⟩
abbrev S10 : Shape := ⟨1, ![10]⟩
abbrev S896x5120 : Shape := ⟨2, ![896, 5120]⟩
abbrev S896x128 : Shape := ⟨2, ![896, 128]⟩
abbrev S12x5120x512 : Shape := ⟨3, ![12, 5120, 512]⟩
abbrev S2x896x512 : Shape := ⟨3, ![2, 896, 512]⟩
abbrev S8 : Shape := ⟨1, ![8]⟩
abbrev S12 : Shape := ⟨1, ![12]⟩
abbrev S2 : Shape := ⟨1, ![2]⟩
abbrev S1 : Shape := ⟨1, ![1]⟩
abbrev S_ : Shape := ⟨0, ![]⟩
abbrev S96x5120 : Shape := ⟨2, ![96, 5120]⟩
abbrev S1x5120x512 : Shape := ⟨3, ![1, 5120, 512]⟩
abbrev S5120x512 : Shape := ⟨2, ![5120, 512]⟩
abbrev S32x128 : Shape := ⟨2, ![32, 128]⟩
abbrev S32 : Shape := ⟨1, ![32]⟩
abbrev S32x1 : Shape := ⟨2, ![32, 1]⟩
abbrev S128x5120 : Shape := ⟨2, ![128, 5120]⟩
abbrev S128x128 : Shape := ⟨2, ![128, 128]⟩
abbrev S768x512 : Shape := ⟨2, ![768, 512]⟩
abbrev S1x768x512 : Shape := ⟨3, ![1, 768, 512]⟩
abbrev S1x512 : Shape := ⟨2, ![1, 512]⟩
abbrev S128x512 : Shape := ⟨2, ![128, 512]⟩
abbrev S1x128x512 : Shape := ⟨3, ![1, 128, 512]⟩

abbrev nBuf : Space → Nat
  | .hbm => 5
  | .vmem => 6
  | .smem => 3
  | _ => 0

abbrev bufTy : (tb : Table) → Fin (tcTables nBuf tb) → BufTy
  | .hbm, ⟨0, _⟩ => ⟨S768x5120, .bf16⟩
  | .hbm, ⟨1, _⟩ => ⟨S9, .i32⟩
  | .hbm, ⟨2, _⟩ => ⟨S9x5120x3072, .fp8e4m3⟩
  | .hbm, ⟨3, _⟩ => ⟨S9x3072, .f32⟩
  | .hbm, ⟨4, _⟩ => ⟨S768x3072, .bf16⟩
  | .local _ .vmem, ⟨0, _⟩ => ⟨S9x3072, .f32⟩
  | .local _ .vmem, ⟨1, _⟩ => ⟨S768x5120, .bf16⟩
  | .local _ .vmem, ⟨2, _⟩ => ⟨S896x5120, .fp8e4m3⟩
  | .local _ .vmem, ⟨3, _⟩ => ⟨S896x128, .f32⟩
  | .local _ .vmem, ⟨4, _⟩ => ⟨S12x5120x512, .fp8e4m3⟩
  | .local _ .vmem, ⟨5, _⟩ => ⟨S2x896x512, .bf16⟩
  | .local _ .smem, ⟨0, _⟩ => ⟨S9, .i32⟩
  | .local _ .smem, ⟨1, _⟩ => ⟨S9, .i32⟩
  | .local _ .smem, ⟨2, _⟩ => ⟨S10, .i32⟩
  | _, _ => ⟨S768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg1_0 : Ref sig .tc := ⟨.vmem, 0, rfl⟩
abbrev cc0_scratch2 : Ref sig .tc := ⟨.vmem, 1, rfl⟩
abbrev cc0_scratch3 : Ref sig .tc := ⟨.vmem, 2, rfl⟩
abbrev cc0_scratch4 : Ref sig .tc := ⟨.vmem, 3, rfl⟩
abbrev cc0_scratch5 : Ref sig .tc := ⟨.vmem, 4, rfl⟩
abbrev cc0_scratch6 : Ref sig .tc := ⟨.vmem, 5, rfl⟩
abbrev cc0_stg0_0 : Ref sig .tc := ⟨.smem, 0, rfl⟩
abbrev cc0_scratch0 : Ref sig .tc := ⟨.smem, 1, rfl⟩
abbrev cc0_scratch1 : Ref sig .tc := ⟨.smem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

def k0_off1 (v36 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let v41 : Index := Scalar.indexCast v39
  ![v41.toNat]

def k0_chk1 (v36 : BitVec 32) : Prop :=
  (∀ a, (k0_off1 v36) a + S1.size a ≤ S10.size a)
theorem k0_off1_inb : ∀ (v36 : BitVec 32) (k0_hw1 : k0_chk1 v36), ∀ a, (k0_off1 v36) a + S1.size a ≤ S10.size a := fun v36 k0_hw1 => k0_hw1

def k0_off2 (v36 : BitVec 32) (v45 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let v50 : Index := Scalar.indexCast v48
  ![v50.toNat]

def k0_chk2 (v36 : BitVec 32) (v45 : BitVec 32) : Prop :=
  (∀ a, (k0_off2 v36 v45) a + S1.size a ≤ S10.size a)
theorem k0_off2_inb : ∀ (v36 : BitVec 32) (v45 : BitVec 32) (k0_hw2 : k0_chk2 v36 v45), ∀ a, (k0_off2 v36 v45) a + S1.size a ≤ S10.size a := fun v36 v45 k0_hw2 => k0_hw2

def k0_off3 (v36 : BitVec 32) (v45 : BitVec 32) (v54 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let v59 : Index := Scalar.indexCast v57
  ![v59.toNat]

def k0_chk3 (v36 : BitVec 32) (v45 : BitVec 32) (v54 : BitVec 32) : Prop :=
  (∀ a, (k0_off3 v36 v45 v54) a + S1.size a ≤ S10.size a)
theorem k0_off3_inb : ∀ (v36 : BitVec 32) (v45 : BitVec 32) (v54 : BitVec 32) (k0_hw3 : k0_chk3 v36 v45 v54), ∀ a, (k0_off3 v36 v45 v54) a + S1.size a ≤ S10.size a := fun v36 v45 v54 k0_hw3 => k0_hw3

def k0_off4 (v36 : BitVec 32) (v45 : BitVec 32) (v54 : BitVec 32) (v63 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let v68 : Index := Scalar.indexCast v66
  ![v68.toNat]

def k0_chk4 (v36 : BitVec 32) (v45 : BitVec 32) (v54 : BitVec 32) (v63 : BitVec 32) : Prop :=
  (∀ a, (k0_off4 v36 v45 v54 v63) a + S1.size a ≤ S10.size a)
theorem k0_off4_inb : ∀ (v36 : BitVec 32) (v45 : BitVec 32) (v54 : BitVec 32) (v63 : BitVec 32) (k0_hw4 : k0_chk4 v36 v45 v54 v63), ∀ a, (k0_off4 v36 v45 v54 v63) a + S1.size a ≤ S10.size a := fun v36 v45 v54 v63 k0_hw4 => k0_hw4

def k0_off5 (v36 : BitVec 32) (v45 : BitVec 32) (v54 : BitVec 32) (v63 : BitVec 32) (v72 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let v77 : Index := Scalar.indexCast v75
  ![v77.toNat]

def k0_chk5 (v36 : BitVec 32) (v45 : BitVec 32) (v54 : BitVec 32) (v63 : BitVec 32) (v72 : BitVec 32) : Prop :=
  (∀ a, (k0_off5 v36 v45 v54 v63 v72) a + S1.size a ≤ S10.size a)
theorem k0_off5_inb : ∀ (v36 : BitVec 32) (v45 : BitVec 32) (v54 : BitVec 32) (v63 : BitVec 32) (v72 : BitVec 32) (k0_hw5 : k0_chk5 v36 v45 v54 v63 v72), ∀ a, (k0_off5 v36 v45 v54 v63 v72) a + S1.size a ≤ S10.size a := fun v36 v45 v54 v63 v72 k0_hw5 => k0_hw5

def k0_off6 (v36 : BitVec 32) (v45 : BitVec 32) (v54 : BitVec 32) (v63 : BitVec 32) (v72 : BitVec 32) (v81 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let v86 : Index := Scalar.indexCast v84
  ![v86.toNat]

def k0_chk6 (v36 : BitVec 32) (v45 : BitVec 32) (v54 : BitVec 32) (v63 : BitVec 32) (v72 : BitVec 32) (v81 : BitVec 32) : Prop :=
  (∀ a, (k0_off6 v36 v45 v54 v63 v72 v81) a + S1.size a ≤ S10.size a)
theorem k0_off6_inb : ∀ (v36 : BitVec 32) (v45 : BitVec 32) (v54 : BitVec 32) (v63 : BitVec 32) (v72 : BitVec 32) (v81 : BitVec 32) (k0_hw6 : k0_chk6 v36 v45 v54 v63 v72 v81), ∀ a, (k0_off6 v36 v45 v54 v63 v72 v81) a + S1.size a ≤ S10.size a := fun v36 v45 v54 v63 v72 v81 k0_hw6 => k0_hw6

def k0_off7 (v36 : BitVec 32) (v45 : BitVec 32) (v54 : BitVec 32) (v63 : BitVec 32) (v72 : BitVec 32) (v81 : BitVec 32) (v90 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let v95 : Index := Scalar.indexCast v93
  ![v95.toNat]

def k0_chk7 (v36 : BitVec 32) (v45 : BitVec 32) (v54 : BitVec 32) (v63 : BitVec 32) (v72 : BitVec 32) (v81 : BitVec 32) (v90 : BitVec 32) : Prop :=
  (∀ a, (k0_off7 v36 v45 v54 v63 v72 v81 v90) a + S1.size a ≤ S10.size a)
theorem k0_off7_inb : ∀ (v36 : BitVec 32) (v45 : BitVec 32) (v54 : BitVec 32) (v63 : BitVec 32) (v72 : BitVec 32) (v81 : BitVec 32) (v90 : BitVec 32) (k0_hw7 : k0_chk7 v36 v45 v54 v63 v72 v81 v90), ∀ a, (k0_off7 v36 v45 v54 v63 v72 v81 v90) a + S1.size a ≤ S10.size a := fun v36 v45 v54 v63 v72 v81 v90 k0_hw7 => k0_hw7

def k0_off8 (v36 : BitVec 32) (v45 : BitVec 32) (v54 : BitVec 32) (v63 : BitVec 32) (v72 : BitVec 32) (v81 : BitVec 32) (v90 : BitVec 32) (v99 : BitVec 32) : Fin 1 → Nat :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let v104 : Index := Scalar.indexCast v102
  ![v104.toNat]

def k0_chk8 (v36 : BitVec 32) (v45 : BitVec 32) (v54 : BitVec 32) (v63 : BitVec 32) (v72 : BitVec 32) (v81 : BitVec 32) (v90 : BitVec 32) (v99 : BitVec 32) : Prop :=
  (∀ a, (k0_off8 v36 v45 v54 v63 v72 v81 v90 v99) a + S1.size a ≤ S10.size a)
theorem k0_off8_inb : ∀ (v36 : BitVec 32) (v45 : BitVec 32) (v54 : BitVec 32) (v63 : BitVec 32) (v72 : BitVec 32) (v81 : BitVec 32) (v90 : BitVec 32) (v99 : BitVec 32) (k0_hw8 : k0_chk8 v36 v45 v54 v63 v72 v81 v90 v99), ∀ a, (k0_off8 v36 v45 v54 v63 v72 v81 v90 v99) a + S1.size a ≤ S10.size a := fun v36 v45 v54 v63 v72 v81 v90 v99 k0_hw8 => k0_hw8

@[reducible] def k0_t1_loop : Scf.Loop 32 :=
  let c0_i32_66 : BitVec 32 := 0#32
  let c12_i32 : BitVec 32 := 12#32
  let v111 : BitVec 32 := Scalar.addi c0_i32_66 c12_i32
  let c1_i32_67 : BitVec 32 := 1#32
  ⟨c0_i32_66, v111, c1_i32_67⟩
def k0_mult1 (arg17 : BitVec 32) : BitVec 32 :=
  let c512_i32 : BitVec 32 := 512#32
  let v189 : BitVec 32 := Scalar.muli arg17 c512_i32
  v189
def k0_cond1 (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) : BitVec 1 :=
  let c0_i32_66 : BitVec 32 := 0#32
  let c1_i32_67 : BitVec 32 := 1#32
  let arg15 : BitVec 32 := Scf.iv c0_i32_66 c1_i32_67 k0_t1
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c6_i32_63 : BitVec 32 := 6#32
  let v110 : BitVec 32 := Scalar.muli v109 c6_i32_63
  let v180 : BitVec 1 := Scalar.cmpi .slt arg15 v110
  let v181 : BitVec 32 := Scalar.extui v180
  let c0_i32_162 : BitVec 32 := 0#32
  let v182 : BitVec 1 := Scalar.cmpi .ne v181 c0_i32_162
  v182

def k0_chk9 (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg17 : BitVec 32) : Prop :=
  (∀ (k0_h1 : k0_cond1 v36 v45 v54 v63 v72 v81 v90 v99 v106 k0_t1 = 1#1), 512 ∣ (k0_mult1 arg17).toNat)
theorem k0_mult1_dvd : ∀ (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg17 : BitVec 32) (k0_hw9 : k0_chk9 v36 v45 v54 v63 v72 v81 v90 v99 v106 k0_t1 arg17), ∀ (k0_h1 : k0_cond1 v36 v45 v54 v63 v72 v81 v90 v99 v106 k0_t1 = 1#1), 512 ∣ (k0_mult1 arg17).toNat := fun v36 v45 v54 v63 v72 v81 v90 v99 v106 k0_t1 arg17 k0_hw9 k0_h1 => k0_hw9 k0_h1

def k0_off9 (arg16 : BitVec 32) : Fin 1 → Nat :=
  let v191 : Index := Scalar.indexCast arg16
  ![v191.toNat]

def k0_chk10 (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg16 : BitVec 32) : Prop :=
  (∀ (k0_h1 : k0_cond1 v36 v45 v54 v63 v72 v81 v90 v99 v106 k0_t1 = 1#1), ∀ a, (k0_off9 arg16) a + S1.size a ≤ S10.size a)
theorem k0_off9_inb : ∀ (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg16 : BitVec 32) (k0_hw10 : k0_chk10 v36 v45 v54 v63 v72 v81 v90 v99 v106 k0_t1 arg16), ∀ (k0_h1 : k0_cond1 v36 v45 v54 v63 v72 v81 v90 v99 v106 k0_t1 = 1#1), ∀ a, (k0_off9 arg16) a + S1.size a ≤ S10.size a := fun v36 v45 v54 v63 v72 v81 v90 v99 v106 k0_t1 arg16 k0_hw10 k0_h1 => k0_hw10 k0_h1

def k0_off10 (k0_t1 : Fin k0_t1_loop.trips) : Fin 1 → Nat :=
  let c0_i32_66 : BitVec 32 := 0#32
  let c1_i32_67 : BitVec 32 := 1#32
  let arg15 : BitVec 32 := Scf.iv c0_i32_66 c1_i32_67 k0_t1
  ![arg15.toNat]
def k0_off11 (k0_t1 : Fin k0_t1_loop.trips) : Fin 3 → Nat :=
  let c0_i32_66 : BitVec 32 := 0#32
  let c1_i32_67 : BitVec 32 := 1#32
  let arg15 : BitVec 32 := Scf.iv c0_i32_66 c1_i32_67 k0_t1
  let c0_i32_167 : BitVec 32 := 0#32
  let c0_i32_168 : BitVec 32 := 0#32
  ![arg15.toNat, 0, 0]
def k0_off12 (arg17 : BitVec 32) (v192 : BitVec 32) : Fin 3 → Nat :=
  let c0_i32_169 : BitVec 32 := 0#32
  let c512_i32 : BitVec 32 := 512#32
  let v189 : BitVec 32 := Scalar.muli arg17 c512_i32
  let v190 : BitVec 32 := v189
  ![v192.toNat, 0, v190.toNat]

def k0_chk11 (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg17 : BitVec 32) (v192 : BitVec 32) : Prop :=
  (∀ (k0_h1 : k0_cond1 v36 v45 v54 v63 v72 v81 v90 v99 v106 k0_t1 = 1#1), ∀ a, (k0_off12 arg17 v192) a + S1x5120x512.size a ≤ S9x5120x3072.size a) ∧
  (∀ (k0_h1 : k0_cond1 v36 v45 v54 v63 v72 v81 v90 v99 v106 k0_t1 = 1#1), ∀ (hinb : ∀ a, (k0_off12 arg17 v192) a + S1x5120x512.size a ≤ S9x5120x3072.size a), (Rect.unit (s := S9x5120x3072) (k0_off12 arg17 v192) S1x5120x512.size hinb).WholeWords (EltTy.packing .fp8e4m3))
theorem k0_off12_inb : ∀ (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg17 : BitVec 32) (v192 : BitVec 32) (k0_hw11 : k0_chk11 v36 v45 v54 v63 v72 v81 v90 v99 v106 k0_t1 arg17 v192), ∀ (k0_h1 : k0_cond1 v36 v45 v54 v63 v72 v81 v90 v99 v106 k0_t1 = 1#1), ∀ a, (k0_off12 arg17 v192) a + S1x5120x512.size a ≤ S9x5120x3072.size a := fun v36 v45 v54 v63 v72 v81 v90 v99 v106 k0_t1 arg17 v192 k0_hw11 k0_h1 => k0_hw11.1 k0_h1
theorem k0_off12_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t1 : Fin k0_t1_loop.trips) (arg17 : BitVec 32) (v192 : BitVec 32) (k0_hw11 : k0_chk11 v36 v45 v54 v63 v72 v81 v90 v99 v106 k0_t1 arg17 v192), ∀ (k0_h1 : k0_cond1 v36 v45 v54 v63 v72 v81 v90 v99 v106 k0_t1 = 1#1), (Rect.unit (s := S9x5120x3072) (k0_off12 arg17 v192) S1x5120x512.size (k0_off12_inb v36 v45 v54 v63 v72 v81 v90 v99 v106 k0_t1 arg17 v192 k0_hw11 k0_h1)).WholeWords (EltTy.packing .fp8e4m3) := fun v36 v45 v54 v63 v72 v81 v90 v99 v106 k0_t1 arg17 v192 k0_hw11 k0_h1 => k0_hw11.2 k0_h1 (k0_off12_inb v36 v45 v54 v63 v72 v81 v90 v99 v106 k0_t1 arg17 v192 k0_hw11 k0_h1)

@[reducible] def k0_t2_loop : Scf.Loop 32 :=
  let c0_i32_74 : BitVec 32 := 0#32
  let c3_i32_75 : BitVec 32 := 3#32
  let v117 : BitVec 32 := Scalar.addi c0_i32_74 c3_i32_75
  let c1_i32_76 : BitVec 32 := 1#32
  ⟨c0_i32_74, v117, c1_i32_76⟩
def k0_mult2 (k0_t2 : Fin k0_t2_loop.trips) : BitVec 32 :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  v183
def k0_off13 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v185 : Index := Scalar.indexCast v184
  let c0_165 : Index := 0#32
  ![v185.toNat, 0]
def k0_off14 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v188 : Index := Scalar.indexCast v184
  let c128 : Index := 128#32
  ![v188.toNat, 128]
def k0_off15 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v192 : Index := Scalar.indexCast v184
  let c256 : Index := 256#32
  ![v192.toNat, 256]
def k0_off16 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v196 : Index := Scalar.indexCast v184
  let c384 : Index := 384#32
  ![v196.toNat, 384]
def k0_off17 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v200 : Index := Scalar.indexCast v184
  let c512 : Index := 512#32
  ![v200.toNat, 512]
def k0_off18 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v204 : Index := Scalar.indexCast v184
  let c640 : Index := 640#32
  ![v204.toNat, 640]
def k0_off19 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v208 : Index := Scalar.indexCast v184
  let c768_166 : Index := 768#32
  ![v208.toNat, 768]
def k0_off20 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v212 : Index := Scalar.indexCast v184
  let c896 : Index := 896#32
  ![v212.toNat, 896]
def k0_off21 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v216 : Index := Scalar.indexCast v184
  let c1024 : Index := 1024#32
  ![v216.toNat, 1024]
def k0_off22 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v220 : Index := Scalar.indexCast v184
  let c1152 : Index := 1152#32
  ![v220.toNat, 1152]
def k0_off23 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v224 : Index := Scalar.indexCast v184
  let c1280 : Index := 1280#32
  ![v224.toNat, 1280]
def k0_off24 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v228 : Index := Scalar.indexCast v184
  let c1408 : Index := 1408#32
  ![v228.toNat, 1408]
def k0_off25 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v232 : Index := Scalar.indexCast v184
  let c1536 : Index := 1536#32
  ![v232.toNat, 1536]
def k0_off26 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v236 : Index := Scalar.indexCast v184
  let c1664 : Index := 1664#32
  ![v236.toNat, 1664]
def k0_off27 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v240 : Index := Scalar.indexCast v184
  let c1792 : Index := 1792#32
  ![v240.toNat, 1792]
def k0_off28 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v244 : Index := Scalar.indexCast v184
  let c1920 : Index := 1920#32
  ![v244.toNat, 1920]
def k0_off29 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v248 : Index := Scalar.indexCast v184
  let c2048 : Index := 2048#32
  ![v248.toNat, 2048]
def k0_off30 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v252 : Index := Scalar.indexCast v184
  let c2176 : Index := 2176#32
  ![v252.toNat, 2176]
def k0_off31 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v256 : Index := Scalar.indexCast v184
  let c2304 : Index := 2304#32
  ![v256.toNat, 2304]
def k0_off32 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v260 : Index := Scalar.indexCast v184
  let c2432 : Index := 2432#32
  ![v260.toNat, 2432]
def k0_off33 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v264 : Index := Scalar.indexCast v184
  let c2560 : Index := 2560#32
  ![v264.toNat, 2560]
def k0_off34 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v268 : Index := Scalar.indexCast v184
  let c2688 : Index := 2688#32
  ![v268.toNat, 2688]
def k0_off35 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v272 : Index := Scalar.indexCast v184
  let c2816 : Index := 2816#32
  ![v272.toNat, 2816]
def k0_off36 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v276 : Index := Scalar.indexCast v184
  let c2944 : Index := 2944#32
  ![v276.toNat, 2944]
def k0_off37 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v280 : Index := Scalar.indexCast v184
  let c3072 : Index := 3072#32
  ![v280.toNat, 3072]
def k0_off38 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v284 : Index := Scalar.indexCast v184
  let c3200 : Index := 3200#32
  ![v284.toNat, 3200]
def k0_off39 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v288 : Index := Scalar.indexCast v184
  let c3328 : Index := 3328#32
  ![v288.toNat, 3328]
def k0_off40 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v292 : Index := Scalar.indexCast v184
  let c3456 : Index := 3456#32
  ![v292.toNat, 3456]
def k0_off41 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v296 : Index := Scalar.indexCast v184
  let c3584 : Index := 3584#32
  ![v296.toNat, 3584]
def k0_off42 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v300 : Index := Scalar.indexCast v184
  let c3712 : Index := 3712#32
  ![v300.toNat, 3712]
def k0_off43 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v304 : Index := Scalar.indexCast v184
  let c3840 : Index := 3840#32
  ![v304.toNat, 3840]
def k0_off44 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v308 : Index := Scalar.indexCast v184
  let c3968 : Index := 3968#32
  ![v308.toNat, 3968]
def k0_off45 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v312 : Index := Scalar.indexCast v184
  let c4096 : Index := 4096#32
  ![v312.toNat, 4096]
def k0_off46 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v316 : Index := Scalar.indexCast v184
  let c4224 : Index := 4224#32
  ![v316.toNat, 4224]
def k0_off47 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v320 : Index := Scalar.indexCast v184
  let c4352 : Index := 4352#32
  ![v320.toNat, 4352]
def k0_off48 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v324 : Index := Scalar.indexCast v184
  let c4480 : Index := 4480#32
  ![v324.toNat, 4480]
def k0_off49 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v328 : Index := Scalar.indexCast v184
  let c4608 : Index := 4608#32
  ![v328.toNat, 4608]
def k0_off50 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v332 : Index := Scalar.indexCast v184
  let c4736 : Index := 4736#32
  ![v332.toNat, 4736]
def k0_off51 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v336 : Index := Scalar.indexCast v184
  let c4864 : Index := 4864#32
  ![v336.toNat, 4864]
def k0_off52 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v340 : Index := Scalar.indexCast v184
  let c4992 : Index := 4992#32
  ![v340.toNat, 4992]
def k0_off53 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v428 : Index := Scalar.indexCast v184
  let c0_189 : Index := 0#32
  ![v428.toNat, 0]
def k0_off54 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v445 : Index := Scalar.indexCast v184
  let c0_193 : Index := 0#32
  ![v445.toNat, 0]
def k0_off55 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v459 : Index := Scalar.indexCast v184
  let c128_197 : Index := 128#32
  ![v459.toNat, 128]
def k0_off56 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v473 : Index := Scalar.indexCast v184
  let c256_201 : Index := 256#32
  ![v473.toNat, 256]
def k0_off57 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v487 : Index := Scalar.indexCast v184
  let c384_205 : Index := 384#32
  ![v487.toNat, 384]
def k0_off58 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v501 : Index := Scalar.indexCast v184
  let c512_209 : Index := 512#32
  ![v501.toNat, 512]
def k0_off59 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v515 : Index := Scalar.indexCast v184
  let c640_213 : Index := 640#32
  ![v515.toNat, 640]
def k0_off60 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v529 : Index := Scalar.indexCast v184
  let c768_217 : Index := 768#32
  ![v529.toNat, 768]
def k0_off61 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v543 : Index := Scalar.indexCast v184
  let c896_221 : Index := 896#32
  ![v543.toNat, 896]
def k0_off62 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v557 : Index := Scalar.indexCast v184
  let c1024_225 : Index := 1024#32
  ![v557.toNat, 1024]
def k0_off63 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v571 : Index := Scalar.indexCast v184
  let c1152_229 : Index := 1152#32
  ![v571.toNat, 1152]
def k0_off64 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v585 : Index := Scalar.indexCast v184
  let c1280_233 : Index := 1280#32
  ![v585.toNat, 1280]
def k0_off65 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v599 : Index := Scalar.indexCast v184
  let c1408_237 : Index := 1408#32
  ![v599.toNat, 1408]
def k0_off66 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v613 : Index := Scalar.indexCast v184
  let c1536_241 : Index := 1536#32
  ![v613.toNat, 1536]
def k0_off67 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v627 : Index := Scalar.indexCast v184
  let c1664_245 : Index := 1664#32
  ![v627.toNat, 1664]
def k0_off68 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v641 : Index := Scalar.indexCast v184
  let c1792_249 : Index := 1792#32
  ![v641.toNat, 1792]
def k0_off69 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v655 : Index := Scalar.indexCast v184
  let c1920_253 : Index := 1920#32
  ![v655.toNat, 1920]
def k0_off70 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v669 : Index := Scalar.indexCast v184
  let c2048_257 : Index := 2048#32
  ![v669.toNat, 2048]
def k0_off71 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v683 : Index := Scalar.indexCast v184
  let c2176_261 : Index := 2176#32
  ![v683.toNat, 2176]
def k0_off72 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v697 : Index := Scalar.indexCast v184
  let c2304_265 : Index := 2304#32
  ![v697.toNat, 2304]
def k0_off73 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v711 : Index := Scalar.indexCast v184
  let c2432_269 : Index := 2432#32
  ![v711.toNat, 2432]
def k0_off74 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v725 : Index := Scalar.indexCast v184
  let c2560_273 : Index := 2560#32
  ![v725.toNat, 2560]
def k0_off75 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v739 : Index := Scalar.indexCast v184
  let c2688_277 : Index := 2688#32
  ![v739.toNat, 2688]
def k0_off76 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v753 : Index := Scalar.indexCast v184
  let c2816_281 : Index := 2816#32
  ![v753.toNat, 2816]
def k0_off77 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v767 : Index := Scalar.indexCast v184
  let c2944_285 : Index := 2944#32
  ![v767.toNat, 2944]
def k0_off78 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v781 : Index := Scalar.indexCast v184
  let c3072_289 : Index := 3072#32
  ![v781.toNat, 3072]
def k0_off79 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v795 : Index := Scalar.indexCast v184
  let c3200_293 : Index := 3200#32
  ![v795.toNat, 3200]
def k0_off80 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v809 : Index := Scalar.indexCast v184
  let c3328_297 : Index := 3328#32
  ![v809.toNat, 3328]
def k0_off81 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v823 : Index := Scalar.indexCast v184
  let c3456_301 : Index := 3456#32
  ![v823.toNat, 3456]
def k0_off82 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v837 : Index := Scalar.indexCast v184
  let c3584_305 : Index := 3584#32
  ![v837.toNat, 3584]
def k0_off83 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v851 : Index := Scalar.indexCast v184
  let c3712_309 : Index := 3712#32
  ![v851.toNat, 3712]
def k0_off84 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v865 : Index := Scalar.indexCast v184
  let c3840_313 : Index := 3840#32
  ![v865.toNat, 3840]
def k0_off85 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v879 : Index := Scalar.indexCast v184
  let c3968_317 : Index := 3968#32
  ![v879.toNat, 3968]
def k0_off86 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v893 : Index := Scalar.indexCast v184
  let c4096_321 : Index := 4096#32
  ![v893.toNat, 4096]
def k0_off87 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v907 : Index := Scalar.indexCast v184
  let c4224_325 : Index := 4224#32
  ![v907.toNat, 4224]
def k0_off88 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v921 : Index := Scalar.indexCast v184
  let c4352_329 : Index := 4352#32
  ![v921.toNat, 4352]
def k0_off89 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v935 : Index := Scalar.indexCast v184
  let c4480_333 : Index := 4480#32
  ![v935.toNat, 4480]
def k0_off90 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v949 : Index := Scalar.indexCast v184
  let c4608_337 : Index := 4608#32
  ![v949.toNat, 4608]
def k0_off91 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v963 : Index := Scalar.indexCast v184
  let c4736_341 : Index := 4736#32
  ![v963.toNat, 4736]
def k0_off92 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v977 : Index := Scalar.indexCast v184
  let c4864_345 : Index := 4864#32
  ![v977.toNat, 4864]
def k0_off93 (k0_t2 : Fin k0_t2_loop.trips) : Fin 2 → Nat :=
  let c0_i32_164 : BitVec 32 := 0#32
  let c0_i32_163 : BitVec 32 := 0#32
  let c0_i32_74 : BitVec 32 := 0#32
  let c1_i32_76 : BitVec 32 := 1#32
  let arg15 : BitVec 32 := Scf.iv c0_i32_74 c1_i32_76 k0_t2
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c0_i32_164 v182
  let v184 : BitVec 32 := v183
  let v991 : Index := Scalar.indexCast v184
  let c4992_349 : Index := 4992#32
  ![v991.toNat, 4992]
@[reducible] def k0_t3_loop : Scf.Loop 32 :=
  let c0_i32_83 : BitVec 32 := 0#32
  let c3_i32_84 : BitVec 32 := 3#32
  let v122 : BitVec 32 := Scalar.addi c0_i32_83 c3_i32_84
  let c1_i32_85 : BitVec 32 := 1#32
  ⟨c0_i32_83, v122, c1_i32_85⟩
def k0_mult3 (k0_t3 : Fin k0_t3_loop.trips) : BitVec 32 :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  v183
def k0_off94 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v185 : Index := Scalar.indexCast v184
  let c0_165 : Index := 0#32
  ![v185.toNat, 0]
def k0_off95 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v188 : Index := Scalar.indexCast v184
  let c128 : Index := 128#32
  ![v188.toNat, 128]
def k0_off96 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v192 : Index := Scalar.indexCast v184
  let c256 : Index := 256#32
  ![v192.toNat, 256]
def k0_off97 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v196 : Index := Scalar.indexCast v184
  let c384 : Index := 384#32
  ![v196.toNat, 384]
def k0_off98 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v200 : Index := Scalar.indexCast v184
  let c512 : Index := 512#32
  ![v200.toNat, 512]
def k0_off99 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v204 : Index := Scalar.indexCast v184
  let c640 : Index := 640#32
  ![v204.toNat, 640]
def k0_off100 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v208 : Index := Scalar.indexCast v184
  let c768_166 : Index := 768#32
  ![v208.toNat, 768]
def k0_off101 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v212 : Index := Scalar.indexCast v184
  let c896 : Index := 896#32
  ![v212.toNat, 896]
def k0_off102 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v216 : Index := Scalar.indexCast v184
  let c1024 : Index := 1024#32
  ![v216.toNat, 1024]
def k0_off103 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v220 : Index := Scalar.indexCast v184
  let c1152 : Index := 1152#32
  ![v220.toNat, 1152]
def k0_off104 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v224 : Index := Scalar.indexCast v184
  let c1280 : Index := 1280#32
  ![v224.toNat, 1280]
def k0_off105 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v228 : Index := Scalar.indexCast v184
  let c1408 : Index := 1408#32
  ![v228.toNat, 1408]
def k0_off106 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v232 : Index := Scalar.indexCast v184
  let c1536 : Index := 1536#32
  ![v232.toNat, 1536]
def k0_off107 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v236 : Index := Scalar.indexCast v184
  let c1664 : Index := 1664#32
  ![v236.toNat, 1664]
def k0_off108 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v240 : Index := Scalar.indexCast v184
  let c1792 : Index := 1792#32
  ![v240.toNat, 1792]
def k0_off109 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v244 : Index := Scalar.indexCast v184
  let c1920 : Index := 1920#32
  ![v244.toNat, 1920]
def k0_off110 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v248 : Index := Scalar.indexCast v184
  let c2048 : Index := 2048#32
  ![v248.toNat, 2048]
def k0_off111 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v252 : Index := Scalar.indexCast v184
  let c2176 : Index := 2176#32
  ![v252.toNat, 2176]
def k0_off112 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v256 : Index := Scalar.indexCast v184
  let c2304 : Index := 2304#32
  ![v256.toNat, 2304]
def k0_off113 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v260 : Index := Scalar.indexCast v184
  let c2432 : Index := 2432#32
  ![v260.toNat, 2432]
def k0_off114 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v264 : Index := Scalar.indexCast v184
  let c2560 : Index := 2560#32
  ![v264.toNat, 2560]
def k0_off115 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v268 : Index := Scalar.indexCast v184
  let c2688 : Index := 2688#32
  ![v268.toNat, 2688]
def k0_off116 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v272 : Index := Scalar.indexCast v184
  let c2816 : Index := 2816#32
  ![v272.toNat, 2816]
def k0_off117 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v276 : Index := Scalar.indexCast v184
  let c2944 : Index := 2944#32
  ![v276.toNat, 2944]
def k0_off118 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v280 : Index := Scalar.indexCast v184
  let c3072 : Index := 3072#32
  ![v280.toNat, 3072]
def k0_off119 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v284 : Index := Scalar.indexCast v184
  let c3200 : Index := 3200#32
  ![v284.toNat, 3200]
def k0_off120 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v288 : Index := Scalar.indexCast v184
  let c3328 : Index := 3328#32
  ![v288.toNat, 3328]
def k0_off121 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v292 : Index := Scalar.indexCast v184
  let c3456 : Index := 3456#32
  ![v292.toNat, 3456]
def k0_off122 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v296 : Index := Scalar.indexCast v184
  let c3584 : Index := 3584#32
  ![v296.toNat, 3584]
def k0_off123 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v300 : Index := Scalar.indexCast v184
  let c3712 : Index := 3712#32
  ![v300.toNat, 3712]
def k0_off124 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v304 : Index := Scalar.indexCast v184
  let c3840 : Index := 3840#32
  ![v304.toNat, 3840]
def k0_off125 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v308 : Index := Scalar.indexCast v184
  let c3968 : Index := 3968#32
  ![v308.toNat, 3968]
def k0_off126 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v312 : Index := Scalar.indexCast v184
  let c4096 : Index := 4096#32
  ![v312.toNat, 4096]
def k0_off127 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v316 : Index := Scalar.indexCast v184
  let c4224 : Index := 4224#32
  ![v316.toNat, 4224]
def k0_off128 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v320 : Index := Scalar.indexCast v184
  let c4352 : Index := 4352#32
  ![v320.toNat, 4352]
def k0_off129 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v324 : Index := Scalar.indexCast v184
  let c4480 : Index := 4480#32
  ![v324.toNat, 4480]
def k0_off130 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v328 : Index := Scalar.indexCast v184
  let c4608 : Index := 4608#32
  ![v328.toNat, 4608]
def k0_off131 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v332 : Index := Scalar.indexCast v184
  let c4736 : Index := 4736#32
  ![v332.toNat, 4736]
def k0_off132 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v336 : Index := Scalar.indexCast v184
  let c4864 : Index := 4864#32
  ![v336.toNat, 4864]
def k0_off133 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v340 : Index := Scalar.indexCast v184
  let c4992 : Index := 4992#32
  ![v340.toNat, 4992]
def k0_off134 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v428 : Index := Scalar.indexCast v184
  let c0_189 : Index := 0#32
  ![v428.toNat, 0]
def k0_off135 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v445 : Index := Scalar.indexCast v184
  let c0_193 : Index := 0#32
  ![v445.toNat, 0]
def k0_off136 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v459 : Index := Scalar.indexCast v184
  let c128_197 : Index := 128#32
  ![v459.toNat, 128]
def k0_off137 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v473 : Index := Scalar.indexCast v184
  let c256_201 : Index := 256#32
  ![v473.toNat, 256]
def k0_off138 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v487 : Index := Scalar.indexCast v184
  let c384_205 : Index := 384#32
  ![v487.toNat, 384]
def k0_off139 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v501 : Index := Scalar.indexCast v184
  let c512_209 : Index := 512#32
  ![v501.toNat, 512]
def k0_off140 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v515 : Index := Scalar.indexCast v184
  let c640_213 : Index := 640#32
  ![v515.toNat, 640]
def k0_off141 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v529 : Index := Scalar.indexCast v184
  let c768_217 : Index := 768#32
  ![v529.toNat, 768]
def k0_off142 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v543 : Index := Scalar.indexCast v184
  let c896_221 : Index := 896#32
  ![v543.toNat, 896]
def k0_off143 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v557 : Index := Scalar.indexCast v184
  let c1024_225 : Index := 1024#32
  ![v557.toNat, 1024]
def k0_off144 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v571 : Index := Scalar.indexCast v184
  let c1152_229 : Index := 1152#32
  ![v571.toNat, 1152]
def k0_off145 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v585 : Index := Scalar.indexCast v184
  let c1280_233 : Index := 1280#32
  ![v585.toNat, 1280]
def k0_off146 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v599 : Index := Scalar.indexCast v184
  let c1408_237 : Index := 1408#32
  ![v599.toNat, 1408]
def k0_off147 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v613 : Index := Scalar.indexCast v184
  let c1536_241 : Index := 1536#32
  ![v613.toNat, 1536]
def k0_off148 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v627 : Index := Scalar.indexCast v184
  let c1664_245 : Index := 1664#32
  ![v627.toNat, 1664]
def k0_off149 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v641 : Index := Scalar.indexCast v184
  let c1792_249 : Index := 1792#32
  ![v641.toNat, 1792]
def k0_off150 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v655 : Index := Scalar.indexCast v184
  let c1920_253 : Index := 1920#32
  ![v655.toNat, 1920]
def k0_off151 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v669 : Index := Scalar.indexCast v184
  let c2048_257 : Index := 2048#32
  ![v669.toNat, 2048]
def k0_off152 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v683 : Index := Scalar.indexCast v184
  let c2176_261 : Index := 2176#32
  ![v683.toNat, 2176]
def k0_off153 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v697 : Index := Scalar.indexCast v184
  let c2304_265 : Index := 2304#32
  ![v697.toNat, 2304]
def k0_off154 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v711 : Index := Scalar.indexCast v184
  let c2432_269 : Index := 2432#32
  ![v711.toNat, 2432]
def k0_off155 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v725 : Index := Scalar.indexCast v184
  let c2560_273 : Index := 2560#32
  ![v725.toNat, 2560]
def k0_off156 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v739 : Index := Scalar.indexCast v184
  let c2688_277 : Index := 2688#32
  ![v739.toNat, 2688]
def k0_off157 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v753 : Index := Scalar.indexCast v184
  let c2816_281 : Index := 2816#32
  ![v753.toNat, 2816]
def k0_off158 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v767 : Index := Scalar.indexCast v184
  let c2944_285 : Index := 2944#32
  ![v767.toNat, 2944]
def k0_off159 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v781 : Index := Scalar.indexCast v184
  let c3072_289 : Index := 3072#32
  ![v781.toNat, 3072]
def k0_off160 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v795 : Index := Scalar.indexCast v184
  let c3200_293 : Index := 3200#32
  ![v795.toNat, 3200]
def k0_off161 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v809 : Index := Scalar.indexCast v184
  let c3328_297 : Index := 3328#32
  ![v809.toNat, 3328]
def k0_off162 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v823 : Index := Scalar.indexCast v184
  let c3456_301 : Index := 3456#32
  ![v823.toNat, 3456]
def k0_off163 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v837 : Index := Scalar.indexCast v184
  let c3584_305 : Index := 3584#32
  ![v837.toNat, 3584]
def k0_off164 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v851 : Index := Scalar.indexCast v184
  let c3712_309 : Index := 3712#32
  ![v851.toNat, 3712]
def k0_off165 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v865 : Index := Scalar.indexCast v184
  let c3840_313 : Index := 3840#32
  ![v865.toNat, 3840]
def k0_off166 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v879 : Index := Scalar.indexCast v184
  let c3968_317 : Index := 3968#32
  ![v879.toNat, 3968]
def k0_off167 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v893 : Index := Scalar.indexCast v184
  let c4096_321 : Index := 4096#32
  ![v893.toNat, 4096]
def k0_off168 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v907 : Index := Scalar.indexCast v184
  let c4224_325 : Index := 4224#32
  ![v907.toNat, 4224]
def k0_off169 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v921 : Index := Scalar.indexCast v184
  let c4352_329 : Index := 4352#32
  ![v921.toNat, 4352]
def k0_off170 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v935 : Index := Scalar.indexCast v184
  let c4480_333 : Index := 4480#32
  ![v935.toNat, 4480]
def k0_off171 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v949 : Index := Scalar.indexCast v184
  let c4608_337 : Index := 4608#32
  ![v949.toNat, 4608]
def k0_off172 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v963 : Index := Scalar.indexCast v184
  let c4736_341 : Index := 4736#32
  ![v963.toNat, 4736]
def k0_off173 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v977 : Index := Scalar.indexCast v184
  let c4864_345 : Index := 4864#32
  ![v977.toNat, 4864]
def k0_off174 (k0_t3 : Fin k0_t3_loop.trips) : Fin 2 → Nat :=
  let c96_i32_164 : BitVec 32 := 96#32
  let c0_i32_163 : BitVec 32 := 0#32
  let c0_i32_83 : BitVec 32 := 0#32
  let c1_i32_85 : BitVec 32 := 1#32
  let arg15 : BitVec 32 := Scf.iv c0_i32_83 c1_i32_85 k0_t3
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c96_i32_164 v182
  let v184 : BitVec 32 := v183
  let v991 : Index := Scalar.indexCast v184
  let c4992_349 : Index := 4992#32
  ![v991.toNat, 4992]
@[reducible] def k0_t4_loop : Scf.Loop 32 :=
  let c0_i32_92 : BitVec 32 := 0#32
  let c3_i32_93 : BitVec 32 := 3#32
  let v127 : BitVec 32 := Scalar.addi c0_i32_92 c3_i32_93
  let c1_i32_94 : BitVec 32 := 1#32
  ⟨c0_i32_92, v127, c1_i32_94⟩
def k0_mult4 (k0_t4 : Fin k0_t4_loop.trips) : BitVec 32 :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  v183
def k0_off175 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v185 : Index := Scalar.indexCast v184
  let c0_165 : Index := 0#32
  ![v185.toNat, 0]
def k0_off176 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v188 : Index := Scalar.indexCast v184
  let c128 : Index := 128#32
  ![v188.toNat, 128]
def k0_off177 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v192 : Index := Scalar.indexCast v184
  let c256 : Index := 256#32
  ![v192.toNat, 256]
def k0_off178 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v196 : Index := Scalar.indexCast v184
  let c384 : Index := 384#32
  ![v196.toNat, 384]
def k0_off179 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v200 : Index := Scalar.indexCast v184
  let c512 : Index := 512#32
  ![v200.toNat, 512]
def k0_off180 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v204 : Index := Scalar.indexCast v184
  let c640 : Index := 640#32
  ![v204.toNat, 640]
def k0_off181 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v208 : Index := Scalar.indexCast v184
  let c768_166 : Index := 768#32
  ![v208.toNat, 768]
def k0_off182 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v212 : Index := Scalar.indexCast v184
  let c896 : Index := 896#32
  ![v212.toNat, 896]
def k0_off183 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v216 : Index := Scalar.indexCast v184
  let c1024 : Index := 1024#32
  ![v216.toNat, 1024]
def k0_off184 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v220 : Index := Scalar.indexCast v184
  let c1152 : Index := 1152#32
  ![v220.toNat, 1152]
def k0_off185 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v224 : Index := Scalar.indexCast v184
  let c1280 : Index := 1280#32
  ![v224.toNat, 1280]
def k0_off186 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v228 : Index := Scalar.indexCast v184
  let c1408 : Index := 1408#32
  ![v228.toNat, 1408]
def k0_off187 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v232 : Index := Scalar.indexCast v184
  let c1536 : Index := 1536#32
  ![v232.toNat, 1536]
def k0_off188 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v236 : Index := Scalar.indexCast v184
  let c1664 : Index := 1664#32
  ![v236.toNat, 1664]
def k0_off189 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v240 : Index := Scalar.indexCast v184
  let c1792 : Index := 1792#32
  ![v240.toNat, 1792]
def k0_off190 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v244 : Index := Scalar.indexCast v184
  let c1920 : Index := 1920#32
  ![v244.toNat, 1920]
def k0_off191 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v248 : Index := Scalar.indexCast v184
  let c2048 : Index := 2048#32
  ![v248.toNat, 2048]
def k0_off192 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v252 : Index := Scalar.indexCast v184
  let c2176 : Index := 2176#32
  ![v252.toNat, 2176]
def k0_off193 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v256 : Index := Scalar.indexCast v184
  let c2304 : Index := 2304#32
  ![v256.toNat, 2304]
def k0_off194 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v260 : Index := Scalar.indexCast v184
  let c2432 : Index := 2432#32
  ![v260.toNat, 2432]
def k0_off195 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v264 : Index := Scalar.indexCast v184
  let c2560 : Index := 2560#32
  ![v264.toNat, 2560]
def k0_off196 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v268 : Index := Scalar.indexCast v184
  let c2688 : Index := 2688#32
  ![v268.toNat, 2688]
def k0_off197 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v272 : Index := Scalar.indexCast v184
  let c2816 : Index := 2816#32
  ![v272.toNat, 2816]
def k0_off198 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v276 : Index := Scalar.indexCast v184
  let c2944 : Index := 2944#32
  ![v276.toNat, 2944]
def k0_off199 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v280 : Index := Scalar.indexCast v184
  let c3072 : Index := 3072#32
  ![v280.toNat, 3072]
def k0_off200 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v284 : Index := Scalar.indexCast v184
  let c3200 : Index := 3200#32
  ![v284.toNat, 3200]
def k0_off201 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v288 : Index := Scalar.indexCast v184
  let c3328 : Index := 3328#32
  ![v288.toNat, 3328]
def k0_off202 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v292 : Index := Scalar.indexCast v184
  let c3456 : Index := 3456#32
  ![v292.toNat, 3456]
def k0_off203 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v296 : Index := Scalar.indexCast v184
  let c3584 : Index := 3584#32
  ![v296.toNat, 3584]
def k0_off204 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v300 : Index := Scalar.indexCast v184
  let c3712 : Index := 3712#32
  ![v300.toNat, 3712]
def k0_off205 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v304 : Index := Scalar.indexCast v184
  let c3840 : Index := 3840#32
  ![v304.toNat, 3840]
def k0_off206 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v308 : Index := Scalar.indexCast v184
  let c3968 : Index := 3968#32
  ![v308.toNat, 3968]
def k0_off207 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v312 : Index := Scalar.indexCast v184
  let c4096 : Index := 4096#32
  ![v312.toNat, 4096]
def k0_off208 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v316 : Index := Scalar.indexCast v184
  let c4224 : Index := 4224#32
  ![v316.toNat, 4224]
def k0_off209 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v320 : Index := Scalar.indexCast v184
  let c4352 : Index := 4352#32
  ![v320.toNat, 4352]
def k0_off210 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v324 : Index := Scalar.indexCast v184
  let c4480 : Index := 4480#32
  ![v324.toNat, 4480]
def k0_off211 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v328 : Index := Scalar.indexCast v184
  let c4608 : Index := 4608#32
  ![v328.toNat, 4608]
def k0_off212 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v332 : Index := Scalar.indexCast v184
  let c4736 : Index := 4736#32
  ![v332.toNat, 4736]
def k0_off213 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v336 : Index := Scalar.indexCast v184
  let c4864 : Index := 4864#32
  ![v336.toNat, 4864]
def k0_off214 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v340 : Index := Scalar.indexCast v184
  let c4992 : Index := 4992#32
  ![v340.toNat, 4992]
def k0_off215 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v428 : Index := Scalar.indexCast v184
  let c0_189 : Index := 0#32
  ![v428.toNat, 0]
def k0_off216 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v445 : Index := Scalar.indexCast v184
  let c0_193 : Index := 0#32
  ![v445.toNat, 0]
def k0_off217 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v459 : Index := Scalar.indexCast v184
  let c128_197 : Index := 128#32
  ![v459.toNat, 128]
def k0_off218 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v473 : Index := Scalar.indexCast v184
  let c256_201 : Index := 256#32
  ![v473.toNat, 256]
def k0_off219 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v487 : Index := Scalar.indexCast v184
  let c384_205 : Index := 384#32
  ![v487.toNat, 384]
def k0_off220 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v501 : Index := Scalar.indexCast v184
  let c512_209 : Index := 512#32
  ![v501.toNat, 512]
def k0_off221 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v515 : Index := Scalar.indexCast v184
  let c640_213 : Index := 640#32
  ![v515.toNat, 640]
def k0_off222 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v529 : Index := Scalar.indexCast v184
  let c768_217 : Index := 768#32
  ![v529.toNat, 768]
def k0_off223 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v543 : Index := Scalar.indexCast v184
  let c896_221 : Index := 896#32
  ![v543.toNat, 896]
def k0_off224 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v557 : Index := Scalar.indexCast v184
  let c1024_225 : Index := 1024#32
  ![v557.toNat, 1024]
def k0_off225 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v571 : Index := Scalar.indexCast v184
  let c1152_229 : Index := 1152#32
  ![v571.toNat, 1152]
def k0_off226 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v585 : Index := Scalar.indexCast v184
  let c1280_233 : Index := 1280#32
  ![v585.toNat, 1280]
def k0_off227 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v599 : Index := Scalar.indexCast v184
  let c1408_237 : Index := 1408#32
  ![v599.toNat, 1408]
def k0_off228 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v613 : Index := Scalar.indexCast v184
  let c1536_241 : Index := 1536#32
  ![v613.toNat, 1536]
def k0_off229 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v627 : Index := Scalar.indexCast v184
  let c1664_245 : Index := 1664#32
  ![v627.toNat, 1664]
def k0_off230 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v641 : Index := Scalar.indexCast v184
  let c1792_249 : Index := 1792#32
  ![v641.toNat, 1792]
def k0_off231 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v655 : Index := Scalar.indexCast v184
  let c1920_253 : Index := 1920#32
  ![v655.toNat, 1920]
def k0_off232 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v669 : Index := Scalar.indexCast v184
  let c2048_257 : Index := 2048#32
  ![v669.toNat, 2048]
def k0_off233 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v683 : Index := Scalar.indexCast v184
  let c2176_261 : Index := 2176#32
  ![v683.toNat, 2176]
def k0_off234 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v697 : Index := Scalar.indexCast v184
  let c2304_265 : Index := 2304#32
  ![v697.toNat, 2304]
def k0_off235 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v711 : Index := Scalar.indexCast v184
  let c2432_269 : Index := 2432#32
  ![v711.toNat, 2432]
def k0_off236 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v725 : Index := Scalar.indexCast v184
  let c2560_273 : Index := 2560#32
  ![v725.toNat, 2560]
def k0_off237 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v739 : Index := Scalar.indexCast v184
  let c2688_277 : Index := 2688#32
  ![v739.toNat, 2688]
def k0_off238 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v753 : Index := Scalar.indexCast v184
  let c2816_281 : Index := 2816#32
  ![v753.toNat, 2816]
def k0_off239 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v767 : Index := Scalar.indexCast v184
  let c2944_285 : Index := 2944#32
  ![v767.toNat, 2944]
def k0_off240 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v781 : Index := Scalar.indexCast v184
  let c3072_289 : Index := 3072#32
  ![v781.toNat, 3072]
def k0_off241 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v795 : Index := Scalar.indexCast v184
  let c3200_293 : Index := 3200#32
  ![v795.toNat, 3200]
def k0_off242 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v809 : Index := Scalar.indexCast v184
  let c3328_297 : Index := 3328#32
  ![v809.toNat, 3328]
def k0_off243 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v823 : Index := Scalar.indexCast v184
  let c3456_301 : Index := 3456#32
  ![v823.toNat, 3456]
def k0_off244 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v837 : Index := Scalar.indexCast v184
  let c3584_305 : Index := 3584#32
  ![v837.toNat, 3584]
def k0_off245 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v851 : Index := Scalar.indexCast v184
  let c3712_309 : Index := 3712#32
  ![v851.toNat, 3712]
def k0_off246 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v865 : Index := Scalar.indexCast v184
  let c3840_313 : Index := 3840#32
  ![v865.toNat, 3840]
def k0_off247 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v879 : Index := Scalar.indexCast v184
  let c3968_317 : Index := 3968#32
  ![v879.toNat, 3968]
def k0_off248 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v893 : Index := Scalar.indexCast v184
  let c4096_321 : Index := 4096#32
  ![v893.toNat, 4096]
def k0_off249 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v907 : Index := Scalar.indexCast v184
  let c4224_325 : Index := 4224#32
  ![v907.toNat, 4224]
def k0_off250 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v921 : Index := Scalar.indexCast v184
  let c4352_329 : Index := 4352#32
  ![v921.toNat, 4352]
def k0_off251 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v935 : Index := Scalar.indexCast v184
  let c4480_333 : Index := 4480#32
  ![v935.toNat, 4480]
def k0_off252 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v949 : Index := Scalar.indexCast v184
  let c4608_337 : Index := 4608#32
  ![v949.toNat, 4608]
def k0_off253 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v963 : Index := Scalar.indexCast v184
  let c4736_341 : Index := 4736#32
  ![v963.toNat, 4736]
def k0_off254 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v977 : Index := Scalar.indexCast v184
  let c4864_345 : Index := 4864#32
  ![v977.toNat, 4864]
def k0_off255 (k0_t4 : Fin k0_t4_loop.trips) : Fin 2 → Nat :=
  let c192_i32_164 : BitVec 32 := 192#32
  let c0_i32_163 : BitVec 32 := 0#32
  let c0_i32_92 : BitVec 32 := 0#32
  let c1_i32_94 : BitVec 32 := 1#32
  let arg15 : BitVec 32 := Scf.iv c0_i32_92 c1_i32_94 k0_t4
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c192_i32_164 v182
  let v184 : BitVec 32 := v183
  let v991 : Index := Scalar.indexCast v184
  let c4992_349 : Index := 4992#32
  ![v991.toNat, 4992]
@[reducible] def k0_t5_loop : Scf.Loop 32 :=
  let c0_i32_101 : BitVec 32 := 0#32
  let c3_i32_102 : BitVec 32 := 3#32
  let v132 : BitVec 32 := Scalar.addi c0_i32_101 c3_i32_102
  let c1_i32_103 : BitVec 32 := 1#32
  ⟨c0_i32_101, v132, c1_i32_103⟩
def k0_mult5 (k0_t5 : Fin k0_t5_loop.trips) : BitVec 32 :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  v183
def k0_off256 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v185 : Index := Scalar.indexCast v184
  let c0_165 : Index := 0#32
  ![v185.toNat, 0]
def k0_off257 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v188 : Index := Scalar.indexCast v184
  let c128 : Index := 128#32
  ![v188.toNat, 128]
def k0_off258 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v192 : Index := Scalar.indexCast v184
  let c256 : Index := 256#32
  ![v192.toNat, 256]
def k0_off259 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v196 : Index := Scalar.indexCast v184
  let c384 : Index := 384#32
  ![v196.toNat, 384]
def k0_off260 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v200 : Index := Scalar.indexCast v184
  let c512 : Index := 512#32
  ![v200.toNat, 512]
def k0_off261 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v204 : Index := Scalar.indexCast v184
  let c640 : Index := 640#32
  ![v204.toNat, 640]
def k0_off262 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v208 : Index := Scalar.indexCast v184
  let c768_166 : Index := 768#32
  ![v208.toNat, 768]
def k0_off263 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v212 : Index := Scalar.indexCast v184
  let c896 : Index := 896#32
  ![v212.toNat, 896]
def k0_off264 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v216 : Index := Scalar.indexCast v184
  let c1024 : Index := 1024#32
  ![v216.toNat, 1024]
def k0_off265 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v220 : Index := Scalar.indexCast v184
  let c1152 : Index := 1152#32
  ![v220.toNat, 1152]
def k0_off266 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v224 : Index := Scalar.indexCast v184
  let c1280 : Index := 1280#32
  ![v224.toNat, 1280]
def k0_off267 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v228 : Index := Scalar.indexCast v184
  let c1408 : Index := 1408#32
  ![v228.toNat, 1408]
def k0_off268 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v232 : Index := Scalar.indexCast v184
  let c1536 : Index := 1536#32
  ![v232.toNat, 1536]
def k0_off269 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v236 : Index := Scalar.indexCast v184
  let c1664 : Index := 1664#32
  ![v236.toNat, 1664]
def k0_off270 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v240 : Index := Scalar.indexCast v184
  let c1792 : Index := 1792#32
  ![v240.toNat, 1792]
def k0_off271 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v244 : Index := Scalar.indexCast v184
  let c1920 : Index := 1920#32
  ![v244.toNat, 1920]
def k0_off272 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v248 : Index := Scalar.indexCast v184
  let c2048 : Index := 2048#32
  ![v248.toNat, 2048]
def k0_off273 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v252 : Index := Scalar.indexCast v184
  let c2176 : Index := 2176#32
  ![v252.toNat, 2176]
def k0_off274 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v256 : Index := Scalar.indexCast v184
  let c2304 : Index := 2304#32
  ![v256.toNat, 2304]
def k0_off275 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v260 : Index := Scalar.indexCast v184
  let c2432 : Index := 2432#32
  ![v260.toNat, 2432]
def k0_off276 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v264 : Index := Scalar.indexCast v184
  let c2560 : Index := 2560#32
  ![v264.toNat, 2560]
def k0_off277 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v268 : Index := Scalar.indexCast v184
  let c2688 : Index := 2688#32
  ![v268.toNat, 2688]
def k0_off278 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v272 : Index := Scalar.indexCast v184
  let c2816 : Index := 2816#32
  ![v272.toNat, 2816]
def k0_off279 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v276 : Index := Scalar.indexCast v184
  let c2944 : Index := 2944#32
  ![v276.toNat, 2944]
def k0_off280 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v280 : Index := Scalar.indexCast v184
  let c3072 : Index := 3072#32
  ![v280.toNat, 3072]
def k0_off281 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v284 : Index := Scalar.indexCast v184
  let c3200 : Index := 3200#32
  ![v284.toNat, 3200]
def k0_off282 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v288 : Index := Scalar.indexCast v184
  let c3328 : Index := 3328#32
  ![v288.toNat, 3328]
def k0_off283 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v292 : Index := Scalar.indexCast v184
  let c3456 : Index := 3456#32
  ![v292.toNat, 3456]
def k0_off284 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v296 : Index := Scalar.indexCast v184
  let c3584 : Index := 3584#32
  ![v296.toNat, 3584]
def k0_off285 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v300 : Index := Scalar.indexCast v184
  let c3712 : Index := 3712#32
  ![v300.toNat, 3712]
def k0_off286 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v304 : Index := Scalar.indexCast v184
  let c3840 : Index := 3840#32
  ![v304.toNat, 3840]
def k0_off287 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v308 : Index := Scalar.indexCast v184
  let c3968 : Index := 3968#32
  ![v308.toNat, 3968]
def k0_off288 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v312 : Index := Scalar.indexCast v184
  let c4096 : Index := 4096#32
  ![v312.toNat, 4096]
def k0_off289 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v316 : Index := Scalar.indexCast v184
  let c4224 : Index := 4224#32
  ![v316.toNat, 4224]
def k0_off290 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v320 : Index := Scalar.indexCast v184
  let c4352 : Index := 4352#32
  ![v320.toNat, 4352]
def k0_off291 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v324 : Index := Scalar.indexCast v184
  let c4480 : Index := 4480#32
  ![v324.toNat, 4480]
def k0_off292 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v328 : Index := Scalar.indexCast v184
  let c4608 : Index := 4608#32
  ![v328.toNat, 4608]
def k0_off293 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v332 : Index := Scalar.indexCast v184
  let c4736 : Index := 4736#32
  ![v332.toNat, 4736]
def k0_off294 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v336 : Index := Scalar.indexCast v184
  let c4864 : Index := 4864#32
  ![v336.toNat, 4864]
def k0_off295 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v340 : Index := Scalar.indexCast v184
  let c4992 : Index := 4992#32
  ![v340.toNat, 4992]
def k0_off296 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v428 : Index := Scalar.indexCast v184
  let c0_189 : Index := 0#32
  ![v428.toNat, 0]
def k0_off297 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v445 : Index := Scalar.indexCast v184
  let c0_193 : Index := 0#32
  ![v445.toNat, 0]
def k0_off298 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v459 : Index := Scalar.indexCast v184
  let c128_197 : Index := 128#32
  ![v459.toNat, 128]
def k0_off299 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v473 : Index := Scalar.indexCast v184
  let c256_201 : Index := 256#32
  ![v473.toNat, 256]
def k0_off300 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v487 : Index := Scalar.indexCast v184
  let c384_205 : Index := 384#32
  ![v487.toNat, 384]
def k0_off301 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v501 : Index := Scalar.indexCast v184
  let c512_209 : Index := 512#32
  ![v501.toNat, 512]
def k0_off302 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v515 : Index := Scalar.indexCast v184
  let c640_213 : Index := 640#32
  ![v515.toNat, 640]
def k0_off303 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v529 : Index := Scalar.indexCast v184
  let c768_217 : Index := 768#32
  ![v529.toNat, 768]
def k0_off304 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v543 : Index := Scalar.indexCast v184
  let c896_221 : Index := 896#32
  ![v543.toNat, 896]
def k0_off305 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v557 : Index := Scalar.indexCast v184
  let c1024_225 : Index := 1024#32
  ![v557.toNat, 1024]
def k0_off306 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v571 : Index := Scalar.indexCast v184
  let c1152_229 : Index := 1152#32
  ![v571.toNat, 1152]
def k0_off307 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v585 : Index := Scalar.indexCast v184
  let c1280_233 : Index := 1280#32
  ![v585.toNat, 1280]
def k0_off308 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v599 : Index := Scalar.indexCast v184
  let c1408_237 : Index := 1408#32
  ![v599.toNat, 1408]
def k0_off309 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v613 : Index := Scalar.indexCast v184
  let c1536_241 : Index := 1536#32
  ![v613.toNat, 1536]
def k0_off310 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v627 : Index := Scalar.indexCast v184
  let c1664_245 : Index := 1664#32
  ![v627.toNat, 1664]
def k0_off311 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v641 : Index := Scalar.indexCast v184
  let c1792_249 : Index := 1792#32
  ![v641.toNat, 1792]
def k0_off312 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v655 : Index := Scalar.indexCast v184
  let c1920_253 : Index := 1920#32
  ![v655.toNat, 1920]
def k0_off313 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v669 : Index := Scalar.indexCast v184
  let c2048_257 : Index := 2048#32
  ![v669.toNat, 2048]
def k0_off314 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v683 : Index := Scalar.indexCast v184
  let c2176_261 : Index := 2176#32
  ![v683.toNat, 2176]
def k0_off315 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v697 : Index := Scalar.indexCast v184
  let c2304_265 : Index := 2304#32
  ![v697.toNat, 2304]
def k0_off316 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v711 : Index := Scalar.indexCast v184
  let c2432_269 : Index := 2432#32
  ![v711.toNat, 2432]
def k0_off317 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v725 : Index := Scalar.indexCast v184
  let c2560_273 : Index := 2560#32
  ![v725.toNat, 2560]
def k0_off318 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v739 : Index := Scalar.indexCast v184
  let c2688_277 : Index := 2688#32
  ![v739.toNat, 2688]
def k0_off319 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v753 : Index := Scalar.indexCast v184
  let c2816_281 : Index := 2816#32
  ![v753.toNat, 2816]
def k0_off320 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v767 : Index := Scalar.indexCast v184
  let c2944_285 : Index := 2944#32
  ![v767.toNat, 2944]
def k0_off321 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v781 : Index := Scalar.indexCast v184
  let c3072_289 : Index := 3072#32
  ![v781.toNat, 3072]
def k0_off322 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v795 : Index := Scalar.indexCast v184
  let c3200_293 : Index := 3200#32
  ![v795.toNat, 3200]
def k0_off323 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v809 : Index := Scalar.indexCast v184
  let c3328_297 : Index := 3328#32
  ![v809.toNat, 3328]
def k0_off324 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v823 : Index := Scalar.indexCast v184
  let c3456_301 : Index := 3456#32
  ![v823.toNat, 3456]
def k0_off325 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v837 : Index := Scalar.indexCast v184
  let c3584_305 : Index := 3584#32
  ![v837.toNat, 3584]
def k0_off326 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v851 : Index := Scalar.indexCast v184
  let c3712_309 : Index := 3712#32
  ![v851.toNat, 3712]
def k0_off327 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v865 : Index := Scalar.indexCast v184
  let c3840_313 : Index := 3840#32
  ![v865.toNat, 3840]
def k0_off328 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v879 : Index := Scalar.indexCast v184
  let c3968_317 : Index := 3968#32
  ![v879.toNat, 3968]
def k0_off329 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v893 : Index := Scalar.indexCast v184
  let c4096_321 : Index := 4096#32
  ![v893.toNat, 4096]
def k0_off330 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v907 : Index := Scalar.indexCast v184
  let c4224_325 : Index := 4224#32
  ![v907.toNat, 4224]
def k0_off331 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v921 : Index := Scalar.indexCast v184
  let c4352_329 : Index := 4352#32
  ![v921.toNat, 4352]
def k0_off332 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v935 : Index := Scalar.indexCast v184
  let c4480_333 : Index := 4480#32
  ![v935.toNat, 4480]
def k0_off333 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v949 : Index := Scalar.indexCast v184
  let c4608_337 : Index := 4608#32
  ![v949.toNat, 4608]
def k0_off334 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v963 : Index := Scalar.indexCast v184
  let c4736_341 : Index := 4736#32
  ![v963.toNat, 4736]
def k0_off335 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v977 : Index := Scalar.indexCast v184
  let c4864_345 : Index := 4864#32
  ![v977.toNat, 4864]
def k0_off336 (k0_t5 : Fin k0_t5_loop.trips) : Fin 2 → Nat :=
  let c288_i32_164 : BitVec 32 := 288#32
  let c0_i32_163 : BitVec 32 := 0#32
  let c0_i32_101 : BitVec 32 := 0#32
  let c1_i32_103 : BitVec 32 := 1#32
  let arg15 : BitVec 32 := Scf.iv c0_i32_101 c1_i32_103 k0_t5
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c288_i32_164 v182
  let v184 : BitVec 32 := v183
  let v991 : Index := Scalar.indexCast v184
  let c4992_349 : Index := 4992#32
  ![v991.toNat, 4992]
@[reducible] def k0_t6_loop : Scf.Loop 32 :=
  let c0_i32_110 : BitVec 32 := 0#32
  let c3_i32_111 : BitVec 32 := 3#32
  let v137 : BitVec 32 := Scalar.addi c0_i32_110 c3_i32_111
  let c1_i32_112 : BitVec 32 := 1#32
  ⟨c0_i32_110, v137, c1_i32_112⟩
def k0_mult6 (k0_t6 : Fin k0_t6_loop.trips) : BitVec 32 :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  v183
def k0_off337 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v185 : Index := Scalar.indexCast v184
  let c0_165 : Index := 0#32
  ![v185.toNat, 0]
def k0_off338 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v188 : Index := Scalar.indexCast v184
  let c128 : Index := 128#32
  ![v188.toNat, 128]
def k0_off339 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v192 : Index := Scalar.indexCast v184
  let c256 : Index := 256#32
  ![v192.toNat, 256]
def k0_off340 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v196 : Index := Scalar.indexCast v184
  let c384 : Index := 384#32
  ![v196.toNat, 384]
def k0_off341 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v200 : Index := Scalar.indexCast v184
  let c512 : Index := 512#32
  ![v200.toNat, 512]
def k0_off342 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v204 : Index := Scalar.indexCast v184
  let c640 : Index := 640#32
  ![v204.toNat, 640]
def k0_off343 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v208 : Index := Scalar.indexCast v184
  let c768_166 : Index := 768#32
  ![v208.toNat, 768]
def k0_off344 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v212 : Index := Scalar.indexCast v184
  let c896 : Index := 896#32
  ![v212.toNat, 896]
def k0_off345 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v216 : Index := Scalar.indexCast v184
  let c1024 : Index := 1024#32
  ![v216.toNat, 1024]
def k0_off346 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v220 : Index := Scalar.indexCast v184
  let c1152 : Index := 1152#32
  ![v220.toNat, 1152]
def k0_off347 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v224 : Index := Scalar.indexCast v184
  let c1280 : Index := 1280#32
  ![v224.toNat, 1280]
def k0_off348 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v228 : Index := Scalar.indexCast v184
  let c1408 : Index := 1408#32
  ![v228.toNat, 1408]
def k0_off349 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v232 : Index := Scalar.indexCast v184
  let c1536 : Index := 1536#32
  ![v232.toNat, 1536]
def k0_off350 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v236 : Index := Scalar.indexCast v184
  let c1664 : Index := 1664#32
  ![v236.toNat, 1664]
def k0_off351 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v240 : Index := Scalar.indexCast v184
  let c1792 : Index := 1792#32
  ![v240.toNat, 1792]
def k0_off352 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v244 : Index := Scalar.indexCast v184
  let c1920 : Index := 1920#32
  ![v244.toNat, 1920]
def k0_off353 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v248 : Index := Scalar.indexCast v184
  let c2048 : Index := 2048#32
  ![v248.toNat, 2048]
def k0_off354 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v252 : Index := Scalar.indexCast v184
  let c2176 : Index := 2176#32
  ![v252.toNat, 2176]
def k0_off355 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v256 : Index := Scalar.indexCast v184
  let c2304 : Index := 2304#32
  ![v256.toNat, 2304]
def k0_off356 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v260 : Index := Scalar.indexCast v184
  let c2432 : Index := 2432#32
  ![v260.toNat, 2432]
def k0_off357 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v264 : Index := Scalar.indexCast v184
  let c2560 : Index := 2560#32
  ![v264.toNat, 2560]
def k0_off358 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v268 : Index := Scalar.indexCast v184
  let c2688 : Index := 2688#32
  ![v268.toNat, 2688]
def k0_off359 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v272 : Index := Scalar.indexCast v184
  let c2816 : Index := 2816#32
  ![v272.toNat, 2816]
def k0_off360 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v276 : Index := Scalar.indexCast v184
  let c2944 : Index := 2944#32
  ![v276.toNat, 2944]
def k0_off361 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v280 : Index := Scalar.indexCast v184
  let c3072 : Index := 3072#32
  ![v280.toNat, 3072]
def k0_off362 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v284 : Index := Scalar.indexCast v184
  let c3200 : Index := 3200#32
  ![v284.toNat, 3200]
def k0_off363 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v288 : Index := Scalar.indexCast v184
  let c3328 : Index := 3328#32
  ![v288.toNat, 3328]
def k0_off364 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v292 : Index := Scalar.indexCast v184
  let c3456 : Index := 3456#32
  ![v292.toNat, 3456]
def k0_off365 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v296 : Index := Scalar.indexCast v184
  let c3584 : Index := 3584#32
  ![v296.toNat, 3584]
def k0_off366 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v300 : Index := Scalar.indexCast v184
  let c3712 : Index := 3712#32
  ![v300.toNat, 3712]
def k0_off367 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v304 : Index := Scalar.indexCast v184
  let c3840 : Index := 3840#32
  ![v304.toNat, 3840]
def k0_off368 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v308 : Index := Scalar.indexCast v184
  let c3968 : Index := 3968#32
  ![v308.toNat, 3968]
def k0_off369 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v312 : Index := Scalar.indexCast v184
  let c4096 : Index := 4096#32
  ![v312.toNat, 4096]
def k0_off370 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v316 : Index := Scalar.indexCast v184
  let c4224 : Index := 4224#32
  ![v316.toNat, 4224]
def k0_off371 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v320 : Index := Scalar.indexCast v184
  let c4352 : Index := 4352#32
  ![v320.toNat, 4352]
def k0_off372 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v324 : Index := Scalar.indexCast v184
  let c4480 : Index := 4480#32
  ![v324.toNat, 4480]
def k0_off373 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v328 : Index := Scalar.indexCast v184
  let c4608 : Index := 4608#32
  ![v328.toNat, 4608]
def k0_off374 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v332 : Index := Scalar.indexCast v184
  let c4736 : Index := 4736#32
  ![v332.toNat, 4736]
def k0_off375 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v336 : Index := Scalar.indexCast v184
  let c4864 : Index := 4864#32
  ![v336.toNat, 4864]
def k0_off376 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v340 : Index := Scalar.indexCast v184
  let c4992 : Index := 4992#32
  ![v340.toNat, 4992]
def k0_off377 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v428 : Index := Scalar.indexCast v184
  let c0_189 : Index := 0#32
  ![v428.toNat, 0]
def k0_off378 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v445 : Index := Scalar.indexCast v184
  let c0_193 : Index := 0#32
  ![v445.toNat, 0]
def k0_off379 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v459 : Index := Scalar.indexCast v184
  let c128_197 : Index := 128#32
  ![v459.toNat, 128]
def k0_off380 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v473 : Index := Scalar.indexCast v184
  let c256_201 : Index := 256#32
  ![v473.toNat, 256]
def k0_off381 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v487 : Index := Scalar.indexCast v184
  let c384_205 : Index := 384#32
  ![v487.toNat, 384]
def k0_off382 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v501 : Index := Scalar.indexCast v184
  let c512_209 : Index := 512#32
  ![v501.toNat, 512]
def k0_off383 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v515 : Index := Scalar.indexCast v184
  let c640_213 : Index := 640#32
  ![v515.toNat, 640]
def k0_off384 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v529 : Index := Scalar.indexCast v184
  let c768_217 : Index := 768#32
  ![v529.toNat, 768]
def k0_off385 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v543 : Index := Scalar.indexCast v184
  let c896_221 : Index := 896#32
  ![v543.toNat, 896]
def k0_off386 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v557 : Index := Scalar.indexCast v184
  let c1024_225 : Index := 1024#32
  ![v557.toNat, 1024]
def k0_off387 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v571 : Index := Scalar.indexCast v184
  let c1152_229 : Index := 1152#32
  ![v571.toNat, 1152]
def k0_off388 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v585 : Index := Scalar.indexCast v184
  let c1280_233 : Index := 1280#32
  ![v585.toNat, 1280]
def k0_off389 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v599 : Index := Scalar.indexCast v184
  let c1408_237 : Index := 1408#32
  ![v599.toNat, 1408]
def k0_off390 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v613 : Index := Scalar.indexCast v184
  let c1536_241 : Index := 1536#32
  ![v613.toNat, 1536]
def k0_off391 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v627 : Index := Scalar.indexCast v184
  let c1664_245 : Index := 1664#32
  ![v627.toNat, 1664]
def k0_off392 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v641 : Index := Scalar.indexCast v184
  let c1792_249 : Index := 1792#32
  ![v641.toNat, 1792]
def k0_off393 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v655 : Index := Scalar.indexCast v184
  let c1920_253 : Index := 1920#32
  ![v655.toNat, 1920]
def k0_off394 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v669 : Index := Scalar.indexCast v184
  let c2048_257 : Index := 2048#32
  ![v669.toNat, 2048]
def k0_off395 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v683 : Index := Scalar.indexCast v184
  let c2176_261 : Index := 2176#32
  ![v683.toNat, 2176]
def k0_off396 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v697 : Index := Scalar.indexCast v184
  let c2304_265 : Index := 2304#32
  ![v697.toNat, 2304]
def k0_off397 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v711 : Index := Scalar.indexCast v184
  let c2432_269 : Index := 2432#32
  ![v711.toNat, 2432]
def k0_off398 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v725 : Index := Scalar.indexCast v184
  let c2560_273 : Index := 2560#32
  ![v725.toNat, 2560]
def k0_off399 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v739 : Index := Scalar.indexCast v184
  let c2688_277 : Index := 2688#32
  ![v739.toNat, 2688]
def k0_off400 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v753 : Index := Scalar.indexCast v184
  let c2816_281 : Index := 2816#32
  ![v753.toNat, 2816]
def k0_off401 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v767 : Index := Scalar.indexCast v184
  let c2944_285 : Index := 2944#32
  ![v767.toNat, 2944]
def k0_off402 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v781 : Index := Scalar.indexCast v184
  let c3072_289 : Index := 3072#32
  ![v781.toNat, 3072]
def k0_off403 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v795 : Index := Scalar.indexCast v184
  let c3200_293 : Index := 3200#32
  ![v795.toNat, 3200]
def k0_off404 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v809 : Index := Scalar.indexCast v184
  let c3328_297 : Index := 3328#32
  ![v809.toNat, 3328]
def k0_off405 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v823 : Index := Scalar.indexCast v184
  let c3456_301 : Index := 3456#32
  ![v823.toNat, 3456]
def k0_off406 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v837 : Index := Scalar.indexCast v184
  let c3584_305 : Index := 3584#32
  ![v837.toNat, 3584]
def k0_off407 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v851 : Index := Scalar.indexCast v184
  let c3712_309 : Index := 3712#32
  ![v851.toNat, 3712]
def k0_off408 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v865 : Index := Scalar.indexCast v184
  let c3840_313 : Index := 3840#32
  ![v865.toNat, 3840]
def k0_off409 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v879 : Index := Scalar.indexCast v184
  let c3968_317 : Index := 3968#32
  ![v879.toNat, 3968]
def k0_off410 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v893 : Index := Scalar.indexCast v184
  let c4096_321 : Index := 4096#32
  ![v893.toNat, 4096]
def k0_off411 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v907 : Index := Scalar.indexCast v184
  let c4224_325 : Index := 4224#32
  ![v907.toNat, 4224]
def k0_off412 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v921 : Index := Scalar.indexCast v184
  let c4352_329 : Index := 4352#32
  ![v921.toNat, 4352]
def k0_off413 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v935 : Index := Scalar.indexCast v184
  let c4480_333 : Index := 4480#32
  ![v935.toNat, 4480]
def k0_off414 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v949 : Index := Scalar.indexCast v184
  let c4608_337 : Index := 4608#32
  ![v949.toNat, 4608]
def k0_off415 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v963 : Index := Scalar.indexCast v184
  let c4736_341 : Index := 4736#32
  ![v963.toNat, 4736]
def k0_off416 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v977 : Index := Scalar.indexCast v184
  let c4864_345 : Index := 4864#32
  ![v977.toNat, 4864]
def k0_off417 (k0_t6 : Fin k0_t6_loop.trips) : Fin 2 → Nat :=
  let c384_i32_164 : BitVec 32 := 384#32
  let c0_i32_163 : BitVec 32 := 0#32
  let c0_i32_110 : BitVec 32 := 0#32
  let c1_i32_112 : BitVec 32 := 1#32
  let arg15 : BitVec 32 := Scf.iv c0_i32_110 c1_i32_112 k0_t6
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c384_i32_164 v182
  let v184 : BitVec 32 := v183
  let v991 : Index := Scalar.indexCast v184
  let c4992_349 : Index := 4992#32
  ![v991.toNat, 4992]
@[reducible] def k0_t7_loop : Scf.Loop 32 :=
  let c0_i32_119 : BitVec 32 := 0#32
  let c3_i32_120 : BitVec 32 := 3#32
  let v142 : BitVec 32 := Scalar.addi c0_i32_119 c3_i32_120
  let c1_i32_121 : BitVec 32 := 1#32
  ⟨c0_i32_119, v142, c1_i32_121⟩
def k0_mult7 (k0_t7 : Fin k0_t7_loop.trips) : BitVec 32 :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  v183
def k0_off418 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v185 : Index := Scalar.indexCast v184
  let c0_165 : Index := 0#32
  ![v185.toNat, 0]
def k0_off419 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v188 : Index := Scalar.indexCast v184
  let c128 : Index := 128#32
  ![v188.toNat, 128]
def k0_off420 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v192 : Index := Scalar.indexCast v184
  let c256 : Index := 256#32
  ![v192.toNat, 256]
def k0_off421 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v196 : Index := Scalar.indexCast v184
  let c384 : Index := 384#32
  ![v196.toNat, 384]
def k0_off422 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v200 : Index := Scalar.indexCast v184
  let c512 : Index := 512#32
  ![v200.toNat, 512]
def k0_off423 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v204 : Index := Scalar.indexCast v184
  let c640 : Index := 640#32
  ![v204.toNat, 640]
def k0_off424 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v208 : Index := Scalar.indexCast v184
  let c768_166 : Index := 768#32
  ![v208.toNat, 768]
def k0_off425 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v212 : Index := Scalar.indexCast v184
  let c896 : Index := 896#32
  ![v212.toNat, 896]
def k0_off426 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v216 : Index := Scalar.indexCast v184
  let c1024 : Index := 1024#32
  ![v216.toNat, 1024]
def k0_off427 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v220 : Index := Scalar.indexCast v184
  let c1152 : Index := 1152#32
  ![v220.toNat, 1152]
def k0_off428 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v224 : Index := Scalar.indexCast v184
  let c1280 : Index := 1280#32
  ![v224.toNat, 1280]
def k0_off429 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v228 : Index := Scalar.indexCast v184
  let c1408 : Index := 1408#32
  ![v228.toNat, 1408]
def k0_off430 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v232 : Index := Scalar.indexCast v184
  let c1536 : Index := 1536#32
  ![v232.toNat, 1536]
def k0_off431 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v236 : Index := Scalar.indexCast v184
  let c1664 : Index := 1664#32
  ![v236.toNat, 1664]
def k0_off432 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v240 : Index := Scalar.indexCast v184
  let c1792 : Index := 1792#32
  ![v240.toNat, 1792]
def k0_off433 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v244 : Index := Scalar.indexCast v184
  let c1920 : Index := 1920#32
  ![v244.toNat, 1920]
def k0_off434 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v248 : Index := Scalar.indexCast v184
  let c2048 : Index := 2048#32
  ![v248.toNat, 2048]
def k0_off435 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v252 : Index := Scalar.indexCast v184
  let c2176 : Index := 2176#32
  ![v252.toNat, 2176]
def k0_off436 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v256 : Index := Scalar.indexCast v184
  let c2304 : Index := 2304#32
  ![v256.toNat, 2304]
def k0_off437 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v260 : Index := Scalar.indexCast v184
  let c2432 : Index := 2432#32
  ![v260.toNat, 2432]
def k0_off438 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v264 : Index := Scalar.indexCast v184
  let c2560 : Index := 2560#32
  ![v264.toNat, 2560]
def k0_off439 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v268 : Index := Scalar.indexCast v184
  let c2688 : Index := 2688#32
  ![v268.toNat, 2688]
def k0_off440 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v272 : Index := Scalar.indexCast v184
  let c2816 : Index := 2816#32
  ![v272.toNat, 2816]
def k0_off441 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v276 : Index := Scalar.indexCast v184
  let c2944 : Index := 2944#32
  ![v276.toNat, 2944]
def k0_off442 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v280 : Index := Scalar.indexCast v184
  let c3072 : Index := 3072#32
  ![v280.toNat, 3072]
def k0_off443 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v284 : Index := Scalar.indexCast v184
  let c3200 : Index := 3200#32
  ![v284.toNat, 3200]
def k0_off444 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v288 : Index := Scalar.indexCast v184
  let c3328 : Index := 3328#32
  ![v288.toNat, 3328]
def k0_off445 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v292 : Index := Scalar.indexCast v184
  let c3456 : Index := 3456#32
  ![v292.toNat, 3456]
def k0_off446 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v296 : Index := Scalar.indexCast v184
  let c3584 : Index := 3584#32
  ![v296.toNat, 3584]
def k0_off447 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v300 : Index := Scalar.indexCast v184
  let c3712 : Index := 3712#32
  ![v300.toNat, 3712]
def k0_off448 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v304 : Index := Scalar.indexCast v184
  let c3840 : Index := 3840#32
  ![v304.toNat, 3840]
def k0_off449 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v308 : Index := Scalar.indexCast v184
  let c3968 : Index := 3968#32
  ![v308.toNat, 3968]
def k0_off450 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v312 : Index := Scalar.indexCast v184
  let c4096 : Index := 4096#32
  ![v312.toNat, 4096]
def k0_off451 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v316 : Index := Scalar.indexCast v184
  let c4224 : Index := 4224#32
  ![v316.toNat, 4224]
def k0_off452 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v320 : Index := Scalar.indexCast v184
  let c4352 : Index := 4352#32
  ![v320.toNat, 4352]
def k0_off453 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v324 : Index := Scalar.indexCast v184
  let c4480 : Index := 4480#32
  ![v324.toNat, 4480]
def k0_off454 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v328 : Index := Scalar.indexCast v184
  let c4608 : Index := 4608#32
  ![v328.toNat, 4608]
def k0_off455 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v332 : Index := Scalar.indexCast v184
  let c4736 : Index := 4736#32
  ![v332.toNat, 4736]
def k0_off456 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v336 : Index := Scalar.indexCast v184
  let c4864 : Index := 4864#32
  ![v336.toNat, 4864]
def k0_off457 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v340 : Index := Scalar.indexCast v184
  let c4992 : Index := 4992#32
  ![v340.toNat, 4992]
def k0_off458 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v428 : Index := Scalar.indexCast v184
  let c0_189 : Index := 0#32
  ![v428.toNat, 0]
def k0_off459 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v445 : Index := Scalar.indexCast v184
  let c0_193 : Index := 0#32
  ![v445.toNat, 0]
def k0_off460 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v459 : Index := Scalar.indexCast v184
  let c128_197 : Index := 128#32
  ![v459.toNat, 128]
def k0_off461 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v473 : Index := Scalar.indexCast v184
  let c256_201 : Index := 256#32
  ![v473.toNat, 256]
def k0_off462 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v487 : Index := Scalar.indexCast v184
  let c384_205 : Index := 384#32
  ![v487.toNat, 384]
def k0_off463 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v501 : Index := Scalar.indexCast v184
  let c512_209 : Index := 512#32
  ![v501.toNat, 512]
def k0_off464 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v515 : Index := Scalar.indexCast v184
  let c640_213 : Index := 640#32
  ![v515.toNat, 640]
def k0_off465 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v529 : Index := Scalar.indexCast v184
  let c768_217 : Index := 768#32
  ![v529.toNat, 768]
def k0_off466 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v543 : Index := Scalar.indexCast v184
  let c896_221 : Index := 896#32
  ![v543.toNat, 896]
def k0_off467 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v557 : Index := Scalar.indexCast v184
  let c1024_225 : Index := 1024#32
  ![v557.toNat, 1024]
def k0_off468 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v571 : Index := Scalar.indexCast v184
  let c1152_229 : Index := 1152#32
  ![v571.toNat, 1152]
def k0_off469 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v585 : Index := Scalar.indexCast v184
  let c1280_233 : Index := 1280#32
  ![v585.toNat, 1280]
def k0_off470 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v599 : Index := Scalar.indexCast v184
  let c1408_237 : Index := 1408#32
  ![v599.toNat, 1408]
def k0_off471 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v613 : Index := Scalar.indexCast v184
  let c1536_241 : Index := 1536#32
  ![v613.toNat, 1536]
def k0_off472 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v627 : Index := Scalar.indexCast v184
  let c1664_245 : Index := 1664#32
  ![v627.toNat, 1664]
def k0_off473 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v641 : Index := Scalar.indexCast v184
  let c1792_249 : Index := 1792#32
  ![v641.toNat, 1792]
def k0_off474 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v655 : Index := Scalar.indexCast v184
  let c1920_253 : Index := 1920#32
  ![v655.toNat, 1920]
def k0_off475 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v669 : Index := Scalar.indexCast v184
  let c2048_257 : Index := 2048#32
  ![v669.toNat, 2048]
def k0_off476 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v683 : Index := Scalar.indexCast v184
  let c2176_261 : Index := 2176#32
  ![v683.toNat, 2176]
def k0_off477 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v697 : Index := Scalar.indexCast v184
  let c2304_265 : Index := 2304#32
  ![v697.toNat, 2304]
def k0_off478 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v711 : Index := Scalar.indexCast v184
  let c2432_269 : Index := 2432#32
  ![v711.toNat, 2432]
def k0_off479 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v725 : Index := Scalar.indexCast v184
  let c2560_273 : Index := 2560#32
  ![v725.toNat, 2560]
def k0_off480 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v739 : Index := Scalar.indexCast v184
  let c2688_277 : Index := 2688#32
  ![v739.toNat, 2688]
def k0_off481 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v753 : Index := Scalar.indexCast v184
  let c2816_281 : Index := 2816#32
  ![v753.toNat, 2816]
def k0_off482 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v767 : Index := Scalar.indexCast v184
  let c2944_285 : Index := 2944#32
  ![v767.toNat, 2944]
def k0_off483 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v781 : Index := Scalar.indexCast v184
  let c3072_289 : Index := 3072#32
  ![v781.toNat, 3072]
def k0_off484 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v795 : Index := Scalar.indexCast v184
  let c3200_293 : Index := 3200#32
  ![v795.toNat, 3200]
def k0_off485 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v809 : Index := Scalar.indexCast v184
  let c3328_297 : Index := 3328#32
  ![v809.toNat, 3328]
def k0_off486 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v823 : Index := Scalar.indexCast v184
  let c3456_301 : Index := 3456#32
  ![v823.toNat, 3456]
def k0_off487 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v837 : Index := Scalar.indexCast v184
  let c3584_305 : Index := 3584#32
  ![v837.toNat, 3584]
def k0_off488 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v851 : Index := Scalar.indexCast v184
  let c3712_309 : Index := 3712#32
  ![v851.toNat, 3712]
def k0_off489 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v865 : Index := Scalar.indexCast v184
  let c3840_313 : Index := 3840#32
  ![v865.toNat, 3840]
def k0_off490 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v879 : Index := Scalar.indexCast v184
  let c3968_317 : Index := 3968#32
  ![v879.toNat, 3968]
def k0_off491 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v893 : Index := Scalar.indexCast v184
  let c4096_321 : Index := 4096#32
  ![v893.toNat, 4096]
def k0_off492 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v907 : Index := Scalar.indexCast v184
  let c4224_325 : Index := 4224#32
  ![v907.toNat, 4224]
def k0_off493 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v921 : Index := Scalar.indexCast v184
  let c4352_329 : Index := 4352#32
  ![v921.toNat, 4352]
def k0_off494 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v935 : Index := Scalar.indexCast v184
  let c4480_333 : Index := 4480#32
  ![v935.toNat, 4480]
def k0_off495 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v949 : Index := Scalar.indexCast v184
  let c4608_337 : Index := 4608#32
  ![v949.toNat, 4608]
def k0_off496 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v963 : Index := Scalar.indexCast v184
  let c4736_341 : Index := 4736#32
  ![v963.toNat, 4736]
def k0_off497 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v977 : Index := Scalar.indexCast v184
  let c4864_345 : Index := 4864#32
  ![v977.toNat, 4864]
def k0_off498 (k0_t7 : Fin k0_t7_loop.trips) : Fin 2 → Nat :=
  let c480_i32_164 : BitVec 32 := 480#32
  let c0_i32_163 : BitVec 32 := 0#32
  let c0_i32_119 : BitVec 32 := 0#32
  let c1_i32_121 : BitVec 32 := 1#32
  let arg15 : BitVec 32 := Scf.iv c0_i32_119 c1_i32_121 k0_t7
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c480_i32_164 v182
  let v184 : BitVec 32 := v183
  let v991 : Index := Scalar.indexCast v184
  let c4992_349 : Index := 4992#32
  ![v991.toNat, 4992]
@[reducible] def k0_t8_loop : Scf.Loop 32 :=
  let c0_i32_128 : BitVec 32 := 0#32
  let c3_i32_129 : BitVec 32 := 3#32
  let v147 : BitVec 32 := Scalar.addi c0_i32_128 c3_i32_129
  let c1_i32_130 : BitVec 32 := 1#32
  ⟨c0_i32_128, v147, c1_i32_130⟩
def k0_mult8 (k0_t8 : Fin k0_t8_loop.trips) : BitVec 32 :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  v183
def k0_off499 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v185 : Index := Scalar.indexCast v184
  let c0_165 : Index := 0#32
  ![v185.toNat, 0]
def k0_off500 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v188 : Index := Scalar.indexCast v184
  let c128 : Index := 128#32
  ![v188.toNat, 128]
def k0_off501 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v192 : Index := Scalar.indexCast v184
  let c256 : Index := 256#32
  ![v192.toNat, 256]
def k0_off502 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v196 : Index := Scalar.indexCast v184
  let c384 : Index := 384#32
  ![v196.toNat, 384]
def k0_off503 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v200 : Index := Scalar.indexCast v184
  let c512 : Index := 512#32
  ![v200.toNat, 512]
def k0_off504 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v204 : Index := Scalar.indexCast v184
  let c640 : Index := 640#32
  ![v204.toNat, 640]
def k0_off505 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v208 : Index := Scalar.indexCast v184
  let c768_166 : Index := 768#32
  ![v208.toNat, 768]
def k0_off506 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v212 : Index := Scalar.indexCast v184
  let c896 : Index := 896#32
  ![v212.toNat, 896]
def k0_off507 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v216 : Index := Scalar.indexCast v184
  let c1024 : Index := 1024#32
  ![v216.toNat, 1024]
def k0_off508 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v220 : Index := Scalar.indexCast v184
  let c1152 : Index := 1152#32
  ![v220.toNat, 1152]
def k0_off509 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v224 : Index := Scalar.indexCast v184
  let c1280 : Index := 1280#32
  ![v224.toNat, 1280]
def k0_off510 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v228 : Index := Scalar.indexCast v184
  let c1408 : Index := 1408#32
  ![v228.toNat, 1408]
def k0_off511 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v232 : Index := Scalar.indexCast v184
  let c1536 : Index := 1536#32
  ![v232.toNat, 1536]
def k0_off512 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v236 : Index := Scalar.indexCast v184
  let c1664 : Index := 1664#32
  ![v236.toNat, 1664]
def k0_off513 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v240 : Index := Scalar.indexCast v184
  let c1792 : Index := 1792#32
  ![v240.toNat, 1792]
def k0_off514 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v244 : Index := Scalar.indexCast v184
  let c1920 : Index := 1920#32
  ![v244.toNat, 1920]
def k0_off515 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v248 : Index := Scalar.indexCast v184
  let c2048 : Index := 2048#32
  ![v248.toNat, 2048]
def k0_off516 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v252 : Index := Scalar.indexCast v184
  let c2176 : Index := 2176#32
  ![v252.toNat, 2176]
def k0_off517 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v256 : Index := Scalar.indexCast v184
  let c2304 : Index := 2304#32
  ![v256.toNat, 2304]
def k0_off518 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v260 : Index := Scalar.indexCast v184
  let c2432 : Index := 2432#32
  ![v260.toNat, 2432]
def k0_off519 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v264 : Index := Scalar.indexCast v184
  let c2560 : Index := 2560#32
  ![v264.toNat, 2560]
def k0_off520 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v268 : Index := Scalar.indexCast v184
  let c2688 : Index := 2688#32
  ![v268.toNat, 2688]
def k0_off521 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v272 : Index := Scalar.indexCast v184
  let c2816 : Index := 2816#32
  ![v272.toNat, 2816]
def k0_off522 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v276 : Index := Scalar.indexCast v184
  let c2944 : Index := 2944#32
  ![v276.toNat, 2944]
def k0_off523 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v280 : Index := Scalar.indexCast v184
  let c3072 : Index := 3072#32
  ![v280.toNat, 3072]
def k0_off524 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v284 : Index := Scalar.indexCast v184
  let c3200 : Index := 3200#32
  ![v284.toNat, 3200]
def k0_off525 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v288 : Index := Scalar.indexCast v184
  let c3328 : Index := 3328#32
  ![v288.toNat, 3328]
def k0_off526 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v292 : Index := Scalar.indexCast v184
  let c3456 : Index := 3456#32
  ![v292.toNat, 3456]
def k0_off527 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v296 : Index := Scalar.indexCast v184
  let c3584 : Index := 3584#32
  ![v296.toNat, 3584]
def k0_off528 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v300 : Index := Scalar.indexCast v184
  let c3712 : Index := 3712#32
  ![v300.toNat, 3712]
def k0_off529 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v304 : Index := Scalar.indexCast v184
  let c3840 : Index := 3840#32
  ![v304.toNat, 3840]
def k0_off530 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v308 : Index := Scalar.indexCast v184
  let c3968 : Index := 3968#32
  ![v308.toNat, 3968]
def k0_off531 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v312 : Index := Scalar.indexCast v184
  let c4096 : Index := 4096#32
  ![v312.toNat, 4096]
def k0_off532 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v316 : Index := Scalar.indexCast v184
  let c4224 : Index := 4224#32
  ![v316.toNat, 4224]
def k0_off533 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v320 : Index := Scalar.indexCast v184
  let c4352 : Index := 4352#32
  ![v320.toNat, 4352]
def k0_off534 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v324 : Index := Scalar.indexCast v184
  let c4480 : Index := 4480#32
  ![v324.toNat, 4480]
def k0_off535 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v328 : Index := Scalar.indexCast v184
  let c4608 : Index := 4608#32
  ![v328.toNat, 4608]
def k0_off536 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v332 : Index := Scalar.indexCast v184
  let c4736 : Index := 4736#32
  ![v332.toNat, 4736]
def k0_off537 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v336 : Index := Scalar.indexCast v184
  let c4864 : Index := 4864#32
  ![v336.toNat, 4864]
def k0_off538 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v340 : Index := Scalar.indexCast v184
  let c4992 : Index := 4992#32
  ![v340.toNat, 4992]
def k0_off539 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v428 : Index := Scalar.indexCast v184
  let c0_189 : Index := 0#32
  ![v428.toNat, 0]
def k0_off540 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v445 : Index := Scalar.indexCast v184
  let c0_193 : Index := 0#32
  ![v445.toNat, 0]
def k0_off541 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v459 : Index := Scalar.indexCast v184
  let c128_197 : Index := 128#32
  ![v459.toNat, 128]
def k0_off542 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v473 : Index := Scalar.indexCast v184
  let c256_201 : Index := 256#32
  ![v473.toNat, 256]
def k0_off543 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v487 : Index := Scalar.indexCast v184
  let c384_205 : Index := 384#32
  ![v487.toNat, 384]
def k0_off544 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v501 : Index := Scalar.indexCast v184
  let c512_209 : Index := 512#32
  ![v501.toNat, 512]
def k0_off545 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v515 : Index := Scalar.indexCast v184
  let c640_213 : Index := 640#32
  ![v515.toNat, 640]
def k0_off546 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v529 : Index := Scalar.indexCast v184
  let c768_217 : Index := 768#32
  ![v529.toNat, 768]
def k0_off547 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v543 : Index := Scalar.indexCast v184
  let c896_221 : Index := 896#32
  ![v543.toNat, 896]
def k0_off548 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v557 : Index := Scalar.indexCast v184
  let c1024_225 : Index := 1024#32
  ![v557.toNat, 1024]
def k0_off549 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v571 : Index := Scalar.indexCast v184
  let c1152_229 : Index := 1152#32
  ![v571.toNat, 1152]
def k0_off550 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v585 : Index := Scalar.indexCast v184
  let c1280_233 : Index := 1280#32
  ![v585.toNat, 1280]
def k0_off551 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v599 : Index := Scalar.indexCast v184
  let c1408_237 : Index := 1408#32
  ![v599.toNat, 1408]
def k0_off552 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v613 : Index := Scalar.indexCast v184
  let c1536_241 : Index := 1536#32
  ![v613.toNat, 1536]
def k0_off553 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v627 : Index := Scalar.indexCast v184
  let c1664_245 : Index := 1664#32
  ![v627.toNat, 1664]
def k0_off554 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v641 : Index := Scalar.indexCast v184
  let c1792_249 : Index := 1792#32
  ![v641.toNat, 1792]
def k0_off555 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v655 : Index := Scalar.indexCast v184
  let c1920_253 : Index := 1920#32
  ![v655.toNat, 1920]
def k0_off556 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v669 : Index := Scalar.indexCast v184
  let c2048_257 : Index := 2048#32
  ![v669.toNat, 2048]
def k0_off557 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v683 : Index := Scalar.indexCast v184
  let c2176_261 : Index := 2176#32
  ![v683.toNat, 2176]
def k0_off558 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v697 : Index := Scalar.indexCast v184
  let c2304_265 : Index := 2304#32
  ![v697.toNat, 2304]
def k0_off559 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v711 : Index := Scalar.indexCast v184
  let c2432_269 : Index := 2432#32
  ![v711.toNat, 2432]
def k0_off560 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v725 : Index := Scalar.indexCast v184
  let c2560_273 : Index := 2560#32
  ![v725.toNat, 2560]
def k0_off561 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v739 : Index := Scalar.indexCast v184
  let c2688_277 : Index := 2688#32
  ![v739.toNat, 2688]
def k0_off562 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v753 : Index := Scalar.indexCast v184
  let c2816_281 : Index := 2816#32
  ![v753.toNat, 2816]
def k0_off563 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v767 : Index := Scalar.indexCast v184
  let c2944_285 : Index := 2944#32
  ![v767.toNat, 2944]
def k0_off564 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v781 : Index := Scalar.indexCast v184
  let c3072_289 : Index := 3072#32
  ![v781.toNat, 3072]
def k0_off565 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v795 : Index := Scalar.indexCast v184
  let c3200_293 : Index := 3200#32
  ![v795.toNat, 3200]
def k0_off566 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v809 : Index := Scalar.indexCast v184
  let c3328_297 : Index := 3328#32
  ![v809.toNat, 3328]
def k0_off567 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v823 : Index := Scalar.indexCast v184
  let c3456_301 : Index := 3456#32
  ![v823.toNat, 3456]
def k0_off568 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v837 : Index := Scalar.indexCast v184
  let c3584_305 : Index := 3584#32
  ![v837.toNat, 3584]
def k0_off569 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v851 : Index := Scalar.indexCast v184
  let c3712_309 : Index := 3712#32
  ![v851.toNat, 3712]
def k0_off570 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v865 : Index := Scalar.indexCast v184
  let c3840_313 : Index := 3840#32
  ![v865.toNat, 3840]
def k0_off571 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v879 : Index := Scalar.indexCast v184
  let c3968_317 : Index := 3968#32
  ![v879.toNat, 3968]
def k0_off572 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v893 : Index := Scalar.indexCast v184
  let c4096_321 : Index := 4096#32
  ![v893.toNat, 4096]
def k0_off573 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v907 : Index := Scalar.indexCast v184
  let c4224_325 : Index := 4224#32
  ![v907.toNat, 4224]
def k0_off574 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v921 : Index := Scalar.indexCast v184
  let c4352_329 : Index := 4352#32
  ![v921.toNat, 4352]
def k0_off575 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v935 : Index := Scalar.indexCast v184
  let c4480_333 : Index := 4480#32
  ![v935.toNat, 4480]
def k0_off576 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v949 : Index := Scalar.indexCast v184
  let c4608_337 : Index := 4608#32
  ![v949.toNat, 4608]
def k0_off577 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v963 : Index := Scalar.indexCast v184
  let c4736_341 : Index := 4736#32
  ![v963.toNat, 4736]
def k0_off578 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v977 : Index := Scalar.indexCast v184
  let c4864_345 : Index := 4864#32
  ![v977.toNat, 4864]
def k0_off579 (k0_t8 : Fin k0_t8_loop.trips) : Fin 2 → Nat :=
  let c576_i32_164 : BitVec 32 := 576#32
  let c0_i32_163 : BitVec 32 := 0#32
  let c0_i32_128 : BitVec 32 := 0#32
  let c1_i32_130 : BitVec 32 := 1#32
  let arg15 : BitVec 32 := Scf.iv c0_i32_128 c1_i32_130 k0_t8
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c576_i32_164 v182
  let v184 : BitVec 32 := v183
  let v991 : Index := Scalar.indexCast v184
  let c4992_349 : Index := 4992#32
  ![v991.toNat, 4992]
@[reducible] def k0_t9_loop : Scf.Loop 32 :=
  let c0_i32_137 : BitVec 32 := 0#32
  let c3_i32_138 : BitVec 32 := 3#32
  let v152 : BitVec 32 := Scalar.addi c0_i32_137 c3_i32_138
  let c1_i32_139 : BitVec 32 := 1#32
  ⟨c0_i32_137, v152, c1_i32_139⟩
def k0_mult9 (k0_t9 : Fin k0_t9_loop.trips) : BitVec 32 :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  v183
def k0_off580 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v185 : Index := Scalar.indexCast v184
  let c0_165 : Index := 0#32
  ![v185.toNat, 0]
def k0_off581 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v188 : Index := Scalar.indexCast v184
  let c128 : Index := 128#32
  ![v188.toNat, 128]
def k0_off582 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v192 : Index := Scalar.indexCast v184
  let c256 : Index := 256#32
  ![v192.toNat, 256]
def k0_off583 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v196 : Index := Scalar.indexCast v184
  let c384 : Index := 384#32
  ![v196.toNat, 384]
def k0_off584 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v200 : Index := Scalar.indexCast v184
  let c512 : Index := 512#32
  ![v200.toNat, 512]
def k0_off585 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v204 : Index := Scalar.indexCast v184
  let c640 : Index := 640#32
  ![v204.toNat, 640]
def k0_off586 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v208 : Index := Scalar.indexCast v184
  let c768_166 : Index := 768#32
  ![v208.toNat, 768]
def k0_off587 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v212 : Index := Scalar.indexCast v184
  let c896 : Index := 896#32
  ![v212.toNat, 896]
def k0_off588 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v216 : Index := Scalar.indexCast v184
  let c1024 : Index := 1024#32
  ![v216.toNat, 1024]
def k0_off589 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v220 : Index := Scalar.indexCast v184
  let c1152 : Index := 1152#32
  ![v220.toNat, 1152]
def k0_off590 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v224 : Index := Scalar.indexCast v184
  let c1280 : Index := 1280#32
  ![v224.toNat, 1280]
def k0_off591 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v228 : Index := Scalar.indexCast v184
  let c1408 : Index := 1408#32
  ![v228.toNat, 1408]
def k0_off592 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v232 : Index := Scalar.indexCast v184
  let c1536 : Index := 1536#32
  ![v232.toNat, 1536]
def k0_off593 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v236 : Index := Scalar.indexCast v184
  let c1664 : Index := 1664#32
  ![v236.toNat, 1664]
def k0_off594 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v240 : Index := Scalar.indexCast v184
  let c1792 : Index := 1792#32
  ![v240.toNat, 1792]
def k0_off595 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v244 : Index := Scalar.indexCast v184
  let c1920 : Index := 1920#32
  ![v244.toNat, 1920]
def k0_off596 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v248 : Index := Scalar.indexCast v184
  let c2048 : Index := 2048#32
  ![v248.toNat, 2048]
def k0_off597 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v252 : Index := Scalar.indexCast v184
  let c2176 : Index := 2176#32
  ![v252.toNat, 2176]
def k0_off598 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v256 : Index := Scalar.indexCast v184
  let c2304 : Index := 2304#32
  ![v256.toNat, 2304]
def k0_off599 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v260 : Index := Scalar.indexCast v184
  let c2432 : Index := 2432#32
  ![v260.toNat, 2432]
def k0_off600 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v264 : Index := Scalar.indexCast v184
  let c2560 : Index := 2560#32
  ![v264.toNat, 2560]
def k0_off601 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v268 : Index := Scalar.indexCast v184
  let c2688 : Index := 2688#32
  ![v268.toNat, 2688]
def k0_off602 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v272 : Index := Scalar.indexCast v184
  let c2816 : Index := 2816#32
  ![v272.toNat, 2816]
def k0_off603 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v276 : Index := Scalar.indexCast v184
  let c2944 : Index := 2944#32
  ![v276.toNat, 2944]
def k0_off604 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v280 : Index := Scalar.indexCast v184
  let c3072 : Index := 3072#32
  ![v280.toNat, 3072]
def k0_off605 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v284 : Index := Scalar.indexCast v184
  let c3200 : Index := 3200#32
  ![v284.toNat, 3200]
def k0_off606 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v288 : Index := Scalar.indexCast v184
  let c3328 : Index := 3328#32
  ![v288.toNat, 3328]
def k0_off607 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v292 : Index := Scalar.indexCast v184
  let c3456 : Index := 3456#32
  ![v292.toNat, 3456]
def k0_off608 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v296 : Index := Scalar.indexCast v184
  let c3584 : Index := 3584#32
  ![v296.toNat, 3584]
def k0_off609 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v300 : Index := Scalar.indexCast v184
  let c3712 : Index := 3712#32
  ![v300.toNat, 3712]
def k0_off610 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v304 : Index := Scalar.indexCast v184
  let c3840 : Index := 3840#32
  ![v304.toNat, 3840]
def k0_off611 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v308 : Index := Scalar.indexCast v184
  let c3968 : Index := 3968#32
  ![v308.toNat, 3968]
def k0_off612 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v312 : Index := Scalar.indexCast v184
  let c4096 : Index := 4096#32
  ![v312.toNat, 4096]
def k0_off613 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v316 : Index := Scalar.indexCast v184
  let c4224 : Index := 4224#32
  ![v316.toNat, 4224]
def k0_off614 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v320 : Index := Scalar.indexCast v184
  let c4352 : Index := 4352#32
  ![v320.toNat, 4352]
def k0_off615 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v324 : Index := Scalar.indexCast v184
  let c4480 : Index := 4480#32
  ![v324.toNat, 4480]
def k0_off616 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v328 : Index := Scalar.indexCast v184
  let c4608 : Index := 4608#32
  ![v328.toNat, 4608]
def k0_off617 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v332 : Index := Scalar.indexCast v184
  let c4736 : Index := 4736#32
  ![v332.toNat, 4736]
def k0_off618 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v336 : Index := Scalar.indexCast v184
  let c4864 : Index := 4864#32
  ![v336.toNat, 4864]
def k0_off619 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v340 : Index := Scalar.indexCast v184
  let c4992 : Index := 4992#32
  ![v340.toNat, 4992]
def k0_off620 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v428 : Index := Scalar.indexCast v184
  let c0_189 : Index := 0#32
  ![v428.toNat, 0]
def k0_off621 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v445 : Index := Scalar.indexCast v184
  let c0_193 : Index := 0#32
  ![v445.toNat, 0]
def k0_off622 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v459 : Index := Scalar.indexCast v184
  let c128_197 : Index := 128#32
  ![v459.toNat, 128]
def k0_off623 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v473 : Index := Scalar.indexCast v184
  let c256_201 : Index := 256#32
  ![v473.toNat, 256]
def k0_off624 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v487 : Index := Scalar.indexCast v184
  let c384_205 : Index := 384#32
  ![v487.toNat, 384]
def k0_off625 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v501 : Index := Scalar.indexCast v184
  let c512_209 : Index := 512#32
  ![v501.toNat, 512]
def k0_off626 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v515 : Index := Scalar.indexCast v184
  let c640_213 : Index := 640#32
  ![v515.toNat, 640]
def k0_off627 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v529 : Index := Scalar.indexCast v184
  let c768_217 : Index := 768#32
  ![v529.toNat, 768]
def k0_off628 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v543 : Index := Scalar.indexCast v184
  let c896_221 : Index := 896#32
  ![v543.toNat, 896]
def k0_off629 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v557 : Index := Scalar.indexCast v184
  let c1024_225 : Index := 1024#32
  ![v557.toNat, 1024]
def k0_off630 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v571 : Index := Scalar.indexCast v184
  let c1152_229 : Index := 1152#32
  ![v571.toNat, 1152]
def k0_off631 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v585 : Index := Scalar.indexCast v184
  let c1280_233 : Index := 1280#32
  ![v585.toNat, 1280]
def k0_off632 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v599 : Index := Scalar.indexCast v184
  let c1408_237 : Index := 1408#32
  ![v599.toNat, 1408]
def k0_off633 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v613 : Index := Scalar.indexCast v184
  let c1536_241 : Index := 1536#32
  ![v613.toNat, 1536]
def k0_off634 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v627 : Index := Scalar.indexCast v184
  let c1664_245 : Index := 1664#32
  ![v627.toNat, 1664]
def k0_off635 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v641 : Index := Scalar.indexCast v184
  let c1792_249 : Index := 1792#32
  ![v641.toNat, 1792]
def k0_off636 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v655 : Index := Scalar.indexCast v184
  let c1920_253 : Index := 1920#32
  ![v655.toNat, 1920]
def k0_off637 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v669 : Index := Scalar.indexCast v184
  let c2048_257 : Index := 2048#32
  ![v669.toNat, 2048]
def k0_off638 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v683 : Index := Scalar.indexCast v184
  let c2176_261 : Index := 2176#32
  ![v683.toNat, 2176]
def k0_off639 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v697 : Index := Scalar.indexCast v184
  let c2304_265 : Index := 2304#32
  ![v697.toNat, 2304]
def k0_off640 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v711 : Index := Scalar.indexCast v184
  let c2432_269 : Index := 2432#32
  ![v711.toNat, 2432]
def k0_off641 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v725 : Index := Scalar.indexCast v184
  let c2560_273 : Index := 2560#32
  ![v725.toNat, 2560]
def k0_off642 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v739 : Index := Scalar.indexCast v184
  let c2688_277 : Index := 2688#32
  ![v739.toNat, 2688]
def k0_off643 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v753 : Index := Scalar.indexCast v184
  let c2816_281 : Index := 2816#32
  ![v753.toNat, 2816]
def k0_off644 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v767 : Index := Scalar.indexCast v184
  let c2944_285 : Index := 2944#32
  ![v767.toNat, 2944]
def k0_off645 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v781 : Index := Scalar.indexCast v184
  let c3072_289 : Index := 3072#32
  ![v781.toNat, 3072]
def k0_off646 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v795 : Index := Scalar.indexCast v184
  let c3200_293 : Index := 3200#32
  ![v795.toNat, 3200]
def k0_off647 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v809 : Index := Scalar.indexCast v184
  let c3328_297 : Index := 3328#32
  ![v809.toNat, 3328]
def k0_off648 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v823 : Index := Scalar.indexCast v184
  let c3456_301 : Index := 3456#32
  ![v823.toNat, 3456]
def k0_off649 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v837 : Index := Scalar.indexCast v184
  let c3584_305 : Index := 3584#32
  ![v837.toNat, 3584]
def k0_off650 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v851 : Index := Scalar.indexCast v184
  let c3712_309 : Index := 3712#32
  ![v851.toNat, 3712]
def k0_off651 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v865 : Index := Scalar.indexCast v184
  let c3840_313 : Index := 3840#32
  ![v865.toNat, 3840]
def k0_off652 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v879 : Index := Scalar.indexCast v184
  let c3968_317 : Index := 3968#32
  ![v879.toNat, 3968]
def k0_off653 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v893 : Index := Scalar.indexCast v184
  let c4096_321 : Index := 4096#32
  ![v893.toNat, 4096]
def k0_off654 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v907 : Index := Scalar.indexCast v184
  let c4224_325 : Index := 4224#32
  ![v907.toNat, 4224]
def k0_off655 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v921 : Index := Scalar.indexCast v184
  let c4352_329 : Index := 4352#32
  ![v921.toNat, 4352]
def k0_off656 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v935 : Index := Scalar.indexCast v184
  let c4480_333 : Index := 4480#32
  ![v935.toNat, 4480]
def k0_off657 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v949 : Index := Scalar.indexCast v184
  let c4608_337 : Index := 4608#32
  ![v949.toNat, 4608]
def k0_off658 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v963 : Index := Scalar.indexCast v184
  let c4736_341 : Index := 4736#32
  ![v963.toNat, 4736]
def k0_off659 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v977 : Index := Scalar.indexCast v184
  let c4864_345 : Index := 4864#32
  ![v977.toNat, 4864]
def k0_off660 (k0_t9 : Fin k0_t9_loop.trips) : Fin 2 → Nat :=
  let c672_i32_164 : BitVec 32 := 672#32
  let c0_i32_163 : BitVec 32 := 0#32
  let c0_i32_137 : BitVec 32 := 0#32
  let c1_i32_139 : BitVec 32 := 1#32
  let arg15 : BitVec 32 := Scf.iv c0_i32_137 c1_i32_139 k0_t9
  let c1_i32_162 : BitVec 32 := 1#32
  let v180 : BitVec 32 := Scalar.muli arg15 c1_i32_162
  let v181 : BitVec 32 := Scalar.addi c0_i32_163 v180
  let c32_i32 : BitVec 32 := 32#32
  let v182 : BitVec 32 := Scalar.muli v181 c32_i32
  let v183 : BitVec 32 := Scalar.addi c672_i32_164 v182
  let v184 : BitVec 32 := v183
  let v991 : Index := Scalar.indexCast v184
  let c4992_349 : Index := 4992#32
  ![v991.toNat, 4992]
@[reducible] def k0_t10_loop (v36 : BitVec 32) (v45 : BitVec 32) (v54 : BitVec 32) (v63 : BitVec 32) (v72 : BitVec 32) (v81 : BitVec 32) (v90 : BitVec 32) (v99 : BitVec 32) (v106 : BitVec 32) : Scf.Loop 32 :=
  let c0_i32_145 : BitVec 32 := 0#32
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c6_i32_63 : BitVec 32 := 6#32
  let v110 : BitVec 32 := Scalar.muli v109 c6_i32_63
  let v161 : BitVec 32 := Scalar.subi v110 c0_i32_145
  let c1_i32_149 : BitVec 32 := 1#32
  let v163 : BitVec 32 := Scalar.divsi v161 c1_i32_149
  let v164 : BitVec 32 := Scalar.muli v163 c1_i32_149
  let v165 : BitVec 32 := Scalar.addi c0_i32_145 v164
  let c1_i32_150 : BitVec 32 := 1#32
  ⟨c0_i32_145, v165, c1_i32_150⟩

def k0_off661 (arg16 : BitVec 32) : Fin 1 → Nat :=
  let v190 : Index := Scalar.indexCast arg16
  ![v190.toNat]

def k0_off662 (v191 : BitVec 32) : Fin 1 → Nat :=
  let v192 : Index := Scalar.indexCast v191
  ![v192.toNat]

def k0_mult10 (arg17 : BitVec 32) : BitVec 32 :=
  let c2_i32_201 : BitVec 32 := 2#32
  let v255 : BitVec 32 := Scalar.subi arg17 c2_i32_201
  let c512_i32_202 : BitVec 32 := 512#32
  let v256 : BitVec 32 := Scalar.muli v255 c512_i32_202
  v256
def k0_cond2 (arg16 : BitVec 32) (arg17 : BitVec 32) : BitVec 1 :=
  let c0_i32_168 : BitVec 32 := 0#32
  let v199 : BitVec 1 := Scalar.cmpi .eq arg16 c0_i32_168
  let c2_i32_169 : BitVec 32 := 2#32
  let v200 : BitVec 1 := Scalar.cmpi .sge arg17 c2_i32_169
  let v201 : BitVec 1 := Scalar.andi v199 v200
  let v202 : BitVec 32 := Scalar.extui v201
  let c0_i32_170 : BitVec 32 := 0#32
  let v203 : BitVec 1 := Scalar.cmpi .ne v202 c0_i32_170
  v203

def k0_off663 (arg17 : BitVec 32) : Fin 1 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  ![v189.toNat]
def k0_off664 (arg17 : BitVec 32) : Fin 2 → Nat :=
  let c0_i32_203 : BitVec 32 := 0#32
  let c2_i32_201 : BitVec 32 := 2#32
  let v255 : BitVec 32 := Scalar.subi arg17 c2_i32_201
  let c512_i32_202 : BitVec 32 := 512#32
  let v256 : BitVec 32 := Scalar.muli v255 c512_i32_202
  let v257 : BitVec 32 := v256
  ![0, v257.toNat]
def k0_off665 (arg17 : BitVec 32) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let c0_i32_204 : BitVec 32 := 0#32
  let c0_i32_205 : BitVec 32 := 0#32
  ![v189.toNat, 0, 0]
def k0_mult11 (arg17 : BitVec 32) : BitVec 32 :=
  let c512_i32 : BitVec 32 := 512#32
  let v204 : BitVec 32 := Scalar.muli arg17 c512_i32
  v204
def k0_off666 (arg16 : BitVec 32) : Fin 1 → Nat :=
  let v206 : Index := Scalar.indexCast arg16
  ![v206.toNat]

def k0_chk13 (arg16 : BitVec 32) : Prop :=
  (∀ a, (k0_off661 arg16) a + S1.size a ≤ S10.size a) ∧
  (∀ a, (k0_off666 arg16) a + S1.size a ≤ S10.size a)
theorem k0_off661_inb : ∀ (arg16 : BitVec 32) (k0_hw13 : k0_chk13 arg16), ∀ a, (k0_off661 arg16) a + S1.size a ≤ S10.size a := fun arg16 k0_hw13 => k0_hw13.1
theorem k0_off666_inb : ∀ (arg16 : BitVec 32) (k0_hw13 : k0_chk13 arg16), ∀ a, (k0_off666 arg16) a + S1.size a ≤ S10.size a := fun arg16 k0_hw13 => k0_hw13.2

def k0_off667 (arg20 : BitVec 32) : Fin 1 → Nat :=
  ![arg20.toNat]

def k0_off668 (arg20 : BitVec 32) : Fin 3 → Nat :=
  let c0_i32_171 : BitVec 32 := 0#32
  let c0_i32_172 : BitVec 32 := 0#32
  ![arg20.toNat, 0, 0]
def k0_off669 (arg17 : BitVec 32) (v207 : BitVec 32) : Fin 3 → Nat :=
  let c0_i32_173 : BitVec 32 := 0#32
  let c512_i32 : BitVec 32 := 512#32
  let v204 : BitVec 32 := Scalar.muli arg17 c512_i32
  let v205 : BitVec 32 := v204
  ![v207.toNat, 0, v205.toNat]

def k0_chk17 (arg17 : BitVec 32) (v207 : BitVec 32) : Prop :=
  (∀ a, (k0_off669 arg17 v207) a + S1x5120x512.size a ≤ S9x5120x3072.size a) ∧
  (∀ (hinb : ∀ a, (k0_off669 arg17 v207) a + S1x5120x512.size a ≤ S9x5120x3072.size a), (Rect.unit (s := S9x5120x3072) (k0_off669 arg17 v207) S1x5120x512.size hinb).WholeWords (EltTy.packing .fp8e4m3))
theorem k0_off669_inb : ∀ (arg17 : BitVec 32) (v207 : BitVec 32) (k0_hw17 : k0_chk17 arg17 v207), ∀ a, (k0_off669 arg17 v207) a + S1x5120x512.size a ≤ S9x5120x3072.size a := fun arg17 v207 k0_hw17 => k0_hw17.1
theorem k0_off669_wordsfp8e4m3 : ∀ (arg17 : BitVec 32) (v207 : BitVec 32) (k0_hw17 : k0_chk17 arg17 v207), (Rect.unit (s := S9x5120x3072) (k0_off669 arg17 v207) S1x5120x512.size (k0_off669_inb arg17 v207 k0_hw17)).WholeWords (EltTy.packing .fp8e4m3) := fun arg17 v207 k0_hw17 => k0_hw17.2 (k0_off669_inb arg17 v207 k0_hw17)

def k0_mult12 (arg17 : BitVec 32) : BitVec 32 :=
  let c512_i32_174 : BitVec 32 := 512#32
  let v214 : BitVec 32 := Scalar.muli arg17 c512_i32_174
  v214
def k0_off670 (arg17 : BitVec 32) (v191 : BitVec 32) : Fin 2 → Nat :=
  let v216 : Index := Scalar.indexCast v191
  let c512_i32_174 : BitVec 32 := 512#32
  let v214 : BitVec 32 := Scalar.muli arg17 c512_i32_174
  let v215 : BitVec 32 := v214
  let v217 : Index := Scalar.indexCast v215
  ![v216.toNat, v217.toNat]

def k0_chk14 (arg17 : BitVec 32) (v191 : BitVec 32) : Prop :=
  (∀ a, (k0_off662 v191) a + S1.size a ≤ S9.size a) ∧
  (∀ a, (k0_off670 arg17 v191) a + S1x512.size a ≤ S9x3072.size a)
theorem k0_off662_inb : ∀ (arg17 : BitVec 32) (v191 : BitVec 32) (k0_hw14 : k0_chk14 arg17 v191), ∀ a, (k0_off662 v191) a + S1.size a ≤ S9.size a := fun arg17 v191 k0_hw14 => k0_hw14.1
theorem k0_off670_inb : ∀ (arg17 : BitVec 32) (v191 : BitVec 32) (k0_hw14 : k0_chk14 arg17 v191), ∀ a, (k0_off670 arg17 v191) a + S1x512.size a ≤ S9x3072.size a := fun arg17 v191 k0_hw14 => k0_hw14.2

@[reducible] def k0_t11_loop (v193 : BitVec 32) (v195 : BitVec 32) : Scf.Loop 32 :=
  let c0_i32_181 : BitVec 32 := 0#32
  let v196 : BitVec 32 := Scalar.addi v193 v195
  let c32_i32 : BitVec 32 := 32#32
  let v197 : BitVec 32 := Scalar.remsi v193 c32_i32
  let v198 : BitVec 32 := Scalar.subi v193 v197
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_183 : BitVec 32 := 1#32
  ⟨c0_i32_181, v230, c1_i32_183⟩

def k0_mult13 (v193 : BitVec 32) (v195 : BitVec 32) (k0_t11 : Fin (k0_t11_loop v193 v195).trips) : BitVec 32 :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t11
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  v258
def k0_off671 (v193 : BitVec 32) (v195 : BitVec 32) (k0_t11 : Fin (k0_t11_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t11
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v260 : Index := Scalar.indexCast v259
  let c0_202 : Index := 0#32
  ![v260.toNat, 0]
def k0_off672 (arg20 : BitVec 32) : Fin 3 → Nat :=
  let v262 : Index := Scalar.indexCast arg20
  let c0_203 : Index := 0#32
  let c0_204 : Index := 0#32
  ![v262.toNat, 0, 0]
def k0_off673 (v193 : BitVec 32) (v195 : BitVec 32) (k0_t11 : Fin (k0_t11_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t11
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v266 : Index := Scalar.indexCast v259
  let c0_206 : Index := 0#32
  ![v266.toNat, 0]
def k0_off674 (arg17 : BitVec 32) (v193 : BitVec 32) (v195 : BitVec 32) (k0_t11 : Fin (k0_t11_loop v193 v195).trips) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let v280 : Index := Scalar.indexCast v189
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t11
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v281 : Index := Scalar.indexCast v259
  let c0_207 : Index := 0#32
  ![v280.toNat, v281.toNat, 0]
@[reducible] def k0_t12_loop (v193 : BitVec 32) (v195 : BitVec 32) : Scf.Loop 32 :=
  let c0_i32_181 : BitVec 32 := 0#32
  let v196 : BitVec 32 := Scalar.addi v193 v195
  let c32_i32 : BitVec 32 := 32#32
  let v197 : BitVec 32 := Scalar.remsi v193 c32_i32
  let v198 : BitVec 32 := Scalar.subi v193 v197
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let v227 : BitVec 32 := Scalar.addi c0_i32_181 v226
  let c1_i32_184 : BitVec 32 := 1#32
  ⟨v230, v227, c1_i32_184⟩
def k0_mult14 (v193 : BitVec 32) (v195 : BitVec 32) (k0_t12 : Fin (k0_t12_loop v193 v195).trips) : BitVec 32 :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t12
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  v258
def k0_off675 (v193 : BitVec 32) (v195 : BitVec 32) (k0_t12 : Fin (k0_t12_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t12
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v260 : Index := Scalar.indexCast v259
  let c0_202 : Index := 0#32
  ![v260.toNat, 0]
def k0_off676 (arg20 : BitVec 32) : Fin 3 → Nat :=
  let v262 : Index := Scalar.indexCast arg20
  let c0_203 : Index := 0#32
  let c0_204 : Index := 0#32
  ![v262.toNat, 0, 0]
def k0_off677 (v193 : BitVec 32) (v195 : BitVec 32) (k0_t12 : Fin (k0_t12_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t12
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v266 : Index := Scalar.indexCast v259
  let c0_206 : Index := 0#32
  ![v266.toNat, 0]
def k0_off678 (arg17 : BitVec 32) (v193 : BitVec 32) (v195 : BitVec 32) (k0_t12 : Fin (k0_t12_loop v193 v195).trips) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let v280 : Index := Scalar.indexCast v189
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t12
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v281 : Index := Scalar.indexCast v259
  let c0_207 : Index := 0#32
  ![v280.toNat, v281.toNat, 0]

def k0_chk18 (arg17 : BitVec 32) (arg20 : BitVec 32) (v193 : BitVec 32) (v195 : BitVec 32) : Prop :=
  ((k0_t11_loop v193 v195).OK) ∧
  (∀ k0_t11 : Fin (k0_t11_loop v193 v195).trips, 32 ∣ (k0_mult13 v193 v195 k0_t11).toNat) ∧
  (∀ k0_t11 : Fin (k0_t11_loop v193 v195).trips, ∀ a, (k0_off671 v193 v195 k0_t11) a + S128x5120.size a ≤ S896x5120.size a) ∧
  (∀ k0_t11 : Fin (k0_t11_loop v193 v195).trips, ∀ a, (k0_off672 arg20) a + S1x5120x512.size a ≤ S12x5120x512.size a) ∧
  (∀ k0_t11 : Fin (k0_t11_loop v193 v195).trips, ∀ a, (k0_off673 v193 v195 k0_t11) a + S128x128.size a ≤ S896x128.size a) ∧
  (∀ k0_t11 : Fin (k0_t11_loop v193 v195).trips, ∀ a, (k0_off674 arg17 v193 v195 k0_t11) a + S1x128x512.size a ≤ S2x896x512.size a) ∧
  (∀ k0_t11 : Fin (k0_t11_loop v193 v195).trips, ∀ (hinb : ∀ a, (k0_off674 arg17 v193 v195 k0_t11) a + S1x128x512.size a ≤ S2x896x512.size a), (Rect.unit (s := S2x896x512) (k0_off674 arg17 v193 v195 k0_t11) S1x128x512.size hinb).PackedRows (EltTy.packing .bf16)) ∧
  ((k0_t12_loop v193 v195).OK) ∧
  (∀ k0_t12 : Fin (k0_t12_loop v193 v195).trips, 32 ∣ (k0_mult14 v193 v195 k0_t12).toNat) ∧
  (∀ k0_t12 : Fin (k0_t12_loop v193 v195).trips, ∀ a, (k0_off675 v193 v195 k0_t12) a + S128x5120.size a ≤ S896x5120.size a) ∧
  (∀ k0_t12 : Fin (k0_t12_loop v193 v195).trips, ∀ a, (k0_off676 arg20) a + S1x5120x512.size a ≤ S12x5120x512.size a) ∧
  (∀ k0_t12 : Fin (k0_t12_loop v193 v195).trips, ∀ a, (k0_off677 v193 v195 k0_t12) a + S128x128.size a ≤ S896x128.size a) ∧
  (∀ k0_t12 : Fin (k0_t12_loop v193 v195).trips, ∀ a, (k0_off678 arg17 v193 v195 k0_t12) a + S1x128x512.size a ≤ S2x896x512.size a) ∧
  (∀ k0_t12 : Fin (k0_t12_loop v193 v195).trips, ∀ (hinb : ∀ a, (k0_off678 arg17 v193 v195 k0_t12) a + S1x128x512.size a ≤ S2x896x512.size a), (Rect.unit (s := S2x896x512) (k0_off678 arg17 v193 v195 k0_t12) S1x128x512.size hinb).PackedRows (EltTy.packing .bf16))
theorem k0_t11_ok : ∀ (arg17 : BitVec 32) (arg20 : BitVec 32) (v193 : BitVec 32) (v195 : BitVec 32) (k0_hw18 : k0_chk18 arg17 arg20 v193 v195), (k0_t11_loop v193 v195).OK := fun arg17 arg20 v193 v195 k0_hw18 => k0_hw18.1
theorem k0_mult13_dvd : ∀ (arg17 : BitVec 32) (arg20 : BitVec 32) (v193 : BitVec 32) (v195 : BitVec 32) (k0_hw18 : k0_chk18 arg17 arg20 v193 v195) (k0_t11 : Fin (k0_t11_loop v193 v195).trips), 32 ∣ (k0_mult13 v193 v195 k0_t11).toNat := fun arg17 arg20 v193 v195 k0_hw18 k0_t11 => k0_hw18.2.1 k0_t11
theorem k0_off671_inb : ∀ (arg17 : BitVec 32) (arg20 : BitVec 32) (v193 : BitVec 32) (v195 : BitVec 32) (k0_hw18 : k0_chk18 arg17 arg20 v193 v195) (k0_t11 : Fin (k0_t11_loop v193 v195).trips), ∀ a, (k0_off671 v193 v195 k0_t11) a + S128x5120.size a ≤ S896x5120.size a := fun arg17 arg20 v193 v195 k0_hw18 k0_t11 => k0_hw18.2.2.1 k0_t11
theorem k0_off672_inb : ∀ (arg17 : BitVec 32) (arg20 : BitVec 32) (v193 : BitVec 32) (v195 : BitVec 32) (k0_hw18 : k0_chk18 arg17 arg20 v193 v195) (k0_t11 : Fin (k0_t11_loop v193 v195).trips), ∀ a, (k0_off672 arg20) a + S1x5120x512.size a ≤ S12x5120x512.size a := fun arg17 arg20 v193 v195 k0_hw18 k0_t11 => k0_hw18.2.2.2.1 k0_t11
theorem k0_off673_inb : ∀ (arg17 : BitVec 32) (arg20 : BitVec 32) (v193 : BitVec 32) (v195 : BitVec 32) (k0_hw18 : k0_chk18 arg17 arg20 v193 v195) (k0_t11 : Fin (k0_t11_loop v193 v195).trips), ∀ a, (k0_off673 v193 v195 k0_t11) a + S128x128.size a ≤ S896x128.size a := fun arg17 arg20 v193 v195 k0_hw18 k0_t11 => k0_hw18.2.2.2.2.1 k0_t11
theorem k0_off674_inb : ∀ (arg17 : BitVec 32) (arg20 : BitVec 32) (v193 : BitVec 32) (v195 : BitVec 32) (k0_hw18 : k0_chk18 arg17 arg20 v193 v195) (k0_t11 : Fin (k0_t11_loop v193 v195).trips), ∀ a, (k0_off674 arg17 v193 v195 k0_t11) a + S1x128x512.size a ≤ S2x896x512.size a := fun arg17 arg20 v193 v195 k0_hw18 k0_t11 => k0_hw18.2.2.2.2.2.1 k0_t11
theorem k0_off674_packedbf16 : ∀ (arg17 : BitVec 32) (arg20 : BitVec 32) (v193 : BitVec 32) (v195 : BitVec 32) (k0_hw18 : k0_chk18 arg17 arg20 v193 v195) (k0_t11 : Fin (k0_t11_loop v193 v195).trips), (Rect.unit (s := S2x896x512) (k0_off674 arg17 v193 v195 k0_t11) S1x128x512.size (k0_off674_inb arg17 arg20 v193 v195 k0_hw18 k0_t11)).PackedRows (EltTy.packing .bf16) := fun arg17 arg20 v193 v195 k0_hw18 k0_t11 => k0_hw18.2.2.2.2.2.2.1 k0_t11 (k0_off674_inb arg17 arg20 v193 v195 k0_hw18 k0_t11)
theorem k0_t12_ok : ∀ (arg17 : BitVec 32) (arg20 : BitVec 32) (v193 : BitVec 32) (v195 : BitVec 32) (k0_hw18 : k0_chk18 arg17 arg20 v193 v195), (k0_t12_loop v193 v195).OK := fun arg17 arg20 v193 v195 k0_hw18 => k0_hw18.2.2.2.2.2.2.2.1
theorem k0_mult14_dvd : ∀ (arg17 : BitVec 32) (arg20 : BitVec 32) (v193 : BitVec 32) (v195 : BitVec 32) (k0_hw18 : k0_chk18 arg17 arg20 v193 v195) (k0_t12 : Fin (k0_t12_loop v193 v195).trips), 32 ∣ (k0_mult14 v193 v195 k0_t12).toNat := fun arg17 arg20 v193 v195 k0_hw18 k0_t12 => k0_hw18.2.2.2.2.2.2.2.2.1 k0_t12
theorem k0_off675_inb : ∀ (arg17 : BitVec 32) (arg20 : BitVec 32) (v193 : BitVec 32) (v195 : BitVec 32) (k0_hw18 : k0_chk18 arg17 arg20 v193 v195) (k0_t12 : Fin (k0_t12_loop v193 v195).trips), ∀ a, (k0_off675 v193 v195 k0_t12) a + S128x5120.size a ≤ S896x5120.size a := fun arg17 arg20 v193 v195 k0_hw18 k0_t12 => k0_hw18.2.2.2.2.2.2.2.2.2.1 k0_t12
theorem k0_off676_inb : ∀ (arg17 : BitVec 32) (arg20 : BitVec 32) (v193 : BitVec 32) (v195 : BitVec 32) (k0_hw18 : k0_chk18 arg17 arg20 v193 v195) (k0_t12 : Fin (k0_t12_loop v193 v195).trips), ∀ a, (k0_off676 arg20) a + S1x5120x512.size a ≤ S12x5120x512.size a := fun arg17 arg20 v193 v195 k0_hw18 k0_t12 => k0_hw18.2.2.2.2.2.2.2.2.2.2.1 k0_t12
theorem k0_off677_inb : ∀ (arg17 : BitVec 32) (arg20 : BitVec 32) (v193 : BitVec 32) (v195 : BitVec 32) (k0_hw18 : k0_chk18 arg17 arg20 v193 v195) (k0_t12 : Fin (k0_t12_loop v193 v195).trips), ∀ a, (k0_off677 v193 v195 k0_t12) a + S128x128.size a ≤ S896x128.size a := fun arg17 arg20 v193 v195 k0_hw18 k0_t12 => k0_hw18.2.2.2.2.2.2.2.2.2.2.2.1 k0_t12
theorem k0_off678_inb : ∀ (arg17 : BitVec 32) (arg20 : BitVec 32) (v193 : BitVec 32) (v195 : BitVec 32) (k0_hw18 : k0_chk18 arg17 arg20 v193 v195) (k0_t12 : Fin (k0_t12_loop v193 v195).trips), ∀ a, (k0_off678 arg17 v193 v195 k0_t12) a + S1x128x512.size a ≤ S2x896x512.size a := fun arg17 arg20 v193 v195 k0_hw18 k0_t12 => k0_hw18.2.2.2.2.2.2.2.2.2.2.2.2.1 k0_t12
theorem k0_off678_packedbf16 : ∀ (arg17 : BitVec 32) (arg20 : BitVec 32) (v193 : BitVec 32) (v195 : BitVec 32) (k0_hw18 : k0_chk18 arg17 arg20 v193 v195) (k0_t12 : Fin (k0_t12_loop v193 v195).trips), (Rect.unit (s := S2x896x512) (k0_off678 arg17 v193 v195 k0_t12) S1x128x512.size (k0_off678_inb arg17 arg20 v193 v195 k0_hw18 k0_t12)).PackedRows (EltTy.packing .bf16) := fun arg17 arg20 v193 v195 k0_hw18 k0_t12 => k0_hw18.2.2.2.2.2.2.2.2.2.2.2.2.2 k0_t12 (k0_off678_inb arg17 arg20 v193 v195 k0_hw18 k0_t12)

def k0_mult15 (arg19 : BitVec 32) : BitVec 32 :=
  let c512_i32_201 : BitVec 32 := 512#32
  let v255 : BitVec 32 := Scalar.muli arg19 c512_i32_201
  v255
def k0_cond3 (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) : BitVec 1 :=
  let c0_i32_145 : BitVec 32 := 0#32
  let c1_i32_150 : BitVec 32 := 1#32
  let arg15 : BitVec 32 := Scf.iv c0_i32_145 c1_i32_150 k0_t10
  let c12_i32_185 : BitVec 32 := 12#32
  let v231 : BitVec 32 := Scalar.addi arg15 c12_i32_185
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c6_i32_63 : BitVec 32 := 6#32
  let v110 : BitVec 32 := Scalar.muli v109 c6_i32_63
  let v232 : BitVec 1 := Scalar.cmpi .slt v231 v110
  let v233 : BitVec 32 := Scalar.extui v232
  let c0_i32_186 : BitVec 32 := 0#32
  let v234 : BitVec 1 := Scalar.cmpi .ne v233 c0_i32_186
  v234

def k0_chk19 (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg19 : BitVec 32) : Prop :=
  (∀ (k0_h3 : k0_cond3 v36 v45 v54 v63 v72 v81 v90 v99 v106 k0_t10 = 1#1), 512 ∣ (k0_mult15 arg19).toNat)
theorem k0_mult15_dvd : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg19 : BitVec 32) (k0_hw19 : k0_chk19 v36 v45 v54 v63 v72 v81 v90 v99 v106 k0_t10 arg19), ∀ (k0_h3 : k0_cond3 v36 v45 v54 v63 v72 v81 v90 v99 v106 k0_t10 = 1#1), 512 ∣ (k0_mult15 arg19).toNat := fun v36 v45 v54 v63 v72 v81 v90 v99 v106 k0_t10 arg19 k0_hw19 k0_h3 => k0_hw19 k0_h3

def k0_off679 (arg18 : BitVec 32) : Fin 1 → Nat :=
  let v257 : Index := Scalar.indexCast arg18
  ![v257.toNat]

def k0_chk20 (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg18 : BitVec 32) : Prop :=
  (∀ (k0_h3 : k0_cond3 v36 v45 v54 v63 v72 v81 v90 v99 v106 k0_t10 = 1#1), ∀ a, (k0_off679 arg18) a + S1.size a ≤ S10.size a)
theorem k0_off679_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg18 : BitVec 32) (k0_hw20 : k0_chk20 v36 v45 v54 v63 v72 v81 v90 v99 v106 k0_t10 arg18), ∀ (k0_h3 : k0_cond3 v36 v45 v54 v63 v72 v81 v90 v99 v106 k0_t10 = 1#1), ∀ a, (k0_off679 arg18) a + S1.size a ≤ S10.size a := fun v36 v45 v54 v63 v72 v81 v90 v99 v106 k0_t10 arg18 k0_hw20 k0_h3 => k0_hw20 k0_h3

def k0_off680 (arg20 : BitVec 32) : Fin 1 → Nat :=
  ![arg20.toNat]
def k0_off681 (arg20 : BitVec 32) : Fin 3 → Nat :=
  let c0_i32_202 : BitVec 32 := 0#32
  let c0_i32_203 : BitVec 32 := 0#32
  ![arg20.toNat, 0, 0]
def k0_off682 (arg19 : BitVec 32) (v258 : BitVec 32) : Fin 3 → Nat :=
  let c0_i32_204 : BitVec 32 := 0#32
  let c512_i32_201 : BitVec 32 := 512#32
  let v255 : BitVec 32 := Scalar.muli arg19 c512_i32_201
  let v256 : BitVec 32 := v255
  ![v258.toNat, 0, v256.toNat]

def k0_chk21 (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg19 : BitVec 32) (v258 : BitVec 32) : Prop :=
  (∀ (k0_h3 : k0_cond3 v36 v45 v54 v63 v72 v81 v90 v99 v106 k0_t10 = 1#1), ∀ a, (k0_off682 arg19 v258) a + S1x5120x512.size a ≤ S9x5120x3072.size a) ∧
  (∀ (k0_h3 : k0_cond3 v36 v45 v54 v63 v72 v81 v90 v99 v106 k0_t10 = 1#1), ∀ (hinb : ∀ a, (k0_off682 arg19 v258) a + S1x5120x512.size a ≤ S9x5120x3072.size a), (Rect.unit (s := S9x5120x3072) (k0_off682 arg19 v258) S1x5120x512.size hinb).WholeWords (EltTy.packing .fp8e4m3))
theorem k0_off682_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg19 : BitVec 32) (v258 : BitVec 32) (k0_hw21 : k0_chk21 v36 v45 v54 v63 v72 v81 v90 v99 v106 k0_t10 arg19 v258), ∀ (k0_h3 : k0_cond3 v36 v45 v54 v63 v72 v81 v90 v99 v106 k0_t10 = 1#1), ∀ a, (k0_off682 arg19 v258) a + S1x5120x512.size a ≤ S9x5120x3072.size a := fun v36 v45 v54 v63 v72 v81 v90 v99 v106 k0_t10 arg19 v258 k0_hw21 k0_h3 => k0_hw21.1 k0_h3
theorem k0_off682_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg19 : BitVec 32) (v258 : BitVec 32) (k0_hw21 : k0_chk21 v36 v45 v54 v63 v72 v81 v90 v99 v106 k0_t10 arg19 v258), ∀ (k0_h3 : k0_cond3 v36 v45 v54 v63 v72 v81 v90 v99 v106 k0_t10 = 1#1), (Rect.unit (s := S9x5120x3072) (k0_off682 arg19 v258) S1x5120x512.size (k0_off682_inb v36 v45 v54 v63 v72 v81 v90 v99 v106 k0_t10 arg19 v258 k0_hw21 k0_h3)).WholeWords (EltTy.packing .fp8e4m3) := fun v36 v45 v54 v63 v72 v81 v90 v99 v106 k0_t10 arg19 v258 k0_hw21 k0_h3 => k0_hw21.2 k0_h3 (k0_off682_inb v36 v45 v54 v63 v72 v81 v90 v99 v106 k0_t10 arg19 v258 k0_hw21 k0_h3)

def k0_chk16 (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) : Prop :=
  (∀ a, (k0_off667 arg20) a + S1.size a ≤ S12.size a) ∧
  (∀ a, (k0_off668 arg20) a + S1x5120x512.size a ≤ S12x5120x512.size a) ∧
  (∀ (hinb : ∀ a, (k0_off668 arg20) a + S1x5120x512.size a ≤ S12x5120x512.size a), (Rect.unit (s := S12x5120x512) (k0_off668 arg20) S1x5120x512.size hinb).WholeWords (EltTy.packing .fp8e4m3)) ∧
  (∀ (k0_h3 : k0_cond3 v36 v45 v54 v63 v72 v81 v90 v99 v106 k0_t10 = 1#1), ∀ a, (k0_off680 arg20) a + S1.size a ≤ S12.size a) ∧
  (∀ (k0_h3 : k0_cond3 v36 v45 v54 v63 v72 v81 v90 v99 v106 k0_t10 = 1#1), ∀ a, (k0_off681 arg20) a + S1x5120x512.size a ≤ S12x5120x512.size a) ∧
  (∀ (k0_h3 : k0_cond3 v36 v45 v54 v63 v72 v81 v90 v99 v106 k0_t10 = 1#1), ∀ (hinb : ∀ a, (k0_off681 arg20) a + S1x5120x512.size a ≤ S12x5120x512.size a), (Rect.unit (s := S12x5120x512) (k0_off681 arg20) S1x5120x512.size hinb).WholeWords (EltTy.packing .fp8e4m3))
theorem k0_off667_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), ∀ a, (k0_off667 arg20) a + S1.size a ≤ S12.size a := fun v36 v45 v54 v63 v72 v81 v90 v99 v106 k0_t10 arg20 k0_hw16 => k0_hw16.1
theorem k0_off668_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), ∀ a, (k0_off668 arg20) a + S1x5120x512.size a ≤ S12x5120x512.size a := fun v36 v45 v54 v63 v72 v81 v90 v99 v106 k0_t10 arg20 k0_hw16 => k0_hw16.2.1
theorem k0_off668_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), (Rect.unit (s := S12x5120x512) (k0_off668 arg20) S1x5120x512.size (k0_off668_inb v36 v45 v54 v63 v72 v81 v90 v99 v106 k0_t10 arg20 k0_hw16)).WholeWords (EltTy.packing .fp8e4m3) := fun v36 v45 v54 v63 v72 v81 v90 v99 v106 k0_t10 arg20 k0_hw16 => k0_hw16.2.2.1 (k0_off668_inb v36 v45 v54 v63 v72 v81 v90 v99 v106 k0_t10 arg20 k0_hw16)
theorem k0_off680_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), ∀ (k0_h3 : k0_cond3 v36 v45 v54 v63 v72 v81 v90 v99 v106 k0_t10 = 1#1), ∀ a, (k0_off680 arg20) a + S1.size a ≤ S12.size a := fun v36 v45 v54 v63 v72 v81 v90 v99 v106 k0_t10 arg20 k0_hw16 k0_h3 => k0_hw16.2.2.2.1 k0_h3
theorem k0_off681_inb : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), ∀ (k0_h3 : k0_cond3 v36 v45 v54 v63 v72 v81 v90 v99 v106 k0_t10 = 1#1), ∀ a, (k0_off681 arg20) a + S1x5120x512.size a ≤ S12x5120x512.size a := fun v36 v45 v54 v63 v72 v81 v90 v99 v106 k0_t10 arg20 k0_hw16 k0_h3 => k0_hw16.2.2.2.2.1 k0_h3
theorem k0_off681_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t10 : Fin (k0_t10_loop v36 v45 v54 v63 v72 v81 v90 v99 v106).trips) (arg20 : BitVec 32) (k0_hw16 : k0_chk16 v36 v45 v54 v63 v72 v81 v90 v99 v106 k0_t10 arg20), ∀ (k0_h3 : k0_cond3 v36 v45 v54 v63 v72 v81 v90 v99 v106 k0_t10 = 1#1), (Rect.unit (s := S12x5120x512) (k0_off681 arg20) S1x5120x512.size (k0_off681_inb v36 v45 v54 v63 v72 v81 v90 v99 v106 k0_t10 arg20 k0_hw16 k0_h3)).WholeWords (EltTy.packing .fp8e4m3) := fun v36 v45 v54 v63 v72 v81 v90 v99 v106 k0_t10 arg20 k0_hw16 k0_h3 => k0_hw16.2.2.2.2.2 k0_h3 (k0_off681_inb v36 v45 v54 v63 v72 v81 v90 v99 v106 k0_t10 arg20 k0_hw16 k0_h3)

def k0_mult16 (arg17 : BitVec 32) : BitVec 32 :=
  let c512_i32_201 : BitVec 32 := 512#32
  let v255 : BitVec 32 := Scalar.muli arg17 c512_i32_201
  v255
def k0_cond4 (v36 : BitVec 32) (v45 : BitVec 32) (v54 : BitVec 32) (v63 : BitVec 32) (v72 : BitVec 32) (v81 : BitVec 32) (v90 : BitVec 32) (v99 : BitVec 32) (v106 : BitVec 32) (arg16 : BitVec 32) : BitVec 1 :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c1_i32_187 : BitVec 32 := 1#32
  let v235 : BitVec 32 := Scalar.subi v109 c1_i32_187
  let v236 : BitVec 1 := Scalar.cmpi .eq arg16 v235
  let v237 : BitVec 32 := Scalar.extui v236
  let c0_i32_188 : BitVec 32 := 0#32
  let v238 : BitVec 1 := Scalar.cmpi .ne v237 c0_i32_188
  v238

def k0_off683 (arg17 : BitVec 32) : Fin 1 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  ![v189.toNat]
def k0_off684 (arg17 : BitVec 32) : Fin 2 → Nat :=
  let c0_i32_202 : BitVec 32 := 0#32
  let c512_i32_201 : BitVec 32 := 512#32
  let v255 : BitVec 32 := Scalar.muli arg17 c512_i32_201
  let v256 : BitVec 32 := v255
  ![0, v256.toNat]
def k0_off685 (arg17 : BitVec 32) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let c0_i32_203 : BitVec 32 := 0#32
  let c0_i32_204 : BitVec 32 := 0#32
  ![v189.toNat, 0, 0]

def k0_chk15 (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) : Prop :=
  (∀ (k0_h2 : k0_cond2 arg16 arg17 = 1#1), 512 ∣ (k0_mult10 arg17).toNat) ∧
  (∀ (k0_h2 : k0_cond2 arg16 arg17 = 1#1), ∀ a, (k0_off663 arg17) a + S1.size a ≤ S2.size a) ∧
  (∀ (k0_h2 : k0_cond2 arg16 arg17 = 1#1), ∀ a, (k0_off664 arg17) a + S768x512.size a ≤ S768x3072.size a) ∧
  (∀ (k0_h2 : k0_cond2 arg16 arg17 = 1#1), ∀ a, (k0_off665 arg17) a + S1x768x512.size a ≤ S2x896x512.size a) ∧
  (∀ (k0_h2 : k0_cond2 arg16 arg17 = 1#1), ∀ (hinb : ∀ a, (k0_off665 arg17) a + S1x768x512.size a ≤ S2x896x512.size a), (Rect.unit (s := S2x896x512) (k0_off665 arg17) S1x768x512.size hinb).WholeWords (EltTy.packing .bf16)) ∧
  (∀ (k0_h2 : k0_cond2 arg16 arg17 = 1#1), ∀ (hinb : ∀ a, (k0_off664 arg17) a + S768x512.size a ≤ S768x3072.size a), (Rect.unit (s := S768x3072) (k0_off664 arg17) S768x512.size hinb).WholeWords (EltTy.packing .bf16)) ∧
  (512 ∣ (k0_mult11 arg17).toNat) ∧
  (512 ∣ (k0_mult12 arg17).toNat) ∧
  (∀ (k0_h4 : k0_cond4 v36 v45 v54 v63 v72 v81 v90 v99 v106 arg16 = 1#1), 512 ∣ (k0_mult16 arg17).toNat) ∧
  (∀ (k0_h4 : k0_cond4 v36 v45 v54 v63 v72 v81 v90 v99 v106 arg16 = 1#1), ∀ a, (k0_off683 arg17) a + S1.size a ≤ S2.size a) ∧
  (∀ (k0_h4 : k0_cond4 v36 v45 v54 v63 v72 v81 v90 v99 v106 arg16 = 1#1), ∀ a, (k0_off684 arg17) a + S768x512.size a ≤ S768x3072.size a) ∧
  (∀ (k0_h4 : k0_cond4 v36 v45 v54 v63 v72 v81 v90 v99 v106 arg16 = 1#1), ∀ a, (k0_off685 arg17) a + S1x768x512.size a ≤ S2x896x512.size a) ∧
  (∀ (k0_h4 : k0_cond4 v36 v45 v54 v63 v72 v81 v90 v99 v106 arg16 = 1#1), ∀ (hinb : ∀ a, (k0_off685 arg17) a + S1x768x512.size a ≤ S2x896x512.size a), (Rect.unit (s := S2x896x512) (k0_off685 arg17) S1x768x512.size hinb).WholeWords (EltTy.packing .bf16)) ∧
  (∀ (k0_h4 : k0_cond4 v36 v45 v54 v63 v72 v81 v90 v99 v106 arg16 = 1#1), ∀ (hinb : ∀ a, (k0_off684 arg17) a + S768x512.size a ≤ S768x3072.size a), (Rect.unit (s := S768x3072) (k0_off684 arg17) S768x512.size hinb).WholeWords (EltTy.packing .bf16))
theorem k0_mult10_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), 512 ∣ (k0_mult10 arg17).toNat := fun v36 v45 v54 v63 v72 v81 v90 v99 v106 arg16 arg17 k0_hw15 k0_h2 => k0_hw15.1 k0_h2
theorem k0_off663_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), ∀ a, (k0_off663 arg17) a + S1.size a ≤ S2.size a := fun v36 v45 v54 v63 v72 v81 v90 v99 v106 arg16 arg17 k0_hw15 k0_h2 => k0_hw15.2.1 k0_h2
theorem k0_off664_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), ∀ a, (k0_off664 arg17) a + S768x512.size a ≤ S768x3072.size a := fun v36 v45 v54 v63 v72 v81 v90 v99 v106 arg16 arg17 k0_hw15 k0_h2 => k0_hw15.2.2.1 k0_h2
theorem k0_off665_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), ∀ a, (k0_off665 arg17) a + S1x768x512.size a ≤ S2x896x512.size a := fun v36 v45 v54 v63 v72 v81 v90 v99 v106 arg16 arg17 k0_hw15 k0_h2 => k0_hw15.2.2.2.1 k0_h2
theorem k0_off665_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), (Rect.unit (s := S2x896x512) (k0_off665 arg17) S1x768x512.size (k0_off665_inb v36 v45 v54 v63 v72 v81 v90 v99 v106 arg16 arg17 k0_hw15 k0_h2)).WholeWords (EltTy.packing .bf16) := fun v36 v45 v54 v63 v72 v81 v90 v99 v106 arg16 arg17 k0_hw15 k0_h2 => k0_hw15.2.2.2.2.1 k0_h2 (k0_off665_inb v36 v45 v54 v63 v72 v81 v90 v99 v106 arg16 arg17 k0_hw15 k0_h2)
theorem k0_off664_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h2 : k0_cond2 arg16 arg17 = 1#1), (Rect.unit (s := S768x3072) (k0_off664 arg17) S768x512.size (k0_off664_inb v36 v45 v54 v63 v72 v81 v90 v99 v106 arg16 arg17 k0_hw15 k0_h2)).WholeWords (EltTy.packing .bf16) := fun v36 v45 v54 v63 v72 v81 v90 v99 v106 arg16 arg17 k0_hw15 k0_h2 => k0_hw15.2.2.2.2.2.1 k0_h2 (k0_off664_inb v36 v45 v54 v63 v72 v81 v90 v99 v106 arg16 arg17 k0_hw15 k0_h2)
theorem k0_mult11_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), 512 ∣ (k0_mult11 arg17).toNat := fun v36 v45 v54 v63 v72 v81 v90 v99 v106 arg16 arg17 k0_hw15 => k0_hw15.2.2.2.2.2.2.1
theorem k0_mult12_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), 512 ∣ (k0_mult12 arg17).toNat := fun v36 v45 v54 v63 v72 v81 v90 v99 v106 arg16 arg17 k0_hw15 => k0_hw15.2.2.2.2.2.2.2.1
theorem k0_mult16_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), 512 ∣ (k0_mult16 arg17).toNat := fun v36 v45 v54 v63 v72 v81 v90 v99 v106 arg16 arg17 k0_hw15 k0_h4 => k0_hw15.2.2.2.2.2.2.2.2.1 k0_h4
theorem k0_off683_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), ∀ a, (k0_off683 arg17) a + S1.size a ≤ S2.size a := fun v36 v45 v54 v63 v72 v81 v90 v99 v106 arg16 arg17 k0_hw15 k0_h4 => k0_hw15.2.2.2.2.2.2.2.2.2.1 k0_h4
theorem k0_off684_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), ∀ a, (k0_off684 arg17) a + S768x512.size a ≤ S768x3072.size a := fun v36 v45 v54 v63 v72 v81 v90 v99 v106 arg16 arg17 k0_hw15 k0_h4 => k0_hw15.2.2.2.2.2.2.2.2.2.2.1 k0_h4
theorem k0_off685_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), ∀ a, (k0_off685 arg17) a + S1x768x512.size a ≤ S2x896x512.size a := fun v36 v45 v54 v63 v72 v81 v90 v99 v106 arg16 arg17 k0_hw15 k0_h4 => k0_hw15.2.2.2.2.2.2.2.2.2.2.2.1 k0_h4
theorem k0_off685_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), (Rect.unit (s := S2x896x512) (k0_off685 arg17) S1x768x512.size (k0_off685_inb v36 v45 v54 v63 v72 v81 v90 v99 v106 arg16 arg17 k0_hw15 k0_h4)).WholeWords (EltTy.packing .bf16) := fun v36 v45 v54 v63 v72 v81 v90 v99 v106 arg16 arg17 k0_hw15 k0_h4 => k0_hw15.2.2.2.2.2.2.2.2.2.2.2.2.1 k0_h4 (k0_off685_inb v36 v45 v54 v63 v72 v81 v90 v99 v106 arg16 arg17 k0_hw15 k0_h4)
theorem k0_off684_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw15 : k0_chk15 v36 v45 v54 v63 v72 v81 v90 v99 v106 arg16 arg17), ∀ (k0_h4 : k0_cond4 v36 v45 v54 v63 v72 v81 v90 v99 v106 arg16 = 1#1), (Rect.unit (s := S768x3072) (k0_off684 arg17) S768x512.size (k0_off684_inb v36 v45 v54 v63 v72 v81 v90 v99 v106 arg16 arg17 k0_hw15 k0_h4)).WholeWords (EltTy.packing .bf16) := fun v36 v45 v54 v63 v72 v81 v90 v99 v106 arg16 arg17 k0_hw15 k0_h4 => k0_hw15.2.2.2.2.2.2.2.2.2.2.2.2.2 k0_h4 (k0_off684_inb v36 v45 v54 v63 v72 v81 v90 v99 v106 arg16 arg17 k0_hw15 k0_h4)

@[reducible] def k0_t13_loop (v36 : BitVec 32) (v45 : BitVec 32) (v54 : BitVec 32) (v63 : BitVec 32) (v72 : BitVec 32) (v81 : BitVec 32) (v90 : BitVec 32) (v99 : BitVec 32) (v106 : BitVec 32) : Scf.Loop 32 :=
  let c0_i32_145 : BitVec 32 := 0#32
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c6_i32_63 : BitVec 32 := 6#32
  let v110 : BitVec 32 := Scalar.muli v109 c6_i32_63
  let v161 : BitVec 32 := Scalar.subi v110 c0_i32_145
  let c1_i32_149 : BitVec 32 := 1#32
  let v163 : BitVec 32 := Scalar.divsi v161 c1_i32_149
  let v164 : BitVec 32 := Scalar.muli v163 c1_i32_149
  let v165 : BitVec 32 := Scalar.addi c0_i32_145 v164
  let v162 : BitVec 32 := Scalar.addi c0_i32_145 v161
  let c1_i32_151 : BitVec 32 := 1#32
  ⟨v165, v162, c1_i32_151⟩

def k0_chk12 (v36 : BitVec 32) (v45 : BitVec 32) (v54 : BitVec 32) (v63 : BitVec 32) (v72 : BitVec 32) (v81 : BitVec 32) (v90 : BitVec 32) (v99 : BitVec 32) (v106 : BitVec 32) : Prop :=
  ((k0_t10_loop v36 v45 v54 v63 v72 v81 v90 v99 v106).OK) ∧
  ((k0_t13_loop v36 v45 v54 v63 v72 v81 v90 v99 v106).OK)
theorem k0_t10_ok : ∀ (v36 : BitVec 32) (v45 : BitVec 32) (v54 : BitVec 32) (v63 : BitVec 32) (v72 : BitVec 32) (v81 : BitVec 32) (v90 : BitVec 32) (v99 : BitVec 32) (v106 : BitVec 32) (k0_hw12 : k0_chk12 v36 v45 v54 v63 v72 v81 v90 v99 v106), (k0_t10_loop v36 v45 v54 v63 v72 v81 v90 v99 v106).OK := fun v36 v45 v54 v63 v72 v81 v90 v99 v106 k0_hw12 => k0_hw12.1
theorem k0_t13_ok : ∀ (v36 : BitVec 32) (v45 : BitVec 32) (v54 : BitVec 32) (v63 : BitVec 32) (v72 : BitVec 32) (v81 : BitVec 32) (v90 : BitVec 32) (v99 : BitVec 32) (v106 : BitVec 32) (k0_hw12 : k0_chk12 v36 v45 v54 v63 v72 v81 v90 v99 v106), (k0_t13_loop v36 v45 v54 v63 v72 v81 v90 v99 v106).OK := fun v36 v45 v54 v63 v72 v81 v90 v99 v106 k0_hw12 => k0_hw12.2

def k0_off686 (arg16 : BitVec 32) : Fin 1 → Nat :=
  let v190 : Index := Scalar.indexCast arg16
  ![v190.toNat]

def k0_off687 (v191 : BitVec 32) : Fin 1 → Nat :=
  let v192 : Index := Scalar.indexCast v191
  ![v192.toNat]

def k0_mult17 (arg17 : BitVec 32) : BitVec 32 :=
  let c2_i32_201 : BitVec 32 := 2#32
  let v255 : BitVec 32 := Scalar.subi arg17 c2_i32_201
  let c512_i32_202 : BitVec 32 := 512#32
  let v256 : BitVec 32 := Scalar.muli v255 c512_i32_202
  v256
def k0_cond5 (arg16 : BitVec 32) (arg17 : BitVec 32) : BitVec 1 :=
  let c0_i32_168 : BitVec 32 := 0#32
  let v199 : BitVec 1 := Scalar.cmpi .eq arg16 c0_i32_168
  let c2_i32_169 : BitVec 32 := 2#32
  let v200 : BitVec 1 := Scalar.cmpi .sge arg17 c2_i32_169
  let v201 : BitVec 1 := Scalar.andi v199 v200
  let v202 : BitVec 32 := Scalar.extui v201
  let c0_i32_170 : BitVec 32 := 0#32
  let v203 : BitVec 1 := Scalar.cmpi .ne v202 c0_i32_170
  v203

def k0_off688 (arg17 : BitVec 32) : Fin 1 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  ![v189.toNat]
def k0_off689 (arg17 : BitVec 32) : Fin 2 → Nat :=
  let c0_i32_203 : BitVec 32 := 0#32
  let c2_i32_201 : BitVec 32 := 2#32
  let v255 : BitVec 32 := Scalar.subi arg17 c2_i32_201
  let c512_i32_202 : BitVec 32 := 512#32
  let v256 : BitVec 32 := Scalar.muli v255 c512_i32_202
  let v257 : BitVec 32 := v256
  ![0, v257.toNat]
def k0_off690 (arg17 : BitVec 32) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let c0_i32_204 : BitVec 32 := 0#32
  let c0_i32_205 : BitVec 32 := 0#32
  ![v189.toNat, 0, 0]
def k0_mult18 (arg17 : BitVec 32) : BitVec 32 :=
  let c512_i32 : BitVec 32 := 512#32
  let v204 : BitVec 32 := Scalar.muli arg17 c512_i32
  v204
def k0_off691 (arg16 : BitVec 32) : Fin 1 → Nat :=
  let v206 : Index := Scalar.indexCast arg16
  ![v206.toNat]

def k0_chk22 (arg16 : BitVec 32) : Prop :=
  (∀ a, (k0_off686 arg16) a + S1.size a ≤ S10.size a) ∧
  (∀ a, (k0_off691 arg16) a + S1.size a ≤ S10.size a)
theorem k0_off686_inb : ∀ (arg16 : BitVec 32) (k0_hw22 : k0_chk22 arg16), ∀ a, (k0_off686 arg16) a + S1.size a ≤ S10.size a := fun arg16 k0_hw22 => k0_hw22.1
theorem k0_off691_inb : ∀ (arg16 : BitVec 32) (k0_hw22 : k0_chk22 arg16), ∀ a, (k0_off691 arg16) a + S1.size a ≤ S10.size a := fun arg16 k0_hw22 => k0_hw22.2

def k0_off692 (arg20 : BitVec 32) : Fin 1 → Nat :=
  ![arg20.toNat]

def k0_off693 (arg20 : BitVec 32) : Fin 3 → Nat :=
  let c0_i32_171 : BitVec 32 := 0#32
  let c0_i32_172 : BitVec 32 := 0#32
  ![arg20.toNat, 0, 0]
def k0_off694 (arg17 : BitVec 32) (v207 : BitVec 32) : Fin 3 → Nat :=
  let c0_i32_173 : BitVec 32 := 0#32
  let c512_i32 : BitVec 32 := 512#32
  let v204 : BitVec 32 := Scalar.muli arg17 c512_i32
  let v205 : BitVec 32 := v204
  ![v207.toNat, 0, v205.toNat]

def k0_chk26 (arg17 : BitVec 32) (v207 : BitVec 32) : Prop :=
  (∀ a, (k0_off694 arg17 v207) a + S1x5120x512.size a ≤ S9x5120x3072.size a) ∧
  (∀ (hinb : ∀ a, (k0_off694 arg17 v207) a + S1x5120x512.size a ≤ S9x5120x3072.size a), (Rect.unit (s := S9x5120x3072) (k0_off694 arg17 v207) S1x5120x512.size hinb).WholeWords (EltTy.packing .fp8e4m3))
theorem k0_off694_inb : ∀ (arg17 : BitVec 32) (v207 : BitVec 32) (k0_hw26 : k0_chk26 arg17 v207), ∀ a, (k0_off694 arg17 v207) a + S1x5120x512.size a ≤ S9x5120x3072.size a := fun arg17 v207 k0_hw26 => k0_hw26.1
theorem k0_off694_wordsfp8e4m3 : ∀ (arg17 : BitVec 32) (v207 : BitVec 32) (k0_hw26 : k0_chk26 arg17 v207), (Rect.unit (s := S9x5120x3072) (k0_off694 arg17 v207) S1x5120x512.size (k0_off694_inb arg17 v207 k0_hw26)).WholeWords (EltTy.packing .fp8e4m3) := fun arg17 v207 k0_hw26 => k0_hw26.2 (k0_off694_inb arg17 v207 k0_hw26)

def k0_mult19 (arg17 : BitVec 32) : BitVec 32 :=
  let c512_i32_174 : BitVec 32 := 512#32
  let v214 : BitVec 32 := Scalar.muli arg17 c512_i32_174
  v214
def k0_off695 (arg17 : BitVec 32) (v191 : BitVec 32) : Fin 2 → Nat :=
  let v216 : Index := Scalar.indexCast v191
  let c512_i32_174 : BitVec 32 := 512#32
  let v214 : BitVec 32 := Scalar.muli arg17 c512_i32_174
  let v215 : BitVec 32 := v214
  let v217 : Index := Scalar.indexCast v215
  ![v216.toNat, v217.toNat]

def k0_chk23 (arg17 : BitVec 32) (v191 : BitVec 32) : Prop :=
  (∀ a, (k0_off687 v191) a + S1.size a ≤ S9.size a) ∧
  (∀ a, (k0_off695 arg17 v191) a + S1x512.size a ≤ S9x3072.size a)
theorem k0_off687_inb : ∀ (arg17 : BitVec 32) (v191 : BitVec 32) (k0_hw23 : k0_chk23 arg17 v191), ∀ a, (k0_off687 v191) a + S1.size a ≤ S9.size a := fun arg17 v191 k0_hw23 => k0_hw23.1
theorem k0_off695_inb : ∀ (arg17 : BitVec 32) (v191 : BitVec 32) (k0_hw23 : k0_chk23 arg17 v191), ∀ a, (k0_off695 arg17 v191) a + S1x512.size a ≤ S9x3072.size a := fun arg17 v191 k0_hw23 => k0_hw23.2

@[reducible] def k0_t14_loop (v193 : BitVec 32) (v195 : BitVec 32) : Scf.Loop 32 :=
  let c0_i32_181 : BitVec 32 := 0#32
  let v196 : BitVec 32 := Scalar.addi v193 v195
  let c32_i32 : BitVec 32 := 32#32
  let v197 : BitVec 32 := Scalar.remsi v193 c32_i32
  let v198 : BitVec 32 := Scalar.subi v193 v197
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_183 : BitVec 32 := 1#32
  ⟨c0_i32_181, v230, c1_i32_183⟩

def k0_mult20 (v193 : BitVec 32) (v195 : BitVec 32) (k0_t14 : Fin (k0_t14_loop v193 v195).trips) : BitVec 32 :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t14
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  v258
def k0_off696 (v193 : BitVec 32) (v195 : BitVec 32) (k0_t14 : Fin (k0_t14_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t14
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v260 : Index := Scalar.indexCast v259
  let c0_202 : Index := 0#32
  ![v260.toNat, 0]
def k0_off697 (arg20 : BitVec 32) : Fin 3 → Nat :=
  let v262 : Index := Scalar.indexCast arg20
  let c0_203 : Index := 0#32
  let c0_204 : Index := 0#32
  ![v262.toNat, 0, 0]
def k0_off698 (v193 : BitVec 32) (v195 : BitVec 32) (k0_t14 : Fin (k0_t14_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t14
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v266 : Index := Scalar.indexCast v259
  let c0_206 : Index := 0#32
  ![v266.toNat, 0]
def k0_off699 (arg17 : BitVec 32) (v193 : BitVec 32) (v195 : BitVec 32) (k0_t14 : Fin (k0_t14_loop v193 v195).trips) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let v280 : Index := Scalar.indexCast v189
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let c1_i32_183 : BitVec 32 := 1#32
  let arg21 : BitVec 32 := Scf.iv c0_i32_181 c1_i32_183 k0_t14
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v281 : Index := Scalar.indexCast v259
  let c0_207 : Index := 0#32
  ![v280.toNat, v281.toNat, 0]
@[reducible] def k0_t15_loop (v193 : BitVec 32) (v195 : BitVec 32) : Scf.Loop 32 :=
  let c0_i32_181 : BitVec 32 := 0#32
  let v196 : BitVec 32 := Scalar.addi v193 v195
  let c32_i32 : BitVec 32 := 32#32
  let v197 : BitVec 32 := Scalar.remsi v193 c32_i32
  let v198 : BitVec 32 := Scalar.subi v193 v197
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let v227 : BitVec 32 := Scalar.addi c0_i32_181 v226
  let c1_i32_184 : BitVec 32 := 1#32
  ⟨v230, v227, c1_i32_184⟩
def k0_mult21 (v193 : BitVec 32) (v195 : BitVec 32) (k0_t15 : Fin (k0_t15_loop v193 v195).trips) : BitVec 32 :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t15
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  v258
def k0_off700 (v193 : BitVec 32) (v195 : BitVec 32) (k0_t15 : Fin (k0_t15_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t15
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v260 : Index := Scalar.indexCast v259
  let c0_202 : Index := 0#32
  ![v260.toNat, 0]
def k0_off701 (arg20 : BitVec 32) : Fin 3 → Nat :=
  let v262 : Index := Scalar.indexCast arg20
  let c0_203 : Index := 0#32
  let c0_204 : Index := 0#32
  ![v262.toNat, 0, 0]
def k0_off702 (v193 : BitVec 32) (v195 : BitVec 32) (k0_t15 : Fin (k0_t15_loop v193 v195).trips) : Fin 2 → Nat :=
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t15
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v266 : Index := Scalar.indexCast v259
  let c0_206 : Index := 0#32
  ![v266.toNat, 0]
def k0_off703 (arg17 : BitVec 32) (v193 : BitVec 32) (v195 : BitVec 32) (k0_t15 : Fin (k0_t15_loop v193 v195).trips) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let v280 : Index := Scalar.indexCast v189
  let c32_i32 : BitVec 32 := 32#32
  let v197 : BitVec 32 := Scalar.remsi v193 c32_i32
  let v198 : BitVec 32 := Scalar.subi v193 v197
  let c0_i32_180 : BitVec 32 := 0#32
  let c0_i32_181 : BitVec 32 := 0#32
  let v196 : BitVec 32 := Scalar.addi v193 v195
  let v219 : BitVec 32 := Scalar.subi v196 v198
  let c127_i32 : BitVec 32 := 127#32
  let v220 : BitVec 32 := Scalar.addi v219 c127_i32
  let c128_i32 : BitVec 32 := 128#32
  let v221 : BitVec 32 := Scalar.divsi v220 c128_i32
  let c0_i32_175 : BitVec 32 := 0#32
  let v222 : BitVec 32 := Scalar.subi v221 c0_i32_175
  let c1_i32_176 : BitVec 32 := 1#32
  let c1_i32_177 : BitVec 32 := 1#32
  let v223 : BitVec 32 := Scalar.subi c1_i32_176 c1_i32_177
  let v224 : BitVec 32 := Scalar.addi v222 v223
  let c1_i32_178 : BitVec 32 := 1#32
  let v225 : BitVec 32 := Scalar.divsi v224 c1_i32_178
  let v226 : BitVec 32 := Scalar.subi v225 c0_i32_181
  let c1_i32_182 : BitVec 32 := 1#32
  let v228 : BitVec 32 := Scalar.divsi v226 c1_i32_182
  let v229 : BitVec 32 := Scalar.muli v228 c1_i32_182
  let v230 : BitVec 32 := Scalar.addi c0_i32_181 v229
  let c1_i32_184 : BitVec 32 := 1#32
  let arg21 : BitVec 32 := Scf.iv v230 c1_i32_184 k0_t15
  let c1_i32_179 : BitVec 32 := 1#32
  let v255 : BitVec 32 := Scalar.muli arg21 c1_i32_179
  let v256 : BitVec 32 := Scalar.addi c0_i32_180 v255
  let c128_i32_201 : BitVec 32 := 128#32
  let v257 : BitVec 32 := Scalar.muli v256 c128_i32_201
  let v258 : BitVec 32 := Scalar.addi v198 v257
  let v259 : BitVec 32 := v258
  let v281 : Index := Scalar.indexCast v259
  let c0_207 : Index := 0#32
  ![v280.toNat, v281.toNat, 0]

def k0_chk27 (arg17 : BitVec 32) (arg20 : BitVec 32) (v193 : BitVec 32) (v195 : BitVec 32) : Prop :=
  ((k0_t14_loop v193 v195).OK) ∧
  (∀ k0_t14 : Fin (k0_t14_loop v193 v195).trips, 32 ∣ (k0_mult20 v193 v195 k0_t14).toNat) ∧
  (∀ k0_t14 : Fin (k0_t14_loop v193 v195).trips, ∀ a, (k0_off696 v193 v195 k0_t14) a + S128x5120.size a ≤ S896x5120.size a) ∧
  (∀ k0_t14 : Fin (k0_t14_loop v193 v195).trips, ∀ a, (k0_off697 arg20) a + S1x5120x512.size a ≤ S12x5120x512.size a) ∧
  (∀ k0_t14 : Fin (k0_t14_loop v193 v195).trips, ∀ a, (k0_off698 v193 v195 k0_t14) a + S128x128.size a ≤ S896x128.size a) ∧
  (∀ k0_t14 : Fin (k0_t14_loop v193 v195).trips, ∀ a, (k0_off699 arg17 v193 v195 k0_t14) a + S1x128x512.size a ≤ S2x896x512.size a) ∧
  (∀ k0_t14 : Fin (k0_t14_loop v193 v195).trips, ∀ (hinb : ∀ a, (k0_off699 arg17 v193 v195 k0_t14) a + S1x128x512.size a ≤ S2x896x512.size a), (Rect.unit (s := S2x896x512) (k0_off699 arg17 v193 v195 k0_t14) S1x128x512.size hinb).PackedRows (EltTy.packing .bf16)) ∧
  ((k0_t15_loop v193 v195).OK) ∧
  (∀ k0_t15 : Fin (k0_t15_loop v193 v195).trips, 32 ∣ (k0_mult21 v193 v195 k0_t15).toNat) ∧
  (∀ k0_t15 : Fin (k0_t15_loop v193 v195).trips, ∀ a, (k0_off700 v193 v195 k0_t15) a + S128x5120.size a ≤ S896x5120.size a) ∧
  (∀ k0_t15 : Fin (k0_t15_loop v193 v195).trips, ∀ a, (k0_off701 arg20) a + S1x5120x512.size a ≤ S12x5120x512.size a) ∧
  (∀ k0_t15 : Fin (k0_t15_loop v193 v195).trips, ∀ a, (k0_off702 v193 v195 k0_t15) a + S128x128.size a ≤ S896x128.size a) ∧
  (∀ k0_t15 : Fin (k0_t15_loop v193 v195).trips, ∀ a, (k0_off703 arg17 v193 v195 k0_t15) a + S1x128x512.size a ≤ S2x896x512.size a) ∧
  (∀ k0_t15 : Fin (k0_t15_loop v193 v195).trips, ∀ (hinb : ∀ a, (k0_off703 arg17 v193 v195 k0_t15) a + S1x128x512.size a ≤ S2x896x512.size a), (Rect.unit (s := S2x896x512) (k0_off703 arg17 v193 v195 k0_t15) S1x128x512.size hinb).PackedRows (EltTy.packing .bf16))
theorem k0_t14_ok : ∀ (arg17 : BitVec 32) (arg20 : BitVec 32) (v193 : BitVec 32) (v195 : BitVec 32) (k0_hw27 : k0_chk27 arg17 arg20 v193 v195), (k0_t14_loop v193 v195).OK := fun arg17 arg20 v193 v195 k0_hw27 => k0_hw27.1
theorem k0_mult20_dvd : ∀ (arg17 : BitVec 32) (arg20 : BitVec 32) (v193 : BitVec 32) (v195 : BitVec 32) (k0_hw27 : k0_chk27 arg17 arg20 v193 v195) (k0_t14 : Fin (k0_t14_loop v193 v195).trips), 32 ∣ (k0_mult20 v193 v195 k0_t14).toNat := fun arg17 arg20 v193 v195 k0_hw27 k0_t14 => k0_hw27.2.1 k0_t14
theorem k0_off696_inb : ∀ (arg17 : BitVec 32) (arg20 : BitVec 32) (v193 : BitVec 32) (v195 : BitVec 32) (k0_hw27 : k0_chk27 arg17 arg20 v193 v195) (k0_t14 : Fin (k0_t14_loop v193 v195).trips), ∀ a, (k0_off696 v193 v195 k0_t14) a + S128x5120.size a ≤ S896x5120.size a := fun arg17 arg20 v193 v195 k0_hw27 k0_t14 => k0_hw27.2.2.1 k0_t14
theorem k0_off697_inb : ∀ (arg17 : BitVec 32) (arg20 : BitVec 32) (v193 : BitVec 32) (v195 : BitVec 32) (k0_hw27 : k0_chk27 arg17 arg20 v193 v195) (k0_t14 : Fin (k0_t14_loop v193 v195).trips), ∀ a, (k0_off697 arg20) a + S1x5120x512.size a ≤ S12x5120x512.size a := fun arg17 arg20 v193 v195 k0_hw27 k0_t14 => k0_hw27.2.2.2.1 k0_t14
theorem k0_off698_inb : ∀ (arg17 : BitVec 32) (arg20 : BitVec 32) (v193 : BitVec 32) (v195 : BitVec 32) (k0_hw27 : k0_chk27 arg17 arg20 v193 v195) (k0_t14 : Fin (k0_t14_loop v193 v195).trips), ∀ a, (k0_off698 v193 v195 k0_t14) a + S128x128.size a ≤ S896x128.size a := fun arg17 arg20 v193 v195 k0_hw27 k0_t14 => k0_hw27.2.2.2.2.1 k0_t14
theorem k0_off699_inb : ∀ (arg17 : BitVec 32) (arg20 : BitVec 32) (v193 : BitVec 32) (v195 : BitVec 32) (k0_hw27 : k0_chk27 arg17 arg20 v193 v195) (k0_t14 : Fin (k0_t14_loop v193 v195).trips), ∀ a, (k0_off699 arg17 v193 v195 k0_t14) a + S1x128x512.size a ≤ S2x896x512.size a := fun arg17 arg20 v193 v195 k0_hw27 k0_t14 => k0_hw27.2.2.2.2.2.1 k0_t14
theorem k0_off699_packedbf16 : ∀ (arg17 : BitVec 32) (arg20 : BitVec 32) (v193 : BitVec 32) (v195 : BitVec 32) (k0_hw27 : k0_chk27 arg17 arg20 v193 v195) (k0_t14 : Fin (k0_t14_loop v193 v195).trips), (Rect.unit (s := S2x896x512) (k0_off699 arg17 v193 v195 k0_t14) S1x128x512.size (k0_off699_inb arg17 arg20 v193 v195 k0_hw27 k0_t14)).PackedRows (EltTy.packing .bf16) := fun arg17 arg20 v193 v195 k0_hw27 k0_t14 => k0_hw27.2.2.2.2.2.2.1 k0_t14 (k0_off699_inb arg17 arg20 v193 v195 k0_hw27 k0_t14)
theorem k0_t15_ok : ∀ (arg17 : BitVec 32) (arg20 : BitVec 32) (v193 : BitVec 32) (v195 : BitVec 32) (k0_hw27 : k0_chk27 arg17 arg20 v193 v195), (k0_t15_loop v193 v195).OK := fun arg17 arg20 v193 v195 k0_hw27 => k0_hw27.2.2.2.2.2.2.2.1
theorem k0_mult21_dvd : ∀ (arg17 : BitVec 32) (arg20 : BitVec 32) (v193 : BitVec 32) (v195 : BitVec 32) (k0_hw27 : k0_chk27 arg17 arg20 v193 v195) (k0_t15 : Fin (k0_t15_loop v193 v195).trips), 32 ∣ (k0_mult21 v193 v195 k0_t15).toNat := fun arg17 arg20 v193 v195 k0_hw27 k0_t15 => k0_hw27.2.2.2.2.2.2.2.2.1 k0_t15
theorem k0_off700_inb : ∀ (arg17 : BitVec 32) (arg20 : BitVec 32) (v193 : BitVec 32) (v195 : BitVec 32) (k0_hw27 : k0_chk27 arg17 arg20 v193 v195) (k0_t15 : Fin (k0_t15_loop v193 v195).trips), ∀ a, (k0_off700 v193 v195 k0_t15) a + S128x5120.size a ≤ S896x5120.size a := fun arg17 arg20 v193 v195 k0_hw27 k0_t15 => k0_hw27.2.2.2.2.2.2.2.2.2.1 k0_t15
theorem k0_off701_inb : ∀ (arg17 : BitVec 32) (arg20 : BitVec 32) (v193 : BitVec 32) (v195 : BitVec 32) (k0_hw27 : k0_chk27 arg17 arg20 v193 v195) (k0_t15 : Fin (k0_t15_loop v193 v195).trips), ∀ a, (k0_off701 arg20) a + S1x5120x512.size a ≤ S12x5120x512.size a := fun arg17 arg20 v193 v195 k0_hw27 k0_t15 => k0_hw27.2.2.2.2.2.2.2.2.2.2.1 k0_t15
theorem k0_off702_inb : ∀ (arg17 : BitVec 32) (arg20 : BitVec 32) (v193 : BitVec 32) (v195 : BitVec 32) (k0_hw27 : k0_chk27 arg17 arg20 v193 v195) (k0_t15 : Fin (k0_t15_loop v193 v195).trips), ∀ a, (k0_off702 v193 v195 k0_t15) a + S128x128.size a ≤ S896x128.size a := fun arg17 arg20 v193 v195 k0_hw27 k0_t15 => k0_hw27.2.2.2.2.2.2.2.2.2.2.2.1 k0_t15
theorem k0_off703_inb : ∀ (arg17 : BitVec 32) (arg20 : BitVec 32) (v193 : BitVec 32) (v195 : BitVec 32) (k0_hw27 : k0_chk27 arg17 arg20 v193 v195) (k0_t15 : Fin (k0_t15_loop v193 v195).trips), ∀ a, (k0_off703 arg17 v193 v195 k0_t15) a + S1x128x512.size a ≤ S2x896x512.size a := fun arg17 arg20 v193 v195 k0_hw27 k0_t15 => k0_hw27.2.2.2.2.2.2.2.2.2.2.2.2.1 k0_t15
theorem k0_off703_packedbf16 : ∀ (arg17 : BitVec 32) (arg20 : BitVec 32) (v193 : BitVec 32) (v195 : BitVec 32) (k0_hw27 : k0_chk27 arg17 arg20 v193 v195) (k0_t15 : Fin (k0_t15_loop v193 v195).trips), (Rect.unit (s := S2x896x512) (k0_off703 arg17 v193 v195 k0_t15) S1x128x512.size (k0_off703_inb arg17 arg20 v193 v195 k0_hw27 k0_t15)).PackedRows (EltTy.packing .bf16) := fun arg17 arg20 v193 v195 k0_hw27 k0_t15 => k0_hw27.2.2.2.2.2.2.2.2.2.2.2.2.2 k0_t15 (k0_off703_inb arg17 arg20 v193 v195 k0_hw27 k0_t15)

def k0_mult22 (arg19 : BitVec 32) : BitVec 32 :=
  let c512_i32_201 : BitVec 32 := 512#32
  let v255 : BitVec 32 := Scalar.muli arg19 c512_i32_201
  v255
def k0_cond6 (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) : BitVec 1 :=
  let c0_i32_145 : BitVec 32 := 0#32
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c6_i32_63 : BitVec 32 := 6#32
  let v110 : BitVec 32 := Scalar.muli v109 c6_i32_63
  let v161 : BitVec 32 := Scalar.subi v110 c0_i32_145
  let c1_i32_149 : BitVec 32 := 1#32
  let v163 : BitVec 32 := Scalar.divsi v161 c1_i32_149
  let v164 : BitVec 32 := Scalar.muli v163 c1_i32_149
  let v165 : BitVec 32 := Scalar.addi c0_i32_145 v164
  let c1_i32_151 : BitVec 32 := 1#32
  let arg15 : BitVec 32 := Scf.iv v165 c1_i32_151 k0_t13
  let c12_i32_185 : BitVec 32 := 12#32
  let v231 : BitVec 32 := Scalar.addi arg15 c12_i32_185
  let v232 : BitVec 1 := Scalar.cmpi .slt v231 v110
  let v233 : BitVec 32 := Scalar.extui v232
  let c0_i32_186 : BitVec 32 := 0#32
  let v234 : BitVec 1 := Scalar.cmpi .ne v233 c0_i32_186
  v234

def k0_chk28 (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg19 : BitVec 32) : Prop :=
  (∀ (k0_h6 : k0_cond6 v36 v45 v54 v63 v72 v81 v90 v99 v106 k0_t13 = 1#1), 512 ∣ (k0_mult22 arg19).toNat)
theorem k0_mult22_dvd : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg19 : BitVec 32) (k0_hw28 : k0_chk28 v36 v45 v54 v63 v72 v81 v90 v99 v106 k0_t13 arg19), ∀ (k0_h6 : k0_cond6 v36 v45 v54 v63 v72 v81 v90 v99 v106 k0_t13 = 1#1), 512 ∣ (k0_mult22 arg19).toNat := fun v36 v45 v54 v63 v72 v81 v90 v99 v106 k0_t13 arg19 k0_hw28 k0_h6 => k0_hw28 k0_h6

def k0_off704 (arg18 : BitVec 32) : Fin 1 → Nat :=
  let v257 : Index := Scalar.indexCast arg18
  ![v257.toNat]

def k0_chk29 (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg18 : BitVec 32) : Prop :=
  (∀ (k0_h6 : k0_cond6 v36 v45 v54 v63 v72 v81 v90 v99 v106 k0_t13 = 1#1), ∀ a, (k0_off704 arg18) a + S1.size a ≤ S10.size a)
theorem k0_off704_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg18 : BitVec 32) (k0_hw29 : k0_chk29 v36 v45 v54 v63 v72 v81 v90 v99 v106 k0_t13 arg18), ∀ (k0_h6 : k0_cond6 v36 v45 v54 v63 v72 v81 v90 v99 v106 k0_t13 = 1#1), ∀ a, (k0_off704 arg18) a + S1.size a ≤ S10.size a := fun v36 v45 v54 v63 v72 v81 v90 v99 v106 k0_t13 arg18 k0_hw29 k0_h6 => k0_hw29 k0_h6

def k0_off705 (arg20 : BitVec 32) : Fin 1 → Nat :=
  ![arg20.toNat]
def k0_off706 (arg20 : BitVec 32) : Fin 3 → Nat :=
  let c0_i32_202 : BitVec 32 := 0#32
  let c0_i32_203 : BitVec 32 := 0#32
  ![arg20.toNat, 0, 0]
def k0_off707 (arg19 : BitVec 32) (v258 : BitVec 32) : Fin 3 → Nat :=
  let c0_i32_204 : BitVec 32 := 0#32
  let c512_i32_201 : BitVec 32 := 512#32
  let v255 : BitVec 32 := Scalar.muli arg19 c512_i32_201
  let v256 : BitVec 32 := v255
  ![v258.toNat, 0, v256.toNat]

def k0_chk30 (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg19 : BitVec 32) (v258 : BitVec 32) : Prop :=
  (∀ (k0_h6 : k0_cond6 v36 v45 v54 v63 v72 v81 v90 v99 v106 k0_t13 = 1#1), ∀ a, (k0_off707 arg19 v258) a + S1x5120x512.size a ≤ S9x5120x3072.size a) ∧
  (∀ (k0_h6 : k0_cond6 v36 v45 v54 v63 v72 v81 v90 v99 v106 k0_t13 = 1#1), ∀ (hinb : ∀ a, (k0_off707 arg19 v258) a + S1x5120x512.size a ≤ S9x5120x3072.size a), (Rect.unit (s := S9x5120x3072) (k0_off707 arg19 v258) S1x5120x512.size hinb).WholeWords (EltTy.packing .fp8e4m3))
theorem k0_off707_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg19 : BitVec 32) (v258 : BitVec 32) (k0_hw30 : k0_chk30 v36 v45 v54 v63 v72 v81 v90 v99 v106 k0_t13 arg19 v258), ∀ (k0_h6 : k0_cond6 v36 v45 v54 v63 v72 v81 v90 v99 v106 k0_t13 = 1#1), ∀ a, (k0_off707 arg19 v258) a + S1x5120x512.size a ≤ S9x5120x3072.size a := fun v36 v45 v54 v63 v72 v81 v90 v99 v106 k0_t13 arg19 v258 k0_hw30 k0_h6 => k0_hw30.1 k0_h6
theorem k0_off707_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg19 : BitVec 32) (v258 : BitVec 32) (k0_hw30 : k0_chk30 v36 v45 v54 v63 v72 v81 v90 v99 v106 k0_t13 arg19 v258), ∀ (k0_h6 : k0_cond6 v36 v45 v54 v63 v72 v81 v90 v99 v106 k0_t13 = 1#1), (Rect.unit (s := S9x5120x3072) (k0_off707 arg19 v258) S1x5120x512.size (k0_off707_inb v36 v45 v54 v63 v72 v81 v90 v99 v106 k0_t13 arg19 v258 k0_hw30 k0_h6)).WholeWords (EltTy.packing .fp8e4m3) := fun v36 v45 v54 v63 v72 v81 v90 v99 v106 k0_t13 arg19 v258 k0_hw30 k0_h6 => k0_hw30.2 k0_h6 (k0_off707_inb v36 v45 v54 v63 v72 v81 v90 v99 v106 k0_t13 arg19 v258 k0_hw30 k0_h6)

def k0_chk25 (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) : Prop :=
  (∀ a, (k0_off692 arg20) a + S1.size a ≤ S12.size a) ∧
  (∀ a, (k0_off693 arg20) a + S1x5120x512.size a ≤ S12x5120x512.size a) ∧
  (∀ (hinb : ∀ a, (k0_off693 arg20) a + S1x5120x512.size a ≤ S12x5120x512.size a), (Rect.unit (s := S12x5120x512) (k0_off693 arg20) S1x5120x512.size hinb).WholeWords (EltTy.packing .fp8e4m3)) ∧
  (∀ (k0_h6 : k0_cond6 v36 v45 v54 v63 v72 v81 v90 v99 v106 k0_t13 = 1#1), ∀ a, (k0_off705 arg20) a + S1.size a ≤ S12.size a) ∧
  (∀ (k0_h6 : k0_cond6 v36 v45 v54 v63 v72 v81 v90 v99 v106 k0_t13 = 1#1), ∀ a, (k0_off706 arg20) a + S1x5120x512.size a ≤ S12x5120x512.size a) ∧
  (∀ (k0_h6 : k0_cond6 v36 v45 v54 v63 v72 v81 v90 v99 v106 k0_t13 = 1#1), ∀ (hinb : ∀ a, (k0_off706 arg20) a + S1x5120x512.size a ≤ S12x5120x512.size a), (Rect.unit (s := S12x5120x512) (k0_off706 arg20) S1x5120x512.size hinb).WholeWords (EltTy.packing .fp8e4m3))
theorem k0_off692_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), ∀ a, (k0_off692 arg20) a + S1.size a ≤ S12.size a := fun v36 v45 v54 v63 v72 v81 v90 v99 v106 k0_t13 arg20 k0_hw25 => k0_hw25.1
theorem k0_off693_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), ∀ a, (k0_off693 arg20) a + S1x5120x512.size a ≤ S12x5120x512.size a := fun v36 v45 v54 v63 v72 v81 v90 v99 v106 k0_t13 arg20 k0_hw25 => k0_hw25.2.1
theorem k0_off693_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), (Rect.unit (s := S12x5120x512) (k0_off693 arg20) S1x5120x512.size (k0_off693_inb v36 v45 v54 v63 v72 v81 v90 v99 v106 k0_t13 arg20 k0_hw25)).WholeWords (EltTy.packing .fp8e4m3) := fun v36 v45 v54 v63 v72 v81 v90 v99 v106 k0_t13 arg20 k0_hw25 => k0_hw25.2.2.1 (k0_off693_inb v36 v45 v54 v63 v72 v81 v90 v99 v106 k0_t13 arg20 k0_hw25)
theorem k0_off705_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), ∀ (k0_h6 : k0_cond6 v36 v45 v54 v63 v72 v81 v90 v99 v106 k0_t13 = 1#1), ∀ a, (k0_off705 arg20) a + S1.size a ≤ S12.size a := fun v36 v45 v54 v63 v72 v81 v90 v99 v106 k0_t13 arg20 k0_hw25 k0_h6 => k0_hw25.2.2.2.1 k0_h6
theorem k0_off706_inb : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), ∀ (k0_h6 : k0_cond6 v36 v45 v54 v63 v72 v81 v90 v99 v106 k0_t13 = 1#1), ∀ a, (k0_off706 arg20) a + S1x5120x512.size a ≤ S12x5120x512.size a := fun v36 v45 v54 v63 v72 v81 v90 v99 v106 k0_t13 arg20 k0_hw25 k0_h6 => k0_hw25.2.2.2.2.1 k0_h6
theorem k0_off706_wordsfp8e4m3 : ∀ (v36 : BitVec 32) (v45 : BitVec 32) (v54 : BitVec 32) (v63 : BitVec 32) (v72 : BitVec 32) (v81 : BitVec 32) (v90 : BitVec 32) (v99 : BitVec 32) (v106 : BitVec 32) (k0_t13 : Fin (k0_t13_loop v36 v45 v54 v63 v72 v81 v90 v99 v106).trips) (arg20 : BitVec 32) (k0_hw25 : k0_chk25 v36 v45 v54 v63 v72 v81 v90 v99 v106 k0_t13 arg20), ∀ (k0_h6 : k0_cond6 v36 v45 v54 v63 v72 v81 v90 v99 v106 k0_t13 = 1#1), (Rect.unit (s := S12x5120x512) (k0_off706 arg20) S1x5120x512.size (k0_off706_inb v36 v45 v54 v63 v72 v81 v90 v99 v106 k0_t13 arg20 k0_hw25 k0_h6)).WholeWords (EltTy.packing .fp8e4m3) := fun v36 v45 v54 v63 v72 v81 v90 v99 v106 k0_t13 arg20 k0_hw25 k0_h6 => k0_hw25.2.2.2.2.2 k0_h6 (k0_off706_inb v36 v45 v54 v63 v72 v81 v90 v99 v106 k0_t13 arg20 k0_hw25 k0_h6)

def k0_mult23 (arg17 : BitVec 32) : BitVec 32 :=
  let c512_i32_201 : BitVec 32 := 512#32
  let v255 : BitVec 32 := Scalar.muli arg17 c512_i32_201
  v255
def k0_cond7 (v36 : BitVec 32) (v45 : BitVec 32) (v54 : BitVec 32) (v63 : BitVec 32) (v72 : BitVec 32) (v81 : BitVec 32) (v90 : BitVec 32) (v99 : BitVec 32) (v106 : BitVec 32) (arg16 : BitVec 32) : BitVec 1 :=
  let c0_i32_32 : BitVec 32 := 0#32
  let c0_i32_31 : BitVec 32 := 0#32
  let v37 : BitVec 1 := Scalar.cmpi .sgt v36 c0_i32_31
  let v38 : BitVec 32 := Scalar.extui v37
  let v39 : BitVec 32 := Scalar.addi c0_i32_32 v38
  let c0_i32_36 : BitVec 32 := 0#32
  let v46 : BitVec 1 := Scalar.cmpi .sgt v45 c0_i32_36
  let v47 : BitVec 32 := Scalar.extui v46
  let v48 : BitVec 32 := Scalar.addi v39 v47
  let c0_i32_40 : BitVec 32 := 0#32
  let v55 : BitVec 1 := Scalar.cmpi .sgt v54 c0_i32_40
  let v56 : BitVec 32 := Scalar.extui v55
  let v57 : BitVec 32 := Scalar.addi v48 v56
  let c0_i32_44 : BitVec 32 := 0#32
  let v64 : BitVec 1 := Scalar.cmpi .sgt v63 c0_i32_44
  let v65 : BitVec 32 := Scalar.extui v64
  let v66 : BitVec 32 := Scalar.addi v57 v65
  let c0_i32_48 : BitVec 32 := 0#32
  let v73 : BitVec 1 := Scalar.cmpi .sgt v72 c0_i32_48
  let v74 : BitVec 32 := Scalar.extui v73
  let v75 : BitVec 32 := Scalar.addi v66 v74
  let c0_i32_52 : BitVec 32 := 0#32
  let v82 : BitVec 1 := Scalar.cmpi .sgt v81 c0_i32_52
  let v83 : BitVec 32 := Scalar.extui v82
  let v84 : BitVec 32 := Scalar.addi v75 v83
  let c0_i32_56 : BitVec 32 := 0#32
  let v91 : BitVec 1 := Scalar.cmpi .sgt v90 c0_i32_56
  let v92 : BitVec 32 := Scalar.extui v91
  let v93 : BitVec 32 := Scalar.addi v84 v92
  let c0_i32_60 : BitVec 32 := 0#32
  let v100 : BitVec 1 := Scalar.cmpi .sgt v99 c0_i32_60
  let v101 : BitVec 32 := Scalar.extui v100
  let v102 : BitVec 32 := Scalar.addi v93 v101
  let c0_i32_62 : BitVec 32 := 0#32
  let v107 : BitVec 1 := Scalar.cmpi .sgt v106 c0_i32_62
  let v108 : BitVec 32 := Scalar.extui v107
  let v109 : BitVec 32 := Scalar.addi v102 v108
  let c1_i32_187 : BitVec 32 := 1#32
  let v235 : BitVec 32 := Scalar.subi v109 c1_i32_187
  let v236 : BitVec 1 := Scalar.cmpi .eq arg16 v235
  let v237 : BitVec 32 := Scalar.extui v236
  let c0_i32_188 : BitVec 32 := 0#32
  let v238 : BitVec 1 := Scalar.cmpi .ne v237 c0_i32_188
  v238

def k0_off708 (arg17 : BitVec 32) : Fin 1 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  ![v189.toNat]
def k0_off709 (arg17 : BitVec 32) : Fin 2 → Nat :=
  let c0_i32_202 : BitVec 32 := 0#32
  let c512_i32_201 : BitVec 32 := 512#32
  let v255 : BitVec 32 := Scalar.muli arg17 c512_i32_201
  let v256 : BitVec 32 := v255
  ![0, v256.toNat]
def k0_off710 (arg17 : BitVec 32) : Fin 3 → Nat :=
  let c2_i32_162 : BitVec 32 := 2#32
  let c0_i32_163 : BitVec 32 := 0#32
  let v180 : BitVec 1 := Scalar.cmpi .eq c2_i32_162 c0_i32_163
  let c1_i32_164 : BitVec 32 := 1#32
  let v181 : BitVec 32 := Scalar.select v180 c1_i32_164 c2_i32_162
  let v182 : BitVec 32 := Scalar.remsi arg17 v181
  let c0_i32_166 : BitVec 32 := 0#32
  let v184 : BitVec 1 := Scalar.cmpi .slt v182 c0_i32_166
  let c0_i32_167 : BitVec 32 := 0#32
  let v185 : BitVec 1 := Scalar.cmpi .slt v181 c0_i32_167
  let v186 : BitVec 1 := Scalar.xori v184 v185
  let c0_i32_165 : BitVec 32 := 0#32
  let v183 : BitVec 1 := Scalar.cmpi .ne v182 c0_i32_165
  let v187 : BitVec 1 := Scalar.andi v186 v183
  let v188 : BitVec 32 := Scalar.addi v182 v181
  let v189 : BitVec 32 := Scalar.select v187 v188 v182
  let c0_i32_203 : BitVec 32 := 0#32
  let c0_i32_204 : BitVec 32 := 0#32
  ![v189.toNat, 0, 0]

def k0_chk24 (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) : Prop :=
  (∀ (k0_h5 : k0_cond5 arg16 arg17 = 1#1), 512 ∣ (k0_mult17 arg17).toNat) ∧
  (∀ (k0_h5 : k0_cond5 arg16 arg17 = 1#1), ∀ a, (k0_off688 arg17) a + S1.size a ≤ S2.size a) ∧
  (∀ (k0_h5 : k0_cond5 arg16 arg17 = 1#1), ∀ a, (k0_off689 arg17) a + S768x512.size a ≤ S768x3072.size a) ∧
  (∀ (k0_h5 : k0_cond5 arg16 arg17 = 1#1), ∀ a, (k0_off690 arg17) a + S1x768x512.size a ≤ S2x896x512.size a) ∧
  (∀ (k0_h5 : k0_cond5 arg16 arg17 = 1#1), ∀ (hinb : ∀ a, (k0_off690 arg17) a + S1x768x512.size a ≤ S2x896x512.size a), (Rect.unit (s := S2x896x512) (k0_off690 arg17) S1x768x512.size hinb).WholeWords (EltTy.packing .bf16)) ∧
  (∀ (k0_h5 : k0_cond5 arg16 arg17 = 1#1), ∀ (hinb : ∀ a, (k0_off689 arg17) a + S768x512.size a ≤ S768x3072.size a), (Rect.unit (s := S768x3072) (k0_off689 arg17) S768x512.size hinb).WholeWords (EltTy.packing .bf16)) ∧
  (512 ∣ (k0_mult18 arg17).toNat) ∧
  (512 ∣ (k0_mult19 arg17).toNat) ∧
  (∀ (k0_h7 : k0_cond7 v36 v45 v54 v63 v72 v81 v90 v99 v106 arg16 = 1#1), 512 ∣ (k0_mult23 arg17).toNat) ∧
  (∀ (k0_h7 : k0_cond7 v36 v45 v54 v63 v72 v81 v90 v99 v106 arg16 = 1#1), ∀ a, (k0_off708 arg17) a + S1.size a ≤ S2.size a) ∧
  (∀ (k0_h7 : k0_cond7 v36 v45 v54 v63 v72 v81 v90 v99 v106 arg16 = 1#1), ∀ a, (k0_off709 arg17) a + S768x512.size a ≤ S768x3072.size a) ∧
  (∀ (k0_h7 : k0_cond7 v36 v45 v54 v63 v72 v81 v90 v99 v106 arg16 = 1#1), ∀ a, (k0_off710 arg17) a + S1x768x512.size a ≤ S2x896x512.size a) ∧
  (∀ (k0_h7 : k0_cond7 v36 v45 v54 v63 v72 v81 v90 v99 v106 arg16 = 1#1), ∀ (hinb : ∀ a, (k0_off710 arg17) a + S1x768x512.size a ≤ S2x896x512.size a), (Rect.unit (s := S2x896x512) (k0_off710 arg17) S1x768x512.size hinb).WholeWords (EltTy.packing .bf16)) ∧
  (∀ (k0_h7 : k0_cond7 v36 v45 v54 v63 v72 v81 v90 v99 v106 arg16 = 1#1), ∀ (hinb : ∀ a, (k0_off709 arg17) a + S768x512.size a ≤ S768x3072.size a), (Rect.unit (s := S768x3072) (k0_off709 arg17) S768x512.size hinb).WholeWords (EltTy.packing .bf16))
theorem k0_mult17_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), 512 ∣ (k0_mult17 arg17).toNat := fun v36 v45 v54 v63 v72 v81 v90 v99 v106 arg16 arg17 k0_hw24 k0_h5 => k0_hw24.1 k0_h5
theorem k0_off688_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), ∀ a, (k0_off688 arg17) a + S1.size a ≤ S2.size a := fun v36 v45 v54 v63 v72 v81 v90 v99 v106 arg16 arg17 k0_hw24 k0_h5 => k0_hw24.2.1 k0_h5
theorem k0_off689_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), ∀ a, (k0_off689 arg17) a + S768x512.size a ≤ S768x3072.size a := fun v36 v45 v54 v63 v72 v81 v90 v99 v106 arg16 arg17 k0_hw24 k0_h5 => k0_hw24.2.2.1 k0_h5
theorem k0_off690_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), ∀ a, (k0_off690 arg17) a + S1x768x512.size a ≤ S2x896x512.size a := fun v36 v45 v54 v63 v72 v81 v90 v99 v106 arg16 arg17 k0_hw24 k0_h5 => k0_hw24.2.2.2.1 k0_h5
theorem k0_off690_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), (Rect.unit (s := S2x896x512) (k0_off690 arg17) S1x768x512.size (k0_off690_inb v36 v45 v54 v63 v72 v81 v90 v99 v106 arg16 arg17 k0_hw24 k0_h5)).WholeWords (EltTy.packing .bf16) := fun v36 v45 v54 v63 v72 v81 v90 v99 v106 arg16 arg17 k0_hw24 k0_h5 => k0_hw24.2.2.2.2.1 k0_h5 (k0_off690_inb v36 v45 v54 v63 v72 v81 v90 v99 v106 arg16 arg17 k0_hw24 k0_h5)
theorem k0_off689_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h5 : k0_cond5 arg16 arg17 = 1#1), (Rect.unit (s := S768x3072) (k0_off689 arg17) S768x512.size (k0_off689_inb v36 v45 v54 v63 v72 v81 v90 v99 v106 arg16 arg17 k0_hw24 k0_h5)).WholeWords (EltTy.packing .bf16) := fun v36 v45 v54 v63 v72 v81 v90 v99 v106 arg16 arg17 k0_hw24 k0_h5 => k0_hw24.2.2.2.2.2.1 k0_h5 (k0_off689_inb v36 v45 v54 v63 v72 v81 v90 v99 v106 arg16 arg17 k0_hw24 k0_h5)
theorem k0_mult18_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), 512 ∣ (k0_mult18 arg17).toNat := fun v36 v45 v54 v63 v72 v81 v90 v99 v106 arg16 arg17 k0_hw24 => k0_hw24.2.2.2.2.2.2.1
theorem k0_mult19_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), 512 ∣ (k0_mult19 arg17).toNat := fun v36 v45 v54 v63 v72 v81 v90 v99 v106 arg16 arg17 k0_hw24 => k0_hw24.2.2.2.2.2.2.2.1
theorem k0_mult23_dvd : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), 512 ∣ (k0_mult23 arg17).toNat := fun v36 v45 v54 v63 v72 v81 v90 v99 v106 arg16 arg17 k0_hw24 k0_h7 => k0_hw24.2.2.2.2.2.2.2.2.1 k0_h7
theorem k0_off708_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), ∀ a, (k0_off708 arg17) a + S1.size a ≤ S2.size a := fun v36 v45 v54 v63 v72 v81 v90 v99 v106 arg16 arg17 k0_hw24 k0_h7 => k0_hw24.2.2.2.2.2.2.2.2.2.1 k0_h7
theorem k0_off709_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), ∀ a, (k0_off709 arg17) a + S768x512.size a ≤ S768x3072.size a := fun v36 v45 v54 v63 v72 v81 v90 v99 v106 arg16 arg17 k0_hw24 k0_h7 => k0_hw24.2.2.2.2.2.2.2.2.2.2.1 k0_h7
theorem k0_off710_inb : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), ∀ a, (k0_off710 arg17) a + S1x768x512.size a ≤ S2x896x512.size a := fun v36 v45 v54 v63 v72 v81 v90 v99 v106 arg16 arg17 k0_hw24 k0_h7 => k0_hw24.2.2.2.2.2.2.2.2.2.2.2.1 k0_h7
theorem k0_off710_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), (Rect.unit (s := S2x896x512) (k0_off710 arg17) S1x768x512.size (k0_off710_inb v36 v45 v54 v63 v72 v81 v90 v99 v106 arg16 arg17 k0_hw24 k0_h7)).WholeWords (EltTy.packing .bf16) := fun v36 v45 v54 v63 v72 v81 v90 v99 v106 arg16 arg17 k0_hw24 k0_h7 => k0_hw24.2.2.2.2.2.2.2.2.2.2.2.2.1 k0_h7 (k0_off710_inb v36 v45 v54 v63 v72 v81 v90 v99 v106 arg16 arg17 k0_hw24 k0_h7)
theorem k0_off709_wordsbf16 : ∀ (v36 : BitVec 32) (v45 : BitVec 32) (v54 : BitVec 32) (v63 : BitVec 32) (v72 : BitVec 32) (v81 : BitVec 32) (v90 : BitVec 32) (v99 : BitVec 32) (v106 : BitVec 32) (arg16 : BitVec 32) (arg17 : BitVec 32) (k0_hw24 : k0_chk24 v36 v45 v54 v63 v72 v81 v90 v99 v106 arg16 arg17), ∀ (k0_h7 : k0_cond7 v36 v45 v54 v63 v72 v81 v90 v99 v106 arg16 = 1#1), (Rect.unit (s := S768x3072) (k0_off709 arg17) S768x512.size (k0_off709_inb v36 v45 v54 v63 v72 v81 v90 v99 v106 arg16 arg17 k0_hw24 k0_h7)).WholeWords (EltTy.packing .bf16) := fun v36 v45 v54 v63 v72 v81 v90 v99 v106 arg16 arg17 k0_hw24 k0_h7 => k0_hw24.2.2.2.2.2.2.2.2.2.2.2.2.2 k0_h7 (k0_off709_inb v36 v45 v54 v63 v72 v81 v90 v99 v106 arg16 arg17 k0_hw24 k0_h7)

def k0_mult24 : BitVec 32 :=
  let c2048_i32 : BitVec 32 := 2048#32
  c2048_i32
def k0_mult25 : BitVec 32 :=
  let c2560_i32 : BitVec 32 := 2560#32
  c2560_i32
abbrev stage0_0 : Fin 1 → Memref sig .tc .smem S9 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S9x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S768x5120 : Shape := ⟨2, ![768, 5120]⟩
abbrev S9 : Shape := ⟨1, ![9]⟩
abbrev S9x5120x3072 : Shape := ⟨3, ![9, 5120, 3072]⟩
abbrev S9x3072 : Shape := ⟨2, ![9, 3072]⟩
abbrev S768x3072 : Shape := ⟨2, ![768, 3072]⟩
abbrev S768 : Shape := ⟨1, ![768]⟩
abbrev S768x1 : Shape := ⟨2, ![768, 1]⟩
abbrev S1x256 : Shape := ⟨2, ![1, 256]⟩
abbrev S768x256 : Shape := ⟨2, ![768, 256]⟩
abbrev S1 : Shape := ⟨1, ![1]⟩
abbrev S1x5120x3072 : Shape := ⟨3, ![1, 5120, 3072]⟩
abbrev S5120x3072 : Shape := ⟨2, ![5120, 3072]⟩
abbrev S1x3072 : Shape := ⟨2, ![1, 3072]⟩

abbrev nBuf : Space → Nat
  | .hbm => 5
  | .vmem => 4
  | .smem => 1
  | _ => 0

abbrev bufTy : (tb : Table) → Fin (tcTables nBuf tb) → BufTy
  | .hbm, ⟨0, _⟩ => ⟨S768x5120, .bf16⟩
  | .hbm, ⟨1, _⟩ => ⟨S9, .i32⟩
  | .hbm, ⟨2, _⟩ => ⟨S9x5120x3072, .fp8e4m3⟩
  | .hbm, ⟨3, _⟩ => ⟨S9x3072, .f32⟩
  | .hbm, ⟨4, _⟩ => ⟨S768x3072, .bf16⟩
  | .local _ .vmem, ⟨0, _⟩ => ⟨S768x5120, .bf16⟩
  | .local _ .vmem, ⟨1, _⟩ => ⟨S9x5120x3072, .fp8e4m3⟩
  | .local _ .vmem, ⟨2, _⟩ => ⟨S9x3072, .f32⟩
  | .local _ .vmem, ⟨3, _⟩ => ⟨S768x3072, .bf16⟩
  | .local _ .smem, ⟨0, _⟩ => ⟨S9, .i32⟩
  | _, _ => ⟨S768x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg1_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S768x5120 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S9 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S9x5120x3072 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S9x3072 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S768x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Sched.lean ====
/-
  The order in which the kernel visits its work, in natural numbers.

  `sz e` is the number of rows of group `e`. The kernel lists the groups that have rows (`act sz` of them), and step `i` of its main
  loop handles the `i % act`-th of those at the column tile `i / act`.
-/
module

public import Idealize.ShloMosaic.Lib.Affine

@[expose] public section

namespace Cert.Proof.Sched

/-- How many of the groups before `e` have rows. -/
def cnt (sz : ℕ → ℕ) : ℕ → ℕ
  | 0 => 0
  | e + 1 => cnt sz e + if 0 < sz e then 1 else 0

/-- The first row of group `e`. -/
def start (sz : ℕ → ℕ) : ℕ → ℕ
  | 0 => 0
  | e + 1 => start sz e + sz e

/-- How many groups have rows. -/
def act (sz : ℕ → ℕ) : ℕ := cnt sz 9

/-- The groups share out the 768 rows. -/
def Fits (sz : ℕ → ℕ) : Prop := start sz 9 = 768

variable {sz : ℕ → ℕ}

theorem cnt_succ (e : ℕ) : cnt sz (e + 1) = cnt sz e + if 0 < sz e then 1 else 0 := rfl
theorem start_succ (e : ℕ) : start sz (e + 1) = start sz e + sz e := rfl

theorem cnt_le (e : ℕ) : cnt sz e ≤ e := by
  induction e with
  | zero => exact Nat.le_refl 0
  | succ e ih => rw [cnt_succ]; split <;> omega

theorem act_le : act sz ≤ 9 := cnt_le 9

theorem cnt_mono {e e' : ℕ} (h : e ≤ e') : cnt sz e ≤ cnt sz e' := by
  induction h with
  | refl => exact Nat.le_refl _
  | step _ ih => rw [Nat.succ_eq_add_one, cnt_succ]; omega

theorem start_mono {e e' : ℕ} (h : e ≤ e') : start sz e ≤ start sz e' := by
  induction h with
  | refl => exact Nat.le_refl _
  | step _ ih => rw [Nat.succ_eq_add_one, start_succ]; omega

theorem exists_nth (n j : ℕ) (h : j < cnt sz n) : ∃ e, e < n ∧ 0 < sz e ∧ cnt sz e = j := by
  induction n with
  | zero => exact absurd h (Nat.not_lt_zero _)
  | succ n ih =>
    rw [cnt_succ] at h
    by_cases hj : j < cnt sz n
    · obtain ⟨e, h1, h2, h3⟩ := ih hj
      exact ⟨e, by omega, h2, h3⟩
    · split at h
      · exact ⟨n, by omega, by assumption, by omega⟩
      · omega

theorem nth_unique {e e' : ℕ} (h : 0 < sz e) (h' : 0 < sz e') (hc : cnt sz e = cnt sz e') : e = e' := by
  rcases Nat.lt_trichotomy e e' with hl | hl | hl
  · have := cnt_mono (sz := sz) (Nat.succ_le_of_lt hl); rw [Nat.succ_eq_add_one, cnt_succ, if_pos h] at this; omega
  · exact hl
  · have := cnt_mono (sz := sz) (Nat.succ_le_of_lt hl); rw [Nat.succ_eq_add_one, cnt_succ, if_pos h'] at this; omega

/-- The `j`-th group that has rows. -/
noncomputable def ex (sz : ℕ → ℕ) (j : ℕ) : ℕ := if h : j < act sz then (exists_nth 9 j h).choose else 0

theorem ex_spec {j : ℕ} (h : j < act sz) : ex sz j < 9 ∧ 0 < sz (ex sz j) ∧ cnt sz (ex sz j) = j := by
  unfold ex; rw [dif_pos h]; exact (exists_nth 9 j h).choose_spec

theorem ex_lt (j : ℕ) : ex sz j < 9 := by
  by_cases h : j < act sz
  · exact (ex_spec h).1
  · unfold ex; rw [dif_neg h]; omega

theorem ex_eq {e : ℕ} (he : e < 9) (h : 0 < sz e) : ex sz (cnt sz e) = e := by
  have hj : cnt sz e < act sz := by
    have := cnt_mono (sz := sz) (Nat.succ_le_of_lt he); rw [Nat.succ_eq_add_one, cnt_succ, if_pos h] at this; unfold act; omega
  exact nth_unique (ex_spec hj).2.1 h (ex_spec hj).2.2

/-- The first row of the `j`-th group that has rows. -/
noncomputable def lo (sz : ℕ → ℕ) (j : ℕ) : ℕ := start sz (ex sz j)
/-- The row after its last. -/
noncomputable def hi (sz : ℕ → ℕ) (j : ℕ) : ℕ := start sz (ex sz j) + sz (ex sz j)

theorem start_eq_of_cnt {e e' : ℕ} (h : e ≤ e') (hc : cnt sz e = cnt sz e') : start sz e = start sz e' := by
  induction h with
  | refl => rfl
  | @step m hm ih =>
    have h1 := cnt_mono (sz := sz) hm
    rw [Nat.succ_eq_add_one, cnt_succ] at hc
    rw [Nat.succ_eq_add_one, start_succ]
    by_cases h0 : 0 < sz m
    · rw [if_pos h0] at hc; omega
    · rw [if_neg h0] at hc; rw [ih (by omega)]; omega

theorem start_eq_of_cnt' {e e' : ℕ} (hc : cnt sz e = cnt sz e') : start sz e = start sz e' := by
  rcases Nat.le_total e e' with h | h
  · exact start_eq_of_cnt h hc
  · exact (start_eq_of_cnt h hc.symm).symm

theorem lo_zero (h : 0 < act sz) : lo sz 0 = 0 := start_eq_of_cnt' (e' := 0) (ex_spec h).2.2

theorem hi_eq (j : ℕ) : hi sz j = start sz (ex sz j + 1) := rfl

theorem cnt_after {j : ℕ} (h : j < act sz) : cnt sz (ex sz j + 1) = j + 1 := by
  rw [cnt_succ, (ex_spec h).2.2, if_pos (ex_spec h).2.1]

theorem hi_lo {j : ℕ} (h : j + 1 < act sz) : hi sz j = lo sz (j + 1) :=
  start_eq_of_cnt' ((cnt_after (by omega)).trans (ex_spec h).2.2.symm)

theorem hi_last (hf : Fits sz) {j : ℕ} (h : j + 1 = act sz) : hi sz j = 768 :=
  (start_eq_of_cnt' (e' := 9) ((cnt_after (by omega)).trans h)).trans hf

theorem act_pos (hf : Fits sz) : 0 < act sz := by
  rcases Nat.eq_zero_or_pos (act sz) with h | h
  · have := start_eq_of_cnt' (sz := sz) (e := 0) (e' := 9) h.symm
    rw [hf] at this; exact absurd this (by intro h0; exact absurd ((show (0 : ℕ) = start sz 0 from rfl).trans h0) (by decide))
  · exact h

theorem start_le (hf : Fits sz) {e : ℕ} (he : e ≤ 9) : start sz e ≤ 768 := hf ▸ start_mono he

theorem start_add_le (hf : Fits sz) {e : ℕ} (he : e < 9) : start sz e + sz e ≤ 768 := start_le hf (e := e + 1) he

theorem sz_le (hf : Fits sz) {e : ℕ} (he : e < 9) : sz e ≤ 768 := by have := start_add_le hf he; omega

theorem hi_le (hf : Fits sz) (j : ℕ) : hi sz j ≤ 768 := start_add_le hf (ex_lt j)

theorem lo_lt_hi {j : ℕ} (h : j < act sz) : lo sz j < hi sz j := by have := (ex_spec h).2.1; unfold lo hi; omega

/-- Every row lies in a group that has rows. -/
theorem row_mem (hf : Fits sz) {r : ℕ} (hr : r < 768) : ∃ j, j < act sz ∧ lo sz j ≤ r ∧ r < hi sz j := by
  have key : ∀ n, n ≤ act sz → (r < (if n = act sz then 768 else lo sz n)) → ∃ j, j < n ∧ lo sz j ≤ r ∧ r < hi sz j := by
    intro n
    induction n with
    | zero =>
      intro _ h
      have := act_pos hf
      rw [if_neg (by omega), lo_zero this] at h; omega
    | succ n ih =>
      intro hn h
      by_cases hl : r < lo sz n
      · obtain ⟨j, h1, h2⟩ := ih (by omega) (by rw [if_neg (by omega)]; exact hl)
        exact ⟨j, by omega, h2⟩
      · refine ⟨n, by omega, by omega, ?_⟩
        split at h
        · rw [hi_last hf (by assumption)]; exact h
        · rw [hi_lo (by omega)]; exact h
  exact key (act sz) (Nat.le_refl _) (by rw [if_pos rfl]; exact hr)

/-- The number of steps of the main loop: six column tiles of each group that has rows. -/
def steps (sz : ℕ → ℕ) : ℕ := act sz * 6
/-- Which of the groups that have rows step `i` handles. -/
def J (sz : ℕ → ℕ) (i : ℕ) : ℕ := i % act sz
/-- The column tile of step `i`. -/
def N (sz : ℕ → ℕ) (i : ℕ) : ℕ := i / act sz
/-- The group of step `i`. -/
noncomputable def E (sz : ℕ → ℕ) (i : ℕ) : ℕ := ex sz (J sz i)

theorem steps_le : steps sz ≤ 54 := by have := act_le (sz := sz); unfold steps; omega
theorem J_lt (hf : Fits sz) (i : ℕ) : J sz i < act sz := Nat.mod_lt _ (act_pos hf)
theorem N_lt (hf : Fits sz) {i : ℕ} (h : i < steps sz) : N sz i < 6 := by
  unfold N; unfold steps at h; exact Nat.div_lt_of_lt_mul h
theorem J_zero : J sz 0 = 0 := Nat.zero_mod _
theorem N_zero : N sz 0 = 0 := Nat.zero_div _
theorem E_lt (i : ℕ) : E sz i < 9 := ex_lt _

theorem J_succ (hf : Fits sz) (i : ℕ) : J sz (i + 1) = if J sz i + 1 = act sz then 0 else J sz i + 1 := by
  have ha := act_pos hf
  unfold J
  rw [Nat.add_mod_eq_ite]
  have h1 := Nat.mod_lt i ha
  by_cases h : act sz = 1
  · rw [h]; simp [Nat.mod_one]
  · rw [Nat.mod_eq_of_lt (a := 1) (by omega)]
    split <;> split <;> omega

theorem N_succ (hf : Fits sz) (i : ℕ) : N sz (i + 1) = if J sz i + 1 = act sz then N sz i + 1 else N sz i := by
  have ha := act_pos hf
  unfold J N
  have e := Nat.div_add_mod i (act sz)
  have hl := Nat.mod_lt i ha
  split
  · rename_i h
    have : i + 1 = act sz * (i / act sz + 1) := by rw [Nat.mul_add, Nat.mul_one]; omega
    rw [this, Nat.mul_div_cancel_left _ ha]
  · rename_i h
    have : i + 1 = act sz * (i / act sz) + (i % act sz + 1) := by omega
    have h2 : (i % act sz + 1) / act sz = 0 := Nat.div_eq_of_lt (by omega)
    rw [this, Nat.mul_add_div ha, h2, Nat.add_zero]

end Cert.Proof.Sched
-- ==== Proof.Words.lean ====
/-
  What the kernel's index words are, read as natural numbers: the running count of groups that have rows, the bounds of its loops, its
  conditions, and the offsets of its memory operations.
-/
module

public import proofs.«01_k».proof.Proof.Sched
public import proofs.«01_k».proof.KernelIdeal

@[expose] public section

namespace Cert.Proof.KernelIdeal

open Cert.KernelIdeal Cert.Proof.Sched
open Idealize.ShloMosaic

/-! ## Words -/

/-- The word of a natural number. -/
abbrev wd (n : ℕ) : BitVec 32 := BitVec.ofNat 32 n

theorem wadd (a b : ℕ) : Scalar.addi (wd a) (wd b) = wd (a + b) := (BitVec.ofNat_add a b).symm
theorem wmul (a b : ℕ) : Scalar.muli (wd a) (wd b) = wd (a * b) := (BitVec.ofNat_mul a b).symm
theorem wsub (a b : ℕ) (h : b ≤ a) : Scalar.subi (wd a) (wd b) = wd (a - b) := by
  have : wd a = wd (a - b) + wd b := by rw [← BitVec.ofNat_add]; congr 1; omega
  show wd a - wd b = _
  rw [this, BitVec.add_sub_cancel]
theorem wnat {a : ℕ} (h : a < 2 ^ 31) : (wd a).toNat = a := by rw [BitVec.toNat_ofNat]; exact Nat.mod_eq_of_lt (by omega)
theorem wint {a : ℕ} (h : a < 2 ^ 31) : (wd a).toInt = a := by
  rw [BitVec.toInt_eq_toNat_of_lt (by rw [wnat h]; omega), wnat h]
theorem wisInt {a : ℕ} (h : a < 2 ^ 31) : Affine.IsInt (wd a) (a : Int) := Affine.ofNat a ⟨rfl, h⟩
theorem of_isInt {x : BitVec 32} {n : ℕ} (hx : Affine.IsInt x (n : Int)) (h : n < 2 ^ 31) : x = wd n := by
  unfold Affine.IsInt at hx
  exact BitVec.eq_of_toInt_eq (hx.trans (wint h).symm)
theorem wrem (a b : ℕ) (ha : a < 2 ^ 31) (hb : 0 < b ∧ b < 2 ^ 31) : Scalar.remsi (wd a) (wd b) = wd (a % b) :=
  of_isInt (Affine.remsi (wisInt ha) (wisInt hb.2) ⟨by omega, by omega, by omega⟩) (by have := Nat.mod_lt a hb.1; omega)
theorem wdiv (a b : ℕ) (ha : a < 2 ^ 31) (hb : 0 < b ∧ b < 2 ^ 31) : Scalar.divsi (wd a) (wd b) = wd (a / b) :=
  of_isInt (Affine.divsi (wisInt ha) (wisInt hb.2) ⟨by omega, by omega, by omega⟩) (by have := Nat.div_le_self a b; omega)
theorem weq (a b : ℕ) (ha : a < 2 ^ 31) (hb : b < 2 ^ 31) : Scalar.cmpi .eq (wd a) (wd b) = if a = b then 1#1 else 0#1 := by
  show BitVec.ofBool (wd a == wd b) = _
  by_cases h : a = b
  · rw [if_pos h, h, beq_self_eq_true]; rfl
  · rw [if_neg h, beq_eq_false_iff_ne.mpr]; · rfl
    intro h'; exact h (by rw [← wnat ha, ← wnat hb, h'])
theorem wlt (a b : ℕ) (ha : a < 2 ^ 31) (hb : b < 2 ^ 31) : Scalar.cmpi .slt (wd a) (wd b) = if a < b then 1#1 else 0#1 := by
  show BitVec.ofBool ((wd a).slt (wd b)) = _
  rw [BitVec.slt_eq_decide, wint ha, wint hb]
  by_cases h : a < b
  · rw [if_pos h, decide_eq_true (by omega)]; rfl
  · rw [if_neg h, decide_eq_false (by omega)]; rfl
theorem wgt (a b : ℕ) (ha : a < 2 ^ 31) (hb : b < 2 ^ 31) : Scalar.cmpi .sgt (wd a) (wd b) = if b < a then 1#1 else 0#1 :=
  wlt b a hb ha
theorem wge (a b : ℕ) (ha : a < 2 ^ 31) (hb : b < 2 ^ 31) : Scalar.cmpi .sge (wd a) (wd b) = if b ≤ a then 1#1 else 0#1 := by
  show BitVec.ofBool ((wd b).sle (wd a)) = _
  rw [BitVec.sle_eq_decide, wint ha, wint hb]
  by_cases h : b ≤ a
  · rw [if_pos h, decide_eq_true (by omega)]; rfl
  · rw [if_neg h, decide_eq_false (by omega)]; rfl
theorem wext (p : Prop) [Decidable p] : Scalar.extui (if p then 1#1 else 0#1) = wd (if p then 1 else 0) := by split <;> rfl
theorem one_iff (p : Prop) [Decidable p] : ((if p then 1#1 else 0#1 : BitVec 1) = 1#1) ↔ p := by split <;> simp_all
theorem wtest (p : Prop) [Decidable p] : Scalar.cmpi .ne (Scalar.extui (if p then 1#1 else 0#1)) 0#32 = if p then 1#1 else 0#1 := by
  split <;> decide
theorem wand (p q : Prop) [Decidable p] [Decidable q] :
    Scalar.andi (if p then 1#1 else 0#1 : BitVec 1) (if q then 1#1 else 0#1) = if p ∧ q then 1#1 else 0#1 := by
  by_cases hp : p <;> by_cases hq : q <;> simp only [hp, hq, if_true, if_false, and_self, and_true, and_false, false_and] <;> decide
theorem wsel {α : Type} (p : Prop) [Decidable p] (a b : α) : Scalar.select (if p then 1#1 else 0#1) a b = if p then a else b := by
  split <;> rfl
theorem wiv (t : ℕ) : Scf.iv 0#32 1#32 t = wd t := by
  show 0#32 + BitVec.ofNat 32 t * 1#32 = _
  rw [BitVec.mul_one, BitVec.zero_add]

/-! ## The count of groups that have rows -/

section

variable {sz : ℕ → ℕ}

theorem wcnt (hs : ∀ e, e < 9 → sz e ≤ 768) (e : ℕ) (he : e < 9) :
    Scalar.addi (wd (cnt sz e)) (Scalar.extui (Scalar.cmpi .sgt (wd (sz e)) 0#32)) = wd (cnt sz (e + 1)) := by
  have := hs e he
  rw [show (0#32 : BitVec 32) = wd 0 from rfl, wgt _ _ (by omega) (by omega), wext, wadd, cnt_succ]

variable (sz)

/-- The kernel's count of the groups that have rows, as it computes it. -/
theorem wact (hf : Fits sz) :
    Scalar.addi (Scalar.addi (Scalar.addi (Scalar.addi (Scalar.addi (Scalar.addi (Scalar.addi (Scalar.addi (Scalar.addi 0#32
      (Scalar.extui (Scalar.cmpi .sgt (wd (sz 0)) 0#32))) (Scalar.extui (Scalar.cmpi .sgt (wd (sz 1)) 0#32)))
      (Scalar.extui (Scalar.cmpi .sgt (wd (sz 2)) 0#32))) (Scalar.extui (Scalar.cmpi .sgt (wd (sz 3)) 0#32)))
      (Scalar.extui (Scalar.cmpi .sgt (wd (sz 4)) 0#32))) (Scalar.extui (Scalar.cmpi .sgt (wd (sz 5)) 0#32)))
      (Scalar.extui (Scalar.cmpi .sgt (wd (sz 6)) 0#32))) (Scalar.extui (Scalar.cmpi .sgt (wd (sz 7)) 0#32)))
      (Scalar.extui (Scalar.cmpi .sgt (wd (sz 8)) 0#32)) = wd (act sz) := by
  have hs : ∀ e, e < 9 → sz e ≤ 768 := fun e he => sz_le hf he
  have h0 := wcnt hs 0 (by decide)
  rw [show wd (cnt sz 0) = 0#32 from rfl] at h0
  rw [h0, wcnt hs 1 (by decide), wcnt hs 2 (by decide), wcnt hs 3 (by decide), wcnt hs 4 (by decide), wcnt hs 5 (by decide),
    wcnt hs 6 (by decide), wcnt hs 7 (by decide), wcnt hs 8 (by decide)]
  rfl

abbrev Loop10 : Scf.Loop 32 := k0_t10_loop (wd (sz 0)) (wd (sz 1)) (wd (sz 2)) (wd (sz 3)) (wd (sz 4)) (wd (sz 5)) (wd (sz 6)) (wd (sz 7)) (wd (sz 8))
abbrev Loop13 : Scf.Loop 32 := k0_t13_loop (wd (sz 0)) (wd (sz 1)) (wd (sz 2)) (wd (sz 3)) (wd (sz 4)) (wd (sz 5)) (wd (sz 6)) (wd (sz 7)) (wd (sz 8))
abbrev Cond1 (t : Fin k0_t1_loop.trips) := k0_cond1 (wd (sz 0)) (wd (sz 1)) (wd (sz 2)) (wd (sz 3)) (wd (sz 4)) (wd (sz 5)) (wd (sz 6)) (wd (sz 7)) (wd (sz 8)) t
abbrev Cond3 (t : Fin (Loop10 sz).trips) := k0_cond3 (wd (sz 0)) (wd (sz 1)) (wd (sz 2)) (wd (sz 3)) (wd (sz 4)) (wd (sz 5)) (wd (sz 6)) (wd (sz 7)) (wd (sz 8)) t
abbrev Cond4 (x : BitVec 32) := k0_cond4 (wd (sz 0)) (wd (sz 1)) (wd (sz 2)) (wd (sz 3)) (wd (sz 4)) (wd (sz 5)) (wd (sz 6)) (wd (sz 7)) (wd (sz 8)) x

theorem loop10_eq (hf : Fits sz) : Loop10 sz = ⟨0#32, wd (steps sz), 1#32⟩ := by
  have h := steps_le (sz := sz)
  unfold Loop10 k0_t10_loop
  dsimp only
  rw [wact sz hf]
  congr 1
  rw [show (6#32 : BitVec 32) = wd 6 from rfl, show (0#32 : BitVec 32) = wd 0 from rfl, show (1#32 : BitVec 32) = wd 1 from rfl, wmul,
    wsub _ _ (Nat.zero_le _), wdiv _ _ (by unfold steps at h; omega) ⟨by decide, by decide⟩, wmul, wadd]
  congr 1; unfold steps; omega

theorem loop13_eq (hf : Fits sz) : Loop13 sz = ⟨wd (steps sz), wd (steps sz), 1#32⟩ := by
  have h := steps_le (sz := sz)
  unfold Loop13 k0_t13_loop
  dsimp only
  rw [wact sz hf, show (6#32 : BitVec 32) = wd 6 from rfl, show (0#32 : BitVec 32) = wd 0 from rfl, show (1#32 : BitVec 32) = wd 1 from rfl, wmul,
    wsub _ _ (Nat.zero_le _), wdiv _ _ (by unfold steps at h; omega) ⟨by decide, by decide⟩, wmul, wadd, wadd]
  congr 1 <;> congr 1 <;> unfold steps <;> omega

theorem trips_eq {n : ℕ} (h : n < 2 ^ 20) : (⟨0#32, wd n, 1#32⟩ : Scf.Loop 32).trips = n := by
  show (((wd n).toInt - (0#32 : BitVec 32).toInt + (1#32 : BitVec 32).toInt - 1) / (1#32 : BitVec 32).toInt).toNat = n
  rw [wint (by omega), show (1#32 : BitVec 32).toInt = 1 from by decide, show (0#32 : BitVec 32).toInt = 0 from by decide, Int.ediv_one]
  omega

theorem loop_ok {n : ℕ} (h : n < 2 ^ 20) : (⟨0#32, wd n, 1#32⟩ : Scf.Loop 32).OK := by
  refine ⟨by show (0 : ℤ) < (1#32 : BitVec 32).toInt; decide, ?_⟩
  show (0#32 : BitVec 32).toInt + ((⟨0#32, wd n, 1#32⟩ : Scf.Loop 32).trips : ℤ) * (1#32 : BitVec 32).toInt < 2 ^ 31
  rw [trips_eq h, show (1#32 : BitVec 32).toInt = 1 from by decide, show (0#32 : BitVec 32).toInt = 0 from by decide]
  omega

theorem trips_none (x : BitVec 32) : (⟨x, x, 1#32⟩ : Scf.Loop 32).trips = 0 := by
  show ((x.toInt - x.toInt + (1#32 : BitVec 32).toInt - 1) / (1#32 : BitVec 32).toInt).toNat = 0
  rw [show (1#32 : BitVec 32).toInt = 1 from by decide, Int.ediv_one]
  omega

theorem loop_ok_none {n : ℕ} (h : n < 2 ^ 20) : (⟨wd n, wd n, 1#32⟩ : Scf.Loop 32).OK := by
  refine ⟨by show (0 : ℤ) < (1#32 : BitVec 32).toInt; decide, ?_⟩
  show (wd n).toInt + ((⟨wd n, wd n, 1#32⟩ : Scf.Loop 32).trips : ℤ) * (1#32 : BitVec 32).toInt < 2 ^ 31
  rw [trips_none, wint (by omega)]; omega

theorem trips10 (hf : Fits sz) : (Loop10 sz).trips = steps sz := by
  have h := steps_le (sz := sz)
  rw [loop10_eq sz hf, trips_eq (by omega)]

theorem trips13 (hf : Fits sz) : (Loop13 sz).trips = 0 := by rw [loop13_eq sz hf, trips_none]

theorem trips1 : k0_t1_loop.trips = 12 := by decide +kernel

theorem chk12 (hf : Fits sz) : k0_chk12 (wd (sz 0)) (wd (sz 1)) (wd (sz 2)) (wd (sz 3)) (wd (sz 4)) (wd (sz 5)) (wd (sz 6)) (wd (sz 7)) (wd (sz 8)) := by
  have h := steps_le (sz := sz)
  refine ⟨?_, ?_⟩
  · show (Loop10 sz).OK; rw [loop10_eq sz hf]; exact loop_ok (by omega)
  · show (Loop13 sz).OK; rw [loop13_eq sz hf]; exact loop_ok_none (by omega)

theorem cond1_iff (hf : Fits sz) (t : Fin k0_t1_loop.trips) : Cond1 sz t = 1#1 ↔ t.val < steps sz := by
  have h := steps_le (sz := sz)
  have ht : t.val < 12 := trips1 ▸ t.isLt
  unfold Cond1 k0_cond1
  dsimp only
  rw [wact sz hf, wiv, show (6#32 : BitVec 32) = wd 6 from rfl, wmul, wlt _ _ (by omega) (by unfold steps at h; omega), wtest, one_iff]
  rfl

theorem cond3_iff (hf : Fits sz) (t : Fin (Loop10 sz).trips) : Cond3 sz t = 1#1 ↔ t.val + 12 < steps sz := by
  have h := steps_le (sz := sz)
  have ht : t.val < steps sz := trips10 sz hf ▸ t.isLt
  unfold Cond3 k0_cond3
  dsimp only
  rw [wact sz hf, wiv, show (6#32 : BitVec 32) = wd 6 from rfl, wmul, show (12#32 : BitVec 32) = wd 12 from rfl, wadd,
    wlt _ _ (by omega) (by unfold steps at h; omega), wtest, one_iff]
  rfl

theorem cond4_iff (hf : Fits sz) {j : ℕ} (hj : j < act sz) : Cond4 sz (wd j) = 1#1 ↔ j + 1 = act sz := by
  have h := act_le (sz := sz)
  unfold Cond4 k0_cond4
  dsimp only
  rw [wact sz hf, show (1#32 : BitVec 32) = wd 1 from rfl, wsub _ _ (act_pos hf), weq _ _ (by omega) (by omega), wtest, one_iff]
  omega

theorem cond2_iff {j n : ℕ} (hj : j < 9) (hn : n < 6) : k0_cond2 (wd j) (wd n) = 1#1 ↔ j = 0 ∧ 2 ≤ n := by
  unfold k0_cond2
  dsimp only
  rw [show (0#32 : BitVec 32) = wd 0 from rfl, weq _ _ (by omega) (by omega), show (2#32 : BitVec 32) = wd 2 from rfl,
    wge _ _ (by omega) (by omega), wand, show wd 0 = (0#32 : BitVec 32) from rfl, wtest, one_iff]

/-- The kernel's step to the next group in its list, and to the next column tile after the last. -/
theorem wnextJ (hf : Fits sz) (i : ℕ) : Scalar.select (Scalar.cmpi .eq (Scalar.addi (wd (J sz i)) 1#32) (wd (act sz))) 0#32
    (Scalar.addi (wd (J sz i)) 1#32) = wd (J sz (i + 1)) := by
  have h := act_le (sz := sz); have hj := J_lt hf i
  rw [show (1#32 : BitVec 32) = wd 1 from rfl, wadd, weq _ _ (by omega) (by omega), wsel, J_succ hf]
  split <;> rfl

theorem wnextN (hf : Fits sz) (i : ℕ) : Scalar.select (Scalar.cmpi .eq (Scalar.addi (wd (J sz i)) 1#32) (wd (act sz)))
    (Scalar.addi (wd (N sz i)) 1#32) (wd (N sz i)) = wd (N sz (i + 1)) := by
  have h := act_le (sz := sz); have hj := J_lt hf i
  rw [show (1#32 : BitVec 32) = wd 1 from rfl, wadd, wadd, weq _ _ (by omega) (by omega), wsel, N_succ hf]
  split <;> rfl

theorem wnextS (i : ℕ) : Scalar.select (Scalar.cmpi .eq (Scalar.addi (wd (i % 12)) 1#32) 12#32) 0#32
    (Scalar.addi (wd (i % 12)) 1#32) = wd ((i + 1) % 12) := by
  rw [show (1#32 : BitVec 32) = wd 1 from rfl, wadd, show (12#32 : BitVec 32) = wd 12 from rfl, weq _ _ (by omega) (by omega), wsel]
  split
  · rw [show (0#32 : BitVec 32) = wd 0 from rfl]; congr 1; omega
  · congr 1; omega

end

/-! ## Offsets -/

theorem off9_eq {j : ℕ} (h : j < 10) : k0_off9 (wd j) = ![j] := by unfold k0_off9; dsimp only; rw [show Scalar.indexCast (wd j) = wd j from rfl, wnat (by omega)]
theorem off661_eq {j : ℕ} (h : j < 10) : k0_off661 (wd j) = ![j] := off9_eq h
theorem off666_eq {j : ℕ} (h : j < 10) : k0_off666 (wd j) = ![j] := off9_eq h
theorem off679_eq {j : ℕ} (h : j < 10) : k0_off679 (wd j) = ![j] := off9_eq h
theorem off662_eq {e : ℕ} (h : e < 9) : k0_off662 (wd e) = ![e] := off9_eq (by omega)

theorem off10_eq (t : Fin k0_t1_loop.trips) : k0_off10 t = ![t.val] := by
  have ht : t.val < 12 := trips1 ▸ t.isLt
  unfold k0_off10; dsimp only; rw [wiv, wnat (by omega)]
theorem off11_eq (t : Fin k0_t1_loop.trips) : k0_off11 t = ![t.val, 0, 0] := by
  have ht : t.val < 12 := trips1 ▸ t.isLt
  unfold k0_off11; dsimp only; rw [wiv, wnat (by omega)]
theorem off12_eq {n e : ℕ} (hn : n < 6) (he : e < 9) : k0_off12 (wd n) (wd e) = ![e, 0, n * 512] := by
  unfold k0_off12; dsimp only
  rw [show (512#32 : BitVec 32) = wd 512 from rfl, wmul, wnat (a := e) (by omega), wnat (by omega)]
theorem off669_eq {n e : ℕ} (hn : n < 6) (he : e < 9) : k0_off669 (wd n) (wd e) = ![e, 0, n * 512] := off12_eq hn he
theorem off682_eq {n e : ℕ} (hn : n < 6) (he : e < 9) : k0_off682 (wd n) (wd e) = ![e, 0, n * 512] := off12_eq hn he
theorem off670_eq {n e : ℕ} (hn : n < 6) (he : e < 9) : k0_off670 (wd n) (wd e) = ![e, n * 512] := by
  unfold k0_off670; dsimp only
  rw [show (512#32 : BitVec 32) = wd 512 from rfl, wmul, show Scalar.indexCast (wd e) = wd e from rfl,
    show Scalar.indexCast (wd (n * 512)) = wd (n * 512) from rfl, wnat (a := e) (by omega), wnat (by omega)]
theorem off667_eq {s : ℕ} (h : s < 12) : k0_off667 (wd s) = ![s] := by unfold k0_off667; rw [wnat (by omega)]
theorem off680_eq {s : ℕ} (h : s < 12) : k0_off680 (wd s) = ![s] := off667_eq h
theorem off668_eq {s : ℕ} (h : s < 12) : k0_off668 (wd s) = ![s, 0, 0] := by unfold k0_off668; dsimp only; rw [wnat (by omega)]
theorem off681_eq {s : ℕ} (h : s < 12) : k0_off681 (wd s) = ![s, 0, 0] := off668_eq h
theorem off672_eq {s : ℕ} (h : s < 12) : k0_off672 (wd s) = ![s, 0, 0] := off668_eq h
theorem off676_eq {s : ℕ} (h : s < 12) : k0_off676 (wd s) = ![s, 0, 0] := off668_eq h

theorem off663_eq {n : ℕ} (h : n < 6) : k0_off663 (wd n) = ![n % 2] :=
  (by decide +kernel : ∀ n : Fin 6, k0_off663 (wd n.val) = ![n.val % 2]) ⟨n, h⟩
theorem off683_eq {n : ℕ} (h : n < 6) : k0_off683 (wd n) = ![n % 2] := off663_eq h
theorem off665_eq {n : ℕ} (h : n < 6) : k0_off665 (wd n) = ![n % 2, 0, 0] :=
  (by decide +kernel : ∀ n : Fin 6, k0_off665 (wd n.val) = ![n.val % 2, 0, 0]) ⟨n, h⟩
theorem off685_eq {n : ℕ} (h : n < 6) : k0_off685 (wd n) = ![n % 2, 0, 0] := off665_eq h
theorem off664_eq {n : ℕ} (h : 2 ≤ n ∧ n < 6) : k0_off664 (wd n) = ![0, (n - 2) * 512] :=
  (by decide +kernel : ∀ n : Fin 6, 2 ≤ n.val → k0_off664 (wd n.val) = ![0, (n.val - 2) * 512]) ⟨n, h.2⟩ h.1
theorem off684_eq {n : ℕ} (h : n < 6) : k0_off684 (wd n) = ![0, n * 512] :=
  (by decide +kernel : ∀ n : Fin 6, k0_off684 (wd n.val) = ![0, n.val * 512]) ⟨n, h⟩

/-! ## The row tiles of one group -/

/-- The first row that group rows `[lo, lo + z)` are tiled from: `lo` rounded down to a multiple of 32. -/
def base (lo : ℕ) : ℕ := lo - lo % 32
/-- How many tiles of 128 rows cover them. -/
def tiles (lo z : ℕ) : ℕ := (lo + z - base lo + 127) / 128

theorem loop11_eq {l z : ℕ} (h : l + z ≤ 768) : k0_t11_loop (wd l) (wd z) = ⟨0#32, wd (tiles l z), 1#32⟩ := by
  have hm := Nat.mod_le l 32
  unfold k0_t11_loop
  dsimp only
  have ht : (l + z - (l - l % 32) + 127) / 128 < 2 ^ 20 := by omega
  simp only [show (32#32 : BitVec 32) = wd 32 from rfl, show (127#32 : BitVec 32) = wd 127 from rfl,
    show (128#32 : BitVec 32) = wd 128 from rfl, show (1#32 : BitVec 32) = wd 1 from rfl, show (0#32 : BitVec 32) = wd 0 from rfl]
  rw [wadd, wrem _ _ (by omega) ⟨by decide, by decide⟩, wsub _ _ hm, wsub _ _ (by omega), wadd, wdiv _ _ (by omega) ⟨by decide, by decide⟩,
    wsub _ _ (Nat.zero_le _), wsub _ _ (Nat.le_refl _), wadd, wdiv _ _ (by omega) ⟨by decide, by decide⟩, wsub _ _ (Nat.zero_le _),
    wdiv _ _ (by omega) ⟨by decide, by decide⟩, wmul, wadd]
  congr 1; congr 1
  unfold tiles base; omega

theorem loop12_eq {l z : ℕ} (h : l + z ≤ 768) : k0_t12_loop (wd l) (wd z) = ⟨wd (tiles l z), wd (tiles l z), 1#32⟩ := by
  have hm := Nat.mod_le l 32
  unfold k0_t12_loop
  dsimp only
  have ht : (l + z - (l - l % 32) + 127) / 128 < 2 ^ 20 := by omega
  simp only [show (32#32 : BitVec 32) = wd 32 from rfl, show (127#32 : BitVec 32) = wd 127 from rfl,
    show (128#32 : BitVec 32) = wd 128 from rfl, show (1#32 : BitVec 32) = wd 1 from rfl, show (0#32 : BitVec 32) = wd 0 from rfl]
  rw [wadd, wrem _ _ (by omega) ⟨by decide, by decide⟩, wsub _ _ hm, wsub _ _ (by omega), wadd, wdiv _ _ (by omega) ⟨by decide, by decide⟩,
    wsub _ _ (Nat.zero_le _), wsub _ _ (Nat.le_refl _), wadd, wdiv _ _ (by omega) ⟨by decide, by decide⟩, wsub _ _ (Nat.zero_le _),
    wdiv _ _ (by omega) ⟨by decide, by decide⟩, wmul, wadd, wadd]
  congr 1 <;> congr 1 <;> unfold tiles base <;> omega

theorem trips11 {l z : ℕ} (h : l + z ≤ 768) : (k0_t11_loop (wd l) (wd z)).trips = tiles l z := by
  rw [loop11_eq h, trips_eq (by unfold tiles; omega)]
theorem trips12 {l z : ℕ} (h : l + z ≤ 768) : (k0_t12_loop (wd l) (wd z)).trips = 0 := by rw [loop12_eq h, trips_none]

/-- Row tile `m` of a group lies within the 896 rows kept. -/
theorem tile_le {l z m : ℕ} (h : l + z ≤ 768) (hm : m < tiles l z) : base l + m * 128 + 128 ≤ 896 := by
  unfold tiles at hm; unfold base at *; omega

theorem wtile {l m : ℕ} (hl : l ≤ 768) : Scalar.addi (Scalar.subi (wd l) (Scalar.remsi (wd l) 32#32))
    (Scalar.muli (Scalar.addi 0#32 (Scalar.muli (wd m) 1#32)) 128#32) = wd (base l + m * 128) := by
  rw [show (32#32 : BitVec 32) = wd 32 from rfl, show (128#32 : BitVec 32) = wd 128 from rfl, show (1#32 : BitVec 32) = wd 1 from rfl,
    show (0#32 : BitVec 32) = wd 0 from rfl, wrem _ _ (by omega) ⟨by decide, by decide⟩, wsub _ _ (Nat.mod_le _ _), wmul, wadd, wmul, wadd,
    Nat.mul_one, Nat.zero_add]
  rfl

section
variable {l z : ℕ} (h : l + z ≤ 768) (t : Fin (k0_t11_loop (wd l) (wd z)).trips)
include h

theorem t11_lt : t.val < tiles l z := trips11 h ▸ t.isLt

theorem off671_eq : k0_off671 (wd l) (wd z) t = ![base l + t.val * 128, 0] := by
  have := tile_le h (t11_lt h t)
  unfold k0_off671; dsimp only; rw [wiv, wtile (by omega)]
  rw [show Scalar.indexCast (wd (base l + t.val * 128)) = wd (base l + t.val * 128) from rfl, wnat (by omega)]
theorem off673_eq : k0_off673 (wd l) (wd z) t = ![base l + t.val * 128, 0] := off671_eq h t
theorem off674_eq {n : ℕ} (hn : n < 6) : k0_off674 (wd n) (wd l) (wd z) t = ![n % 2, base l + t.val * 128, 0] := by
  have h1 := off671_eq h t
  have h2 := off665_eq hn
  have e1 : k0_off674 (wd n) (wd l) (wd z) t = ![k0_off665 (wd n) 0, k0_off671 (wd l) (wd z) t 0, 0] := rfl
  rw [e1, h1, h2]; rfl
theorem mult13_eq : k0_mult13 (wd l) (wd z) t = wd (base l + t.val * 128) := by
  have := tile_le h (t11_lt h t)
  unfold k0_mult13; dsimp only; rw [wiv, wtile (by omega)]
end

/-! ## The facts that the kernel assumes -/

theorem chk13 {j : ℕ} (h : j < 10) : k0_chk13 (wd j) :=
  (by decide +kernel : ∀ j : Fin 10, k0_chk13 (wd j.val)) ⟨j, h⟩
theorem chk14 {n e : ℕ} (hn : n < 6) (he : e < 9) : k0_chk14 (wd n) (wd e) :=
  (by decide +kernel : ∀ (n : Fin 6) (e : Fin 9), k0_chk14 (wd n.val) (wd e.val)) ⟨n, hn⟩ ⟨e, he⟩
theorem chk17 {n e : ℕ} (hn : n < 6) (he : e < 9) : k0_chk17 (wd n) (wd e) :=
  (by decide +kernel : ∀ (n : Fin 6) (e : Fin 9), k0_chk17 (wd n.val) (wd e.val)) ⟨n, hn⟩ ⟨e, he⟩

section
variable (v36 v45 v54 v63 v72 v81 v90 v99 v106 : BitVec 32)

theorem chk9 (t : Fin k0_t1_loop.trips) {n : ℕ} (hn : n < 6) : k0_chk9 v36 v45 v54 v63 v72 v81 v90 v99 v106 t (wd n) :=
  fun _ => (by decide +kernel : ∀ n : Fin 6, 512 ∣ (k0_mult1 (wd n.val)).toNat) ⟨n, hn⟩
theorem chk10 (t : Fin k0_t1_loop.trips) {j : ℕ} (h : j < 10) : k0_chk10 v36 v45 v54 v63 v72 v81 v90 v99 v106 t (wd j) :=
  fun _ => (chk13 h).1
theorem chk11 (t : Fin k0_t1_loop.trips) {n e : ℕ} (hn : n < 6) (he : e < 9) : k0_chk11 v36 v45 v54 v63 v72 v81 v90 v99 v106 t (wd n) (wd e) :=
  ⟨fun _ => (chk17 hn he).1, fun _ => (chk17 hn he).2⟩
theorem chk15 {j n : ℕ} (hj : j < 9) (hn : n < 6) : k0_chk15 v36 v45 v54 v63 v72 v81 v90 v99 v106 (wd j) (wd n) := by
  have A : ∀ n : Fin 6, (512 ∣ (k0_mult11 (wd n.val)).toNat) ∧ (512 ∣ (k0_mult12 (wd n.val)).toNat) ∧ (512 ∣ (k0_mult16 (wd n.val)).toNat) ∧
      (∀ a, (k0_off683 (wd n.val)) a + S1.size a ≤ S2.size a) ∧ (∀ a, (k0_off684 (wd n.val)) a + S768x512.size a ≤ S768x3072.size a) ∧
      (∀ a, (k0_off685 (wd n.val)) a + S1x768x512.size a ≤ S2x896x512.size a) ∧
      (∀ (hinb : ∀ a, (k0_off685 (wd n.val)) a + S1x768x512.size a ≤ S2x896x512.size a), (Rect.unit (s := S2x896x512) (k0_off685 (wd n.val)) S1x768x512.size hinb).WholeWords (EltTy.packing .bf16)) ∧
      (∀ (hinb : ∀ a, (k0_off684 (wd n.val)) a + S768x512.size a ≤ S768x3072.size a), (Rect.unit (s := S768x3072) (k0_off684 (wd n.val)) S768x512.size hinb).WholeWords (EltTy.packing .bf16)) := by
    decide +kernel
  have B : ∀ n : Fin 6, 2 ≤ n.val → (512 ∣ (k0_mult10 (wd n.val)).toNat) ∧
      (∀ a, (k0_off664 (wd n.val)) a + S768x512.size a ≤ S768x3072.size a) ∧
      (∀ (hinb : ∀ a, (k0_off664 (wd n.val)) a + S768x512.size a ≤ S768x3072.size a), (Rect.unit (s := S768x3072) (k0_off664 (wd n.val)) S768x512.size hinb).WholeWords (EltTy.packing .bf16)) := by
    decide +kernel
  obtain ⟨a1, a2, a3, a4, a5, a6, a7, a8⟩ := A ⟨n, hn⟩
  have C := fun h => ((cond2_iff hj hn).mp h).2
  exact ⟨fun h => (B ⟨n, hn⟩ (C h)).1, fun _ => a4, fun h => (B ⟨n, hn⟩ (C h)).2.1, fun _ => a6, fun _ => a7, fun h => (B ⟨n, hn⟩ (C h)).2.2,
    a1, a2, fun _ => a3, fun _ => a4, fun _ => a5, fun _ => a6, fun _ => a7, fun _ => a8⟩

variable (t : Fin (k0_t10_loop v36 v45 v54 v63 v72 v81 v90 v99 v106).trips)

theorem chk16 {s : ℕ} (h : s < 12) : k0_chk16 v36 v45 v54 v63 v72 v81 v90 v99 v106 t (wd s) := by
  have A : ∀ s : Fin 12, (∀ a, (k0_off667 (wd s.val)) a + S1.size a ≤ S12.size a) ∧
      (∀ a, (k0_off668 (wd s.val)) a + S1x5120x512.size a ≤ S12x5120x512.size a) ∧
      (∀ (hinb : ∀ a, (k0_off668 (wd s.val)) a + S1x5120x512.size a ≤ S12x5120x512.size a), (Rect.unit (s := S12x5120x512) (k0_off668 (wd s.val)) S1x5120x512.size hinb).WholeWords (EltTy.packing .fp8e4m3)) := by
    decide +kernel
  obtain ⟨a1, a2, a3⟩ := A ⟨s, h⟩
  exact ⟨a1, a2, a3, fun _ => a1, fun _ => a2, fun _ => a3⟩
theorem chk19 {n : ℕ} (hn : n < 6 ∨ ¬ k0_cond3 v36 v45 v54 v63 v72 v81 v90 v99 v106 t = 1#1) : k0_chk19 v36 v45 v54 v63 v72 v81 v90 v99 v106 t (wd n) :=
  fun hc => (by decide +kernel : ∀ n : Fin 6, 512 ∣ (k0_mult15 (wd n.val)).toNat) ⟨n, hn.resolve_right (not_not_intro hc)⟩
theorem chk20 {j : ℕ} (h : j < 10) : k0_chk20 v36 v45 v54 v63 v72 v81 v90 v99 v106 t (wd j) :=
  fun _ => (chk13 h).1
theorem chk21 {n e : ℕ} (hn : n < 6) (he : e < 9) : k0_chk21 v36 v45 v54 v63 v72 v81 v90 v99 v106 t (wd n) (wd e) :=
  ⟨fun _ => (chk17 hn he).1, fun _ => (chk17 hn he).2⟩
end

theorem chk18 {n s l z : ℕ} (hn : n < 6) (hs : s < 12) (h : l + z ≤ 768) : k0_chk18 (wd n) (wd s) (wd l) (wd z) := by
  have ht : tiles l z < 2 ^ 20 := by unfold tiles; omega
  have no : (k0_t12_loop (wd l) (wd z)).trips = 0 := trips12 h
  refine ⟨by rw [loop11_eq h]; exact loop_ok ht, fun t => ?_, fun t => ?_, fun _ => ?_, fun t => ?_, fun t => ?_, fun t hinb => ?_,
    by rw [loop12_eq h]; exact loop_ok_none ht, fun t => absurd t.isLt (by omega), fun t => absurd t.isLt (by omega),
    fun t => absurd t.isLt (by omega), fun t => absurd t.isLt (by omega), fun t => absurd t.isLt (by omega), fun t => absurd t.isLt (by omega)⟩
  · have := tile_le h (t11_lt h t)
    rw [mult13_eq h, wnat (by omega)]; unfold base; omega
  · have := tile_le h (t11_lt h t)
    rw [off671_eq h]; intro a; fin_cases a
    · show base l + t.val * 128 + 128 ≤ 896; omega
    · show 0 + 5120 ≤ 5120; omega
  · rw [off672_eq hs]; intro a; fin_cases a
    · show s + 1 ≤ 12; omega
    · show 0 + 5120 ≤ 5120; omega
    · show 0 + 512 ≤ 512; omega
  · have := tile_le h (t11_lt h t)
    rw [off673_eq h]; intro a; fin_cases a
    · show base l + t.val * 128 + 128 ≤ 896; omega
    · show 0 + 128 ≤ 128; omega
  · have := tile_le h (t11_lt h t)
    rw [off674_eq h t hn]; intro a; fin_cases a
    · show n % 2 + 1 ≤ 2; omega
    · show base l + t.val * 128 + 128 ≤ 896; omega
    · show 0 + 512 ≤ 512; omega
  · refine Or.inr ⟨by decide, rfl, Or.inl ⟨?_, by show 2 ∣ 128; decide⟩⟩
    show 2 ∣ k0_off674 (wd n) (wd l) (wd z) t 1
    rw [off674_eq h t hn]
    show 2 ∣ base l + t.val * 128
    unfold base; omega

end Cert.Proof.KernelIdeal
-- ==== Proof.Base.lean ====
/-
  Names for the pieces of memory the kernel's transfers move: a block of the weights, a slot of the weight ring, a slot of the output
  buffer, a column piece of the result, and the semaphores, each with the equations that turn the kernel's own slices into these names.
-/
module

public import proofs.«01_k».proof.Defs
public import proofs.«01_k».proof.Proof.Words
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.KitQuiescent
public import Idealize.ShloMosaic.Lib.Ring
public import Idealize.ShloMosaic.Lib.Affine
public import Idealize.ShloMosaic.Lib.LoopRemainder
public import Idealize.ShloMosaic.Lib.Tactic

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UU (nD : Nat) (τ : Topo) : Type := UR sig nD τ × Counters
/-- The model the proofs speak of. -/
abbrev MM (F : FTy → Type) := MT nD τ sig Unit (Elt F) ℕ (UU nD τ) ℕ
local notation "𝕄" => MT nD τ sig Unit (Elt F) ℕ (UU nD τ) ℕ
abbrev EP : Emb (UR sig nD τ) (MT nD τ sig Unit (Elt F) ℕ (UU nD τ) ℕ) := embL
abbrev 𝒱₀ : Variants := Variants.none

omit [FloatOps F] in
theorem entails_of_eq {P Q : sProp 𝕄} (e : P = Q) : P ⊢ Q := e ▸ .rfl

/-! ## The memory -/

abbrev a1 : Memref sig .tc .hbm S768x5120 .bf16 := Memref.whole main_arg0
abbrev a2 : Memref sig .tc .hbm S9x5120x3072 .fp8e4m3 := Memref.whole main_arg2
abbrev a4 : Memref sig .tc .hbm S768x3072 .bf16 := Memref.whole main_v0
abbrev a5 : Memref sig .tc .smem S9 .i32 := Memref.whole cc0_scratch0
abbrev a6 : Memref sig .tc .smem S10 .i32 := Memref.whole cc0_scratch1
abbrev a7 : Memref sig .tc .vmem S768x5120 .bf16 := Memref.whole cc0_scratch2
abbrev a8 : Memref sig .tc .vmem S896x5120 .fp8e4m3 := Memref.whole cc0_scratch3
abbrev a9 : Memref sig .tc .vmem S896x128 .f32 := Memref.whole cc0_scratch4
abbrev a10 : Memref sig .tc .vmem S12x5120x512 .fp8e4m3 := Memref.whole cc0_scratch5
abbrev a11 : Memref sig .tc .vmem S2x896x512 .bf16 := Memref.whole cc0_scratch6
abbrev hw {sp : Space} (r : Ref sig .tc) : (Memref.whole (sig := sig) r).IsWhole := Memref.isWhole_whole _

/-! ### Offsets -/

/-- A whole slot of the output buffer. -/
abbrev S1x896x512 : Shape := ⟨3, ![1, 896, 512]⟩
abbrev wslotOff (s : Fin 12) : Fin 3 → Nat := ![s.val, 0, 0]
theorem wslotOff_inb (s : Fin 12) : ∀ a, wslotOff s a + S1x5120x512.size a ≤ S12x5120x512.size a := by
  have := s.isLt; intro a; fin_cases a
  · show s.val + 1 ≤ 12; omega
  · show 0 + 5120 ≤ 5120; omega
  · show 0 + 512 ≤ 512; omega
abbrev wblkOff (e : Fin 9) (n : Fin 6) : Fin 3 → Nat := ![e.val, 0, n.val * 512]
theorem wblkOff_inb (e : Fin 9) (n : Fin 6) : ∀ a, wblkOff e n a + S1x5120x512.size a ≤ S9x5120x3072.size a := by
  have := e.isLt; have := n.isLt; intro a; fin_cases a
  · show e.val + 1 ≤ 9; omega
  · show 0 + 5120 ≤ 5120; omega
  · show n.val * 512 + 512 ≤ 3072; omega
abbrev semOff12 (s : Fin 12) : Fin 1 → Nat := ![s.val]
theorem semOff12_inb (s : Fin 12) : ∀ a, semOff12 s a + S1.size a ≤ S12.size a := by
  have := s.isLt; intro a; fin_cases a; show s.val + 1 ≤ 12; omega
abbrev oslotOff (p : Fin 2) : Fin 3 → Nat := ![p.val, 0, 0]
theorem oslotOff_inb (p : Fin 2) : ∀ a, oslotOff p a + S1x768x512.size a ≤ S2x896x512.size a := by
  have := p.isLt; intro a; fin_cases a
  · show p.val + 1 ≤ 2; omega
  · show 0 + 768 ≤ 896; omega
  · show 0 + 512 ≤ 512; omega
theorem oslotOff_inb' (p : Fin 2) : ∀ a, oslotOff p a + S1x896x512.size a ≤ S2x896x512.size a := by
  have := p.isLt; intro a; fin_cases a
  · show p.val + 1 ≤ 2; omega
  · show 0 + 896 ≤ 896; omega
  · show 0 + 512 ≤ 512; omega
abbrev semOff2 (p : Fin 2) : Fin 1 → Nat := ![p.val]
theorem semOff2_inb (p : Fin 2) : ∀ a, semOff2 p a + S1.size a ≤ S2.size a := by
  have := p.isLt; intro a; fin_cases a; show p.val + 1 ≤ 2; omega
abbrev ocolOff (n : Fin 6) : Fin 2 → Nat := ![0, n.val * 512]
theorem ocolOff_inb (n : Fin 6) : ∀ a, ocolOff n a + S768x512.size a ≤ S768x3072.size a := by
  have := n.isLt; intro a; fin_cases a
  · show 0 + 768 ≤ 768; omega
  · show n.val * 512 + 512 ≤ 3072; omega
abbrev idx10 (j : Fin 10) : Fin 1 → Nat := ![j.val]
theorem idx10_inb (j : Fin 10) : ∀ a, idx10 j a + S1.size a ≤ S10.size a := by
  have := j.isLt; intro a; fin_cases a; show j.val + 1 ≤ 10; omega
abbrev idx9 (e : Fin 9) : Fin 1 → Nat := ![e.val]
theorem idx9_inb (e : Fin 9) : ∀ a, idx9 e a + S1.size a ≤ S9.size a := by
  have := e.isLt; intro a; fin_cases a; show e.val + 1 ≤ 9; omega

/-! ### The pieces -/

/-- Slot `s` of the weight ring. -/
def wslot (s : Fin 12) : Memref sig .tc .vmem S5120x512 .fp8e4m3 :=
  (a10.slice (Rect.unit (s := S12x5120x512) (wslotOff s) S1x5120x512.size (wslotOff_inb s)) (fun _ => rfl)).squeeze S5120x512 squeezes_S1x5120x512_S5120x512
/-- Column tile `n` of group `e`'s weights. -/
def wblk (e : Fin 9) (n : Fin 6) : Memref sig .tc .hbm S5120x512 .fp8e4m3 :=
  (a2.slice (Rect.unit (s := S9x5120x3072) (wblkOff e n) S1x5120x512.size (wblkOff_inb e n)) (fun _ => rfl)).squeeze S5120x512 squeezes_S1x5120x512_S5120x512
/-- Slot `s`'s semaphore. -/
def wsem (s : Fin 12) : DmaSems sig S_ := (cc0_scratch8.slice (Rect.unit (s := S12) (semOff12 s) S1.size (semOff12_inb s))).squeeze S_ squeezes_S1_S_
/-- The 768 rows of slot `p` of the output buffer that leave it. -/
def oslot (p : Fin 2) : Memref sig .tc .vmem S768x512 .bf16 :=
  (a11.slice (Rect.unit (s := S2x896x512) (oslotOff p) S1x768x512.size (oslotOff_inb p)) (fun _ => rfl)).squeeze S768x512 squeezes_S1x768x512_S768x512
/-- All of slot `p` of the output buffer. -/
def ofull (p : Fin 2) : Memref sig .tc .vmem S1x896x512 .bf16 :=
  a11.slice (Rect.unit (s := S2x896x512) (oslotOff p) S1x896x512.size (oslotOff_inb' p)) (fun _ => rfl)
/-- Slot `p`'s semaphore. -/
def osem (p : Fin 2) : DmaSems sig S_ := (cc0_scratch9.slice (Rect.unit (s := S2) (semOff2 p) S1.size (semOff2_inb p))).squeeze S_ squeezes_S1_S_
/-- Column piece `n` of the result. -/
def ocol (n : Fin 6) : Memref sig .tc .hbm S768x512 .bf16 :=
  a4.slice (Rect.unit (s := S768x3072) (ocolOff n) S768x512.size (ocolOff_inb n)) (fun _ => rfl)

theorem wslot_congr {off : Fin 3 → Nat} {s : Fin 12} (e : off = wslotOff s) (hh hs) :
    (a10.slice (Rect.unit (s := S12x5120x512) off S1x5120x512.size hh) hs).squeeze S5120x512 squeezes_S1x5120x512_S5120x512 = wslot s :=
  congrArg (fun M : Memref sig .tc .vmem S1x5120x512 .fp8e4m3 => M.squeeze S5120x512 squeezes_S1x5120x512_S5120x512) (Memref.slice_unit_congr _ e _ _ _ _)
theorem wblk_congr {off : Fin 3 → Nat} {e : Fin 9} {n : Fin 6} (h : off = wblkOff e n) (hh hs) :
    (a2.slice (Rect.unit (s := S9x5120x3072) off S1x5120x512.size hh) hs).squeeze S5120x512 squeezes_S1x5120x512_S5120x512 = wblk e n :=
  congrArg (fun M : Memref sig .tc .hbm S1x5120x512 .fp8e4m3 => M.squeeze S5120x512 squeezes_S1x5120x512_S5120x512) (Memref.slice_unit_congr _ h _ _ _ _)
theorem wsem_congr {off : Fin 1 → Nat} {s : Fin 12} (e : off = semOff12 s) (hh) :
    (cc0_scratch8.slice (Rect.unit (s := S12) off S1.size hh)).squeeze S_ squeezes_S1_S_ = wsem s :=
  congrArg (fun A : DmaSems sig S1 => A.squeeze S_ squeezes_S1_S_) (SemArray.slice_unit_congr _ e _ _)
theorem oslot_congr {off : Fin 3 → Nat} {p : Fin 2} (e : off = oslotOff p) (hh hs) :
    (a11.slice (Rect.unit (s := S2x896x512) off S1x768x512.size hh) hs).squeeze S768x512 squeezes_S1x768x512_S768x512 = oslot p :=
  congrArg (fun M : Memref sig .tc .vmem S1x768x512 .bf16 => M.squeeze S768x512 squeezes_S1x768x512_S768x512) (Memref.slice_unit_congr _ e _ _ _ _)
theorem osem_congr {off : Fin 1 → Nat} {p : Fin 2} (e : off = semOff2 p) (hh) :
    (cc0_scratch9.slice (Rect.unit (s := S2) off S1.size hh)).squeeze S_ squeezes_S1_S_ = osem p :=
  congrArg (fun A : DmaSems sig S1 => A.squeeze S_ squeezes_S1_S_) (SemArray.slice_unit_congr _ e _ _)
theorem ocol_congr {off : Fin 2 → Nat} {n : Fin 6} (e : off = ocolOff n) (hh hs) :
    a4.slice (Rect.unit (s := S768x3072) off S768x512.size hh) hs = ocol n := Memref.slice_unit_congr _ e _ _ _ (fun _ => rfl)

/-! ### The kernel's own slices are these -/

abbrev p2 (n : ℕ) : Fin 2 := ⟨n % 2, Nat.mod_lt _ (by decide)⟩

@[sl_canon] theorem slot_t1 (t : Fin k0_t1_loop.trips) (hh hs) :
    (a10.slice (Rect.unit (s := S12x5120x512) (k0_off11 t) S1x5120x512.size hh) hs).squeeze S5120x512 squeezes_S1x5120x512_S5120x512
      = wslot ⟨t.val, trips1 ▸ t.isLt⟩ := wslot_congr (s := ⟨t.val, trips1 ▸ t.isLt⟩) (off11_eq t) _ _
@[sl_canon] theorem sem_t1 (t : Fin k0_t1_loop.trips) (hh) :
    (cc0_scratch8.slice (Rect.unit (s := S12) (k0_off10 t) S1.size hh)).squeeze S_ squeezes_S1_S_ = wsem ⟨t.val, trips1 ▸ t.isLt⟩ := wsem_congr (s := ⟨t.val, trips1 ▸ t.isLt⟩) (off10_eq t) _
@[sl_canon] theorem blk12 {n e : ℕ} (hn : n < 6) (he : e < 9) (hh hs) :
    (a2.slice (Rect.unit (s := S9x5120x3072) (k0_off12 (wd n) (wd e)) S1x5120x512.size hh) hs).squeeze S5120x512 squeezes_S1x5120x512_S5120x512
      = wblk ⟨e, he⟩ ⟨n, hn⟩ := wblk_congr (e := ⟨e, he⟩) (n := ⟨n, hn⟩) (off12_eq hn he) _ _
@[sl_canon] theorem blk669 {n e : ℕ} (hn : n < 6) (he : e < 9) (hh hs) :
    (a2.slice (Rect.unit (s := S9x5120x3072) (k0_off669 (wd n) (wd e)) S1x5120x512.size hh) hs).squeeze S5120x512 squeezes_S1x5120x512_S5120x512
      = wblk ⟨e, he⟩ ⟨n, hn⟩ := wblk_congr (e := ⟨e, he⟩) (n := ⟨n, hn⟩) (off669_eq hn he) _ _
@[sl_canon] theorem blk682 {n e : ℕ} (hn : n < 6) (he : e < 9) (hh hs) :
    (a2.slice (Rect.unit (s := S9x5120x3072) (k0_off682 (wd n) (wd e)) S1x5120x512.size hh) hs).squeeze S5120x512 squeezes_S1x5120x512_S5120x512
      = wblk ⟨e, he⟩ ⟨n, hn⟩ := wblk_congr (e := ⟨e, he⟩) (n := ⟨n, hn⟩) (off682_eq hn he) _ _
@[sl_canon] theorem slot668 {s : ℕ} (h : s < 12) (hh hs) :
    (a10.slice (Rect.unit (s := S12x5120x512) (k0_off668 (wd s)) S1x5120x512.size hh) hs).squeeze S5120x512 squeezes_S1x5120x512_S5120x512
      = wslot ⟨s, h⟩ := wslot_congr (s := ⟨s, h⟩) (off668_eq h) _ _
@[sl_canon] theorem slot681 {s : ℕ} (h : s < 12) (hh hs) :
    (a10.slice (Rect.unit (s := S12x5120x512) (k0_off681 (wd s)) S1x5120x512.size hh) hs).squeeze S5120x512 squeezes_S1x5120x512_S5120x512
      = wslot ⟨s, h⟩ := wslot_congr (s := ⟨s, h⟩) (off681_eq h) _ _
@[sl_canon] theorem sem667 {s : ℕ} (h : s < 12) (hh) :
    (cc0_scratch8.slice (Rect.unit (s := S12) (k0_off667 (wd s)) S1.size hh)).squeeze S_ squeezes_S1_S_ = wsem ⟨s, h⟩ := wsem_congr (s := ⟨s, h⟩) (off667_eq h) _
@[sl_canon] theorem sem680 {s : ℕ} (h : s < 12) (hh) :
    (cc0_scratch8.slice (Rect.unit (s := S12) (k0_off680 (wd s)) S1.size hh)).squeeze S_ squeezes_S1_S_ = wsem ⟨s, h⟩ := wsem_congr (s := ⟨s, h⟩) (off680_eq h) _
@[sl_canon] theorem sem663 {n : ℕ} (h : n < 6) (hh) :
    (cc0_scratch9.slice (Rect.unit (s := S2) (k0_off663 (wd n)) S1.size hh)).squeeze S_ squeezes_S1_S_ = osem (p2 n) := osem_congr (p := p2 n) (off663_eq h) _
@[sl_canon] theorem sem683 {n : ℕ} (h : n < 6) (hh) :
    (cc0_scratch9.slice (Rect.unit (s := S2) (k0_off683 (wd n)) S1.size hh)).squeeze S_ squeezes_S1_S_ = osem (p2 n) := osem_congr (p := p2 n) (off683_eq h) _
@[sl_canon] theorem slot665 {n : ℕ} (h : n < 6) (hh hs) :
    (a11.slice (Rect.unit (s := S2x896x512) (k0_off665 (wd n)) S1x768x512.size hh) hs).squeeze S768x512 squeezes_S1x768x512_S768x512 = oslot (p2 n) := oslot_congr (p := p2 n) (off665_eq h) _ _
@[sl_canon] theorem slot685 {n : ℕ} (h : n < 6) (hh hs) :
    (a11.slice (Rect.unit (s := S2x896x512) (k0_off685 (wd n)) S1x768x512.size hh) hs).squeeze S768x512 squeezes_S1x768x512_S768x512 = oslot (p2 n) := oslot_congr (p := p2 n) (off685_eq h) _ _
@[sl_canon] theorem col664 {n : ℕ} (h : 2 ≤ n ∧ n < 6) (hh hs) :
    a4.slice (Rect.unit (s := S768x3072) (k0_off664 (wd n)) S768x512.size hh) hs = ocol ⟨n - 2, by omega⟩ := ocol_congr (n := ⟨n - 2, by omega⟩) (off664_eq h) _ _
@[sl_canon] theorem col684 {n : ℕ} (h : n < 6) (hh hs) :
    a4.slice (Rect.unit (s := S768x3072) (k0_off684 (wd n)) S768x512.size hh) hs = ocol ⟨n, h⟩ := ocol_congr (n := ⟨n, h⟩) (off684_eq h) _ _

instance (s : Fin 12) : ClosedOff (wslotOff s) := ⟨wslotOff s, rfl⟩
instance (p : Fin 2) : ClosedOff (oslotOff p) := ⟨oslotOff p, rfl⟩
instance (e : Fin 9) (n : Fin 6) : ClosedOff (wblkOff e n) := ⟨wblkOff e n, rfl⟩
instance (n : Fin 6) : ClosedOff (ocolOff n) := ⟨ocolOff n, rfl⟩

/-! ## What a slot of the ring can hold -/

section Pieces
variable (c : Dev nD) (W : Buf (Elt F) (a2.view.loc (c : Thread nD τ)))

/-- Slot `s` held, at contents `f`. -/
abbrev slotP (s : Fin 12) (f : Buf (Elt F) ((wslot s).view.loc (c : Thread nD τ))) : sProp 𝕄 :=
  (wslot s).view.loc (c : Thread nD τ) ↦[(wslot s).view.set]{fullShare} f
/-- Slot `s`'s counter at zero. -/
abbrev cellP (s : Fin 12) : sProp 𝕄 := semVal ((c : Thread nD τ), SemLoc.dma (wsem s).sem) 0
/-- The slot's read share of the weights, at a block's address. -/
theorem wblk_loc (e : Fin 9) (n : Fin 6) : (wblk e n).view.loc (c : Thread nD τ) = a2.view.loc (c : Thread nD τ) := rfl
theorem wblk_sub (e : Fin 9) (n : Fin 6) : (wblk e n).view.set ⊆ a2.view.set := by
  unfold wblk
  rw [show (a2 : Memref sig .tc .hbm S9x5120x3072 .fp8e4m3).view.set = Finset.univ from View.set_whole _]
  exact Finset.subset_univ _
/-- The words of a weight block. -/
abbrev payload (e : Fin 9) (n : Fin 6) : S5120x512.Idx → Elt F .fp8e4m3 := ReadAs.same.apply ((wblk e n).view.read (Elt F) W)
/-- Slot `s` with a block landed in it, over earlier contents `f`. -/
abbrev landed (s : Fin 12) (e : Fin 9) (n : Fin 6) (f : Buf (Elt F) ((wslot s).view.loc (c : Thread nD τ))) :=
  (wslot s).view.writes (Elt F) f [⟨Rect.whole S5120x512, payload c W e n⟩]
/-- The read share of the weights that slot `s`'s transfers use. -/
abbrev tok (s : Fin 12) : PosShare TreeShare := Transfers.shareTokN fullShare (10 + s.val)
abbrev wtok (s : Fin 12) : sProp 𝕄 := a2.view.loc (c : Thread nD τ) ↦[a2.view.set]{tok s} W
/-- A block on its way into slot `s`. -/
abbrev flightP (s : Fin 12) (e : Fin 9) (n : Fin 6) (f : Buf (Elt F) ((wslot s).view.loc (c : Thread nD τ))) : sProp 𝕄 :=
  Transfers.Flight countersEmb (c : Thread nD τ) (SemLoc.dma (wsem s).sem) () 81920
    iprop(slotP c s (landed c W s e n f) ∗ ((wblk e n).view.loc (c : Thread nD τ) ↦[(wblk e n).view.set]{tok s} W))
/-- The rest of the read share while a block is on its way. -/
abbrev wrest (s : Fin 12) (e : Fin 9) (n : Fin 6) : sProp 𝕄 := a2.view.loc (c : Thread nD τ) ↦[a2.view.set \ (wblk e n).view.set]{tok s} W

theorem wtok_split (s : Fin 12) (e : Fin 9) (n : Fin 6) :
    wtok c W s ⊢ iprop(((wblk e n).view.loc (c : Thread nD τ) ↦[(wblk e n).view.set]{tok s} W) ∗ wrest c W s e n) :=
  (pointsTo_split_subset (wblk_sub e n)).1
theorem wtok_join (s : Fin 12) (e : Fin 9) (n : Fin 6) :
    iprop(((wblk e n).view.loc (c : Thread nD τ) ↦[(wblk e n).view.set]{tok s} W) ∗ wrest c W s e n) ⊢ wtok c W s :=
  (pointsTo_split_subset (wblk_sub e n)).2

/-- Slot `s` free. -/
def freeS (s : Fin 12) : sProp 𝕄 := iprop((∃ f, slotP c s f) ∗ cellP (F := F) c s ∗ wtok c W s)
/-- A block on its way into slot `s`, and the rest of the read share. -/
def busyS (s : Fin 12) (e : Fin 9) (n : Fin 6) : sProp 𝕄 := iprop((∃ f, flightP c W s e n f) ∗ wrest c W s e n)
end Pieces

end Cert.Proof.KernelIdeal
-- ==== Proof.Chunks.lean ====
/-
  The eight row chunks in which the kernel fetches the activations, with the equations that turn the kernel's own slices into these names.
-/
module

public import proofs.«01_k».proof.Proof.Base

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- Where chunk `i` begins. -/
abbrev xOff (i : Fin 8) : Fin 2 → Nat := ![i.val * 96, 0]
theorem xOff_inb (i : Fin 8) : ∀ a, xOff i a + S96x5120.size a ≤ S768x5120.size a := by
  have := i.isLt; intro a; fin_cases a
  · show i.val * 96 + 96 ≤ 768; omega
  · show 0 + 5120 ≤ 5120; omega
abbrev xsemOff (i : Fin 8) : Fin 1 → Nat := ![i.val]
theorem xsemOff_inb (i : Fin 8) : ∀ a, xsemOff i a + S1.size a ≤ S8.size a := by
  have := i.isLt; intro a; fin_cases a; show i.val + 1 ≤ 8; omega
/-- Chunk `i` of the activations. -/
def xsrc (i : Fin 8) : Memref sig .tc .hbm S96x5120 .bf16 :=
  a1.slice (Rect.unit (s := S768x5120) (xOff i) S96x5120.size (xOff_inb i)) (fun _ => rfl)
/-- Chunk `i` of the fast copy of the activations. -/
def xdst (i : Fin 8) : Memref sig .tc .vmem S96x5120 .bf16 :=
  a7.slice (Rect.unit (s := S768x5120) (xOff i) S96x5120.size (xOff_inb i)) (fun _ => rfl)
/-- Chunk `i`'s semaphore. -/
def xsem (i : Fin 8) : DmaSems sig S_ := (cc0_scratch7.slice (Rect.unit (s := S8) (xsemOff i) S1.size (xsemOff_inb i))).squeeze S_ squeezes_S1_S_

@[sl_canon] theorem xsrc_0 (hh hs) : a1.slice (Rect.unit (s := S768x5120) ![0, 0] S96x5120.size hh) hs = xsrc 0 := rfl
@[sl_canon] theorem xdst_0 (hh hs) : a7.slice (Rect.unit (s := S768x5120) ![0, 0] S96x5120.size hh) hs = xdst 0 := rfl
@[sl_canon] theorem xsem_0 (hh) : (cc0_scratch7.slice (Rect.unit (s := S8) ![0] S1.size hh)).squeeze S_ squeezes_S1_S_ = xsem 0 := rfl
@[sl_canon] theorem xsrc_1 (hh hs) : a1.slice (Rect.unit (s := S768x5120) ![96, 0] S96x5120.size hh) hs = xsrc 1 := rfl
@[sl_canon] theorem xdst_1 (hh hs) : a7.slice (Rect.unit (s := S768x5120) ![96, 0] S96x5120.size hh) hs = xdst 1 := rfl
@[sl_canon] theorem xsem_1 (hh) : (cc0_scratch7.slice (Rect.unit (s := S8) ![1] S1.size hh)).squeeze S_ squeezes_S1_S_ = xsem 1 := rfl
@[sl_canon] theorem xsrc_2 (hh hs) : a1.slice (Rect.unit (s := S768x5120) ![192, 0] S96x5120.size hh) hs = xsrc 2 := rfl
@[sl_canon] theorem xdst_2 (hh hs) : a7.slice (Rect.unit (s := S768x5120) ![192, 0] S96x5120.size hh) hs = xdst 2 := rfl
@[sl_canon] theorem xsem_2 (hh) : (cc0_scratch7.slice (Rect.unit (s := S8) ![2] S1.size hh)).squeeze S_ squeezes_S1_S_ = xsem 2 := rfl
@[sl_canon] theorem xsrc_3 (hh hs) : a1.slice (Rect.unit (s := S768x5120) ![288, 0] S96x5120.size hh) hs = xsrc 3 := rfl
@[sl_canon] theorem xdst_3 (hh hs) : a7.slice (Rect.unit (s := S768x5120) ![288, 0] S96x5120.size hh) hs = xdst 3 := rfl
@[sl_canon] theorem xsem_3 (hh) : (cc0_scratch7.slice (Rect.unit (s := S8) ![3] S1.size hh)).squeeze S_ squeezes_S1_S_ = xsem 3 := rfl
@[sl_canon] theorem xsrc_4 (hh hs) : a1.slice (Rect.unit (s := S768x5120) ![384, 0] S96x5120.size hh) hs = xsrc 4 := rfl
@[sl_canon] theorem xdst_4 (hh hs) : a7.slice (Rect.unit (s := S768x5120) ![384, 0] S96x5120.size hh) hs = xdst 4 := rfl
@[sl_canon] theorem xsem_4 (hh) : (cc0_scratch7.slice (Rect.unit (s := S8) ![4] S1.size hh)).squeeze S_ squeezes_S1_S_ = xsem 4 := rfl
@[sl_canon] theorem xsrc_5 (hh hs) : a1.slice (Rect.unit (s := S768x5120) ![480, 0] S96x5120.size hh) hs = xsrc 5 := rfl
@[sl_canon] theorem xdst_5 (hh hs) : a7.slice (Rect.unit (s := S768x5120) ![480, 0] S96x5120.size hh) hs = xdst 5 := rfl
@[sl_canon] theorem xsem_5 (hh) : (cc0_scratch7.slice (Rect.unit (s := S8) ![5] S1.size hh)).squeeze S_ squeezes_S1_S_ = xsem 5 := rfl
@[sl_canon] theorem xsrc_6 (hh hs) : a1.slice (Rect.unit (s := S768x5120) ![576, 0] S96x5120.size hh) hs = xsrc 6 := rfl
@[sl_canon] theorem xdst_6 (hh hs) : a7.slice (Rect.unit (s := S768x5120) ![576, 0] S96x5120.size hh) hs = xdst 6 := rfl
@[sl_canon] theorem xsem_6 (hh) : (cc0_scratch7.slice (Rect.unit (s := S8) ![6] S1.size hh)).squeeze S_ squeezes_S1_S_ = xsem 6 := rfl
@[sl_canon] theorem xsrc_7 (hh hs) : a1.slice (Rect.unit (s := S768x5120) ![672, 0] S96x5120.size hh) hs = xsrc 7 := rfl
@[sl_canon] theorem xdst_7 (hh hs) : a7.slice (Rect.unit (s := S768x5120) ![672, 0] S96x5120.size hh) hs = xdst 7 := rfl
@[sl_canon] theorem xsem_7 (hh) : (cc0_scratch7.slice (Rect.unit (s := S8) ![7] S1.size hh)).squeeze S_ squeezes_S1_S_ = xsem 7 := rfl

section
variable (c : Dev nD)
/-- Chunk `i` of the activations, held. -/
abbrev xsrcP (i : Fin 8) (x : Buf (Elt F) ((xsrc i).view.loc (c : Thread nD τ))) : sProp 𝕄 :=
  (xsrc i).view.loc (c : Thread nD τ) ↦[(xsrc i).view.set]{fullShare} x
/-- Chunk `i` of the fast copy, held. -/
abbrev xdstP (i : Fin 8) (f : Buf (Elt F) (a7.view.loc (c : Thread nD τ))) : sProp 𝕄 :=
  (xdst i).view.loc (c : Thread nD τ) ↦[(xdst i).view.set]{fullShare} f
/-- The counter of chunk `i`'s transfer at zero. -/
abbrev xcell (i : Fin 8) : sProp 𝕄 := semVal ((c : Thread nD τ), SemLoc.dma (xsem i).sem) 0
/-- The fast copy's contents once chunk `i` has landed. -/
abbrev xland (i : Fin 8) (f : Buf (Elt F) (a7.view.loc (c : Thread nD τ))) (x : Buf (Elt F) ((xsrc i).view.loc (c : Thread nD τ))) : Buf (Elt F) ((xdst i).view.loc (c : Thread nD τ)) :=
  (xdst i).view.writes (Elt F) f [⟨Rect.whole S96x5120, ReadAs.same.apply ((xsrc i).view.read (Elt F) x)⟩]
/-- The fast copy's contents, as far as chunk `i` goes, once it has been waited for. -/
abbrev xgot (i : Fin 8) (x : Buf (Elt F) ((xsrc i).view.loc (c : Thread nD τ))) : Buf (Elt F) ((xdst i).view.loc (c : Thread nD τ)) :=
  (xdst i).view.writes (Elt F) (xdst i).view.junk [⟨Rect.whole S96x5120, ReadAs.same.apply ((xsrc i).view.read (Elt F) x)⟩]
/-- Chunk `i` on its way. -/
abbrev xflight (i : Fin 8) (f : Buf (Elt F) (a7.view.loc (c : Thread nD τ))) (x : Buf (Elt F) ((xsrc i).view.loc (c : Thread nD τ))) : sProp 𝕄 :=
  Transfers.Flight countersEmb (c : Thread nD τ) (SemLoc.dma (xsem i).sem) () 30720 iprop(xdstP c i (xland c i f x) ∗ xsrcP c i x)
end

theorem xdst_set (i : Fin 8) : (xdst i).view.set = (Rect.unit (s := S768x5120) (xOff i) S96x5120.size (xOff_inb i)).set := View.set_slice_whole _ _
theorem xsrc_set (i : Fin 8) : (xsrc i).view.set = (Rect.unit (s := S768x5120) (xOff i) S96x5120.size (xOff_inb i)).set := View.set_slice_whole _ _

end Cert.Proof.KernelIdeal
-- ==== Proof.Quant.lean ====
/-
  One trip of each of the eight loops that quantise a chunk of the activations: it reads its chunk of the fast copy, whatever that holds,
  and writes a list of pieces over the codes and one over the scales. The lists are what the run itself finds.
-/
module

public import proofs.«01_k».proof.Proof.Chunks

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD)
/-- The codes held. -/
abbrev codesP (f : Buf (Elt F) (a8.view.loc (c : Thread nD τ))) : sProp 𝕄 := a8.view.loc (c : Thread nD τ) ↦[a8.view.set]{fullShare} f
/-- The scales held. -/
abbrev scalesP (f : Buf (Elt F) (a9.view.loc (c : Thread nD τ))) : sProp 𝕄 := a9.view.loc (c : Thread nD τ) ↦[a9.view.set]{fullShare} f

variable (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
/-- One trip of loop `2`: chunk `0`. -/
@[irreducible] def qtrip2 (f7 : Buf (Elt F) (a7.view.loc (c : Thread nD τ))) (x1 x2 x3 : BitVec 32) (k : Fin k0_t2_loop.trips) :
    Σ' (L8 : List (View.Piece (Elt F) S896x5120 .fp8e4m3)), { L9 : List (View.Piece (Elt F) S896x128 .f32) // ∀ f8 f9,
      iprop(xdstP (F := F) c 0 f7 ∗ codesP c f8 ∗ scalesP c f9)
      ⊢ wp frame (wpE (defs₀ (F := F)) 𝒱₀ (c : Thread nD τ) none) Set.univ
        (k0_t2_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => iprop(xdstP c 0 f7 ∗ codesP c (a8.view.writes (Elt F) f8 L8) ∗ scalesP c (a9.view.writes (Elt F) f9 L9))) } := by
  have hk : k.val < 3 := Nat.lt_of_lt_of_le k.isLt k0_t2_abs.2.1
  refine ⟨?_, ?_, fun f8 f9 => ?run⟩
  case run =>
    unfold k0_t2_body
    iintro ⟨H7, H8, H9⟩
    sl_exec
    sl_step
    sl_close

set_option maxHeartbeats 4000000 in
set_option maxRecDepth 100000 in
/-- One trip of loop `3`: chunk `1`. -/
@[irreducible] def qtrip3 (f7 : Buf (Elt F) (a7.view.loc (c : Thread nD τ))) (x1 x2 x3 : BitVec 32) (k : Fin k0_t3_loop.trips) :
    Σ' (L8 : List (View.Piece (Elt F) S896x5120 .fp8e4m3)), { L9 : List (View.Piece (Elt F) S896x128 .f32) // ∀ f8 f9,
      iprop(xdstP (F := F) c 1 f7 ∗ codesP c f8 ∗ scalesP c f9)
      ⊢ wp frame (wpE (defs₀ (F := F)) 𝒱₀ (c : Thread nD τ) none) Set.univ
        (k0_t3_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => iprop(xdstP c 1 f7 ∗ codesP c (a8.view.writes (Elt F) f8 L8) ∗ scalesP c (a9.view.writes (Elt F) f9 L9))) } := by
  have hk : k.val < 3 := Nat.lt_of_lt_of_le k.isLt k0_t3_abs.2.1
  refine ⟨?_, ?_, fun f8 f9 => ?run⟩
  case run =>
    unfold k0_t3_body
    iintro ⟨H7, H8, H9⟩
    sl_exec
    sl_step
    sl_close

set_option maxHeartbeats 4000000 in
set_option maxRecDepth 100000 in
/-- One trip of loop `4`: chunk `2`. -/
@[irreducible] def qtrip4 (f7 : Buf (Elt F) (a7.view.loc (c : Thread nD τ))) (x1 x2 x3 : BitVec 32) (k : Fin k0_t4_loop.trips) :
    Σ' (L8 : List (View.Piece (Elt F) S896x5120 .fp8e4m3)), { L9 : List (View.Piece (Elt F) S896x128 .f32) // ∀ f8 f9,
      iprop(xdstP (F := F) c 2 f7 ∗ codesP c f8 ∗ scalesP c f9)
      ⊢ wp frame (wpE (defs₀ (F := F)) 𝒱₀ (c : Thread nD τ) none) Set.univ
        (k0_t4_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => iprop(xdstP c 2 f7 ∗ codesP c (a8.view.writes (Elt F) f8 L8) ∗ scalesP c (a9.view.writes (Elt F) f9 L9))) } := by
  have hk : k.val < 3 := Nat.lt_of_lt_of_le k.isLt k0_t4_abs.2.1
  refine ⟨?_, ?_, fun f8 f9 => ?run⟩
  case run =>
    unfold k0_t4_body
    iintro ⟨H7, H8, H9⟩
    sl_exec
    sl_step
    sl_close

set_option maxHeartbeats 4000000 in
set_option maxRecDepth 100000 in
/-- One trip of loop `5`: chunk `3`. -/
@[irreducible] def qtrip5 (f7 : Buf (Elt F) (a7.view.loc (c : Thread nD τ))) (k : Fin k0_t5_loop.trips) :
    Σ' (L8 : List (View.Piece (Elt F) S896x5120 .fp8e4m3)), { L9 : List (View.Piece (Elt F) S896x128 .f32) // ∀ f8 f9,
      iprop(xdstP (F := F) c 3 f7 ∗ codesP c f8 ∗ scalesP c f9)
      ⊢ wp frame (wpE (defs₀ (F := F)) 𝒱₀ (c : Thread nD τ) none) Set.univ
        (k0_t5_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => iprop(xdstP c 3 f7 ∗ codesP c (a8.view.writes (Elt F) f8 L8) ∗ scalesP c (a9.view.writes (Elt F) f9 L9))) } := by
  have hk : k.val < 3 := Nat.lt_of_lt_of_le k.isLt k0_t5_abs.2.1
  refine ⟨?_, ?_, fun f8 f9 => ?run⟩
  case run =>
    unfold k0_t5_body
    iintro ⟨H7, H8, H9⟩
    sl_exec
    sl_step
    sl_close

set_option maxHeartbeats 4000000 in
set_option maxRecDepth 100000 in
/-- One trip of loop `6`: chunk `4`. -/
@[irreducible] def qtrip6 (f7 : Buf (Elt F) (a7.view.loc (c : Thread nD τ))) (k : Fin k0_t6_loop.trips) :
    Σ' (L8 : List (View.Piece (Elt F) S896x5120 .fp8e4m3)), { L9 : List (View.Piece (Elt F) S896x128 .f32) // ∀ f8 f9,
      iprop(xdstP (F := F) c 4 f7 ∗ codesP c f8 ∗ scalesP c f9)
      ⊢ wp frame (wpE (defs₀ (F := F)) 𝒱₀ (c : Thread nD τ) none) Set.univ
        (k0_t6_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => iprop(xdstP c 4 f7 ∗ codesP c (a8.view.writes (Elt F) f8 L8) ∗ scalesP c (a9.view.writes (Elt F) f9 L9))) } := by
  have hk : k.val < 3 := Nat.lt_of_lt_of_le k.isLt k0_t6_abs.2.1
  refine ⟨?_, ?_, fun f8 f9 => ?run⟩
  case run =>
    unfold k0_t6_body
    iintro ⟨H7, H8, H9⟩
    sl_exec
    sl_step
    sl_close

set_option maxHeartbeats 4000000 in
set_option maxRecDepth 100000 in
/-- One trip of loop `7`: chunk `5`. -/
@[irreducible] def qtrip7 (f7 : Buf (Elt F) (a7.view.loc (c : Thread nD τ))) (k : Fin k0_t7_loop.trips) :
    Σ' (L8 : List (View.Piece (Elt F) S896x5120 .fp8e4m3)), { L9 : List (View.Piece (Elt F) S896x128 .f32) // ∀ f8 f9,
      iprop(xdstP (F := F) c 5 f7 ∗ codesP c f8 ∗ scalesP c f9)
      ⊢ wp frame (wpE (defs₀ (F := F)) 𝒱₀ (c : Thread nD τ) none) Set.univ
        (k0_t7_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => iprop(xdstP c 5 f7 ∗ codesP c (a8.view.writes (Elt F) f8 L8) ∗ scalesP c (a9.view.writes (Elt F) f9 L9))) } := by
  have hk : k.val < 3 := Nat.lt_of_lt_of_le k.isLt k0_t7_abs.2.1
  refine ⟨?_, ?_, fun f8 f9 => ?run⟩
  case run =>
    unfold k0_t7_body
    iintro ⟨H7, H8, H9⟩
    sl_exec
    sl_step
    sl_close

set_option maxHeartbeats 4000000 in
set_option maxRecDepth 100000 in
/-- One trip of loop `8`: chunk `6`. -/
@[irreducible] def qtrip8 (f7 : Buf (Elt F) (a7.view.loc (c : Thread nD τ))) (k : Fin k0_t8_loop.trips) :
    Σ' (L8 : List (View.Piece (Elt F) S896x5120 .fp8e4m3)), { L9 : List (View.Piece (Elt F) S896x128 .f32) // ∀ f8 f9,
      iprop(xdstP (F := F) c 6 f7 ∗ codesP c f8 ∗ scalesP c f9)
      ⊢ wp frame (wpE (defs₀ (F := F)) 𝒱₀ (c : Thread nD τ) none) Set.univ
        (k0_t8_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => iprop(xdstP c 6 f7 ∗ codesP c (a8.view.writes (Elt F) f8 L8) ∗ scalesP c (a9.view.writes (Elt F) f9 L9))) } := by
  have hk : k.val < 3 := Nat.lt_of_lt_of_le k.isLt k0_t8_abs.2.1
  refine ⟨?_, ?_, fun f8 f9 => ?run⟩
  case run =>
    unfold k0_t8_body
    iintro ⟨H7, H8, H9⟩
    sl_exec
    sl_step
    sl_close

set_option maxHeartbeats 4000000 in
set_option maxRecDepth 100000 in
/-- One trip of loop `9`: chunk `7`. -/
@[irreducible] def qtrip9 (f7 : Buf (Elt F) (a7.view.loc (c : Thread nD τ))) (k12 : k0_chk12 (wd (sz 0)) (wd (sz 1)) (wd (sz 2)) (wd (sz 3)) (wd (sz 4)) (wd (sz 5)) (wd (sz 6)) (wd (sz 7)) (wd (sz 8))) (x1 x2 : BitVec 32) (k : Fin k0_t9_loop.trips) :
    Σ' (L8 : List (View.Piece (Elt F) S896x5120 .fp8e4m3)), { L9 : List (View.Piece (Elt F) S896x128 .f32) // ∀ f8 f9,
      iprop(xdstP (F := F) c 7 f7 ∗ codesP c f8 ∗ scalesP c f9)
      ⊢ wp frame (wpE (defs₀ (F := F)) 𝒱₀ (c : Thread nD τ) none) Set.univ
        (k0_t9_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) k12 v109 v110 x1 x2 k PUnit.unit)
        (fun _ => iprop(xdstP c 7 f7 ∗ codesP c (a8.view.writes (Elt F) f8 L8) ∗ scalesP c (a9.view.writes (Elt F) f9 L9))) } := by
  have hk : k.val < 3 := Nat.lt_of_lt_of_le k.isLt k0_t9_abs.2.1
  refine ⟨?_, ?_, fun f8 f9 => ?run⟩
  case run =>
    unfold k0_t9_body
    iintro ⟨H7, H8, H9⟩
    sl_exec
    sl_step
    sl_close
end

end Cert.Proof.KernelIdeal
-- ==== Proof.Prefill.lean ====
/-
  The loop that starts the first twelve weight transfers: before trip `k` the slots below `k` have their blocks on the way.
-/
module

public import proofs.«01_k».proof.Proof.Base

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

omit [FloatOps F] in
/-- One member of a family taken out, its replacement put back. -/
theorem fam_take {n : ℕ} (s : Fin n) (Φ Ψ : Fin n → sProp 𝕄) (h : ∀ s', s' ≠ s → Φ s' = Ψ s') :
    bigSep Finset.univ Φ ⊢ iprop(Φ s ∗ (Ψ s -∗ bigSep Finset.univ Ψ)) := by
  have e1 : bigSep Finset.univ Φ = iprop(Φ s ∗ bigSep (Finset.univ.erase s) Φ) := BI.bigSep_erase (Finset.mem_univ s)
  have e2 : bigSep Finset.univ Ψ = iprop(Ψ s ∗ bigSep (Finset.univ.erase s) Ψ) := BI.bigSep_erase (Finset.mem_univ s)
  rw [e1, e2, BI.bigSep_congr (s := Finset.univ.erase s) (Φ := Φ) (Ψ := Ψ) fun i hi => h i (Finset.ne_of_mem_erase hi)]
  iintro ⟨H, R⟩
  isplitl [H]; · iexact H
  iintro H
  isplitl [H]; · iexact H
  iexact R

section
variable (sz : ℕ → ℕ) (hf : Fits sz)

/-- Step `i`'s group and column tile. -/
abbrev eF (i : ℕ) : Fin 9 := ⟨E sz i, E_lt i⟩
abbrev nF (i : ℕ) : Fin 6 := ⟨N sz i % 6, Nat.mod_lt _ (by decide)⟩
omit [FloatOps F] in
theorem nF_eq {n : ℕ} (h : n < 6) : (⟨n % 6, Nat.mod_lt _ (by decide)⟩ : Fin 6) = ⟨n, h⟩ := Fin.ext (Nat.mod_eq_of_lt h)

variable (c : Dev nD) (W : Buf (Elt F) (a2.view.loc (c : Thread nD τ)))

/-- Slot `s` before trip `k` of the first loop. -/
def preS (k : ℕ) (s : Fin 12) : sProp 𝕄 :=
  if s.val < k ∧ s.val < steps sz then busyS c W s (eF sz s.val) (nF sz s.val) else freeS c W s

/-- The table of groups that have rows, as loads read it. -/
def T6 (f6 : Buf (Elt F) (a6.view.loc (c : Thread nD τ))) : Prop :=
  ∀ j, j < act sz → ∀ (o : Fin 1 → ℕ) (h : ∀ a, o a + S1.size a ≤ S10.size a), o = ![j] → ∀ x,
    a6.view.readAt (Elt F) (Rect.unit (s := S10) o S1.size h).toLoadRect f6 x = wd (ex sz j)

variable (f6 : Buf (Elt F) (a6.view.loc (c : Thread nD τ))) (h6 : T6 sz c f6)
  (arg0 : Memref sig .tc .smem S9 .i32) (harg0 : arg0.IsWhole) (arg3 : Memref sig .tc .vmem S9x3072 .f32) (harg3 : arg3.IsWhole)
  (x1 x2 x3 x4 : BitVec 32)

abbrev p6 : sProp 𝕄 := a6.view.loc (c : Thread nD τ) ↦[a6.view.set]{fullShare} f6

set_option backward.proofsInPublic true in
include hf h6 in
theorem trip1 (k : Fin k0_t1_loop.trips) :
    iprop(p6 c f6 ∗ bigSep Finset.univ (preS sz c W k.val))
      ⊢ wp frame (wpE (defs₀ (F := F)) 𝒱₀ (c : Thread nD τ) none) Set.univ
        (k0_t1_body (F := F) arg0 harg0 a1 (Memref.isWhole_whole _) a2 (Memref.isWhole_whole _) arg3 harg3 a4 (Memref.isWhole_whole _)
          a5 (Memref.isWhole_whole _) a6 (Memref.isWhole_whole _) a7 (Memref.isWhole_whole _) a8 (Memref.isWhole_whole _)
          a9 (Memref.isWhole_whole _) a10 (Memref.isWhole_whole _) a11 (Memref.isWhole_whole _) cc0_scratch7 cc0_scratch8 cc0_scratch9
          (wd (sz 0)) (wd (sz 1)) (wd (sz 2)) (wd (sz 3)) (wd (sz 4)) (wd (sz 5)) (wd (sz 6)) (wd (sz 7)) (wd (sz 8))
          (wd (act sz)) x1 x2 x3 x4 k (wd (J sz k.val), wd (N sz k.val)))
        (fun acc => iprop(⌜acc = (wd (J sz (k.val + 1)), wd (N sz (k.val + 1)))⌝ ∗ p6 c f6 ∗ bigSep Finset.univ (preS sz c W (k.val + 1)))) := by
  have hj := J_lt hf k.val
  have ha := act_le (sz := sz)
  have c10 := chk10 (wd (sz 0)) (wd (sz 1)) (wd (sz 2)) (wd (sz 3)) (wd (sz 4)) (wd (sz 5)) (wd (sz 6)) (wd (sz 7)) (wd (sz 8)) k (j := J sz k.val) (by omega)
  have e1 := wnextJ sz hf k.val
  have e2 := wnextN sz hf k.val
  have hk : k.val < 12 := trips1 ▸ k.isLt
  by_cases hs : k.val < steps sz
  · have hn := N_lt hf hs
    have he := E_lt (sz := sz) k.val
    have hc := (cond1_iff sz hf k).2 hs
    have c9 := chk9 (wd (sz 0)) (wd (sz 1)) (wd (sz 2)) (wd (sz 3)) (wd (sz 4)) (wd (sz 5)) (wd (sz 6)) (wd (sz 7)) (wd (sz 8)) k hn
    iintro ⟨H6, HR⟩
    ihave HR := (fam_take ⟨k.val, hk⟩ _ (preS sz c W (k.val + 1)) (fun s' h => by
      have : s'.val ≠ k.val := fun e => h (Fin.ext e)
      unfold preS; congr 1; exact propext ⟨fun h => ⟨by omega, h.2⟩, fun h => ⟨by omega, h.2⟩⟩)) $$ HR
    icases HR with ⟨HS, HR⟩
    have e0 : preS sz c W k.val ⟨k.val, hk⟩ = iprop((∃ f, slotP c ⟨k.val, hk⟩ f) ∗ cellP (F := F) c ⟨k.val, hk⟩ ∗ wtok c W ⟨k.val, hk⟩) := if_neg (by simp)
    ihave HS := (entails_of_eq e0) $$ HS
    icases HS with ⟨⟨%f, HS⟩, HC, HW⟩
    sl_unfold [k0_t1_body]
    sl_exec
    have hr : trip1.sl.r sz c f6 k c10 hc = wd (E sz k.val) := h6 _ hj _ _ (off9_eq (by omega)) _
    rw [hr]
    have c11 := chk11 (wd (sz 0)) (wd (sz 1)) (wd (sz 2)) (wd (sz 3)) (wd (sz 4)) (wd (sz 5)) (wd (sz 6)) (wd (sz 7)) (wd (sz 8)) k hn he
    ihave HW := (wtok_split c W ⟨k.val, hk⟩ ⟨E sz k.val, he⟩ ⟨N sz k.val, hn⟩) $$ HW
    icases HW with ⟨HW, HWr⟩
    sl_exec
    sl_step
    isplitr
    · ipureintro; exact congrArg₂ Prod.mk e1 e2
    isplitl [H6]; · iexact H6
    iapply HR
    have e3 : preS sz c W (k.val + 1) ⟨k.val, hk⟩ = iprop((∃ f, flightP c W ⟨k.val, hk⟩ ⟨E sz k.val, he⟩ ⟨N sz k.val, hn⟩ f) ∗ wrest c W ⟨k.val, hk⟩ ⟨E sz k.val, he⟩ ⟨N sz k.val, hn⟩) := by
      refine (if_pos ⟨Nat.lt_succ_self _, hs⟩).trans ?_
      rw [show nF sz (⟨k.val, hk⟩ : Fin 12).val = ⟨N sz k.val, hn⟩ from nF_eq hn]; rfl
    irw [e3]
    isplitl [HC]; · iexists f; iexact HC
    iexact HWr
  · have hc : ¬ Cond1 sz k = 1#1 := fun h => hs ((cond1_iff sz hf k).1 h)
    have c9 : k0_chk9 (wd (sz 0)) (wd (sz 1)) (wd (sz 2)) (wd (sz 3)) (wd (sz 4)) (wd (sz 5)) (wd (sz 6)) (wd (sz 7)) (wd (sz 8)) k (wd (N sz k.val)) :=
      fun h => absurd h hc
    iintro ⟨H6, HR⟩
    sl_unfold [k0_t1_body]
    sl_exec
    sl_step
    isplitr
    · ipureintro; exact congrArg₂ Prod.mk e1 e2
    isplitl [H6]; · iexact H6
    have e : preS sz c W (k.val + 1) = preS sz c W k.val := funext fun s => by
      unfold preS; congr 1; exact propext ⟨fun h => ⟨by omega, h.2⟩, fun h => ⟨by omega, h.2⟩⟩
    irw [e]
    iexact HR

include hf h6 in
set_option warn.classDefReducibility false in
/-- The loop's invariant. -/
abbrev loopInv1 (init : BitVec 32 × BitVec 32) :
    LoopInvTy_k0_t1 (F := F) Unit ℕ (UU nD τ) ℕ 𝒱₀ c none Set.univ arg0 harg0 a1 (Memref.isWhole_whole _) a2 (Memref.isWhole_whole _) arg3 harg3 a4 (Memref.isWhole_whole _)
          a5 (Memref.isWhole_whole _) a6 (Memref.isWhole_whole _) a7 (Memref.isWhole_whole _) a8 (Memref.isWhole_whole _)
          a9 (Memref.isWhole_whole _) a10 (Memref.isWhole_whole _) a11 (Memref.isWhole_whole _) cc0_scratch7 cc0_scratch8 cc0_scratch9
          (wd (sz 0)) (wd (sz 1)) (wd (sz 2)) (wd (sz 3)) (wd (sz 4)) (wd (sz 5)) (wd (sz 6)) (wd (sz 7)) (wd (sz 8))
          (wd (act sz)) x1 x2 x3 x4 init where
  inv k acc := iprop(⌜acc = (wd (J sz k), wd (N sz k))⌝ ∗ p6 c f6 ∗ bigSep Finset.univ (preS sz c W k))
  step k acc := by
    iintro ⟨%e, H⟩
    subst e
    iapply (trip1 sz hf c W f6 h6 arg0 harg0 arg3 harg3 x1 x2 x3 x4 k)
    iexact H

end

end Cert.Proof.KernelIdeal
-- ==== Proof.Tiles.lean ====
/-
  The loop over the row tiles of one group: each trip stores 128 rows of the slot of the output buffer, the rows outside the group kept.
-/
module

public import proofs.«01_k».proof.Proof.Prefill
public import Idealize.ShloMosaic.Lib.WritesUnit
public import Idealize.ShloMosaic.Lib.ValueIdx

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
local notation "𝕄" => MT nD τ sig Unit (Elt F) ℕ (UU nD τ) ℕ

/-- What is asked of the value at row `R`, column `C` of column tile `n` of the result. -/
abbrev SpecT (F : FTy → Type) := ℕ → ℕ → ℕ → Elt F .bf16 → Prop

section
variable (Spec : SpecT F) (sz : ℕ → ℕ) (hf : Fits sz) (c : Dev nD)

/-- Rows of a slot of the output buffer which are as asked. -/
def RowsOK (n : ℕ) (p : Fin 2) (g : Buf (Elt F) (a11.view.loc (c : Thread nD τ))) (P : ℕ → Prop) : Prop :=
  ∀ (R : Fin 896) (C : Fin 512), P R.val → Spec n R.val C.val (a11.view.read (Elt F) g (ix3 p R C))

theorem RowsOK.mono {n : ℕ} {p : Fin 2} {g : Buf (Elt F) (a11.view.loc (c : Thread nD τ))} {P Q : ℕ → Prop} (h : RowsOK Spec c n p g P)
    (hq : ∀ r, r < 896 → Q r → P r) : RowsOK Spec c n p g Q := fun R C hR => h R C (hq _ R.isLt hR)

variable (arg0 : Memref sig .tc .smem S9 .i32) (harg0 : arg0.IsWhole) (arg3 : Memref sig .tc .vmem S9x3072 .f32) (harg3 : arg3.IsWhole)
  (f8 : Buf (Elt F) (a8.view.loc (c : Thread nD τ))) (f9 : Buf (Elt F) (a9.view.loc (c : Thread nD τ)))
  (W : Buf (Elt F) (a2.view.loc (c : Thread nD τ))) (WS : Buf (Elt F) (arg3.view.loc (c : Thread nD τ)))

/-- The group's first row rounded down to a multiple of 32, as the kernel computes it, and the row after its last. -/
abbrev wbase (l : ℕ) : BitVec 32 := Scalar.subi (wd l) (Scalar.remsi (wd l) 32#32)
abbrev wend (l z : ℕ) : BitVec 32 := Scalar.addi (wd l) (wd z)

/-- What a trip stores. -/
abbrev pay (n s l z e : ℕ) (hs : s < 12) (t : Fin (k0_t11_loop (wd l) (wd z)).trips)
    (h670 : ∀ a, (k0_off670 (wd n) (wd e)) a + S1x512.size a ≤ S9x3072.size a)
    (h671 : ∀ a, (k0_off671 (wd l) (wd z) t) a + S128x5120.size a ≤ S896x5120.size a)
    (h672 : ∀ a, (k0_off672 (wd s)) a + S1x5120x512.size a ≤ S12x5120x512.size a)
    (h673 : ∀ a, (k0_off673 (wd l) (wd z) t) a + S128x128.size a ≤ S896x128.size a)
    (fs : Buf (Elt F) (a10.view.loc (c : Thread nD τ)))
    (v282 : Vec F S1x128x512 .bf16) : Vec F S1x128x512 .bf16 :=
  k0_pay505 (wd l) (wd z) (wend l z) (wbase l)
    (arg3.view.readAt (Elt F) (Rect.unit (s := S9x3072) (k0_off670 (wd n) (wd e)) S1x512.size h670).toLoadRect WS) t
    (a8.view.readAt (Elt F) (Rect.unit (s := S896x5120) (k0_off671 (wd l) (wd z) t) S128x5120.size h671).toLoadRect f8)
    (a10.view.readAt (Elt F) (Rect.unit (s := S12x5120x512) (k0_off672 (wd s)) S1x5120x512.size h672).toLoadRect fs)
    (a9.view.readAt (Elt F) (Rect.unit (s := S896x128) (k0_off673 (wd l) (wd z) t) S128x128.size h673).toLoadRect f9) v282

/-- The stored values are as asked: the group's rows always, the others where they were. -/
def PayOK : Prop :=
  ∀ (j n s : ℕ) (hj : j < act sz) (hn : n < 6) (hs : s < 12) (t : Fin (k0_t11_loop (wd (lo sz j)) (wd (sz (ex sz j)))).trips)
    h670 h671 h672 h673 (f : Buf (Elt F) ((wslot ⟨s, hs⟩).view.loc (c : Thread nD τ))) v282 (r : Fin 128) (C : Fin 512),
    ((lo sz j ≤ base (lo sz j) + t.val * 128 + r.val ∧ base (lo sz j) + t.val * 128 + r.val < hi sz j) ∨
        Spec n (base (lo sz j) + t.val * 128 + r.val) C.val (v282 (ix3 (0 : Fin 1) r C))) →
      Spec n (base (lo sz j) + t.val * 128 + r.val) C.val
        (pay c arg3 f8 f9 WS n s (lo sz j) (sz (ex sz j)) (ex sz j) hs t h670 h671 h672 h673
          (landed c W ⟨s, hs⟩ ⟨ex sz j, ex_lt j⟩ ⟨n, hn⟩ f) v282 (ix3 (0 : Fin 1) r C))

theorem ofull_sub (p : Fin 2) {off : Fin 3 → ℕ} {b : ℕ} (e : off = ![p.val, b, 0]) (hb : b + 128 ≤ 896) (h) :
    (a11.access (Rect.unit (s := S2x896x512) off S1x128x512.size h)).set ⊆ (ofull p).view.set := by
  subst e
  intro i hi
  have h1 : (a11.access (Rect.unit (s := S2x896x512) ![p.val, b, 0] S1x128x512.size h)).set = (Rect.unit (s := S2x896x512) ![p.val, b, 0] S1x128x512.size h).set := View.set_slice_whole _ _
  have h2 : (ofull p).view.set = (Rect.unit (s := S2x896x512) (oslotOff p) S1x896x512.size (oslotOff_inb' p)).set := View.set_slice_whole _ _
  rw [h1, Rect.mem_set_unit] at hi
  rw [h2, Rect.mem_set_unit]
  intro a
  have := hi a
  fin_cases a
  · exact this
  · exact ⟨Nat.zero_le _, lt_of_lt_of_le this.2 hb⟩
  · exact this

theorem wslot_sub (s : Fin 12) {off : Fin 3 → ℕ} (e : off = wslotOff s) (h) :
    (a10.access (Rect.unit (s := S12x5120x512) off S1x5120x512.size h)).set ⊆ (wslot s).view.set := by
  subst e
  exact subset_of_eq (by
    rw [show (a10.access (Rect.unit (s := S12x5120x512) (wslotOff s) S1x5120x512.size h)).set = (Rect.unit (s := S12x5120x512) (wslotOff s) S1x5120x512.size h).set from View.set_slice_whole _ _]
    exact ((View.set_reshape _ _).trans (View.set_slice_whole _ _)).symm)

/-- The output slot at contents `g`. -/
abbrev oP (p : Fin 2) (g : Buf (Elt F) (a11.view.loc (c : Thread nD τ))) : sProp 𝕄 := (ofull p).view.loc (c : Thread nD τ) ↦[(ofull p).view.set]{fullShare} g
abbrev p8 : sProp 𝕄 := a8.view.loc (c : Thread nD τ) ↦[a8.view.set]{fullShare} f8
abbrev p9 : sProp 𝕄 := a9.view.loc (c : Thread nD τ) ↦[a9.view.set]{fullShare} f9
abbrev p3 : sProp 𝕄 := arg3.view.loc (c : Thread nD τ) ↦[arg3.view.set]{fullShare} WS

variable (j n s : ℕ) (hj : j < act sz) (hn : n < 6) (hs : s < 12)
  (v109 v110 : BitVec 32) (i : Fin (Loop10 sz).trips) (w18 w19 : BitVec 32)
  (k20 : k0_chk20 (wd (sz 0)) (wd (sz 1)) (wd (sz 2)) (wd (sz 3)) (wd (sz 4)) (wd (sz 5)) (wd (sz 6)) (wd (sz 7)) (wd (sz 8)) i w18)
  (k16 : k0_chk16 (wd (sz 0)) (wd (sz 1)) (wd (sz 2)) (wd (sz 3)) (wd (sz 4)) (wd (sz 5)) (wd (sz 6)) (wd (sz 7)) (wd (sz 8)) i (wd s))
  (k15 : k0_chk15 (wd (sz 0)) (wd (sz 1)) (wd (sz 2)) (wd (sz 3)) (wd (sz 4)) (wd (sz 5)) (wd (sz 6)) (wd (sz 7)) (wd (sz 8)) (wd j) (wd n))
  (w15 v189 : BitVec 32) (k14 : k0_chk14 (wd n) (wd (ex sz j))) (k18 : k0_chk18 (wd n) (wd s) (wd (lo sz j)) (wd (sz (ex sz j)))) (c512 : BitVec 32)

/-- The rows as asked before trip `t`. -/
abbrev before (j t : ℕ) (r : ℕ) : Prop := r < lo sz j ∨ (lo sz j ≤ r ∧ r < hi sz j ∧ r < base (lo sz j) + t * 128)
/-- The loop's resources. -/
def res11 (t : ℕ) : sProp 𝕄 :=
  iprop(p8 c f8 ∗ p9 c f9 ∗ (∃ f, slotP c ⟨s, hs⟩ (landed c W ⟨s, hs⟩ ⟨ex sz j, ex_lt j⟩ ⟨n, hn⟩ f))
    ∗ ∃ g, ⌜RowsOK Spec c n (p2 n) g (before sz j t)⌝ ∗ oP c (p2 n) g)

abbrev body11 := (k0_t11_body (F := F) arg0 harg0 a1 (Memref.isWhole_whole _) a2 (Memref.isWhole_whole _) arg3 harg3 a4 (Memref.isWhole_whole _)
          a5 (Memref.isWhole_whole _) a6 (Memref.isWhole_whole _) a7 (Memref.isWhole_whole _) a8 (Memref.isWhole_whole _)
          a9 (Memref.isWhole_whole _) a10 (Memref.isWhole_whole _) a11 (Memref.isWhole_whole _) cc0_scratch7 cc0_scratch8 cc0_scratch9
          (wd (sz 0)) (wd (sz 1)) (wd (sz 2)) (wd (sz 3)) (wd (sz 4)) (wd (sz 5)) (wd (sz 6)) (wd (sz 7)) (wd (sz 8))
          v109 v110 i (wd j) (wd n) w18 w19 (wd s) k20 k16 k15 w15 v189 (wd (ex sz j)) k14 (wd (lo sz j)) (wd (sz (ex sz j))) k18
          (wend (lo sz j) (sz (ex sz j))) (wbase (lo sz j)) c512
          (arg3.view.readAt (Elt F) (Rect.unit (s := S9x3072) (k0_off670 (wd n) (wd (ex sz j))) S1x512.size (k0_off670_inb (wd n) (wd (ex sz j)) k14)).toLoadRect WS))

variable (hpay : PayOK Spec sz c arg3 f8 f9 W WS)

include hf hj hn hpay in
/-- One trip's store. -/
theorem rowsOK_step (t : Fin (k0_t11_loop (wd (lo sz j)) (wd (sz (ex sz j)))).trips) (h670 h671 h672 h673)
    (h674 : ∀ a, (k0_off674 (wd n) (wd (lo sz j)) (wd (sz (ex sz j))) t) a + S1x128x512.size a ≤ S2x896x512.size a)
    (f : Buf (Elt F) ((wslot ⟨s, hs⟩).view.loc (c : Thread nD τ)))
    (g : Buf (Elt F) (a11.view.loc (c : Thread nD τ))) (hg : RowsOK Spec c n (p2 n) g (before sz j t.val)) :
    RowsOK Spec c n (p2 n) (a11.view.writes (Elt F) g [⟨Rect.unit (s := S2x896x512) (k0_off674 (wd n) (wd (lo sz j)) (wd (sz (ex sz j))) t) S1x128x512.size h674,
      pay c arg3 f8 f9 WS n s (lo sz j) (sz (ex sz j)) (ex sz j) hs t h670 h671 h672 h673 (landed c W ⟨s, hs⟩ ⟨ex sz j, ex_lt j⟩ ⟨n, hn⟩ f)
        (a11.view.readAt (Elt F) (Rect.unit (s := S2x896x512) (k0_off674 (wd n) (wd (lo sz j)) (wd (sz (ex sz j))) t) S1x128x512.size h674).toLoadRect g)⟩])
      (before sz j (t.val + 1)) := by
  have hle : lo sz j + sz (ex sz j) ≤ 768 := hi_le hf j
  have eo := off674_eq hle t hn
  have hb : base (lo sz j) ≤ lo sz j := Nat.sub_le _ _
  intro R C hR
  by_cases hin : base (lo sz j) + t.val * 128 ≤ R.val ∧ R.val < base (lo sz j) + t.val * 128 + 128
  · obtain ⟨r, hr⟩ : ∃ r : Fin 128, R.val = base (lo sz j) + t.val * 128 + r.val := ⟨⟨R.val - (base (lo sz j) + t.val * 128), by omega⟩, by simp only; omega⟩
    rw [View.read_writes_cons_unit_of_mem a11.view g h674 _ [] (ix3 (p2 n) R C) (ix3 (0 : Fin 1) r C) eo (by
      intro a; fin_cases a
      · rfl
      · exact hr
      · exact (Nat.zero_add _).symm), hr]
    refine hpay j n s hj hn hs t h670 h671 h672 h673 f _ r C ?_
    by_cases hm : lo sz j ≤ R.val ∧ R.val < hi sz j
    · exact Or.inl (by rw [← hr]; exact hm)
    · refine Or.inr ?_
      rw [← hr]
      have hR' : before sz j t.val R.val := hR.imp_right fun h => absurd ⟨h.1, h.2.1⟩ hm
      have := hg R C hR'
      have e : ∀ (o : Fin 3 → ℕ) (h : ∀ a, o a + S1x128x512.size a ≤ S2x896x512.size a), o = ![n % 2, base (lo sz j) + t.val * 128, 0] →
          a11.view.readAt (Elt F) (Rect.unit (s := S2x896x512) o S1x128x512.size h).toLoadRect g (ix3 (0 : Fin 1) r C)
            = a11.view.read (Elt F) g (ix3 (p2 n) R C) := by
        intro o h eo
        subst eo
        show a11.view.read (Elt F) g _ = _
        congr 1; funext a; apply Fin.ext
        fin_cases a
        · exact Nat.add_zero _
        · exact (by simp [hr] : base (lo sz j) + t.val * 128 + 1 * r.val = R.val)
        · exact (by simp : 0 + 1 * C.val = C.val)
      rw [e _ _ eo]; exact this
  · rw [View.read_writes_cons_unit_of_not_mem a11.view g h674 _ [] (ix3 (p2 n) R C) eo 1 (by
      show R.val < base (lo sz j) + t.val * 128 ∨ base (lo sz j) + t.val * 128 + 128 ≤ R.val
      omega)]
    refine hg R C ?_
    rcases hR with h | h
    · exact Or.inl h
    · exact Or.inr ⟨h.1, h.2.1, by omega⟩

include hf hj hn hpay in
set_option backward.proofsInPublic true in
theorem trip11 (t : Fin (k0_t11_loop (wd (lo sz j)) (wd (sz (ex sz j)))).trips) :
    res11 Spec sz c f8 f9 W j n s hn hs t.val
      ⊢ wp frame (wpE (defs₀ (F := F)) 𝒱₀ (c : Thread nD τ) none) Set.univ
          (body11 sz c arg0 harg0 arg3 harg3 WS j n s v109 v110 i w18 w19 k20 k16 k15 w15 v189 k14 k18 c512 t ())
        (fun _ => res11 Spec sz c f8 f9 W j n s hn hs (t.val + 1)) := by
  have hle : lo sz j + sz (ex sz j) ≤ 768 := hi_le hf j
  have htl := tile_le hle (t11_lt hle t)
  have hsub1 := ofull_sub (p2 n) (off674_eq hle t hn) (by omega) (k0_off674_inb (wd n) (wd s) (wd (lo sz j)) (wd (sz (ex sz j))) k18 t)
  have hsub2 := wslot_sub ⟨s, hs⟩ (off672_eq hs) (k0_off672_inb (wd n) (wd s) (wd (lo sz j)) (wd (sz (ex sz j))) k18 t)
  have hsub3 := subset_of_eq (View.setOn_univ _) |>.trans hsub1
  unfold res11
  iintro ⟨H8, H9, ⟨%f, HS⟩, ⟨%g, %hg, HO⟩⟩
  dsimp only [body11]
  sl_unfold [k0_t11_body]
  sl_exec
  sl_step
  isplitl [H8]; · iexact H8
  isplitl [H9]; · iexact H9
  isplitl [HS]
  · iexists (wslot ⟨s, hs⟩).view.junk; iexact HS
  iexists _
  isplitr
  · ipureintro
    exact rowsOK_step Spec sz hf c arg3 f8 f9 W WS j n s hj hn hs hpay t (k0_off670_inb (wd n) (wd (ex sz j)) k14) (k0_off671_inb (wd n) (wd s) (wd (lo sz j)) (wd (sz (ex sz j))) k18 t) (k0_off672_inb (wd n) (wd s) (wd (lo sz j)) (wd (sz (ex sz j))) k18 t) (k0_off673_inb (wd n) (wd s) (wd (lo sz j)) (wd (sz (ex sz j))) k18 t) (k0_off674_inb (wd n) (wd s) (wd (lo sz j)) (wd (sz (ex sz j))) k18 t) (wslot ⟨s, hs⟩).view.junk g hg
  iexact HO

set_option warn.classDefReducibility false in
/-- The loop's invariant. -/
abbrev loopInv11 :
    LoopInvTy_k0_t11 (F := F) Unit ℕ (UU nD τ) ℕ 𝒱₀ c none Set.univ arg0 harg0 a1 (Memref.isWhole_whole _) a2 (Memref.isWhole_whole _) arg3 harg3 a4 (Memref.isWhole_whole _)
          a5 (Memref.isWhole_whole _) a6 (Memref.isWhole_whole _) a7 (Memref.isWhole_whole _) a8 (Memref.isWhole_whole _)
          a9 (Memref.isWhole_whole _) a10 (Memref.isWhole_whole _) a11 (Memref.isWhole_whole _) cc0_scratch7 cc0_scratch8 cc0_scratch9
          (wd (sz 0)) (wd (sz 1)) (wd (sz 2)) (wd (sz 3)) (wd (sz 4)) (wd (sz 5)) (wd (sz 6)) (wd (sz 7)) (wd (sz 8))
          v109 v110 i (wd j) (wd n) w18 w19 (wd s) k20 k16 k15 w15 v189 (wd (ex sz j)) k14 (wd (lo sz j)) (wd (sz (ex sz j))) k18
          (wend (lo sz j) (sz (ex sz j))) (wbase (lo sz j)) c512
          (arg3.view.readAt (Elt F) (Rect.unit (s := S9x3072) (k0_off670 (wd n) (wd (ex sz j))) S1x512.size (k0_off670_inb (wd n) (wd (ex sz j)) k14)).toLoadRect WS) where
  inv t _ := res11 Spec sz c f8 f9 W j n s hn hs t
  step t _ := trip11 Spec sz hf c arg0 harg0 arg3 harg3 f8 f9 W WS j n s hj hn hs v109 v110 i w18 w19 k20 k16 k15 w15 v189 k14 k18 c512 hpay t
end

end Cert.Proof.KernelIdeal
-- ==== Proof.Out.lean ====
/-
  What the two slots of the output buffer and the six column pieces of the result can hold.
-/
module

public import proofs.«01_k».proof.Proof.Tiles
public import Idealize.ShloMosaic.Lib.ValueLayout

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
local notation "𝕄" => MT nD τ sig Unit (Elt F) ℕ (UU nD τ) ℕ

section
variable (Spec : SpecT F) (c : Dev nD)

/-- The counter of slot `p`'s transfers at zero. -/
abbrev cellO (p : Fin 2) : sProp 𝕄 := semVal ((c : Thread nD τ), SemLoc.dma (osem p).sem) 0
/-- Column piece `n` held. -/
abbrev ocolP (n : Fin 6) (f : Buf (Elt F) ((ocol n).view.loc (c : Thread nD τ))) : sProp 𝕄 :=
  (ocol n).view.loc (c : Thread nD τ) ↦[(ocol n).view.set]{fullShare} f
/-- The rows of slot `p` that leave it. -/
abbrev oslotP (p : Fin 2) (g : Buf (Elt F) (a11.view.loc (c : Thread nD τ))) : sProp 𝕄 :=
  (oslot p).view.loc (c : Thread nD τ) ↦[(oslot p).view.set]{fullShare} g
/-- The rest of slot `p`. -/
abbrev orest (p : Fin 2) (g : Buf (Elt F) (a11.view.loc (c : Thread nD τ))) : sProp 𝕄 :=
  (ofull p).view.loc (c : Thread nD τ) ↦[(ofull p).view.set \ (oslot p).view.set]{fullShare} g
/-- Column piece `n` with slot `p` landed in it. -/
abbrev flown (n : Fin 6) (p : Fin 2) (f : Buf (Elt F) ((ocol n).view.loc (c : Thread nD τ))) (g : Buf (Elt F) (a11.view.loc (c : Thread nD τ))) :=
  (ocol n).view.writes (Elt F) f [⟨Rect.whole S768x512, ReadAs.same.apply ((oslot p).view.read (Elt F) g)⟩]
/-- Slot `p` on its way to column piece `n`. -/
abbrev oflight (n : Fin 6) (p : Fin 2) (f : Buf (Elt F) ((ocol n).view.loc (c : Thread nD τ))) (g : Buf (Elt F) (a11.view.loc (c : Thread nD τ))) : sProp 𝕄 :=
  Transfers.Flight countersEmb (c : Thread nD τ) (SemLoc.dma (osem p).sem) () 24576 iprop(ocolP c n (flown c n p f g) ∗ oslotP c p g)
/-- The core owes nothing. -/
abbrev ow : sProp 𝕄 := iprop(∃ D, owes (c : Thread nD τ) 0 D)
def freeO (p : Fin 2) : sProp 𝕄 := iprop((∃ g, oP (F := F) c p g) ∗ cellO (F := F) c p)
def busyO (n : Fin 6) (p : Fin 2) : sProp 𝕄 :=
  iprop(∃ f g, ⌜RowsOK Spec c n.val p g (· < 768)⌝ ∗ oflight c n p f g ∗ orest c p g)

/-- A column piece with every value as asked. -/
def ColOK (n : Fin 6) (f : Buf (Elt F) ((ocol n).view.loc (c : Thread nD τ))) : Prop :=
  ∀ (R : Fin 768) (C : Fin 512), Spec n.val R.val C.val ((ocol n).view.read (Elt F) f (ix2 R C))
def colRaw (n : Fin 6) : sProp 𝕄 := iprop(∃ f, ocolP (F := F) c n f)
def colDone (n : Fin 6) : sProp 𝕄 := iprop(∃ f, ⌜ColOK Spec c n f⌝ ∗ ocolP c n f)

theorem oslot_sub (p : Fin 2) : (oslot p).view.set ⊆ (ofull p).view.set := by
  unfold oslot ofull
  rw [show ((a11.slice (Rect.unit (s := S2x896x512) (oslotOff p) S1x768x512.size (oslotOff_inb p)) (fun _ => rfl)).squeeze S768x512 squeezes_S1x768x512_S768x512).view.set
      = (Rect.unit (s := S2x896x512) (oslotOff p) S1x768x512.size (oslotOff_inb p)).set from (View.set_reshape _ _).trans (View.set_slice_whole _ _),
    show (a11.slice (Rect.unit (s := S2x896x512) (oslotOff p) S1x896x512.size (oslotOff_inb' p)) (fun _ => rfl)).view.set
      = (Rect.unit (s := S2x896x512) (oslotOff p) S1x896x512.size (oslotOff_inb' p)).set from View.set_slice_whole _ _]
  intro i hi
  rw [Rect.mem_set_unit] at hi ⊢
  intro a
  have := hi a
  fin_cases a
  · exact this
  · exact ⟨this.1, lt_of_lt_of_le this.2 (by show 0 + 768 ≤ 0 + 896; omega)⟩
  · exact this
theorem oP_split (p : Fin 2) (g) : oP (F := F) c p g ⊢ iprop(oslotP c p g ∗ orest c p g) := (pointsTo_split_subset (oslot_sub p)).1
theorem oP_join (p : Fin 2) (g) : iprop(oslotP c p g ∗ orest c p g) ⊢ oP (F := F) c p g := (pointsTo_split_subset (oslot_sub p)).2

theorem oslot_read (p : Fin 2) (g : Buf (Elt F) (a11.view.loc (c : Thread nD τ))) (R : Fin 768) (C : Fin 512) :
    (oslot p).view.read (Elt F) g (ix2 R C) = a11.view.read (Elt F) g (ix3 p (⟨R.val, by omega⟩ : Fin 896) C) := by
  show a11.view.read (Elt F) g ((Rect.unit (s := S2x896x512) (oslotOff p) S1x768x512.size (oslotOff_inb p)).emb
    (Shape.reshapeEquiv (s' := S768x512) (s := S1x768x512) (by decide) (ix2 R C))) = _
  rw [Idealize.ShloMosaic.ValueIdx.reshapeEquiv_ix2_1ab]
  refine congrArg _ (funext fun a => Fin.ext ?_)
  fin_cases a
  · show p.val + 1 * 0 = p.val; omega
  · show 0 + 1 * R.val = R.val; omega
  · show 0 + 1 * C.val = C.val; omega

theorem colOK_flown (n : Fin 6) (p : Fin 2) (f) (g) (h : RowsOK Spec c n.val p g (· < 768)) : ColOK Spec c n (flown c n p f g) := by
  intro R C
  have e : (ocol n).view.read (Elt F) (flown c n p f g) (ix2 R C) = (oslot p).view.read (Elt F) g (ix2 R C) :=
    congrFun (View.read_writes_whole _ _ _) _
  rw [e, oslot_read]
  exact h ⟨R.val, by omega⟩ C R.isLt
end

end Cert.Proof.KernelIdeal
-- ==== Proof.First.lean ====
/-
  One step of the main loop, up to the wait for its weight block.
-/
module

public import proofs.«01_k».proof.Proof.Out

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

/-- What the wait for a column that has left needs, and what it gives. -/
def before2 (Spec : SpecT F) (c : Dev nD) (j n : ℕ) (hn : n < 6) : sProp 𝕄 := if h : j = 0 ∧ 2 ≤ n then busyO Spec c ⟨n - 2, by omega⟩ (p2 n) else iprop(emp)
def after2 (Spec : SpecT F) (c : Dev nD) (j n : ℕ) (hn : n < 6) : sProp 𝕄 := if h : j = 0 ∧ 2 ≤ n then iprop(freeO (F := F) c (p2 n) ∗ colDone Spec c ⟨n - 2, by omega⟩) else iprop(emp)

section
variable (Spec : SpecT F) (sz : ℕ → ℕ) (hf : Fits sz) (c : Dev nD)
  (arg0 : Memref sig .tc .smem S9 .i32) (harg0 : arg0.IsWhole) (arg3 : Memref sig .tc .vmem S9x3072 .f32) (harg3 : arg3.IsWhole)
  (W : Buf (Elt F) (a2.view.loc (c : Thread nD τ)))
  (f0 : Buf (Elt F) (arg0.view.loc (c : Thread nD τ))) (f5 : Buf (Elt F) (a5.view.loc (c : Thread nD τ))) (f6 : Buf (Elt F) (a6.view.loc (c : Thread nD τ)))

/-- The groups' sizes, and the table of their first rows, as loads read them. -/
def T0 : Prop :=
  ∀ e, e < 9 → ∀ (o : Fin 1 → ℕ) (h : ∀ a, o a + S1.size a ≤ S9.size a), o = ![e] → ∀ x,
    arg0.view.readAt (Elt F) (Rect.unit (s := S9) o S1.size h).toLoadRect f0 x = wd (sz e)
def T5 : Prop :=
  ∀ e, e < 9 → ∀ (o : Fin 1 → ℕ) (h : ∀ a, o a + S1.size a ≤ S9.size a), o = ![e] → ∀ x,
    a5.view.readAt (Elt F) (Rect.unit (s := S9) o S1.size h).toLoadRect f5 x = wd (start sz e)
abbrev p0 : sProp 𝕄 := arg0.view.loc (c : Thread nD τ) ↦[arg0.view.set]{fullShare} f0
abbrev p5 : sProp 𝕄 := a5.view.loc (c : Thread nD τ) ↦[a5.view.set]{fullShare} f5

variable (h0 : T0 sz c arg0 f0) (h5 : T5 sz c f5) (h6 : T6 sz c f6)
  (j n s : ℕ) (hj : j < act sz) (hn : n < 6) (hs : s < 12) (i : Fin (Loop10 sz).trips) (w18 w19 : BitVec 32)
  (k20 : k0_chk20 (wd (sz 0)) (wd (sz 1)) (wd (sz 2)) (wd (sz 3)) (wd (sz 4)) (wd (sz 5)) (wd (sz 6)) (wd (sz 7)) (wd (sz 8)) i w18) (k19 : k0_chk19 (wd (sz 0)) (wd (sz 1)) (wd (sz 2)) (wd (sz 3)) (wd (sz 4)) (wd (sz 5)) (wd (sz 6)) (wd (sz 7)) (wd (sz 8)) i w19)
  (v109 v110 z1 z2 : BitVec 32)

set_option backward.proofsInPublic true in
include hf h0 h5 h6 hj hn hs k20 k19 in
/-- The first half of a step. -/
theorem first :
    iprop(p6 c f6 ∗ p5 c f5 ∗ p0 c arg0 f0 ∗ (∃ f, flightP c W ⟨s, hs⟩ ⟨ex sz j, ex_lt j⟩ ⟨n, hn⟩ f) ∗ wrest c W ⟨s, hs⟩ ⟨ex sz j, ex_lt j⟩ ⟨n, hn⟩ ∗ before2 Spec c j n hn ∗ ow (F := F) c)
      ⊢ wp frame (wpE (defs₀ (F := F)) 𝒱₀ (c : Thread nD τ) none) Set.univ
        (k0_part145 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) z1 z2 i (wd j) (wd n) w18 w19 (wd s))
        (fun r => iprop(⌜r.2.2.2.2.2.1 = wd (ex sz j) ∧ r.2.2.2.2.2.2.2.1 = wd (lo sz j) ∧ r.2.2.2.2.2.2.2.2.1 = wd (sz (ex sz j))
            ∧ r.2.2.2.2.2.2.2.2.2.2.1 = wend (lo sz j) (sz (ex sz j)) ∧ r.2.2.2.2.2.2.2.2.2.2.2.1 = wbase (lo sz j)⌝
          ∗ p6 c f6 ∗ p5 c f5 ∗ p0 c arg0 f0 ∗ (∃ f, slotP c ⟨s, hs⟩ (landed c W ⟨s, hs⟩ ⟨ex sz j, ex_lt j⟩ ⟨n, hn⟩ f)) ∗ cellP (F := F) c ⟨s, hs⟩
          ∗ wtok c W ⟨s, hs⟩ ∗ after2 Spec c j n hn ∗ ow (F := F) c)) := by
  have hj9 : j < 9 := lt_of_lt_of_le hj act_le
  have he : ex sz j < 9 := ex_lt j
  have hle : lo sz j + sz (ex sz j) ≤ 768 := hi_le hf j
  have k16 := chk16 (wd (sz 0)) (wd (sz 1)) (wd (sz 2)) (wd (sz 3)) (wd (sz 4)) (wd (sz 5)) (wd (sz 6)) (wd (sz 7)) (wd (sz 8)) i hs
  have k15 := chk15 (wd (sz 0)) (wd (sz 1)) (wd (sz 2)) (wd (sz 3)) (wd (sz 4)) (wd (sz 5)) (wd (sz 6)) (wd (sz 7)) (wd (sz 8)) hj9 hn
  have k13 := chk13 (j := j) (by omega)
  have k14 := chk14 hn he
  have k17 := chk17 hn he
  have k18 := chk18 hn hs hle
  by_cases h : j = 0 ∧ 2 ≤ n
  · have hn2 : 2 ≤ n ∧ n < 6 := ⟨h.2, hn⟩
    have hc := (cond2_iff hj9 hn).2 h
    rw [before2, after2, dif_pos h, dif_pos h, k0_part145_eq_skeleton]
    unfold busyO
    iintro ⟨H6, H5, H0, ⟨%f, HF⟩, HR, ⟨%fo, %g, %hg, HO, HOR⟩, ⟨%D, HD⟩⟩
    sl_unfold [k0_part145_skel]
    sl_exec
    have hr : first.sl.r c f6 j k13 = wd (ex sz j) := h6 j hj _ _ (off661_eq (by omega)) _
    rw [hr]
    sl_exec
    have hr1 : first.sl.r_1 sz c f5 j n k14 = wd (lo sz j) := h5 (ex sz j) he _ _ (off662_eq he) _
    have hr2 : first.sl.r_2 sz c arg0 f0 j n k14 = wd (sz (ex sz j)) := h0 (ex sz j) he _ _ (off662_eq he) _
    rw [hr1, hr2]
    sl_exec
    have hr4 : first.sl.r_3 c f6 j k13 = wd (ex sz j) := h6 j hj _ _ (off666_eq (by omega)) _
    rw [hr4]
    sl_exec
    sl_step
    isplitr
    · ipureintro; exact ⟨rfl, rfl, rfl, rfl, rfl⟩
    isplitl [H6]; · iexact H6
    isplitl [H5]; · iexact H5
    isplitl [H0]; · iexact H0
    isplitl [HF_dst]; · iexists _; iexact HF_dst
    isplitl [HF]; · iexact HF
    isplitl [HF_src HR]
    · iapply (wtok_join c W ⟨s, hs⟩ ⟨ex sz j, ex_lt j⟩ ⟨n, hn⟩)
      isplitl [HF_src]; · iexact HF_src
      iexact HR
    isplitr [HD]
    · isplitl [HO HO_src HOR]
      · unfold freeO
        isplitr [HO]
        · iexists g
          iapply (oP_join (F := F) c (p2 n) g)
          isplitl [HO_src]; · iexact HO_src
          iexact HOR
        iexact HO
      unfold colDone
      iexists _
      isplitr
      · ipureintro; exact colOK_flown Spec c ⟨n - 2, by omega⟩ (p2 n) fo g hg
      iexact HO_dst
    iexists _
    iexact HD
  · have hc : ¬ k0_cond2 (wd j) (wd n) = 1#1 := fun e => h ((cond2_iff hj9 hn).1 e)
    rw [before2, after2, dif_neg h, dif_neg h, k0_part145_eq_skeleton]
    iintro ⟨H6, H5, H0, ⟨%f, HF⟩, HR, HB, ⟨%D, HD⟩⟩
    sl_unfold [k0_part145_skel]
    sl_exec
    have hr : first.sl.r_4 c f6 j k13 = wd (ex sz j) := h6 j hj _ _ (off661_eq (by omega)) _
    rw [hr]
    sl_exec
    have hr1 : first.sl.r_5 sz c f5 j n k14 = wd (lo sz j) := h5 (ex sz j) he _ _ (off662_eq he) _
    have hr2 : first.sl.r_6 sz c arg0 f0 j n k14 = wd (sz (ex sz j)) := h0 (ex sz j) he _ _ (off662_eq he) _
    rw [hr1, hr2]
    sl_exec
    have hr4 : first.sl.r_7 c f6 j k13 = wd (ex sz j) := h6 j hj _ _ (off666_eq (by omega)) _
    rw [hr4]
    sl_exec
    sl_step
    isplitr
    · ipureintro; exact ⟨rfl, rfl, rfl, rfl, rfl⟩
    isplitl [H6]; · iexact H6
    isplitl [H5]; · iexact H5
    isplitl [H0]; · iexact H0
    isplitl [HF_dst]; · iexists _; iexact HF_dst
    isplitl [HF]; · iexact HF
    isplitl [HF_src HR]
    · iapply (wtok_join c W ⟨s, hs⟩ ⟨ex sz j, ex_lt j⟩ ⟨n, hn⟩)
      isplitl [HF_src]; · iexact HF_src
      iexact HR
    isplitl [HB]; · iexact HB
    iexists _
    iexact HD
end

end Cert.Proof.KernelIdeal
-- ==== Proof.Tables.lean ====
/-
  The two tables the kernel fills first: where each group begins, and which groups have rows.
-/
module

public import proofs.«01_k».proof.Proof.Chunks
public import proofs.«01_k».proof.Proof.First

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (sz : ℕ → ℕ) (c : Dev nD)

/-- The first `k` entries of the table of first rows are right. -/
def T5up (k : ℕ) (f : Buf (Elt F) (a5.view.loc (c : Thread nD τ))) : Prop :=
  ∀ y : S9.Idx, (y 0).val < k → a5.view.read (Elt F) f y = wd (start sz (y 0).val)
/-- The table of groups is right for the groups below `k`. -/
def T6up (k : ℕ) (f : Buf (Elt F) (a6.view.loc (c : Thread nD τ))) : Prop :=
  ∀ e, e < k → 0 < sz e → ∀ y : S10.Idx, (y 0).val = cnt sz e → a6.view.read (Elt F) f y = wd e

omit [FloatOps F] in
theorem T5up_zero (f) : T5up (F := F) sz c 0 f := fun y h => absurd h (by omega)
omit [FloatOps F] in
theorem T6up_zero (f) : T6up (F := F) sz c 0 f := fun e h => absurd h (by omega)

omit [FloatOps F] in
theorem T5up_step {k : ℕ} {f} {L} (h : T5up (F := F) sz c k (a5.view.writes (Elt F) f L)) {o : Fin 1 → ℕ} (hi : ∀ a, o a + S1.size a ≤ S9.size a) (ho : o = ![k])
    {w : BitVec 32} (hw : w = wd (start sz k)) :
    T5up (F := F) sz c (k + 1) (a5.view.writes (Elt F) f (⟨Rect.unit (s := S9) o S1.size hi, fun _ => w⟩ :: L)) := by
  intro y hy
  by_cases e : (y 0).val = k
  · rw [View.read_writes_cons_unit_of_mem a5.view f hi (fun _ => w) L y (fun a => ⟨0, by fin_cases a; exact Nat.one_pos⟩) ho (by intro a; fin_cases a; exact e), e, hw]
  · rw [View.read_writes_cons_unit_of_not_mem a5.view f hi (fun _ => w) L y ho 0 (Or.inl (by show (y 0).val < k; omega))]
    exact h y (by omega)
omit [FloatOps F] in
theorem T6up_step {k : ℕ} {f} {L} (h : T6up (F := F) sz c k (a6.view.writes (Elt F) f L)) {o : Fin 1 → ℕ} (hi : ∀ a, o a + S1.size a ≤ S10.size a) (ho : o = ![cnt sz k])
    {w : BitVec 32} (hw : w = wd k) :
    T6up (F := F) sz c (k + 1) (a6.view.writes (Elt F) f (⟨Rect.unit (s := S10) o S1.size hi, fun _ => w⟩ :: L)) := by
  intro e he hp y hy
  by_cases e' : e = k
  · subst e'
    rw [View.read_writes_cons_unit_of_mem a6.view f hi (fun _ => w) L y (fun a => ⟨0, by fin_cases a; exact Nat.one_pos⟩) ho (by intro a; fin_cases a; exact hy), hw]
  · have hm : cnt sz (e + 1) ≤ cnt sz k := cnt_mono (by omega)
    have := cnt_succ (sz := sz) e
    rw [if_pos hp] at this
    rw [View.read_writes_cons_unit_of_not_mem a6.view f hi (fun _ => w) L y ho 0 (Or.inl (by show (y 0).val < cnt sz k; omega))]
    exact h e (by omega) hp y hy
omit [FloatOps F] in
theorem T5_of {f} (h : T5up (F := F) sz c 9 f) : T5 (F := F) sz c f := by
  intro e he o hi ho x
  subst ho
  have := h ((Rect.unit (s := S9) ![e] S1.size hi).emb x) (by show e + 1 * (x 0).val < 9; have := (x 0).isLt; change (x 0).val < 1 at this; omega)
  refine this.trans ?_
  show wd (start sz (e + 1 * (x 0).val)) = _
  have := (x 0).isLt; change (x 0).val < 1 at this
  rw [show e + 1 * (x 0).val = e by omega]
omit [FloatOps F] in
theorem T6_of {f} (h : T6up (F := F) sz c 9 f) : T6 (F := F) sz c f := by
  intro j hj o hi ho x
  subst ho
  obtain ⟨h9, hp, hc⟩ := ex_spec hj
  have := (x 0).isLt; change (x 0).val < 1 at this
  exact h (ex sz j) h9 hp ((Rect.unit (s := S10) ![j] S1.size hi).emb x) (by show j + 1 * (x 0).val = _; omega)

variable (hs : ∀ e, e < 9 → sz e ≤ 768)
include hs
theorem cnt9 (k : ℕ) (hk : k ≤ 9) : cnt sz k < 10 := by have := cnt_le (sz := sz) k; omega
theorem off1_eq : k0_off1 (wd (sz 0)) = ![cnt sz 1] := by
  have e : (Scalar.addi (wd (cnt sz 0)) (Scalar.extui (Scalar.cmpi .sgt (wd (sz 0)) 0#32))) = wd (cnt sz 1) := by rw [wcnt hs 0 (by omega)]
  show ![((Scalar.addi (wd (cnt sz 0)) (Scalar.extui (Scalar.cmpi .sgt (wd (sz 0)) 0#32)))).toNat] = _
  rw [e, wnat (by have := cnt9 sz hs 1 (by omega); omega)]
theorem chk1 : k0_chk1 (wd (sz 0)) := by
  intro a
  rw [off1_eq sz hs]
  have := cnt9 sz hs 1 (by omega)
  fin_cases a; show cnt sz 1 + 1 ≤ 10; omega
theorem off2_eq : k0_off2 (wd (sz 0)) (wd (sz 1)) = ![cnt sz 2] := by
  have e : (Scalar.addi (Scalar.addi (wd (cnt sz 0)) (Scalar.extui (Scalar.cmpi .sgt (wd (sz 0)) 0#32))) (Scalar.extui (Scalar.cmpi .sgt (wd (sz 1)) 0#32))) = wd (cnt sz 2) := by rw [wcnt hs 0 (by omega), wcnt hs 1 (by omega)]
  show ![((Scalar.addi (Scalar.addi (wd (cnt sz 0)) (Scalar.extui (Scalar.cmpi .sgt (wd (sz 0)) 0#32))) (Scalar.extui (Scalar.cmpi .sgt (wd (sz 1)) 0#32)))).toNat] = _
  rw [e, wnat (by have := cnt9 sz hs 2 (by omega); omega)]
theorem chk2 : k0_chk2 (wd (sz 0)) (wd (sz 1)) := by
  intro a
  rw [off2_eq sz hs]
  have := cnt9 sz hs 2 (by omega)
  fin_cases a; show cnt sz 2 + 1 ≤ 10; omega
theorem off3_eq : k0_off3 (wd (sz 0)) (wd (sz 1)) (wd (sz 2)) = ![cnt sz 3] := by
  have e : (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) = wd (cnt sz 3) := by rw [wcnt hs 0 (by omega), wcnt hs 1 (by omega), wcnt hs 2 (by omega)]
  show ![((Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32)))).toNat] = _
  rw [e, wnat (by have := cnt9 sz hs 3 (by omega); omega)]
theorem chk3 : k0_chk3 (wd (sz 0)) (wd (sz 1)) (wd (sz 2)) := by
  intro a
  rw [off3_eq sz hs]
  have := cnt9 sz hs 3 (by omega)
  fin_cases a; show cnt sz 3 + 1 ≤ 10; omega
theorem off4_eq : k0_off4 (wd (sz 0)) (wd (sz 1)) (wd (sz 2)) (wd (sz 3)) = ![cnt sz 4] := by
  have e : (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) = wd (cnt sz 4) := by rw [wcnt hs 0 (by omega), wcnt hs 1 (by omega), wcnt hs 2 (by omega), wcnt hs 3 (by omega)]
  show ![((Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32)))).toNat] = _
  rw [e, wnat (by have := cnt9 sz hs 4 (by omega); omega)]
theorem chk4 : k0_chk4 (wd (sz 0)) (wd (sz 1)) (wd (sz 2)) (wd (sz 3)) := by
  intro a
  rw [off4_eq sz hs]
  have := cnt9 sz hs 4 (by omega)
  fin_cases a; show cnt sz 4 + 1 ≤ 10; omega
theorem off5_eq : k0_off5 (wd (sz 0)) (wd (sz 1)) (wd (sz 2)) (wd (sz 3)) (wd (sz 4)) = ![cnt sz 5] := by
  have e : (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) = wd (cnt sz 5) := by rw [wcnt hs 0 (by omega), wcnt hs 1 (by omega), wcnt hs 2 (by omega), wcnt hs 3 (by omega), wcnt hs 4 (by omega)]
  show ![((Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32)))).toNat] = _
  rw [e, wnat (by have := cnt9 sz hs 5 (by omega); omega)]
theorem chk5 : k0_chk5 (wd (sz 0)) (wd (sz 1)) (wd (sz 2)) (wd (sz 3)) (wd (sz 4)) := by
  intro a
  rw [off5_eq sz hs]
  have := cnt9 sz hs 5 (by omega)
  fin_cases a; show cnt sz 5 + 1 ≤ 10; omega
theorem off6_eq : k0_off6 (wd (sz 0)) (wd (sz 1)) (wd (sz 2)) (wd (sz 3)) (wd (sz 4)) (wd (sz 5)) = ![cnt sz 6] := by
  have e : (Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32))) = wd (cnt sz 6) := by rw [wcnt hs 0 (by omega), wcnt hs 1 (by omega), wcnt hs 2 (by omega), wcnt hs 3 (by omega), wcnt hs 4 (by omega), wcnt hs 5 (by omega)]
  show ![((Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32)))).toNat] = _
  rw [e, wnat (by have := cnt9 sz hs 6 (by omega); omega)]
theorem chk6 : k0_chk6 (wd (sz 0)) (wd (sz 1)) (wd (sz 2)) (wd (sz 3)) (wd (sz 4)) (wd (sz 5)) := by
  intro a
  rw [off6_eq sz hs]
  have := cnt9 sz hs 6 (by omega)
  fin_cases a; show cnt sz 6 + 1 ≤ 10; omega
theorem off7_eq : k0_off7 (wd (sz 0)) (wd (sz 1)) (wd (sz 2)) (wd (sz 3)) (wd (sz 4)) (wd (sz 5)) (wd (sz 6)) = ![cnt sz 7] := by
  have e : (Scalar.addi (Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32))) (Scalar.extui (Scalar.cmpi .sgt (wd (sz 6)) 0#32))) = wd (cnt sz 7) := by rw [wcnt hs 0 (by omega), wcnt hs 1 (by omega), wcnt hs 2 (by omega), wcnt hs 3 (by omega), wcnt hs 4 (by omega), wcnt hs 5 (by omega), wcnt hs 6 (by omega)]
  show ![((Scalar.addi (Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32))) (Scalar.extui (Scalar.cmpi .sgt (wd (sz 6)) 0#32)))).toNat] = _
  rw [e, wnat (by have := cnt9 sz hs 7 (by omega); omega)]
theorem chk7 : k0_chk7 (wd (sz 0)) (wd (sz 1)) (wd (sz 2)) (wd (sz 3)) (wd (sz 4)) (wd (sz 5)) (wd (sz 6)) := by
  intro a
  rw [off7_eq sz hs]
  have := cnt9 sz hs 7 (by omega)
  fin_cases a; show cnt sz 7 + 1 ≤ 10; omega
theorem off8_eq : k0_off8 (wd (sz 0)) (wd (sz 1)) (wd (sz 2)) (wd (sz 3)) (wd (sz 4)) (wd (sz 5)) (wd (sz 6)) (wd (sz 7)) = ![cnt sz 8] := by
  have e : (Scalar.addi (Scalar.addi (Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32))) (Scalar.extui (Scalar.cmpi .sgt (wd (sz 6)) 0#32))) (Scalar.extui (Scalar.cmpi .sgt (wd (sz 7)) 0#32))) = wd (cnt sz 8) := by rw [wcnt hs 0 (by omega), wcnt hs 1 (by omega), wcnt hs 2 (by omega), wcnt hs 3 (by omega), wcnt hs 4 (by omega), wcnt hs 5 (by omega), wcnt hs 6 (by omega), wcnt hs 7 (by omega)]
  show ![((Scalar.addi (Scalar.addi (Scalar.addi (Scalar.addi (Scalar.addi (Scalar.addi (Scalar.addi (Scalar.addi (wd (cnt sz 0)) (Scalar.extui (Scalar.cmpi .sgt (wd (sz 0)) 0#32))) (Scalar.extui (Scalar.cmpi .sgt (wd (sz 1)) 0#32))) (Scalar.extui (Scalar.cmpi .sgt (wd (sz 2)) 0#32))) (Scalar.extui (Scalar.cmpi .sgt (wd (sz 3)) 0#32))) (Scalar.extui (Scalar.cmpi .sgt (wd (sz 4)) 0#32))) (Scalar.extui (Scalar.cmpi .sgt (wd (sz 5)) 0#32))) (Scalar.extui (Scalar.cmpi .sgt (wd (sz 6)) 0#32))) (Scalar.extui (Scalar.cmpi .sgt (wd (sz 7)) 0#32)))).toNat] = _
  rw [e, wnat (by have := cnt9 sz hs 8 (by omega); omega)]
theorem chk8 : k0_chk8 (wd (sz 0)) (wd (sz 1)) (wd (sz 2)) (wd (sz 3)) (wd (sz 4)) (wd (sz 5)) (wd (sz 6)) (wd (sz 7)) := by
  intro a
  rw [off8_eq sz hs]
  have := cnt9 sz hs 8 (by omega)
  fin_cases a; show cnt sz 8 + 1 ≤ 10; omega
end

section
variable (sz : ℕ → ℕ) (hf : Fits sz) (c : Dev nD) (arg0 : Memref sig .tc .smem S9 .i32) (harg0 : arg0.IsWhole)
  (arg3 : Memref sig .tc .vmem S9x3072 .f32) (harg3 : arg3.IsWhole)
/-- The table of first rows held. -/
abbrev t5P (f : Buf (Elt F) (a5.view.loc (c : Thread nD τ))) : sProp 𝕄 := a5.view.loc (c : Thread nD τ) ↦[a5.view.set]{fullShare} f
/-- The table of groups held. -/
abbrev t6P (f : Buf (Elt F) (a6.view.loc (c : Thread nD τ))) : sProp 𝕄 := a6.view.loc (c : Thread nD τ) ↦[a6.view.set]{fullShare} f
variable (f0 : Buf (Elt F) (arg0.view.loc (c : Thread nD τ))) (h0 : T0 (F := F) sz c arg0 f0)
omit [FloatOps F] in
theorem sig150 {a a' b b' d d' e e' : BitVec 32} (h : k0_chk2 a d) (ea : a = a') (eb : b = b') (ed : d = d') (ee : e = e') :
    ∃ h', (⟨a, b, d, h, e⟩ : Σ' (v36 : Elt F .i32) (v44 : BitVec 32) (v45 : Elt F .i32) (k0_hw2 : k0_chk2 v36 v45), BitVec 32) = ⟨a', b', d', h', e'⟩ := by
  subst ea; subst eb; subst ed; subst ee; exact ⟨h, rfl⟩
omit [FloatOps F] in
theorem sig152 {w0 w1 w2 w3 w4 w5 a a' b b' d d' e e' g g' : BitVec 32} (h : k0_chk12 w0 w1 w2 w3 w4 w5 a b d) (ea : a = a') (eb : b = b') (ed : d = d') (ee : e = e') (eg : g = g') :
    ∃ h', (⟨a, b, d, h, e, g, 0#32, 0#32, 0#32⟩ : Σ' (v90 : Elt F .i32) (v99 : Elt F .i32) (v106 : Elt F .i32) (k0_hw12 : k0_chk12 w0 w1 w2 w3 w4 w5 v90 v99 v106)
        (v109 : BitVec 32) (v110 : BitVec 32) (c0_i32_64 : BitVec 32) (c0_i32_65 : BitVec 32), BitVec 32) = ⟨a', b', d', h', e', g', 0#32, 0#32, 0#32⟩ := by
  subst ea; subst eb; subst ed; subst ee; subst eg; exact ⟨h, rfl⟩
include h0 hf

set_option maxHeartbeats 4000000 in
set_option maxRecDepth 100000 in

theorem part150 (f5 f6 f7 x) :
    iprop(p0 c arg0 f0 ∗ t5P c f5 ∗ t6P c f6 ∗ (xsrcP c 6 x ∗ xdstP c 6 f7 ∗ xcell c 6) ∗ (xsrcP c 7 x ∗ xdstP c 7 f7 ∗ xcell c 7))
      ⊢ wp frame (wpE (defs₀ (F := F)) 𝒱₀ (c : Thread nD τ) none) Set.univ
        (k0_part150 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9)
        (fun r => iprop(⌜∃ h, r = ⟨wd (sz 0), wd (start sz 2), wd (sz 1), h, wd (cnt sz 2)⟩⌝ ∗ p0 c arg0 f0
          ∗ (∃ f, ⌜T5up sz c 3 f⌝ ∗ t5P c f) ∗ (∃ f, ⌜T6up sz c 2 f⌝ ∗ t6P c f) ∗ xflight c 6 f7 x ∗ xflight c 7 f7 x)) := by
  have hs : ∀ e, e < 9 → sz e ≤ 768 := fun e he => sz_le hf he
  rw [k0_part150_eq_skeleton]
  iintro ⟨H0, H5, H6, ⟨Hs6, Hd6, Hc6⟩, ⟨Hs7, Hd7, Hc7⟩⟩
  sl_unfold [k0_part150_skel]
  sl_exec
  sl_step
  have e2 : part150.sl.r_2 c arg0 f0 = wd (sz 0) := h0 0 (by omega) ![0] inb_S9_S1_0 rfl (fun a => ⟨0, by fin_cases a; exact Nat.one_pos⟩)
  have e5 : part150.sl.r_5 c arg0 f0 = wd (sz 1) := h0 1 (by omega) ![1] inb_S9_S1_1 rfl (fun a => ⟨0, by fin_cases a; exact Nat.one_pos⟩)
  have e35 : part150.sl.v35 c arg0 f0 = wd (start sz 1) := (congrArg (Scalar.addi (wd 0)) (h0 0 (by omega) ![0] inb_S9_S1_0 rfl (fun a => ⟨0, by fin_cases a; exact Nat.one_pos⟩))).trans (wadd _ _)
  have e44 : part150.sl.v44 c arg0 f0 = wd (start sz 2) :=
    (congrArg₂ Scalar.addi e35 (h0 1 (by omega) ![1] inb_S9_S1_1 rfl (fun a => ⟨0, by fin_cases a; exact Nat.one_pos⟩))).trans (wadd _ _)
  have e48 : part150.sl.v48 c arg0 f0 = wd (cnt sz 2) := by
    rw [← wcnt hs 1 (by omega), ← wcnt hs 0 (by omega), ← e2, ← e5]; rfl
  isplitr
  · ipureintro
    exact sig150 (by rw [e2, e5]; exact chk2 sz hs) e2 e44 e5 e48
  isplitl [H0]
  · iexact H0
  isplitl [H5]
  · iexists _
    isplitr
    · ipureintro
      exact T5up_step sz c (T5up_step sz c (T5up_step (f := f5) (L := []) sz c (T5up_zero sz c _) inb_S9_S1_0 rfl rfl) inb_S9_S1_1 rfl e35) inb_S9_S1_2 rfl e44
    · iexact H5
  isplitl [H6]
  · iexists _
    isplitr
    · ipureintro
      exact T6up_step sz c (T6up_step (f := f6) (L := []) sz c (T6up_zero sz c _) inb_S10_S1_0 rfl rfl) (k0_off1_inb (part150.sl.r_2 c arg0 f0) (by rw [e2]; exact chk1 sz hs)) (by rw [e2]; exact off1_eq sz hs) rfl
    · iexact H6
  isplitl [Hc6]
  · iexact Hc6
  · iexact Hc7

set_option maxHeartbeats 4000000 in
set_option maxRecDepth 100000 in
theorem part151 (f5 f6 h) (h5 : T5up sz c 3 f5) (h6 : T6up sz c 2 f6) :
    iprop(p0 c arg0 f0 ∗ t5P c f5 ∗ t6P c f6)
      ⊢ wp frame (wpE (defs₀ (F := F)) 𝒱₀ (c : Thread nD τ) none) Set.univ
        (k0_part151 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (start sz 2)) (wd (sz 1)) h (wd (cnt sz 2)))
        (fun r => iprop(⌜r = ⟨wd (sz 2), wd (sz 3), wd (sz 4), wd (cnt sz 5), wd (start sz 6), wd (sz 5)⟩⌝ ∗ p0 c arg0 f0
          ∗ (∃ f, ⌜T5up sz c 6 f⌝ ∗ t5P c f) ∗ (∃ f, ⌜T6up sz c 6 f⌝ ∗ t6P c f))) := by
  have hs : ∀ e, e < 9 → sz e ≤ 768 := fun e he => sz_le hf he
  rw [k0_part151_eq_skeleton]
  iintro ⟨H0, H5, H6⟩
  sl_unfold [k0_part151_skel]
  sl_exec
  sl_step
  have z2 : part151.sl.r_1 c arg0 f0 = wd (sz 2) := h0 2 (by omega) ![2] inb_S9_S1_2 rfl (fun a => ⟨0, by fin_cases a; exact Nat.one_pos⟩)
  have z3 : part151.sl.r_4 c arg0 f0 = wd (sz 3) := h0 3 (by omega) ![3] inb_S9_S1_3 rfl (fun a => ⟨0, by fin_cases a; exact Nat.one_pos⟩)
  have z4 : part151.sl.r_7 c arg0 f0 = wd (sz 4) := h0 4 (by omega) ![4] inb_S9_S1_4 rfl (fun a => ⟨0, by fin_cases a; exact Nat.one_pos⟩)
  have z5 : part151.sl.r_10 c arg0 f0 = wd (sz 5) := h0 5 (by omega) ![5] inb_S9_S1_5 rfl (fun a => ⟨0, by fin_cases a; exact Nat.one_pos⟩)
  have s3 : part151.sl.v53 sz c arg0 f0 = wd (start sz 3) := (congrArg₂ Scalar.addi (rfl : wd (start sz 2) = _) z2).trans (wadd _ _)
  have s4 : part151.sl.v62 sz c arg0 f0 = wd (start sz 4) := (congrArg₂ Scalar.addi s3 z3).trans (wadd _ _)
  have s5 : part151.sl.v71 sz c arg0 f0 = wd (start sz 5) := (congrArg₂ Scalar.addi s4 z4).trans (wadd _ _)
  have s6 : part151.sl.v80 sz c arg0 f0 = wd (start sz 6) := (congrArg₂ Scalar.addi s5 z5).trans (wadd _ _)
  have n5 : part151.sl.v75 sz c arg0 f0 = wd (cnt sz 5) := by
    rw [← wcnt hs 4 (by omega), ← wcnt hs 3 (by omega), ← wcnt hs 2 (by omega), ← z2, ← z3, ← z4]; rfl
  isplitr
  · ipureintro
    rw [z2, z3, z4, n5, s6, z5]
  isplitl [H0]
  · iexact H0
  isplitl [H5]
  · iexists _
    isplitr
    · ipureintro
      exact (T5up_step sz c (T5up_step sz c (T5up_step (L := []) sz c h5 inb_S9_S1_3 rfl s3) inb_S9_S1_4 rfl s4) inb_S9_S1_5 rfl s5)
    · iexact H5
  · iexists _
    isplitr
    · ipureintro
      exact (T6up_step sz c (T6up_step sz c (T6up_step sz c (T6up_step (L := []) sz c h6 (o := k0_off2 (wd (sz 0)) (wd (sz 1))) (k0_off2_inb (wd (sz 0)) (wd (sz 1)) (by exact chk2 sz hs)) (by exact off2_eq sz hs) rfl) (o := k0_off3 (wd (sz 0)) (wd (sz 1)) (part151.sl.r_1 c arg0 f0)) (k0_off3_inb (wd (sz 0)) (wd (sz 1)) (part151.sl.r_1 c arg0 f0) (by rw [z2]; exact chk3 sz hs)) (by rw [z2]; exact off3_eq sz hs) rfl) (o := k0_off4 (wd (sz 0)) (wd (sz 1)) (part151.sl.r_1 c arg0 f0) (part151.sl.r_4 c arg0 f0)) (k0_off4_inb (wd (sz 0)) (wd (sz 1)) (part151.sl.r_1 c arg0 f0) (part151.sl.r_4 c arg0 f0) (by rw [z2, z3]; exact chk4 sz hs)) (by rw [z2, z3]; exact off4_eq sz hs) rfl) (o := k0_off5 (wd (sz 0)) (wd (sz 1)) (part151.sl.r_1 c arg0 f0) (part151.sl.r_4 c arg0 f0) (part151.sl.r_7 c arg0 f0)) (k0_off5_inb (wd (sz 0)) (wd (sz 1)) (part151.sl.r_1 c arg0 f0) (part151.sl.r_4 c arg0 f0) (part151.sl.r_7 c arg0 f0) (by rw [z2, z3, z4]; exact chk5 sz hs)) (by rw [z2, z3, z4]; exact off5_eq sz hs) rfl)
    · iexact H6

set_option maxHeartbeats 4000000 in
set_option maxRecDepth 100000 in
theorem part152 (f5 f6) (h5 : T5up sz c 6 f5) (h6 : T6up sz c 6 f6) :
    iprop(p0 c arg0 f0 ∗ t5P c f5 ∗ t6P c f6)
      ⊢ wp frame (wpE (defs₀ (F := F)) 𝒱₀ (c : Thread nD τ) none) Set.univ
        (k0_part152 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (cnt sz 5)) (wd (start sz 6)) (wd (sz 5)))
        (fun r => iprop(⌜∃ h, r = ⟨wd (sz 6), wd (sz 7), wd (sz 8), h, wd (act sz), wd (6 * act sz), 0#32, 0#32, 0#32⟩⌝ ∗ p0 c arg0 f0
          ∗ (∃ f, ⌜T5 sz c f⌝ ∗ t5P c f) ∗ (∃ f, ⌜T6 sz c f⌝ ∗ t6P c f))) := by
  have hs : ∀ e, e < 9 → sz e ≤ 768 := fun e he => sz_le hf he
  rw [k0_part152_eq_skeleton]
  iintro ⟨H0, H5, H6⟩
  sl_unfold [k0_part152_skel]
  sl_exec
  sl_step
  have z6 : part152.sl.r_2 c arg0 f0 = wd (sz 6) := h0 6 (by omega) ![6] inb_S9_S1_6 rfl (fun a => ⟨0, by fin_cases a; exact Nat.one_pos⟩)
  have z7 : part152.sl.r_5 c arg0 f0 = wd (sz 7) := h0 7 (by omega) ![7] inb_S9_S1_7 rfl (fun a => ⟨0, by fin_cases a; exact Nat.one_pos⟩)
  have z8 : part152.sl.r_8 c arg0 f0 = wd (sz 8) := h0 8 (by omega) ![8] inb_S9_S1_8 rfl (fun a => ⟨0, by fin_cases a; exact Nat.one_pos⟩)
  have s6 : wd (start sz 6) = wd (start sz 6) := rfl
  have s7 : part152.sl.v89 sz c arg0 f0 = wd (start sz 7) := (congrArg₂ Scalar.addi s6 z6).trans (wadd _ _)
  have s8 : part152.sl.v98 sz c arg0 f0 = wd (start sz 8) := (congrArg₂ Scalar.addi s7 z7).trans (wadd _ _)
  have n9 : part152.sl.v109 sz c arg0 f0 = wd (act sz) := by
    show _ = wd (cnt sz 9)
    rw [← wcnt hs 8 (by omega), ← wcnt hs 7 (by omega), ← wcnt hs 6 (by omega), ← wcnt hs 5 (by omega), ← z6, ← z7, ← z8]; rfl
  have n10 : part152.sl.v110 sz c arg0 f0 = wd (6 * act sz) := by
    rw [show 6 * act sz = act sz * 6 from Nat.mul_comm _ _, ← wmul, ← n9]; rfl
  isplitr
  · ipureintro
    exact sig152 (by rw [z6, z7, z8]; exact chk12 sz hf) z6 z7 z8 n9 n10
  isplitl [H0]
  · iexact H0
  isplitl [H5]
  · iexists _
    isplitr
    · ipureintro
      exact T5_of sz c (T5up_step sz c (T5up_step sz c (T5up_step (L := []) sz c h5 inb_S9_S1_6 rfl s6) inb_S9_S1_7 rfl s7) inb_S9_S1_8 rfl s8)
    · iexact H5
  · iexists _
    isplitr
    · ipureintro
      exact T6_of sz c (T6up_step sz c (T6up_step sz c (T6up_step (L := []) sz c h6 (o := k0_off6 (wd (sz 0)) (wd (sz 1)) (wd (sz 2)) (wd (sz 3)) (wd (sz 4)) (wd (sz 5))) (k0_off6_inb (wd (sz 0)) (wd (sz 1)) (wd (sz 2)) (wd (sz 3)) (wd (sz 4)) (wd (sz 5)) (by exact chk6 sz hs)) (by exact off6_eq sz hs) rfl) (o := k0_off7 (wd (sz 0)) (wd (sz 1)) (wd (sz 2)) (wd (sz 3)) (wd (sz 4)) (wd (sz 5)) (part152.sl.r_2 c arg0 f0)) (k0_off7_inb (wd (sz 0)) (wd (sz 1)) (wd (sz 2)) (wd (sz 3)) (wd (sz 4)) (wd (sz 5)) (part152.sl.r_2 c arg0 f0) (by rw [z6]; exact chk7 sz hs)) (by rw [z6]; exact off7_eq sz hs) rfl) (o := k0_off8 (wd (sz 0)) (wd (sz 1)) (wd (sz 2)) (wd (sz 3)) (wd (sz 4)) (wd (sz 5)) (part152.sl.r_2 c arg0 f0) (part152.sl.r_5 c arg0 f0)) (k0_off8_inb (wd (sz 0)) (wd (sz 1)) (wd (sz 2)) (wd (sz 3)) (wd (sz 4)) (wd (sz 5)) (part152.sl.r_2 c arg0 f0) (part152.sl.r_5 c arg0 f0) (by rw [z6, z7]; exact chk8 sz hs)) (by rw [z6, z7]; exact off8_eq sz hs) rfl)
    · iexact H6
end
end Cert.Proof.KernelIdeal
-- ==== Proof.Second.lean ====
/-
  One step of the main loop, from the group's gains to the transfers it starts.
-/
module

public import proofs.«01_k».proof.Proof.First

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

theorem base_le (l : ℕ) : base l ≤ l := Nat.sub_le _ _
theorem tiles_cover (l z : ℕ) (h : l + z ≤ 768) : l + z ≤ base l + tiles l z * 128 := by
  have := base_le l
  unfold tiles
  omega

section
variable (Spec : SpecT F) (sz : ℕ → ℕ) (hf : Fits sz) (c : Dev nD)
  (arg0 : Memref sig .tc .smem S9 .i32) (harg0 : arg0.IsWhole) (arg3 : Memref sig .tc .vmem S9x3072 .f32) (harg3 : arg3.IsWhole)
  (f8 : Buf (Elt F) (a8.view.loc (c : Thread nD τ))) (f9 : Buf (Elt F) (a9.view.loc (c : Thread nD τ)))
  (W : Buf (Elt F) (a2.view.loc (c : Thread nD τ))) (WS : Buf (Elt F) (arg3.view.loc (c : Thread nD τ)))
  (f6 : Buf (Elt F) (a6.view.loc (c : Thread nD τ))) (h6 : T6 sz c f6) (hpay : PayOK Spec sz c arg3 f8 f9 W WS)
  (j n s j2 n2 : ℕ) (hj : j < act sz) (hn : n < 6) (hs : s < 12) (hj2 : j2 < act sz) (hn2 : n2 < 6) (i : Fin (Loop10 sz).trips)
  (v109 v110 : BitVec 32)
  (k20 : k0_chk20 (wd (sz 0)) (wd (sz 1)) (wd (sz 2)) (wd (sz 3)) (wd (sz 4)) (wd (sz 5)) (wd (sz 6)) (wd (sz 7)) (wd (sz 8)) i (wd j2)) (k16 : k0_chk16 (wd (sz 0)) (wd (sz 1)) (wd (sz 2)) (wd (sz 3)) (wd (sz 4)) (wd (sz 5)) (wd (sz 6)) (wd (sz 7)) (wd (sz 8)) i (wd s)) (k15 : k0_chk15 (wd (sz 0)) (wd (sz 1)) (wd (sz 2)) (wd (sz 3)) (wd (sz 4)) (wd (sz 5)) (wd (sz 6)) (wd (sz 7)) (wd (sz 8)) (wd j) (wd n))
  (w15 v189 : BitVec 32) (k14 : k0_chk14 (wd n) (wd (ex sz j))) (k18 : k0_chk18 (wd n) (wd s) (wd (lo sz j)) (wd (sz (ex sz j)))) (c512 : BitVec 32)

/-- The next positions, as the second half of a step returns them. -/
abbrev nextWords (r : Σ' (_ : BitVec 32) (_ : BitVec 32) (_ : BitVec 1), BitVec 32) : Prop :=
  r.1 = Scalar.select (Scalar.cmpi .eq (Scalar.addi (wd j) 1#32) v109) 0#32 (Scalar.addi (wd j) 1#32)
    ∧ r.2.1 = Scalar.select (Scalar.cmpi .eq (Scalar.addi (wd j) 1#32) v109) (Scalar.addi (wd n) 1#32) (wd n)
    ∧ r.2.2.1 = Scalar.cmpi .eq (Scalar.addi (wd j2) 1#32) v109 ∧ r.2.2.2 = Scalar.addi (wd j2) 1#32

set_option backward.proofsInPublic true in
include hf h6 hj hj2 hpay hn hs hn2 in
theorem second_tt (c3 : i.val + 12 < steps sz) (c4 : j + 1 = act sz) :
    iprop(p6 c f6 ∗ p8 c f8 ∗ p9 c f9 ∗ p3 c arg3 WS ∗ (∃ f, slotP c ⟨s, hs⟩ (landed c W ⟨s, hs⟩ ⟨ex sz j, ex_lt j⟩ ⟨n, hn⟩ f)) ∗ cellP (F := F) c ⟨s, hs⟩ ∗ wtok c W ⟨s, hs⟩
        ∗ (∃ g, ⌜RowsOK Spec c n (p2 n) g (· < lo sz j)⌝ ∗ oP c (p2 n) g) ∗ cellO (F := F) c (p2 n) ∗ colRaw (F := F) c ⟨n, hn⟩ ∗ ow (F := F) c)
      ⊢ wp frame (wpE (defs₀ (F := F)) 𝒱₀ (c : Thread nD τ) none) Set.univ
        (k0_part146 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 i (wd j) (wd n) (wd j2) (wd n2) (wd s) k20 k16 k15 w15 v189 (wd (ex sz j)) k14 (wd (lo sz j)) (wd (sz (ex sz j))) k18
          (wend (lo sz j) (sz (ex sz j))) (wbase (lo sz j)) c512)
        (fun r => iprop(⌜nextWords j n j2 v109 r⌝ ∗ p6 c f6 ∗ p8 c f8 ∗ p9 c f9 ∗ p3 c arg3 WS ∗ busyS c W ⟨s, hs⟩ ⟨ex sz j2, ex_lt j2⟩ ⟨n2, hn2⟩ ∗ (busyO Spec c ⟨n, hn⟩ (p2 n)) ∗ ow (F := F) c)) := by
  have he : ex sz j < 9 := ex_lt j
  have he2 : ex sz j2 < 9 := ex_lt j2
  have hj9 : j < 9 := lt_of_lt_of_le hj act_le
  have hj29 : j2 < 9 := lt_of_lt_of_le hj2 act_le
  have hle : lo sz j + sz (ex sz j) ≤ 768 := hi_le hf j
  have k21 := chk21 (wd (sz 0)) (wd (sz 1)) (wd (sz 2)) (wd (sz 3)) (wd (sz 4)) (wd (sz 5)) (wd (sz 6)) (wd (sz 7)) (wd (sz 8)) i hn2 he2
  have h12 := trips12 hle
  have ht11 := trips11 hle
  have hc3 := (cond3_iff sz hf i).2 c3
  have hc4 := (cond4_iff sz hf hj).2 c4
  rw [k0_part146_eq_skeleton]
  unfold colRaw busyO
  iintro ⟨H6, H8, H9, H3, HS, HC, HW, ⟨%g, %hg, HO⟩, HOC, ⟨%fo, HK⟩, ⟨%D, HD⟩⟩
  sl_unfold [k0_part146_skel]
  sl_exec
  sl_for (fun k _ => res11 Spec sz c f8 f9 W j n s hn hs k) $$ [H8 H9 HS HO]
  case region =>
    intro k _
    exact trip11 Spec sz hf c arg0 harg0 arg3 harg3 f8 f9 W WS j n s hj hn hs v109 v110 i (wd j2) (wd n2) k20 k16 k15 w15 v189 k14 k18 c512 hpay k
  · unfold res11
    isplitl [H8]; · iexact H8
    isplitl [H9]; · iexact H9
    isplitl [HS]; · iexact HS
    iexists g
    isplitr
    · ipureintro; exact RowsOK.mono Spec c hg fun r _ h => h.elim id fun (h : _ ∧ _ ∧ _) => absurd h.2.2 (by have := base_le (lo sz j); omega)
    iexact HO
  iintro %_ HI
  unfold res11
  icases HI with ⟨H8, H9, ⟨%f1, HS⟩, ⟨%g1, %hg1, HO⟩⟩
  have hg2 : RowsOK Spec c n (p2 n) g1 (· < hi sz j) := RowsOK.mono Spec c hg1 fun r _ h => by
    by_cases hr : r < lo sz j
    · exact Or.inl hr
    · refine Or.inr ⟨by omega, h, ?_⟩
      refine lt_of_lt_of_eq ?_ (congrArg (fun m => base (lo sz j) + m * 128) ht11.symm)
      show r < base (lo sz j) + tiles (lo sz j) (sz (ex sz j)) * 128
      have := tiles_cover (lo sz j) (sz (ex sz j)) (by omega)
      have e : hi sz j = lo sz j + sz (ex sz j) := rfl
      omega
  sl_for0 h12
  ihave HW := (wtok_split c W ⟨s, hs⟩ ⟨ex sz j2, ex_lt j2⟩ ⟨n2, hn2⟩) $$ HW
  icases HW with ⟨HWB, HWR⟩
  ihave HO := (oP_split (F := F) c (p2 n) g1) $$ HO
  icases HO with ⟨HO, HOR⟩
  sl_exec
  have hr : second_tt.sl.r sz c f6 j2 i k20 hc3 = wd (ex sz j2) := h6 j2 hj2 _ _ (off679_eq (by omega)) _
  rw [hr]
  sl_exec
  sl_step
  isplitr
  · ipureintro; exact ⟨rfl, rfl, rfl, rfl⟩
  isplitl [H6]; · iexact H6
  isplitl [H8]; · iexact H8
  isplitl [H9]; · iexact H9
  isplitl [H3]; · iexact H3
  isplitl [HC HWR]
  · unfold busyS
    isplitl [HC]
    · iexists _; iexact HC
    iexact HWR
  isplitl [HOC HOR]
  · iexists fo
    iexists g1
    isplitr
    · ipureintro
      rw [hi_last hf c4] at hg2
      exact hg2
    isplitl [HOC]; · iexact HOC
    iexact HOR
  iexists D; iexact HD

set_option backward.proofsInPublic true in
include hf h6 hj hj2 hpay hn hs hn2 in
theorem second_tf (c3 : i.val + 12 < steps sz) (c4 : ¬ j + 1 = act sz) :
    iprop(p6 c f6 ∗ p8 c f8 ∗ p9 c f9 ∗ p3 c arg3 WS ∗ (∃ f, slotP c ⟨s, hs⟩ (landed c W ⟨s, hs⟩ ⟨ex sz j, ex_lt j⟩ ⟨n, hn⟩ f)) ∗ cellP (F := F) c ⟨s, hs⟩ ∗ wtok c W ⟨s, hs⟩
        ∗ (∃ g, ⌜RowsOK Spec c n (p2 n) g (· < lo sz j)⌝ ∗ oP c (p2 n) g) ∗ cellO (F := F) c (p2 n) ∗ ow (F := F) c)
      ⊢ wp frame (wpE (defs₀ (F := F)) 𝒱₀ (c : Thread nD τ) none) Set.univ
        (k0_part146 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 i (wd j) (wd n) (wd j2) (wd n2) (wd s) k20 k16 k15 w15 v189 (wd (ex sz j)) k14 (wd (lo sz j)) (wd (sz (ex sz j))) k18
          (wend (lo sz j) (sz (ex sz j))) (wbase (lo sz j)) c512)
        (fun r => iprop(⌜nextWords j n j2 v109 r⌝ ∗ p6 c f6 ∗ p8 c f8 ∗ p9 c f9 ∗ p3 c arg3 WS ∗ busyS c W ⟨s, hs⟩ ⟨ex sz j2, ex_lt j2⟩ ⟨n2, hn2⟩ ∗ ((∃ g, ⌜RowsOK Spec c n (p2 n) g (· < hi sz j)⌝ ∗ oP c (p2 n) g) ∗ cellO (F := F) c (p2 n)) ∗ ow (F := F) c)) := by
  have he : ex sz j < 9 := ex_lt j
  have he2 : ex sz j2 < 9 := ex_lt j2
  have hj9 : j < 9 := lt_of_lt_of_le hj act_le
  have hj29 : j2 < 9 := lt_of_lt_of_le hj2 act_le
  have hle : lo sz j + sz (ex sz j) ≤ 768 := hi_le hf j
  have k21 := chk21 (wd (sz 0)) (wd (sz 1)) (wd (sz 2)) (wd (sz 3)) (wd (sz 4)) (wd (sz 5)) (wd (sz 6)) (wd (sz 7)) (wd (sz 8)) i hn2 he2
  have h12 := trips12 hle
  have ht11 := trips11 hle
  have hc3 := (cond3_iff sz hf i).2 c3
  have hc4 := mt (cond4_iff sz hf hj).1 c4
  rw [k0_part146_eq_skeleton]
  skip
  iintro ⟨H6, H8, H9, H3, HS, HC, HW, ⟨%g, %hg, HO⟩, HOC, ⟨%D, HD⟩⟩
  sl_unfold [k0_part146_skel]
  sl_exec
  sl_for (fun k _ => res11 Spec sz c f8 f9 W j n s hn hs k) $$ [H8 H9 HS HO]
  case region =>
    intro k _
    exact trip11 Spec sz hf c arg0 harg0 arg3 harg3 f8 f9 W WS j n s hj hn hs v109 v110 i (wd j2) (wd n2) k20 k16 k15 w15 v189 k14 k18 c512 hpay k
  · unfold res11
    isplitl [H8]; · iexact H8
    isplitl [H9]; · iexact H9
    isplitl [HS]; · iexact HS
    iexists g
    isplitr
    · ipureintro; exact RowsOK.mono Spec c hg fun r _ h => h.elim id fun (h : _ ∧ _ ∧ _) => absurd h.2.2 (by have := base_le (lo sz j); omega)
    iexact HO
  iintro %_ HI
  unfold res11
  icases HI with ⟨H8, H9, ⟨%f1, HS⟩, ⟨%g1, %hg1, HO⟩⟩
  have hg2 : RowsOK Spec c n (p2 n) g1 (· < hi sz j) := RowsOK.mono Spec c hg1 fun r _ h => by
    by_cases hr : r < lo sz j
    · exact Or.inl hr
    · refine Or.inr ⟨by omega, h, ?_⟩
      refine lt_of_lt_of_eq ?_ (congrArg (fun m => base (lo sz j) + m * 128) ht11.symm)
      show r < base (lo sz j) + tiles (lo sz j) (sz (ex sz j)) * 128
      have := tiles_cover (lo sz j) (sz (ex sz j)) (by omega)
      have e : hi sz j = lo sz j + sz (ex sz j) := rfl
      omega
  sl_for0 h12
  ihave HW := (wtok_split c W ⟨s, hs⟩ ⟨ex sz j2, ex_lt j2⟩ ⟨n2, hn2⟩) $$ HW
  icases HW with ⟨HWB, HWR⟩
  sl_exec
  have hr : second_tf.sl.r sz c f6 j2 i k20 hc3 = wd (ex sz j2) := h6 j2 hj2 _ _ (off679_eq (by omega)) _
  rw [hr]
  sl_exec
  sl_step
  isplitr
  · ipureintro; exact ⟨rfl, rfl, rfl, rfl⟩
  isplitl [H6]; · iexact H6
  isplitl [H8]; · iexact H8
  isplitl [H9]; · iexact H9
  isplitl [H3]; · iexact H3
  isplitl [HC HWR]
  · unfold busyS
    isplitl [HC]
    · iexists _; iexact HC
    iexact HWR
  isplitl [HO HOC]
  · isplitl [HO]
    · iexists g1
      isplitr
      · ipureintro; exact hg2
      iexact HO
    iexact HOC
  iexists D; iexact HD

set_option backward.proofsInPublic true in
include hf h6 hj hj2 hpay hn hs in
theorem second_ft (c3 : ¬ i.val + 12 < steps sz) (c4 : j + 1 = act sz) :
    iprop(p6 c f6 ∗ p8 c f8 ∗ p9 c f9 ∗ p3 c arg3 WS ∗ (∃ f, slotP c ⟨s, hs⟩ (landed c W ⟨s, hs⟩ ⟨ex sz j, ex_lt j⟩ ⟨n, hn⟩ f)) ∗ cellP (F := F) c ⟨s, hs⟩ ∗ wtok c W ⟨s, hs⟩
        ∗ (∃ g, ⌜RowsOK Spec c n (p2 n) g (· < lo sz j)⌝ ∗ oP c (p2 n) g) ∗ cellO (F := F) c (p2 n) ∗ colRaw (F := F) c ⟨n, hn⟩ ∗ ow (F := F) c)
      ⊢ wp frame (wpE (defs₀ (F := F)) 𝒱₀ (c : Thread nD τ) none) Set.univ
        (k0_part146 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 i (wd j) (wd n) (wd j2) (wd n2) (wd s) k20 k16 k15 w15 v189 (wd (ex sz j)) k14 (wd (lo sz j)) (wd (sz (ex sz j))) k18
          (wend (lo sz j) (sz (ex sz j))) (wbase (lo sz j)) c512)
        (fun r => iprop(⌜nextWords j n j2 v109 r⌝ ∗ p6 c f6 ∗ p8 c f8 ∗ p9 c f9 ∗ p3 c arg3 WS ∗ freeS c W ⟨s, hs⟩ ∗ (busyO Spec c ⟨n, hn⟩ (p2 n)) ∗ ow (F := F) c)) := by
  have he : ex sz j < 9 := ex_lt j
  have he2 : ex sz j2 < 9 := ex_lt j2
  have hj9 : j < 9 := lt_of_lt_of_le hj act_le
  have hj29 : j2 < 9 := lt_of_lt_of_le hj2 act_le
  have hle : lo sz j + sz (ex sz j) ≤ 768 := hi_le hf j
  skip
  have h12 := trips12 hle
  have ht11 := trips11 hle
  have hc3 := mt (cond3_iff sz hf i).1 c3
  have hc4 := (cond4_iff sz hf hj).2 c4
  rw [k0_part146_eq_skeleton]
  unfold colRaw busyO
  iintro ⟨H6, H8, H9, H3, HS, HC, HW, ⟨%g, %hg, HO⟩, HOC, ⟨%fo, HK⟩, ⟨%D, HD⟩⟩
  sl_unfold [k0_part146_skel]
  sl_exec
  sl_for (fun k _ => res11 Spec sz c f8 f9 W j n s hn hs k) $$ [H8 H9 HS HO]
  case region =>
    intro k _
    exact trip11 Spec sz hf c arg0 harg0 arg3 harg3 f8 f9 W WS j n s hj hn hs v109 v110 i (wd j2) (wd n2) k20 k16 k15 w15 v189 k14 k18 c512 hpay k
  · unfold res11
    isplitl [H8]; · iexact H8
    isplitl [H9]; · iexact H9
    isplitl [HS]; · iexact HS
    iexists g
    isplitr
    · ipureintro; exact RowsOK.mono Spec c hg fun r _ h => h.elim id fun (h : _ ∧ _ ∧ _) => absurd h.2.2 (by have := base_le (lo sz j); omega)
    iexact HO
  iintro %_ HI
  unfold res11
  icases HI with ⟨H8, H9, ⟨%f1, HS⟩, ⟨%g1, %hg1, HO⟩⟩
  have hg2 : RowsOK Spec c n (p2 n) g1 (· < hi sz j) := RowsOK.mono Spec c hg1 fun r _ h => by
    by_cases hr : r < lo sz j
    · exact Or.inl hr
    · refine Or.inr ⟨by omega, h, ?_⟩
      refine lt_of_lt_of_eq ?_ (congrArg (fun m => base (lo sz j) + m * 128) ht11.symm)
      show r < base (lo sz j) + tiles (lo sz j) (sz (ex sz j)) * 128
      have := tiles_cover (lo sz j) (sz (ex sz j)) (by omega)
      have e : hi sz j = lo sz j + sz (ex sz j) := rfl
      omega
  sl_for0 h12
  ihave HO := (oP_split (F := F) c (p2 n) g1) $$ HO
  icases HO with ⟨HO, HOR⟩
  sl_exec
  sl_step
  isplitr
  · ipureintro; exact ⟨rfl, rfl, rfl, rfl⟩
  isplitl [H6]; · iexact H6
  isplitl [H8]; · iexact H8
  isplitl [H9]; · iexact H9
  isplitl [H3]; · iexact H3
  isplitl [HC HW HS]
  · unfold freeS
    isplitl [HS]; · iexists _; iexact HS
    isplitl [HC]; · iexact HC
    iexact HW
  isplitl [HOC HOR]
  · iexists fo
    iexists g1
    isplitr
    · ipureintro
      rw [hi_last hf c4] at hg2
      exact hg2
    isplitl [HOC]; · iexact HOC
    iexact HOR
  iexists D; iexact HD

set_option backward.proofsInPublic true in
include hf h6 hj hj2 hpay hn hs in
theorem second_ff (c3 : ¬ i.val + 12 < steps sz) (c4 : ¬ j + 1 = act sz) :
    iprop(p6 c f6 ∗ p8 c f8 ∗ p9 c f9 ∗ p3 c arg3 WS ∗ (∃ f, slotP c ⟨s, hs⟩ (landed c W ⟨s, hs⟩ ⟨ex sz j, ex_lt j⟩ ⟨n, hn⟩ f)) ∗ cellP (F := F) c ⟨s, hs⟩ ∗ wtok c W ⟨s, hs⟩
        ∗ (∃ g, ⌜RowsOK Spec c n (p2 n) g (· < lo sz j)⌝ ∗ oP c (p2 n) g) ∗ cellO (F := F) c (p2 n) ∗ ow (F := F) c)
      ⊢ wp frame (wpE (defs₀ (F := F)) 𝒱₀ (c : Thread nD τ) none) Set.univ
        (k0_part146 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 i (wd j) (wd n) (wd j2) (wd n2) (wd s) k20 k16 k15 w15 v189 (wd (ex sz j)) k14 (wd (lo sz j)) (wd (sz (ex sz j))) k18
          (wend (lo sz j) (sz (ex sz j))) (wbase (lo sz j)) c512)
        (fun r => iprop(⌜nextWords j n j2 v109 r⌝ ∗ p6 c f6 ∗ p8 c f8 ∗ p9 c f9 ∗ p3 c arg3 WS ∗ freeS c W ⟨s, hs⟩ ∗ ((∃ g, ⌜RowsOK Spec c n (p2 n) g (· < hi sz j)⌝ ∗ oP c (p2 n) g) ∗ cellO (F := F) c (p2 n)) ∗ ow (F := F) c)) := by
  have he : ex sz j < 9 := ex_lt j
  have he2 : ex sz j2 < 9 := ex_lt j2
  have hj9 : j < 9 := lt_of_lt_of_le hj act_le
  have hj29 : j2 < 9 := lt_of_lt_of_le hj2 act_le
  have hle : lo sz j + sz (ex sz j) ≤ 768 := hi_le hf j
  skip
  have h12 := trips12 hle
  have ht11 := trips11 hle
  have hc3 := mt (cond3_iff sz hf i).1 c3
  have hc4 := mt (cond4_iff sz hf hj).1 c4
  rw [k0_part146_eq_skeleton]
  skip
  iintro ⟨H6, H8, H9, H3, HS, HC, HW, ⟨%g, %hg, HO⟩, HOC, ⟨%D, HD⟩⟩
  sl_unfold [k0_part146_skel]
  sl_exec
  sl_for (fun k _ => res11 Spec sz c f8 f9 W j n s hn hs k) $$ [H8 H9 HS HO]
  case region =>
    intro k _
    exact trip11 Spec sz hf c arg0 harg0 arg3 harg3 f8 f9 W WS j n s hj hn hs v109 v110 i (wd j2) (wd n2) k20 k16 k15 w15 v189 k14 k18 c512 hpay k
  · unfold res11
    isplitl [H8]; · iexact H8
    isplitl [H9]; · iexact H9
    isplitl [HS]; · iexact HS
    iexists g
    isplitr
    · ipureintro; exact RowsOK.mono Spec c hg fun r _ h => h.elim id fun (h : _ ∧ _ ∧ _) => absurd h.2.2 (by have := base_le (lo sz j); omega)
    iexact HO
  iintro %_ HI
  unfold res11
  icases HI with ⟨H8, H9, ⟨%f1, HS⟩, ⟨%g1, %hg1, HO⟩⟩
  have hg2 : RowsOK Spec c n (p2 n) g1 (· < hi sz j) := RowsOK.mono Spec c hg1 fun r _ h => by
    by_cases hr : r < lo sz j
    · exact Or.inl hr
    · refine Or.inr ⟨by omega, h, ?_⟩
      refine lt_of_lt_of_eq ?_ (congrArg (fun m => base (lo sz j) + m * 128) ht11.symm)
      show r < base (lo sz j) + tiles (lo sz j) (sz (ex sz j)) * 128
      have := tiles_cover (lo sz j) (sz (ex sz j)) (by omega)
      have e : hi sz j = lo sz j + sz (ex sz j) := rfl
      omega
  sl_for0 h12
  sl_exec
  sl_step
  isplitr
  · ipureintro; exact ⟨rfl, rfl, rfl, rfl⟩
  isplitl [H6]; · iexact H6
  isplitl [H8]; · iexact H8
  isplitl [H9]; · iexact H9
  isplitl [H3]; · iexact H3
  isplitl [HC HW HS]
  · unfold freeS
    isplitl [HS]; · iexists _; iexact HS
    isplitl [HC]; · iexact HC
    iexact HW
  isplitl [HO HOC]
  · isplitl [HO]
    · iexists g1
      isplitr
      · ipureintro; exact hg2
      iexact HO
    iexact HOC
  iexists D; iexact HD

end

end Cert.Proof.KernelIdeal
-- ==== Proof.Families.lean ====
/-
  The main loop: step `i` handles one group's rows of one column tile.
-/
module

public import proofs.«01_k».proof.Proof.Second

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (Spec : SpecT F) (sz : ℕ → ℕ) (c : Dev nD) (W : Buf (Elt F) (a2.view.loc (c : Thread nD τ)))

/-! ### What each slot and column piece holds before a step at position `j`, column tile `n` -/

/-- The step whose block is next in slot `s` at step `i`. -/
abbrev nxt (i : ℕ) (s : Fin 12) : ℕ := i + (s.val + 12 - i % 12) % 12
def ringS (i : ℕ) (s : Fin 12) : sProp 𝕄 :=
  if nxt i s < steps sz then busyS c W s (eF sz (nxt i s)) (nF sz (nxt i s)) else freeS c W s
omit [FloatOps F] in
theorem ringS_ne (i : ℕ) (s : Fin 12) (h : s ≠ ⟨i % 12, Nat.mod_lt _ (by decide)⟩) : ringS (F := F) sz c W i s = ringS sz c W (i + 1) s := by
  have h' : s.val ≠ i % 12 := fun e => h (Fin.ext e)
  have := s.isLt
  have e : nxt i s = nxt (i + 1) s := by unfold nxt; omega
  unfold ringS; rw [e]
omit [FloatOps F] in
theorem ringS_at (i : ℕ) (hi : i < steps sz) :
    ringS (F := F) sz c W i ⟨i % 12, Nat.mod_lt _ (by decide)⟩ = busyS c W ⟨i % 12, Nat.mod_lt _ (by decide)⟩ (eF sz i) (nF sz i) := by
  have e : nxt i ⟨i % 12, Nat.mod_lt _ (by decide)⟩ = i := by unfold nxt; simp only; omega
  unfold ringS; rw [e, if_pos hi]
omit [FloatOps F] in
theorem ringS_after (i : ℕ) :
    ringS (F := F) sz c W (i + 1) ⟨i % 12, Nat.mod_lt _ (by decide)⟩
      = if i + 12 < steps sz then busyS c W ⟨i % 12, Nat.mod_lt _ (by decide)⟩ (eF sz (i + 12)) (nF sz (i + 12)) else freeS c W ⟨i % 12, Nat.mod_lt _ (by decide)⟩ := by
  have e : nxt (i + 1) ⟨i % 12, Nat.mod_lt _ (by decide)⟩ = i + 12 := by unfold nxt; simp only; omega
  unfold ringS; rw [e]
omit [FloatOps F] in
theorem ringS_start (s : Fin 12) : preS (F := F) sz c W 12 s = ringS sz c W 0 s := by
  have e : nxt 0 s = s.val := by have := s.isLt; unfold nxt; omega
  unfold ringS preS; rw [e]; simp only [s.isLt, true_and]

/-- Slot `p` with the rows below `r` of column tile `n` written. -/
def heldO (n r : ℕ) (p : Fin 2) : sProp 𝕄 := iprop((∃ g, ⌜RowsOK Spec c n p g (· < r)⌝ ∗ oP c p g) ∗ cellO (F := F) c p)
/-- Slot `p` before column tile `m` begins in it. -/
def prevO (m : ℕ) (p : Fin 2) : sProp 𝕄 := if 2 ≤ m then busyO Spec c ⟨(m - 2) % 6, Nat.mod_lt _ (by decide)⟩ p else freeO (F := F) c p
def outF (j n : ℕ) (p : Fin 2) : sProp 𝕄 :=
  if p = p2 n then (if j = 0 then prevO Spec c n p else heldO Spec c n (lo sz j) p) else prevO Spec c (n + 1) p
def colF (j n : ℕ) (m : Fin 6) : sProp 𝕄 :=
  if n ≤ m.val then colRaw (F := F) c m else if m.val + 2 < n ∨ (m.val + 2 = n ∧ 0 < j) then colDone Spec c m else iprop(emp)

theorem p2_ne (n : ℕ) : p2 (n + 1) ≠ p2 n := fun e => by have := congrArg Fin.val e; simp only at this; omega
theorem p2_other (n : ℕ) (p : Fin 2) (h : p ≠ p2 n) : p = p2 (n + 1) := by
  have h' : p.val ≠ n % 2 := fun e => h (Fin.ext e)
  have := p.isLt
  exact Fin.ext (by show p.val = (n + 1) % 2; omega)

theorem out_ne (hf : Fits sz) (i : ℕ) (p : Fin 2) (h : p ≠ p2 (N sz i)) :
    outF Spec sz c (J sz i) (N sz i) p = outF Spec sz c (J sz (i + 1)) (N sz (i + 1)) p := by
  rw [outF, if_neg h, J_succ hf, N_succ hf]
  by_cases hj : J sz i + 1 = act sz
  · rw [if_pos hj, if_pos hj, outF, if_pos (p2_other _ p h), if_pos rfl]
  · rw [if_neg hj, if_neg hj, outF, if_neg h]

theorem out_at (j n : ℕ) (hn : n < 6) (h0 : lo sz 0 = 0) :
    outF Spec sz c j n (p2 n) ⊢ iprop(before2 Spec c j n hn ∗ (if j = 0 ∧ 2 ≤ n then iprop(emp) else heldO Spec c n (lo sz j) (p2 n))) := by
  unfold before2
  by_cases h : j = 0 ∧ 2 ≤ n
  · rw [dif_pos h, if_pos h, outF, if_pos rfl, if_pos h.1, prevO, if_pos h.2,
      show (⟨(n - 2) % 6, Nat.mod_lt _ (by decide)⟩ : Fin 6) = ⟨n - 2, by omega⟩ from Fin.ext (Nat.mod_eq_of_lt (by omega))]
    iintro H
    isplitl [H]; · iexact H
    iempintro
  · rw [dif_neg h, if_neg h, outF, if_pos rfl]
    by_cases hj : j = 0
    · rw [if_pos hj, prevO, if_neg (fun h2 => h ⟨hj, h2⟩), hj, h0]
      unfold freeO heldO
      iintro ⟨⟨%g, HO⟩, HC⟩
      isplitr; · iempintro
      isplitl [HO]
      · iexists g
        isplitr
        · ipureintro; exact fun R C h => absurd h (Nat.not_lt_zero _)
        iexact HO
      iexact HC
    · rw [if_neg hj]
      iintro H
      isplitr; · iempintro
      iexact H

theorem out_mid (j n : ℕ) (hn : n < 6) (h0 : lo sz 0 = 0) :
    iprop(after2 Spec c j n hn ∗ (if j = 0 ∧ 2 ≤ n then iprop(emp) else heldO Spec c n (lo sz j) (p2 n)))
      ⊢ iprop((if h : j = 0 ∧ 2 ≤ n then colDone Spec c ⟨n - 2, by omega⟩ else iprop(emp)) ∗ heldO Spec c n (lo sz j) (p2 n)) := by
  unfold after2
  by_cases h : j = 0 ∧ 2 ≤ n
  · rw [dif_pos h, if_pos h, dif_pos h, show lo sz j = 0 from by rw [h.1]; exact h0]
    unfold freeO heldO
    iintro ⟨⟨⟨⟨%g, HO⟩, HC⟩, HD⟩, -⟩
    isplitl [HD]; · iexact HD
    isplitl [HO]
    · iexists g
      isplitr
      · ipureintro; exact fun R C h => absurd h (Nat.not_lt_zero _)
      iexact HO
    iexact HC
  · rw [dif_neg h, if_neg h, dif_neg h]

/-- Slot `p2 n` after a step. -/
theorem out_after (hf : Fits sz) (i : ℕ) (hn : N sz i < 6) :
    (if J sz i + 1 = act sz then busyO Spec c ⟨N sz i, hn⟩ (p2 (N sz i)) else heldO Spec c (N sz i) (hi sz (J sz i)) (p2 (N sz i)))
      = outF Spec sz c (J sz (i + 1)) (N sz (i + 1)) (p2 (N sz i)) := by
  rw [J_succ hf, N_succ hf]
  by_cases hj : J sz i + 1 = act sz
  · rw [if_pos hj, if_pos hj, if_pos hj, outF, if_neg (p2_ne _).symm, prevO, if_pos (by omega)]
    congr 1
    exact Fin.ext (by show N sz i = (N sz i + 1 + 1 - 2) % 6; omega)
  · rw [if_neg hj, if_neg hj, if_neg hj, outF, if_pos rfl, if_neg (by omega), hi_lo (by have := J_lt hf i; omega)]

/-- The column pieces, once the wait of a step is over. -/
def colG (n : ℕ) (m : Fin 6) : sProp 𝕄 :=
  if n ≤ m.val then colRaw (F := F) c m else if m.val + 2 ≤ n then colDone Spec c m else iprop(emp)

theorem col_first (j n : ℕ) (hn : n < 6) :
    iprop((if h : j = 0 ∧ 2 ≤ n then colDone Spec c ⟨n - 2, by omega⟩ else iprop(emp)) ∗ bigSep Finset.univ (colF Spec c j n)) ⊢ bigSep Finset.univ (colG Spec c n) := by
  by_cases h : j = 0 ∧ 2 ≤ n
  · rw [dif_pos h]
    have ht := fam_take (F := F) (⟨n - 2, by omega⟩ : Fin 6) (colF Spec c j n) (colG Spec c n) (by
      intro m hm
      have hm' : m.val ≠ n - 2 := fun e => hm (Fin.ext e)
      unfold colF colG
      by_cases h1 : n ≤ m.val
      · rw [if_pos h1, if_pos h1]
      · rw [if_neg h1, if_neg h1]
        by_cases h2 : m.val + 2 ≤ n
        · rw [if_pos h2, if_pos (by omega)]
        · rw [if_neg h2, if_neg (by omega)])
    have e : colG Spec c n ⟨n - 2, by omega⟩ = colDone Spec c ⟨n - 2, by omega⟩ := by
      unfold colG; rw [if_neg (by simp only; omega), if_pos (by simp only; omega)]
    iintro ⟨HD, HB⟩
    ihave HB := ht $$ HB
    icases HB with ⟨-, HB⟩
    iapply HB
    rw [e]
    iexact HD
  · rw [dif_neg h, show colF Spec c j n = colG Spec c n from funext fun m => by
      unfold colF colG
      by_cases h1 : n ≤ m.val
      · rw [if_pos h1, if_pos h1]
      · rw [if_neg h1, if_neg h1]
        by_cases h2 : m.val + 2 ≤ n
        · rw [if_pos h2, if_pos (by omega)]
        · rw [if_neg h2, if_neg (by omega)]]
    iintro ⟨-, H⟩
    iexact H

theorem col_second (hf : Fits sz) (i : ℕ) (hn : N sz i < 6) :
    bigSep Finset.univ (colG Spec c (N sz i)) ⊢ iprop((if J sz i + 1 = act sz then colRaw (F := F) c ⟨N sz i, hn⟩ else iprop(emp))
      ∗ bigSep Finset.univ (colF Spec c (J sz (i + 1)) (N sz (i + 1)))) := by
  rw [J_succ hf, N_succ hf]
  by_cases h : J sz i + 1 = act sz
  · rw [if_pos h, if_pos h, if_pos h]
    have ht := fam_take (F := F) (⟨N sz i, hn⟩ : Fin 6) (colG Spec c (N sz i)) (colF Spec c 0 (N sz i + 1)) (by
      intro m hm
      have hm' : m.val ≠ N sz i := fun e => hm (Fin.ext e)
      unfold colF colG
      by_cases h1 : N sz i ≤ m.val
      · rw [if_pos h1, if_pos (show N sz i + 1 ≤ m.val by omega)]
      · rw [if_neg h1, if_neg (show ¬ N sz i + 1 ≤ m.val by omega)]
        by_cases h2 : m.val + 2 ≤ N sz i
        · rw [if_pos h2, if_pos (by omega)]
        · rw [if_neg h2, if_neg (by omega)])
    have e : colG Spec c (N sz i) ⟨N sz i, hn⟩ = colRaw (F := F) c ⟨N sz i, hn⟩ := by unfold colG; rw [if_pos le_rfl]
    have e2 : colF Spec c 0 (N sz i + 1) ⟨N sz i, hn⟩ = iprop(emp) := by
      unfold colF; rw [if_neg (by simp only; omega), if_neg (by simp only; omega)]
    rw [e, e2] at ht
    iintro HB
    ihave HB := ht $$ HB
    icases HB with ⟨HC, HB⟩
    isplitl [HC]; · iexact HC
    iapply HB
    iempintro
  · rw [if_neg h, if_neg h, if_neg h, show colF Spec c (J sz i + 1) (N sz i) = colG Spec c (N sz i) from funext fun m => by
      unfold colF colG
      by_cases h1 : N sz i ≤ m.val
      · rw [if_pos h1, if_pos h1]
      · rw [if_neg h1, if_neg h1]
        by_cases h2 : m.val + 2 ≤ N sz i
        · rw [if_pos h2, if_pos (by omega)]
        · rw [if_neg h2, if_neg (by omega)]]
    iintro H
    isplitr; · iempintro
    iexact H
end

end Cert.Proof.KernelIdeal
-- ==== Proof.Qreg.lean ====
/-
  The stretches of the kernel before its main loop: the fetches begun, the first loop, and the eight chunks waited for and quantised.
-/
module

public import proofs.«01_k».proof.Proof.Quant
public import proofs.«01_k».proof.Proof.Tables
public import proofs.«01_k».proof.Proof.Families

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD)
/-- What is known of the codes and the scales once so many rows are quantised. -/
abbrev QPT (F : FTy → Type) (c : Dev nD) := ℕ → Buf (Elt F) (a8.view.loc (c : Thread nD τ)) → Buf (Elt F) (a9.view.loc (c : Thread nD τ)) → Prop
variable (QP : QPT F c)
/-- The codes and the scales with `n` rows quantised. -/
def qS (n : ℕ) : sProp 𝕄 := iprop(∃ f8 f9, ⌜QP n f8 f9⌝ ∗ codesP c f8 ∗ scalesP c f9)
/-- The same while chunk `i` is held. -/
def qI (i : Fin 8) (f7 : Buf (Elt F) (a7.view.loc (c : Thread nD τ))) (k : ℕ) : sProp 𝕄 := iprop(xdstP c i f7 ∗ qS c QP (96 * i.val + 32 * k))
/-- Chunk `i` landed and its transfer over. -/
def xdone (i : Fin 8) (x : Buf (Elt F) (a1.view.loc (c : Thread nD τ))) : sProp 𝕄 :=
  iprop(xsrcP c i x ∗ xdstP c i (xgot c i x) ∗ xcell c i)
variable (arg0 : Memref sig .tc .smem S9 .i32) (harg0 : arg0.IsWhole)
  (arg3 : Memref sig .tc .vmem S9x3072 .f32) (harg3 : arg3.IsWhole) (sz : ℕ → ℕ) (v109 v110 : BitVec 32)
  (x : Buf (Elt F) (a1.view.loc (c : Thread nD τ)))
/-- Every trip of the eight loops advances what is known by 32 rows. -/
structure QSteps : Prop where
  q2 : ∀ (x1 x2 x3 : BitVec 32) (k : Fin k0_t2_loop.trips) (f8) (f9), QP (96 * 0 + 32 * k.val) f8 f9 → QP (96 * 0 + 32 * (k.val + 1)) (a8.view.writes (Elt F) f8 (qtrip2 c arg0 harg0 arg3 harg3 sz v109 v110 (xgot c 0 x) x1 x2 x3 k).1) (a9.view.writes (Elt F) f9 (qtrip2 c arg0 harg0 arg3 harg3 sz v109 v110 (xgot c 0 x) x1 x2 x3 k).2.1)
  q3 : ∀ (x1 x2 x3 : BitVec 32) (k : Fin k0_t3_loop.trips) (f8) (f9), QP (96 * 1 + 32 * k.val) f8 f9 → QP (96 * 1 + 32 * (k.val + 1)) (a8.view.writes (Elt F) f8 (qtrip3 c arg0 harg0 arg3 harg3 sz v109 v110 (xgot c 1 x) x1 x2 x3 k).1) (a9.view.writes (Elt F) f9 (qtrip3 c arg0 harg0 arg3 harg3 sz v109 v110 (xgot c 1 x) x1 x2 x3 k).2.1)
  q4 : ∀ (x1 x2 x3 : BitVec 32) (k : Fin k0_t4_loop.trips) (f8) (f9), QP (96 * 2 + 32 * k.val) f8 f9 → QP (96 * 2 + 32 * (k.val + 1)) (a8.view.writes (Elt F) f8 (qtrip4 c arg0 harg0 arg3 harg3 sz v109 v110 (xgot c 2 x) x1 x2 x3 k).1) (a9.view.writes (Elt F) f9 (qtrip4 c arg0 harg0 arg3 harg3 sz v109 v110 (xgot c 2 x) x1 x2 x3 k).2.1)
  q5 : ∀ (k : Fin k0_t5_loop.trips) (f8) (f9), QP (96 * 3 + 32 * k.val) f8 f9 → QP (96 * 3 + 32 * (k.val + 1)) (a8.view.writes (Elt F) f8 (qtrip5 c arg0 harg0 arg3 harg3  (xgot c 3 x)  k).1) (a9.view.writes (Elt F) f9 (qtrip5 c arg0 harg0 arg3 harg3  (xgot c 3 x)  k).2.1)
  q6 : ∀ (k : Fin k0_t6_loop.trips) (f8) (f9), QP (96 * 4 + 32 * k.val) f8 f9 → QP (96 * 4 + 32 * (k.val + 1)) (a8.view.writes (Elt F) f8 (qtrip6 c arg0 harg0 arg3 harg3  (xgot c 4 x)  k).1) (a9.view.writes (Elt F) f9 (qtrip6 c arg0 harg0 arg3 harg3  (xgot c 4 x)  k).2.1)
  q7 : ∀ (k : Fin k0_t7_loop.trips) (f8) (f9), QP (96 * 5 + 32 * k.val) f8 f9 → QP (96 * 5 + 32 * (k.val + 1)) (a8.view.writes (Elt F) f8 (qtrip7 c arg0 harg0 arg3 harg3  (xgot c 5 x)  k).1) (a9.view.writes (Elt F) f9 (qtrip7 c arg0 harg0 arg3 harg3  (xgot c 5 x)  k).2.1)
  q8 : ∀ (k : Fin k0_t8_loop.trips) (f8) (f9), QP (96 * 6 + 32 * k.val) f8 f9 → QP (96 * 6 + 32 * (k.val + 1)) (a8.view.writes (Elt F) f8 (qtrip8 c arg0 harg0 arg3 harg3  (xgot c 6 x)  k).1) (a9.view.writes (Elt F) f9 (qtrip8 c arg0 harg0 arg3 harg3  (xgot c 6 x)  k).2.1)
  q9 : ∀ (k12 : k0_chk12 (wd (sz 0)) (wd (sz 1)) (wd (sz 2)) (wd (sz 3)) (wd (sz 4)) (wd (sz 5)) (wd (sz 6)) (wd (sz 7)) (wd (sz 8))) (x1 x2 : BitVec 32) (k : Fin k0_t9_loop.trips) (f8) (f9), QP (96 * 7 + 32 * k.val) f8 f9 → QP (96 * 7 + 32 * (k.val + 1)) (a8.view.writes (Elt F) f8 (qtrip9 c arg0 harg0 arg3 harg3 sz v109 v110 (xgot c 7 x) k12 x1 x2 k).1) (a9.view.writes (Elt F) f9 (qtrip9 c arg0 harg0 arg3 harg3 sz v109 v110 (xgot c 7 x) k12 x1 x2 k).2.1)

variable (hq : QSteps c QP arg0 harg0 arg3 harg3 sz v109 v110 x)
include hq

theorem qreg2 (x1 x2 x3 : BitVec 32) (k : Fin k0_t2_loop.trips) :
    qI c QP 0 (xgot c 0 x) k.val
      ⊢ wp frame (wpE (defs₀ (F := F)) 𝒱₀ (c : Thread nD τ) none) Set.univ (k0_t2_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => qI c QP 0 (xgot c 0 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip2 c arg0 harg0 arg3 harg3 sz v109 v110 (xgot c 0 x) x1 x2 x3 k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q2 x1 x2 x3 k f8 f9 hp
  isplitl [H8]; · iexact H8
  iexact H9

theorem qreg3 (x1 x2 x3 : BitVec 32) (k : Fin k0_t3_loop.trips) :
    qI c QP 1 (xgot c 1 x) k.val
      ⊢ wp frame (wpE (defs₀ (F := F)) 𝒱₀ (c : Thread nD τ) none) Set.univ (k0_t3_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => qI c QP 1 (xgot c 1 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip3 c arg0 harg0 arg3 harg3 sz v109 v110 (xgot c 1 x) x1 x2 x3 k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q3 x1 x2 x3 k f8 f9 hp
  isplitl [H8]; · iexact H8
  iexact H9

theorem qreg4 (x1 x2 x3 : BitVec 32) (k : Fin k0_t4_loop.trips) :
    qI c QP 2 (xgot c 2 x) k.val
      ⊢ wp frame (wpE (defs₀ (F := F)) 𝒱₀ (c : Thread nD τ) none) Set.univ (k0_t4_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 x1 x2 x3 k PUnit.unit)
        (fun _ => qI c QP 2 (xgot c 2 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip4 c arg0 harg0 arg3 harg3 sz v109 v110 (xgot c 2 x) x1 x2 x3 k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q4 x1 x2 x3 k f8 f9 hp
  isplitl [H8]; · iexact H8
  iexact H9

theorem qreg5 (k : Fin k0_t5_loop.trips) :
    qI c QP 3 (xgot c 3 x) k.val
      ⊢ wp frame (wpE (defs₀ (F := F)) 𝒱₀ (c : Thread nD τ) none) Set.univ (k0_t5_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => qI c QP 3 (xgot c 3 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip5 c arg0 harg0 arg3 harg3  (xgot c 3 x)  k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q5  k f8 f9 hp
  isplitl [H8]; · iexact H8
  iexact H9

theorem qreg6 (k : Fin k0_t6_loop.trips) :
    qI c QP 4 (xgot c 4 x) k.val
      ⊢ wp frame (wpE (defs₀ (F := F)) 𝒱₀ (c : Thread nD τ) none) Set.univ (k0_t6_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => qI c QP 4 (xgot c 4 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip6 c arg0 harg0 arg3 harg3  (xgot c 4 x)  k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q6  k f8 f9 hp
  isplitl [H8]; · iexact H8
  iexact H9

theorem qreg7 (k : Fin k0_t7_loop.trips) :
    qI c QP 5 (xgot c 5 x) k.val
      ⊢ wp frame (wpE (defs₀ (F := F)) 𝒱₀ (c : Thread nD τ) none) Set.univ (k0_t7_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => qI c QP 5 (xgot c 5 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip7 c arg0 harg0 arg3 harg3  (xgot c 5 x)  k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q7  k f8 f9 hp
  isplitl [H8]; · iexact H8
  iexact H9

theorem qreg8 (k : Fin k0_t8_loop.trips) :
    qI c QP 6 (xgot c 6 x) k.val
      ⊢ wp frame (wpE (defs₀ (F := F)) 𝒱₀ (c : Thread nD τ) none) Set.univ (k0_t8_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9  k PUnit.unit)
        (fun _ => qI c QP 6 (xgot c 6 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip8 c arg0 harg0 arg3 harg3  (xgot c 6 x)  k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q8  k f8 f9 hp
  isplitl [H8]; · iexact H8
  iexact H9

theorem qreg9 (k12 : k0_chk12 (wd (sz 0)) (wd (sz 1)) (wd (sz 2)) (wd (sz 3)) (wd (sz 4)) (wd (sz 5)) (wd (sz 6)) (wd (sz 7)) (wd (sz 8))) (x1 x2 : BitVec 32) (k : Fin k0_t9_loop.trips) :
    qI c QP 7 (xgot c 7 x) k.val
      ⊢ wp frame (wpE (defs₀ (F := F)) 𝒱₀ (c : Thread nD τ) none) Set.univ (k0_t9_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) k12 v109 v110 x1 x2 k PUnit.unit)
        (fun _ => qI c QP 7 (xgot c 7 x) (k.val + 1)) := by
  unfold qI qS
  iintro ⟨H7, %f8, %f9, %hp, H8, H9⟩
  iapply (wp_wand_r frame (wpE (defs₀ (F := F)) 𝒱₀ (c : Thread nD τ) none) Set.univ)
  isplitl [H7 H8 H9]
  · iapply ((qtrip9 c arg0 harg0 arg3 harg3 sz v109 v110 (xgot c 7 x) k12 x1 x2 k).2.2 f8 f9)
    isplitl [H7]; · iexact H7
    isplitl [H8]; · iexact H8
    iexact H9
  iintro %_ ⟨H7, H8, H9⟩
  isplitl [H7]; · iexact H7
  iexists _
  iexists _
  isplitr
  · ipureintro; exact hq.q9 k12 x1 x2 k f8 f9 hp
  isplitl [H8]; · iexact H8
  iexact H9
end
end Cert.Proof.KernelIdeal
-- ==== Proof.Parts.lean ====
/-
  The stretches of the kernel before its main loop: the fetches begun, the first loop, and the eight chunks waited for and quantised.
-/
module

public import proofs.«01_k».proof.Proof.Qreg

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (c : Dev nD) (QP : QPT F c) (arg0 : Memref sig .tc .smem S9 .i32) (harg0 : arg0.IsWhole)
  (arg3 : Memref sig .tc .vmem S9x3072 .f32) (harg3 : arg3.IsWhole) (sz : ℕ → ℕ) (v109 v110 : BitVec 32)
  (x : Buf (Elt F) (a1.view.loc (c : Thread nD τ))) (f7 : Buf (Elt F) (a7.view.loc (c : Thread nD τ)))
  (hq : QSteps c QP arg0 harg0 arg3 harg3 sz v109 v110 x)

set_option maxHeartbeats 4000000 in
set_option maxRecDepth 100000 in
theorem part149 :
    iprop((xsrcP c 0 x ∗ xdstP c 0 f7 ∗ xcell c 0) ∗ (xsrcP c 1 x ∗ xdstP c 1 f7 ∗ xcell c 1) ∗ (xsrcP c 2 x ∗ xdstP c 2 f7 ∗ xcell c 2) ∗ (xsrcP c 3 x ∗ xdstP c 3 f7 ∗ xcell c 3) ∗ (xsrcP c 4 x ∗ xdstP c 4 f7 ∗ xcell c 4) ∗ (xsrcP c 5 x ∗ xdstP c 5 f7 ∗ xcell c 5))
      ⊢ wp frame (wpE (defs₀ (F := F)) 𝒱₀ (c : Thread nD τ) none) Set.univ (k0_part149 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9)
        (fun _ => iprop(xflight c 0 f7 x ∗ xflight c 1 f7 x ∗ xflight c 2 f7 x ∗ xflight c 3 f7 x ∗ xflight c 4 f7 x ∗ xflight c 5 f7 x)) := by
  rw [k0_part149_eq_skeleton]
  iintro ⟨⟨Hs0, Hd0, Hc0⟩, ⟨Hs1, Hd1, Hc1⟩, ⟨Hs2, Hd2, Hc2⟩, ⟨Hs3, Hd3, Hc3⟩, ⟨Hs4, Hd4, Hc4⟩, ⟨Hs5, Hd5, Hc5⟩⟩
  sl_unfold [k0_part149_skel]
  sl_exec
  sl_step
  isplitl [Hc0]; · iexact Hc0
  isplitl [Hc1]; · iexact Hc1
  isplitl [Hc2]; · iexact Hc2
  isplitl [Hc3]; · iexact Hc3
  isplitl [Hc4]; · iexact Hc4
  iexact Hc5

set_option maxHeartbeats 4000000 in
set_option maxRecDepth 100000 in
include hq in
theorem part153 (hf : Fits sz) (W : Buf (Elt F) (a2.view.loc (c : Thread nD τ))) (f6) (h6 : T6 (F := F) sz c f6) (hv : v109 = wd (act sz)) :
    iprop(p6 c f6 ∗ bigSep Finset.univ (preS sz c W 0) ∗ xflight c 0 f7 x ∗ xflight c 1 f7 x ∗ xflight c 2 f7 x ∗ qS c QP 0 ∗ ow (F := F) c)
      ⊢ wp frame (wpE (defs₀ (F := F)) 𝒱₀ (c : Thread nD τ) none) Set.univ (k0_part153 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 0#32 0#32 0#32)
        (fun r => iprop(⌜r = ⟨wd (J sz 12), wd (N sz 12)⟩⌝ ∗ p6 c f6 ∗ bigSep Finset.univ (preS sz c W 12) ∗ xdone c 0 x ∗ xdone c 1 x ∗ xdone c 2 x ∗ qS c QP 288 ∗ ow (F := F) c)) := by
  rw [k0_part153_eq_skeleton]
  iintro ⟨H6, HP, Hc0, Hc1, Hc2, HQ, ⟨%D, HD⟩⟩
  sl_unfold [k0_part153_skel]
  subst hv
  sl_for (fun k acc => iprop(⌜acc = (wd (J sz k), wd (N sz k))⌝ ∗ p6 c f6 ∗ bigSep Finset.univ (preS sz c W k))) $$ [H6 HP]
  case region =>
    intro k acc
    iintro ⟨%e, H6, HP⟩
    subst e
    iapply (trip1 sz hf c W f6 h6 arg0 harg0 arg3 harg3 v110 0#32 0#32 0#32 k)
    isplitl [H6]; · iexact H6
    iexact HP
  · isplitr
    · ipureintro; rw [J_zero, N_zero]
    isplitl [H6]; · iexact H6
    iexact HP
  iintro %acc ⟨%e, H6, HP⟩
  subst e
  ihave HP := (entails_of_eq (congrArg (fun n => bigSep Finset.univ (preS (F := F) sz c W n)) trips1)) $$ HP
  sl_exec
  sl_for (fun k _ => qI c QP 0 (xgot c 0 x) k) $$ [Hc0_dst HQ]
  case region =>
    intro k _
    exact qreg2 c QP arg0 harg0 arg3 harg3 sz (wd (act sz)) v110 x hq 0#32 0#32 0#32 k
  · unfold qI
    isplitl [Hc0_dst]; · iexact Hc0_dst
    iexact HQ
  iintro %_ HI
  unfold qI
  icases HI with ⟨Hd0, HQ⟩
  ihave HQ := (entails_of_eq (congrArg (qS (F := F) c QP) (show 96 * (0 : Fin 8).val + 32 * k0_t2_loop.trips = 96 from by rw [show k0_t2_loop.trips = 3 from by decide +kernel]; rfl))) $$ HQ
  sl_exec
  sl_for (fun k _ => qI c QP 1 (xgot c 1 x) k) $$ [Hc1_dst HQ]
  case region =>
    intro k _
    exact qreg3 c QP arg0 harg0 arg3 harg3 sz (wd (act sz)) v110 x hq 0#32 0#32 0#32 k
  · unfold qI
    isplitl [Hc1_dst]; · iexact Hc1_dst
    iexact HQ
  iintro %_ HI
  unfold qI
  icases HI with ⟨Hd1, HQ⟩
  ihave HQ := (entails_of_eq (congrArg (qS (F := F) c QP) (show 96 * (1 : Fin 8).val + 32 * k0_t3_loop.trips = 192 from by rw [show k0_t3_loop.trips = 3 from by decide +kernel]; rfl))) $$ HQ
  sl_exec
  sl_for (fun k _ => qI c QP 2 (xgot c 2 x) k) $$ [Hc2_dst HQ]
  case region =>
    intro k _
    exact qreg4 c QP arg0 harg0 arg3 harg3 sz (wd (act sz)) v110 x hq 0#32 0#32 0#32 k
  · unfold qI
    isplitl [Hc2_dst]; · iexact Hc2_dst
    iexact HQ
  iintro %_ HI
  unfold qI
  icases HI with ⟨Hd2, HQ⟩
  ihave HQ := (entails_of_eq (congrArg (qS (F := F) c QP) (show 96 * (2 : Fin 8).val + 32 * k0_t4_loop.trips = 288 from by rw [show k0_t4_loop.trips = 3 from by decide +kernel]; rfl))) $$ HQ
  sl_exec
  sl_step
  isplitr
  · ipureintro; exact congrArg (fun n => (⟨wd (J sz n), wd (N sz n)⟩ : Σ' (_ : BitVec 32), BitVec 32)) trips1
  isplitl [H6]; · iexact H6
  isplitl [HP]; · iexact HP
  isplitl [Hc0_src Hd0 Hc0]
  · unfold xdone
    isplitl [Hc0_src]; · iexact Hc0_src
    isplitl [Hd0]; · iexact Hd0
    iexact Hc0
  isplitl [Hc1_src Hd1 Hc1]
  · unfold xdone
    isplitl [Hc1_src]; · iexact Hc1_src
    isplitl [Hd1]; · iexact Hd1
    iexact Hc1
  isplitl [Hc2_src Hd2 Hc2]
  · unfold xdone
    isplitl [Hc2_src]; · iexact Hc2_src
    isplitl [Hd2]; · iexact Hd2
    iexact Hc2
  isplitl [HQ]; · iexact HQ
  iexists _; iexact HD

set_option maxHeartbeats 4000000 in
set_option maxRecDepth 100000 in
include hq in
theorem part154 :
    iprop(xflight c 3 f7 x ∗ xflight c 4 f7 x ∗ xflight c 5 f7 x ∗ xflight c 6 f7 x ∗ qS c QP 288 ∗ ow (F := F) c)
      ⊢ wp frame (wpE (defs₀ (F := F)) 𝒱₀ (c : Thread nD τ) none) Set.univ (k0_part154 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9)
        (fun r => iprop(xdone c 3 x ∗ xdone c 4 x ∗ xdone c 5 x ∗ xdone c 6 x ∗ qS c QP 672 ∗ ow (F := F) c)) := by
  rw [k0_part154_eq_skeleton]
  iintro ⟨Hc3, Hc4, Hc5, Hc6, HQ, ⟨%D, HD⟩⟩
  sl_unfold [k0_part154_skel]
  sl_exec
  sl_for (fun k _ => qI c QP 3 (xgot c 3 x) k) $$ [Hc3_dst HQ]
  case region =>
    intro k _
    exact qreg5 c QP arg0 harg0 arg3 harg3 sz v109 v110 x hq  k
  · unfold qI
    isplitl [Hc3_dst]; · iexact Hc3_dst
    iexact HQ
  iintro %_ HI
  unfold qI
  icases HI with ⟨Hd3, HQ⟩
  ihave HQ := (entails_of_eq (congrArg (qS (F := F) c QP) (show 96 * (3 : Fin 8).val + 32 * k0_t5_loop.trips = 384 from by rw [show k0_t5_loop.trips = 3 from by decide +kernel]; rfl))) $$ HQ
  sl_exec
  sl_for (fun k _ => qI c QP 4 (xgot c 4 x) k) $$ [Hc4_dst HQ]
  case region =>
    intro k _
    exact qreg6 c QP arg0 harg0 arg3 harg3 sz v109 v110 x hq  k
  · unfold qI
    isplitl [Hc4_dst]; · iexact Hc4_dst
    iexact HQ
  iintro %_ HI
  unfold qI
  icases HI with ⟨Hd4, HQ⟩
  ihave HQ := (entails_of_eq (congrArg (qS (F := F) c QP) (show 96 * (4 : Fin 8).val + 32 * k0_t6_loop.trips = 480 from by rw [show k0_t6_loop.trips = 3 from by decide +kernel]; rfl))) $$ HQ
  sl_exec
  sl_for (fun k _ => qI c QP 5 (xgot c 5 x) k) $$ [Hc5_dst HQ]
  case region =>
    intro k _
    exact qreg7 c QP arg0 harg0 arg3 harg3 sz v109 v110 x hq  k
  · unfold qI
    isplitl [Hc5_dst]; · iexact Hc5_dst
    iexact HQ
  iintro %_ HI
  unfold qI
  icases HI with ⟨Hd5, HQ⟩
  ihave HQ := (entails_of_eq (congrArg (qS (F := F) c QP) (show 96 * (5 : Fin 8).val + 32 * k0_t7_loop.trips = 576 from by rw [show k0_t7_loop.trips = 3 from by decide +kernel]; rfl))) $$ HQ
  sl_exec
  sl_for (fun k _ => qI c QP 6 (xgot c 6 x) k) $$ [Hc6_dst HQ]
  case region =>
    intro k _
    exact qreg8 c QP arg0 harg0 arg3 harg3 sz v109 v110 x hq  k
  · unfold qI
    isplitl [Hc6_dst]; · iexact Hc6_dst
    iexact HQ
  iintro %_ HI
  unfold qI
  icases HI with ⟨Hd6, HQ⟩
  ihave HQ := (entails_of_eq (congrArg (qS (F := F) c QP) (show 96 * (6 : Fin 8).val + 32 * k0_t8_loop.trips = 672 from by rw [show k0_t8_loop.trips = 3 from by decide +kernel]; rfl))) $$ HQ
  sl_step
  isplitl [Hc3_src Hd3 Hc3]
  · unfold xdone
    isplitl [Hc3_src]; · iexact Hc3_src
    isplitl [Hd3]; · iexact Hd3
    iexact Hc3
  isplitl [Hc4_src Hd4 Hc4]
  · unfold xdone
    isplitl [Hc4_src]; · iexact Hc4_src
    isplitl [Hd4]; · iexact Hd4
    iexact Hc4
  isplitl [Hc5_src Hd5 Hc5]
  · unfold xdone
    isplitl [Hc5_src]; · iexact Hc5_src
    isplitl [Hd5]; · iexact Hd5
    iexact Hc5
  isplitl [Hc6_src Hd6 Hc6]
  · unfold xdone
    isplitl [Hc6_src]; · iexact Hc6_src
    isplitl [Hd6]; · iexact Hd6
    iexact Hc6
  isplitl [HQ]; · iexact HQ
  iexists _; iexact HD
end

end Cert.Proof.KernelIdeal
-- ==== Proof.MainLoop.lean ====
/-
  The invariant of the main loop.
-/
module

public import proofs.«01_k».proof.Proof.Families

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (Spec : SpecT F) (sz : ℕ → ℕ) (hf : Fits sz) (c : Dev nD)
  (arg0 : Memref sig .tc .smem S9 .i32) (harg0 : arg0.IsWhole) (arg3 : Memref sig .tc .vmem S9x3072 .f32) (harg3 : arg3.IsWhole)
  (f8 : Buf (Elt F) (a8.view.loc (c : Thread nD τ))) (f9 : Buf (Elt F) (a9.view.loc (c : Thread nD τ)))
  (W : Buf (Elt F) (a2.view.loc (c : Thread nD τ))) (WS : Buf (Elt F) (arg3.view.loc (c : Thread nD τ)))
  (f0 : Buf (Elt F) (arg0.view.loc (c : Thread nD τ))) (f5 : Buf (Elt F) (a5.view.loc (c : Thread nD τ)))
  (f6 : Buf (Elt F) (a6.view.loc (c : Thread nD τ))) (h0 : T0 sz c arg0 f0) (h5 : T5 sz c f5) (h6 : T6 sz c f6) (hpay : PayOK Spec sz c arg3 f8 f9 W WS)
  (k12 : k0_chk12 (wd (sz 0)) (wd (sz 1)) (wd (sz 2)) (wd (sz 3)) (wd (sz 4)) (wd (sz 5)) (wd (sz 6)) (wd (sz 7)) (wd (sz 8))) (v110 x1 x2 : BitVec 32)

section
variable (j n s j2 n2 : ℕ) (hj : j < act sz) (hn : n < 6) (hs : s < 12) (hj2 : j2 < act sz) (i : Fin (Loop10 sz).trips) (hn2 : i.val + 12 < steps sz → n2 < 6)
  (v109 : BitVec 32)
  (k20 : k0_chk20 (wd (sz 0)) (wd (sz 1)) (wd (sz 2)) (wd (sz 3)) (wd (sz 4)) (wd (sz 5)) (wd (sz 6)) (wd (sz 7)) (wd (sz 8)) i (wd j2)) (k16 : k0_chk16 (wd (sz 0)) (wd (sz 1)) (wd (sz 2)) (wd (sz 3)) (wd (sz 4)) (wd (sz 5)) (wd (sz 6)) (wd (sz 7)) (wd (sz 8)) i (wd s)) (k15 : k0_chk15 (wd (sz 0)) (wd (sz 1)) (wd (sz 2)) (wd (sz 3)) (wd (sz 4)) (wd (sz 5)) (wd (sz 6)) (wd (sz 7)) (wd (sz 8)) (wd j) (wd n))
  (w15 v189 : BitVec 32) (k14 : k0_chk14 (wd n) (wd (ex sz j))) (k18 : k0_chk18 (wd n) (wd s) (wd (lo sz j)) (wd (sz (ex sz j)))) (c512 : BitVec 32)
include hf h6 hj hj2 hpay hn hs hn2 in
/-- The second half of a step, whichever transfers it starts. -/
theorem second :
    iprop(p6 c f6 ∗ p8 c f8 ∗ p9 c f9 ∗ p3 c arg3 WS ∗ (∃ f, slotP c ⟨s, hs⟩ (landed c W ⟨s, hs⟩ ⟨ex sz j, ex_lt j⟩ ⟨n, hn⟩ f)) ∗ cellP (F := F) c ⟨s, hs⟩ ∗ wtok c W ⟨s, hs⟩
        ∗ heldO Spec c n (lo sz j) (p2 n) ∗ (if j + 1 = act sz then colRaw (F := F) c ⟨n, hn⟩ else iprop(emp)) ∗ ow (F := F) c)
      ⊢ wp frame (wpE (defs₀ (F := F)) 𝒱₀ (c : Thread nD τ) none) Set.univ
        (k0_part146 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) v109 v110 i (wd j) (wd n) (wd j2) (wd n2) (wd s) k20 k16 k15 w15 v189 (wd (ex sz j)) k14 (wd (lo sz j)) (wd (sz (ex sz j))) k18
          (wend (lo sz j) (sz (ex sz j))) (wbase (lo sz j)) c512)
        (fun r => iprop(⌜nextWords j n j2 v109 r⌝ ∗ p6 c f6 ∗ p8 c f8 ∗ p9 c f9 ∗ p3 c arg3 WS
          ∗ (if i.val + 12 < steps sz then busyS c W ⟨s, hs⟩ ⟨ex sz j2, ex_lt j2⟩ ⟨n2 % 6, Nat.mod_lt _ (by decide)⟩ else freeS c W ⟨s, hs⟩)
          ∗ (if j + 1 = act sz then busyO Spec c ⟨n, hn⟩ (p2 n) else heldO Spec c n (hi sz j) (p2 n)) ∗ ow (F := F) c)) := by
  unfold heldO
  by_cases c3 : i.val + 12 < steps sz
  · have e2 := nF_eq (hn2 c3)
    by_cases c4 : j + 1 = act sz
    · rw [if_pos c3, if_pos c4, if_pos c4, e2]
      iintro ⟨H6, H8, H9, H3, HS, HC, HW, ⟨HO, HOC⟩, HK, HD⟩
      iapply (second_tt Spec sz hf c arg0 harg0 arg3 harg3 f8 f9 W WS f6 h6 hpay j n s j2 n2 hj hn hs hj2 (hn2 c3) i v109 v110 k20 k16 k15 w15 v189 k14 k18 c512 c3 c4)
      isplitl [H6]; · iexact H6
      isplitl [H8]; · iexact H8
      isplitl [H9]; · iexact H9
      isplitl [H3]; · iexact H3
      isplitl [HS]; · iexact HS
      isplitl [HC]; · iexact HC
      isplitl [HW]; · iexact HW
      isplitl [HO]; · iexact HO
      isplitl [HOC]; · iexact HOC
      isplitl [HK]; · iexact HK
      iexact HD
    · rw [if_pos c3, if_neg c4, if_neg c4, e2]
      iintro ⟨H6, H8, H9, H3, HS, HC, HW, ⟨HO, HOC⟩, -, HD⟩
      iapply (second_tf Spec sz hf c arg0 harg0 arg3 harg3 f8 f9 W WS f6 h6 hpay j n s j2 n2 hj hn hs hj2 (hn2 c3) i v109 v110 k20 k16 k15 w15 v189 k14 k18 c512 c3 c4)
      isplitl [H6]; · iexact H6
      isplitl [H8]; · iexact H8
      isplitl [H9]; · iexact H9
      isplitl [H3]; · iexact H3
      isplitl [HS]; · iexact HS
      isplitl [HC]; · iexact HC
      isplitl [HW]; · iexact HW
      isplitl [HO]; · iexact HO
      isplitl [HOC]; · iexact HOC
      iexact HD
  · by_cases c4 : j + 1 = act sz
    · rw [if_neg c3, if_pos c4, if_pos c4]
      iintro ⟨H6, H8, H9, H3, HS, HC, HW, ⟨HO, HOC⟩, HK, HD⟩
      iapply (second_ft Spec sz hf c arg0 harg0 arg3 harg3 f8 f9 W WS f6 h6 hpay j n s j2 n2 hj hn hs hj2 i v109 v110 k20 k16 k15 w15 v189 k14 k18 c512 c3 c4)
      isplitl [H6]; · iexact H6
      isplitl [H8]; · iexact H8
      isplitl [H9]; · iexact H9
      isplitl [H3]; · iexact H3
      isplitl [HS]; · iexact HS
      isplitl [HC]; · iexact HC
      isplitl [HW]; · iexact HW
      isplitl [HO]; · iexact HO
      isplitl [HOC]; · iexact HOC
      isplitl [HK]; · iexact HK
      iexact HD
    · rw [if_neg c3, if_neg c4, if_neg c4]
      iintro ⟨H6, H8, H9, H3, HS, HC, HW, ⟨HO, HOC⟩, -, HD⟩
      iapply (second_ff Spec sz hf c arg0 harg0 arg3 harg3 f8 f9 W WS f6 h6 hpay j n s j2 n2 hj hn hs hj2 i v109 v110 k20 k16 k15 w15 v189 k14 k18 c512 c3 c4)
      isplitl [H6]; · iexact H6
      isplitl [H8]; · iexact H8
      isplitl [H9]; · iexact H9
      isplitl [H3]; · iexact H3
      isplitl [HS]; · iexact HS
      isplitl [HC]; · iexact HC
      isplitl [HW]; · iexact HW
      isplitl [HO]; · iexact HO
      isplitl [HOC]; · iexact HOC
      iexact HD
end

/-- What the main loop carries before step `i`. -/
abbrev accW (i : ℕ) : BitVec 32 × BitVec 32 × BitVec 32 × BitVec 32 × BitVec 32 :=
  (wd (J sz i), wd (N sz i), wd (J sz (i + 12)), wd (N sz (i + 12)), wd (i % 12))
/-- What is held before step `i`. -/
def mainI (i : ℕ) : sProp 𝕄 :=
  iprop(p6 c f6 ∗ p5 c f5 ∗ p0 c arg0 f0 ∗ p8 c f8 ∗ p9 c f9 ∗ p3 c arg3 WS ∗ bigSep Finset.univ (ringS sz c W i)
    ∗ bigSep Finset.univ (outF Spec sz c (J sz i) (N sz i)) ∗ bigSep Finset.univ (colF Spec c (J sz i) (N sz i)) ∗ ow (F := F) c)

include hf h0 h5 h6 hpay in
theorem mainTrip (i : Fin (Loop10 sz).trips) :
    mainI Spec sz c arg0 arg3 f8 f9 W WS f0 f5 f6 i.val
      ⊢ wp frame (wpE (defs₀ (F := F)) 𝒱₀ (c : Thread nD τ) none) Set.univ
        (k0_t10_body (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) k12 (wd (act sz)) v110 x1 x2 i (accW sz i.val))
        (fun acc => iprop(⌜acc = accW sz (i.val + 1)⌝ ∗ mainI Spec sz c arg0 arg3 f8 f9 W WS f0 f5 f6 (i.val + 1))) := by
  have hi : i.val < steps sz := lt_of_lt_of_eq i.isLt (trips10 sz hf)
  have hJ := J_lt hf i.val
  have hN := N_lt hf hi
  have hJ2 := J_lt hf (i.val + 12)
  have hJ10 : J sz (i.val + 12) < 10 := by have := act_le (sz := sz); omega
  have hN2 : i.val + 12 < steps sz → N sz (i.val + 12) < 6 := fun h => N_lt hf h
  have hs : i.val % 12 < 12 := Nat.mod_lt _ (by decide)
  have hlo := lo_zero (act_pos hf)
  have k20 := chk20 (wd (sz 0)) (wd (sz 1)) (wd (sz 2)) (wd (sz 3)) (wd (sz 4)) (wd (sz 5)) (wd (sz 6)) (wd (sz 7)) (wd (sz 8)) i hJ10
  have k19 := chk19 (wd (sz 0)) (wd (sz 1)) (wd (sz 2)) (wd (sz 3)) (wd (sz 4)) (wd (sz 5)) (wd (sz 6)) (wd (sz 7)) (wd (sz 8)) i (n := N sz (i.val + 12)) (by
    by_cases h : i.val + 12 < steps sz
    · exact Or.inl (hN2 h)
    · exact Or.inr (mt (cond3_iff sz hf i).1 h))
  have hring := fam_take (F := F) (⟨i.val % 12, hs⟩ : Fin 12) (ringS sz c W i.val) (ringS sz c W (i.val + 1)) (ringS_ne sz c W i.val)
  rw [ringS_at sz c W i.val hi, ringS_after, show nF sz i.val = ⟨N sz i.val, hN⟩ from nF_eq hN] at hring
  have hout := fam_take (F := F) (p2 (N sz i.val)) (outF Spec sz c (J sz i.val) (N sz i.val)) (outF Spec sz c (J sz (i.val + 1)) (N sz (i.val + 1)))
    (out_ne Spec sz c hf i.val)
  rw [← out_after Spec sz c hf i.val hN] at hout
  unfold mainI
  iintro ⟨H6, H5, H0, H8, H9, H3, HR, HO, HK, HD⟩
  ihave HR := hring $$ HR
  icases HR with ⟨HRs, HRw⟩
  ihave HO := hout $$ HO
  icases HO with ⟨HOs, HOw⟩
  ihave HOs := (out_at Spec sz c (J sz i.val) (N sz i.val) hN hlo) $$ HOs
  icases HOs with ⟨HB, HOs⟩
  unfold busyS
  icases HRs with ⟨HRf, HRr⟩
  dsimp only [k0_t10_body, accW]
  rw [wp_bind]
  iapply (wp_wand_r frame (wpE (defs₀ (F := F)) 𝒱₀ (c : Thread nD τ) none) Set.univ)
  isplitl [H6 H5 H0 HRf HRr HB HD]
  · iapply (first Spec sz hf c arg0 harg0 arg3 harg3 W f0 f5 f6 h0 h5 h6 (J sz i.val) (N sz i.val) (i.val % 12) hJ hN hs i (wd (J sz (i.val + 12))) (wd (N sz (i.val + 12))) k20 k19)
    isplitl [H6]; · iexact H6
    isplitl [H5]; · iexact H5
    isplitl [H0]; · iexact H0
    isplitl [HRf]; · iexact HRf
    isplitl [HRr]; · iexact HRr
    isplitl [HB]; · iexact HB
    iexact HD
  iintro %r ⟨%hr, H6, H5, H0, HS, HC, HW, HA, HD⟩
  rcases r with ⟨q20, q16, q15, w15, v189, v191, q14, v193, v195, q18, v196, v198, c512⟩
  dsimp only at hr
  obtain ⟨e1, e2, e3, e4, e5⟩ := hr
  subst e1 e2 e3 e4 e5
  dsimp only
  ihave HAO := (out_mid Spec sz c (J sz i.val) (N sz i.val) hN hlo) $$ [HA HOs]
  · isplitl [HA]; · iexact HA
    iexact HOs
  icases HAO with ⟨HA, HO⟩
  ihave HK := (col_first Spec c (J sz i.val) (N sz i.val) hN) $$ [HA HK]
  · isplitl [HA]; · iexact HA
    iexact HK
  ihave HK := (col_second Spec sz c hf i.val hN) $$ HK
  icases HK with ⟨HKs, HK⟩
  rw [wp_bind]
  iapply (wp_wand_r frame (wpE (defs₀ (F := F)) 𝒱₀ (c : Thread nD τ) none) Set.univ)
  isplitl [H6 H8 H9 H3 HS HC HW HO HKs HD]
  · iapply (second Spec sz hf c arg0 harg0 arg3 harg3 f8 f9 W WS f6 h6 hpay v110 (J sz i.val) (N sz i.val) (i.val % 12) (J sz (i.val + 12)) (N sz (i.val + 12)) hJ hN hs hJ2 i hN2)
    isplitl [H6]; · iexact H6
    isplitl [H8]; · iexact H8
    isplitl [H9]; · iexact H9
    isplitl [H3]; · iexact H3
    isplitl [HS]; · iexact HS
    isplitl [HC]; · iexact HC
    isplitl [HW]; · iexact HW
    isplitl [HO]; · iexact HO
    isplitl [HKs]; · iexact HKs
    iexact HD
  iintro %r ⟨%hr, H6, H8, H9, H3, HR, HO, HD⟩
  rcases r with ⟨r1, r2, r3, r4⟩
  dsimp only [nextWords] at hr
  obtain ⟨e1, e2, e3, e4⟩ := hr
  subst e1 e2 e3 e4
  dsimp only
  rw [wp_pure]
  imodintro
  isplitr
  · ipureintro
    rw [wnextJ sz hf, wnextN sz hf, wnextJ sz hf, wnextN sz hf, wnextS, show i.val + 12 + 1 = i.val + 1 + 12 from by omega]
  isplitl [H6]; · iexact H6
  isplitl [H5]; · iexact H5
  isplitl [H0]; · iexact H0
  isplitl [H8]; · iexact H8
  isplitl [H9]; · iexact H9
  isplitl [H3]; · iexact H3
  isplitl [HR HRw]
  · iapply HRw; iexact HR
  isplitl [HO HOw]
  · iapply HOw; iexact HO
  isplitl [HK]; · iexact HK
  iexact HD
end

end Cert.Proof.KernelIdeal
-- ==== Proof.Ends.lean ====
/-
  The last stretch of the kernel before its last wait: the eighth chunk, the padding rows, the main loop and the wait for the fifth column tile.
-/
module

public import proofs.«01_k».proof.Proof.Parts
public import proofs.«01_k».proof.Proof.MainLoop
public import Idealize.ShloMosaic.Lib.LoopRemainder

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

@[sl_canon] theorem oslot_lit0 (hh hs) :
    (a11.slice (Rect.unit (s := S2x896x512) ![0, 0, 0] S1x768x512.size hh) hs).squeeze S768x512 squeezes_S1x768x512_S768x512 = oslot 0 := rfl
@[sl_canon] theorem oslot_lit1 (hh hs) :
    (a11.slice (Rect.unit (s := S2x896x512) ![1, 0, 0] S1x768x512.size hh) hs).squeeze S768x512 squeezes_S1x768x512_S768x512 = oslot 1 := rfl
@[sl_canon] theorem osem_lit0 (hh) : (cc0_scratch9.slice (Rect.unit (s := S2) ![0] S1.size hh)).squeeze S_ squeezes_S1_S_ = osem 0 := rfl
@[sl_canon] theorem osem_lit1 (hh) : (cc0_scratch9.slice (Rect.unit (s := S2) ![1] S1.size hh)).squeeze S_ squeezes_S1_S_ = osem 1 := rfl
@[sl_canon] theorem ocol_lit4 (hh hs) : a4.slice (Rect.unit (s := S768x3072) ![0, 2048] S768x512.size hh) hs = ocol 4 := rfl
@[sl_canon] theorem ocol_lit5 (hh hs) : a4.slice (Rect.unit (s := S768x3072) ![0, 2560] S768x512.size hh) hs = ocol 5 := rfl

section
variable (Spec : SpecT F) (sz : ℕ → ℕ) (hf : Fits sz) (c : Dev nD)

include hf in
omit [FloatOps F] in
theorem J_end : J sz (steps sz) = 0 := by unfold J steps; exact Nat.mul_mod_right _ _
include hf in
omit [FloatOps F] in
theorem N_end : N sz (steps sz) = 6 := by unfold N steps; exact Nat.mul_div_cancel_left _ (act_pos hf)

theorem out_end : bigSep Finset.univ (outF Spec sz c 0 6) = iprop(busyO Spec c 4 0 ∗ busyO Spec c 5 1) := by
  rw [BI.bigSep_fin_two]
  have e0 : outF Spec sz c 0 6 0 = busyO Spec c 4 0 := by
    rw [outF, if_pos (by decide), if_pos rfl, prevO, if_pos (by omega)]; rfl
  have e1 : outF Spec sz c 0 6 1 = busyO Spec c 5 1 := by
    rw [outF, if_neg (by decide), prevO, if_pos (by omega)]; rfl
  rw [e0, e1]; rfl
theorem out_start : bigSep Finset.univ (freeO (F := F) c) = bigSep Finset.univ (outF Spec sz c 0 0) := by
  rw [BI.bigSep_fin_two, BI.bigSep_fin_two]
  have e0 : outF Spec sz c 0 0 0 = freeO c 0 := by rw [outF, if_pos (by decide), if_pos rfl, prevO, if_neg (by omega)]
  have e1 : outF Spec sz c 0 0 1 = freeO c 1 := by rw [outF, if_neg (by decide), prevO, if_neg (by omega)]
  rw [e0, e1]
theorem col_start : bigSep Finset.univ (colRaw (F := F) c) = bigSep Finset.univ (colF Spec c 0 0) :=
  BI.bigSep_congr fun m _ => by rw [colF, if_pos (Nat.zero_le _)]
theorem col_end : iprop(bigSep Finset.univ (colF Spec c 0 6) ∗ colDone Spec c 4 ∗ colDone Spec c 5) ⊢ bigSep Finset.univ (colDone Spec c) := by
  have h5 := fam_take (F := F) (5 : Fin 6) (colF Spec c 0 6) (fun m => if m = 5 then colDone Spec c 5 else colF Spec c 0 6 m) (by
    intro m hm; rw [if_neg hm])
  have h4 := fam_take (F := F) (4 : Fin 6) (fun m => if m = 5 then colDone Spec c 5 else colF Spec c 0 6 m) (colDone Spec c) (by
    intro m hm
    have hm' : m.val ≠ 4 := fun e => hm (Fin.ext e)
    by_cases h : m = 5
    · rw [if_pos h, h]
    · have h' : m.val ≠ 5 := fun e => h (Fin.ext e)
      have := m.isLt
      rw [if_neg h, colF, if_neg (by omega), if_pos (Or.inl (by omega))])
  iintro ⟨H, D4, D5⟩
  ihave H := h5 $$ H
  icases H with ⟨-, H⟩
  rw [if_pos rfl]
  ihave H := H $$ D5
  ihave H := h4 $$ H
  icases H with ⟨-, H⟩
  iapply H
  iexact D4
theorem ring_end (W : Buf (Elt F) (a2.view.loc (c : Thread nD τ))) : bigSep Finset.univ (ringS sz c W (steps sz)) = bigSep Finset.univ (freeS c W) :=
  BI.bigSep_congr fun s _ => by
    have : ¬ nxt (steps sz) s < steps sz := by unfold nxt; omega
    rw [ringS, if_neg this]
end

section
variable (c : Dev nD) (QP : QPT F c) (arg0 : Memref sig .tc .smem S9 .i32) (harg0 : arg0.IsWhole)
  (arg3 : Memref sig .tc .vmem S9x3072 .f32) (harg3 : arg3.IsWhole) (sz : ℕ → ℕ)
  (x : Buf (Elt F) (a1.view.loc (c : Thread nD τ))) (f7 : Buf (Elt F) (a7.view.loc (c : Thread nD τ)))
  (hq : QSteps c QP arg0 harg0 arg3 harg3 sz (wd (act sz)) (wd (6 * act sz)) x)
  (Spec : SpecT F) (hf : Fits sz)
  (W : Buf (Elt F) (a2.view.loc (c : Thread nD τ))) (WS : Buf (Elt F) (arg3.view.loc (c : Thread nD τ)))
  (f0 : Buf (Elt F) (arg0.view.loc (c : Thread nD τ))) (h0 : T0 (F := F) sz c arg0 f0)
/-- What the main loop asks of the codes and the scales follows from what is known of them, once the padding rows are written. -/
def PadOK : Prop := ∀ f8 f9, QP 768 f8 f9 → PayOK Spec sz c arg3
  (a8.view.writes (Elt F) f8 [⟨Rect.unit (s := S896x5120) ![768, 0] S128x5120.size inb_S896x5120_S128x5120_768_0, k0_pay517 (F := F)⟩])
  (a9.view.writes (Elt F) f9 [⟨Rect.unit (s := S896x128) ![768, 0] S128x128.size inb_S896x128_S128x128_768_0, k0_pay518 (F := F)⟩]) W WS
variable (hpad : PadOK c QP arg3 sz Spec W WS)

set_option maxHeartbeats 4000000 in
set_option maxRecDepth 100000 in
set_option backward.proofsInPublic true in
include hq hf h0 hpad in
theorem part155 (f5 f6) (h5 : T5 (F := F) sz c f5) (h6 : T6 (F := F) sz c f6) (k12) :
    iprop(p6 c f6 ∗ p5 c f5 ∗ p0 c arg0 f0 ∗ p3 c arg3 WS ∗ bigSep Finset.univ (preS sz c W 12)
        ∗ bigSep Finset.univ (freeO (F := F) c) ∗ bigSep Finset.univ (colRaw (F := F) c) ∗ xflight c 7 f7 x ∗ qS c QP 672 ∗ ow (F := F) c)
      ⊢ wp frame (wpE (defs₀ (F := F)) 𝒱₀ (c : Thread nD τ) none) Set.univ
          (k0_part155 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 (wd (sz 0)) (wd (sz 1)) (wd (sz 2)) (wd (sz 3)) (wd (sz 4)) (wd (sz 5)) (wd (sz 6)) (wd (sz 7)) (wd (sz 8)) k12 (wd (act sz)) (wd (6 * act sz)) (wd (J sz 12)) (wd (N sz 12)))
        (fun r => iprop(p6 c f6 ∗ p5 c f5 ∗ p0 c arg0 f0 ∗ p3 c arg3 WS ∗ bigSep Finset.univ (freeS c W)
          ∗ (∃ f8, p8 (F := F) c f8) ∗ (∃ f9, p9 (F := F) c f9)
          ∗ freeO (F := F) c 0 ∗ busyO Spec c 5 1 ∗ bigSep Finset.univ (colF Spec c 0 6) ∗ colDone Spec c 4 ∗ xdone c 7 x ∗ ow (F := F) c)) := by
  have trE : (Loop10 sz).trips = steps sz := trips10 sz hf
  rw [k0_part155_eq_skeleton]
  iintro ⟨H6, H5, H0, H3, HR, HO, HK, Hc7, HQ, ⟨%D, HD⟩⟩
  sl_unfold [k0_part155_skel]
  sl_exec
  sl_for (fun k _ => qI c QP 7 (xgot c 7 x) k) $$ [Hc7_dst HQ]
  case region =>
    intro k _
    exact qreg9 c QP arg0 harg0 arg3 harg3 sz (wd (act sz)) (wd (6 * act sz)) x hq k12 (wd (J sz 12)) (wd (N sz 12)) k
  · unfold qI
    isplitl [Hc7_dst]; · iexact Hc7_dst
    iexact HQ
  iintro %_ HI
  unfold qI
  icases HI with ⟨Hd7, HQ⟩
  ihave HQ := (entails_of_eq (congrArg (qS (F := F) c QP) (show 96 * (7 : Fin 8).val + 32 * k0_t9_loop.trips = 768 from by rw [show k0_t9_loop.trips = 3 from by decide +kernel]; rfl))) $$ HQ
  unfold qS
  icases HQ with ⟨%f8, %f9, %hQ, H8, H9⟩
  have hpay := hpad f8 f9 hQ
  sl_exec
  sl_for (fun i acc => iprop(⌜acc = accW sz i⌝ ∗ mainI Spec sz c arg0 arg3
    (a8.view.writes (Elt F) f8 [⟨Rect.unit (s := S896x5120) ![768, 0] S128x5120.size inb_S896x5120_S128x5120_768_0, k0_pay517 (F := F)⟩])
    (a9.view.writes (Elt F) f9 [⟨Rect.unit (s := S896x128) ![768, 0] S128x128.size inb_S896x128_S128x128_768_0, k0_pay518 (F := F)⟩])
    W WS f0 f5 f6 i)) $$ [H6 H5 H0 H8 H9 H3 HR HO HK HD]
  case region =>
    intro i acc
    iintro ⟨%e, HI⟩
    subst e
    iapply (mainTrip Spec sz hf c arg0 harg0 arg3 harg3 _ _ W WS f0 f5 f6 h0 h5 h6 hpay k12 (wd (6 * act sz)) (wd (J sz 12)) (wd (N sz 12)) i)
    iexact HI
  · isplitr
    · ipureintro; unfold accW; rw [J_zero, N_zero, Nat.zero_add]
    unfold mainI
    isplitl [H6]; · iexact H6
    isplitl [H5]; · iexact H5
    isplitl [H0]; · iexact H0
    isplitl [H8]; · iexact H8
    isplitl [H9]; · iexact H9
    isplitl [H3]; · iexact H3
    isplitl [HR]
    · iapply (entails_of_eq (BI.bigSep_congr fun s _ => ringS_start sz c W s))
      iexact HR
    rw [J_zero, N_zero]
    isplitl [HO]
    · iapply (entails_of_eq (out_start Spec sz c)); iexact HO
    isplitl [HK]
    · iapply (entails_of_eq (col_start Spec c)); iexact HK
    iexists _; iexact HD
  iintro %acc ⟨-, HI⟩
  rcases acc with ⟨w1, w2, w3, w4, w5⟩
  ihave HI := (entails_of_eq (congrArg (mainI Spec sz c arg0 arg3
    (a8.view.writes (Elt F) f8 [⟨Rect.unit (s := S896x5120) ![768, 0] S128x5120.size inb_S896x5120_S128x5120_768_0, k0_pay517 (F := F)⟩])
    (a9.view.writes (Elt F) f9 [⟨Rect.unit (s := S896x128) ![768, 0] S128x128.size inb_S896x128_S128x128_768_0, k0_pay518 (F := F)⟩])
    W WS f0 f5 f6) trE)) $$ HI
  unfold mainI
  rw [J_end sz hf, N_end sz hf, out_end, ring_end]
  icases HI with ⟨H6, H5, H0, H8, H9, H3, HR, ⟨HO, HO1⟩, HK, ⟨%D2, HD⟩⟩
  dsimp only
  unfold busyO
  icases HO with ⟨%fo, %g, %hg, HO, HOR⟩
  unfold oflight
  sl_exec
  sl_step
  isplitl [H6]; · iexact H6
  isplitl [H5]; · iexact H5
  isplitl [H0]; · iexact H0
  isplitl [H3]; · iexact H3
  isplitl [HR]; · iexact HR
  isplitl [H8]; · iexists _; iexact H8
  isplitl [H9]; · iexists _; iexact H9
  isplitl [HO_src HOR HO]
  · unfold freeO
    isplitr [HO]
    · iexists g
      iapply (oP_join (F := F) c 0 g)
      isplitl [HO_src]; · iexact HO_src
      iexact HOR
    iexact HO
  isplitl [HO1]; · iexact HO1
  isplitl [HK]; · iexact HK
  isplitl [HO_dst]
  · unfold colDone
    iexists _
    isplitr
    · ipureintro; exact colOK_flown Spec c 4 0 fo g hg
    iexact HO_dst
  isplitl [Hc7_src Hd7 Hc7]
  · unfold xdone
    isplitl [Hc7_src]; · iexact Hc7_src
    isplitl [Hd7]; · iexact Hd7
    iexact Hc7
  iexists _; iexact HD
end

end Cert.Proof.KernelIdeal
-- ==== Proof.Body.lean ====
/-
  The whole kernel: what it needs, and what it leaves.
-/
module

public import proofs.«01_k».proof.Proof.Ends
public import proofs.«01_k».proof.Proof.Tables

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

omit [FloatOps F] in
theorem bigSep_fin8 (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [(0 : Fin 8), (1 : Fin 8), (2 : Fin 8), (3 : Fin 8), (4 : Fin 8), (5 : Fin 8), (6 : Fin 8), (7 : Fin 8)] (by decide) (by decide) Φ

section
variable (c : Dev nD) (QP : QPT F c) (arg0 : Memref sig .tc .smem S9 .i32) (harg0 : arg0.IsWhole)
  (arg3 : Memref sig .tc .vmem S9x3072 .f32) (harg3 : arg3.IsWhole) (sz : ℕ → ℕ)
  (x : Buf (Elt F) (a1.view.loc (c : Thread nD τ))) (f7 : Buf (Elt F) (a7.view.loc (c : Thread nD τ)))
  (hq0 : ∀ f8 f9, QP 0 f8 f9)
  (hq : QSteps c QP arg0 harg0 arg3 harg3 sz (wd (act sz)) (wd (6 * act sz)) x)
  (Spec : SpecT F) (hf : Fits sz)
  (W : Buf (Elt F) (a2.view.loc (c : Thread nD τ))) (WS : Buf (Elt F) (arg3.view.loc (c : Thread nD τ)))
  (f0 : Buf (Elt F) (arg0.view.loc (c : Thread nD τ))) (h0 : T0 (F := F) sz c arg0 f0)
  (hpad : PadOK c QP arg3 sz Spec W WS)

/-- A chunk of the activations with its place in the fast copy and its counter, before it is fetched. -/
def xfree (i : Fin 8) : sProp 𝕄 := iprop(xsrcP c i x ∗ xdstP c i f7 ∗ xcell (F := F) c i)
omit [FloatOps F] in
theorem preS_start (s : Fin 12) : freeS (F := F) c W s = preS sz c W 0 s := by
  unfold preS; rw [if_neg (fun h => Nat.not_lt_zero _ h.1)]

set_option maxHeartbeats 4000000 in
set_option maxRecDepth 100000 in
set_option backward.proofsInPublic true in
include hq0 hq hf h0 hpad in
theorem body :
    iprop(p0 c arg0 f0 ∗ p3 c arg3 WS ∗ (∃ f, t5P (F := F) c f) ∗ (∃ f, t6P (F := F) c f) ∗ bigSep Finset.univ (xfree c x f7)
        ∗ (∃ f, codesP (F := F) c f) ∗ (∃ f, scalesP (F := F) c f) ∗ bigSep Finset.univ (freeS c W)
        ∗ bigSep Finset.univ (freeO (F := F) c) ∗ bigSep Finset.univ (colRaw (F := F) c) ∗ ow (F := F) c)
      ⊢ wp frame (wpE (defs₀ (F := F)) 𝒱₀ (c : Thread nD τ) none) Set.univ (cc0_grouped_fp8 (F := F) arg0 harg0 a1 (Memref.isWhole_whole _) a2 (Memref.isWhole_whole _) arg3 harg3 a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9)
        (fun _ => iprop(p0 c arg0 f0 ∗ p3 c arg3 WS ∗ (∃ f, t5P (F := F) c f) ∗ (∃ f, t6P (F := F) c f) ∗ bigSep Finset.univ (fun i => xdone c i x)
          ∗ (∃ f, codesP (F := F) c f) ∗ (∃ f, scalesP (F := F) c f) ∗ bigSep Finset.univ (freeS c W)
          ∗ bigSep Finset.univ (freeO (F := F) c) ∗ bigSep Finset.univ (colDone Spec c) ∗ ow (F := F) c)) := by
  rw [cc0_grouped_fp8_eq_skeleton, bigSep_fin8, bigSep_fin8]
  unfold xfree
  iintro ⟨H0, H3, ⟨%f5, H5⟩, ⟨%f6, H6⟩, ⟨X0, X1, X2, X3, X4, X5, X6, X7⟩, ⟨%f8, H8⟩, ⟨%f9, H9⟩, HR, HO, HK, HD⟩
  unfold cc0_grouped_fp8_skel
  rw [wp_bind]
  iapply (wp_wand_r frame (wpE (defs₀ (F := F)) 𝒱₀ (c : Thread nD τ) none) Set.univ)
  isplitl [X0 X1 X2 X3 X4 X5]
  · iapply (part149 (F := F) c arg0 harg0 arg3 harg3 x f7)
    isplitl [X0]; · iexact X0
    isplitl [X1]; · iexact X1
    isplitl [X2]; · iexact X2
    isplitl [X3]; · iexact X3
    isplitl [X4]; · iexact X4
    iexact X5
  iintro %r1 ⟨C0, C1, C2, C3, C4, C5⟩
  rw [wp_bind]
  iapply (wp_wand_r frame (wpE (defs₀ (F := F)) 𝒱₀ (c : Thread nD τ) none) Set.univ)
  isplitl [H0 H5 H6 X6 X7]
  · iapply (part150 (F := F) sz hf c arg0 harg0 arg3 harg3 f0 h0 f5 f6 f7 x)
    isplitl [H0]; · iexact H0
    isplitl [H5]; · iexact H5
    isplitl [H6]; · iexact H6
    isplitl [X6]; · iexact X6
    iexact X7
  iintro %r2 ⟨%hr, H0, ⟨%f5a, %h5a, H5⟩, ⟨%f6a, %h6a, H6⟩, C6, C7⟩
  obtain ⟨h2, rfl⟩ := hr
  dsimp only
  rw [wp_bind]
  iapply (wp_wand_r frame (wpE (defs₀ (F := F)) 𝒱₀ (c : Thread nD τ) none) Set.univ)
  isplitl [H0 H5 H6]
  · iapply (part151 (F := F) sz hf c arg0 harg0 arg3 harg3 f0 h0 f5a f6a h2 h5a h6a)
    isplitl [H0]; · iexact H0
    isplitl [H5]; · iexact H5
    iexact H6
  iintro %r3 ⟨%hr, H0, ⟨%f5b, %h5b, H5⟩, ⟨%f6b, %h6b, H6⟩⟩
  subst hr
  dsimp only
  rw [wp_bind]
  iapply (wp_wand_r frame (wpE (defs₀ (F := F)) 𝒱₀ (c : Thread nD τ) none) Set.univ)
  isplitl [H0 H5 H6]
  · iapply (part152 (F := F) sz hf c arg0 harg0 arg3 harg3 f0 h0 f5b f6b h5b h6b)
    isplitl [H0]; · iexact H0
    isplitl [H5]; · iexact H5
    iexact H6
  iintro %r4 ⟨%hr, H0, ⟨%f5c, %h5c, H5⟩, ⟨%f6c, %h6c, H6⟩⟩
  obtain ⟨h12, rfl⟩ := hr
  dsimp only
  rw [wp_bind]
  iapply (wp_wand_r frame (wpE (defs₀ (F := F)) 𝒱₀ (c : Thread nD τ) none) Set.univ)
  isplitl [H6 HR C0 C1 C2 H8 H9 HD]
  · iapply (part153 (F := F) c QP arg0 harg0 arg3 harg3 sz (wd (act sz)) (wd (6 * act sz)) x f7 hq hf W f6c h6c rfl)
    isplitl [H6]; · iexact H6
    isplitl [HR]
    · iapply (entails_of_eq (BI.bigSep_congr fun s _ => preS_start c sz W s)); iexact HR
    isplitl [C0]; · iexact C0
    isplitl [C1]; · iexact C1
    isplitl [C2]; · iexact C2
    isplitl [H8 H9]
    · unfold qS
      iexists f8; iexists f9
      isplitr; · ipureintro; exact hq0 f8 f9
      isplitl [H8]; · iexact H8
      iexact H9
    iexact HD
  iintro %r5 ⟨%hr, H6, HR, D0, D1, D2, HQ, HD⟩
  subst hr
  dsimp only
  rw [wp_bind]
  iapply (wp_wand_r frame (wpE (defs₀ (F := F)) 𝒱₀ (c : Thread nD τ) none) Set.univ)
  isplitl [C3 C4 C5 C6 HQ HD]
  · iapply (part154 (F := F) c QP arg0 harg0 arg3 harg3 sz (wd (act sz)) (wd (6 * act sz)) x f7 hq)
    isplitl [C3]; · iexact C3
    isplitl [C4]; · iexact C4
    isplitl [C5]; · iexact C5
    isplitl [C6]; · iexact C6
    isplitl [HQ]; · iexact HQ
    iexact HD
  iintro %r6 ⟨D3, D4, D5, D6, HQ, HD⟩
  rw [wp_bind]
  iapply (wp_wand_r frame (wpE (defs₀ (F := F)) 𝒱₀ (c : Thread nD τ) none) Set.univ)
  isplitl [H6 H5 H0 H3 HR HO HK C7 HQ HD]
  · iapply (part155 (F := F) c QP arg0 harg0 arg3 harg3 sz x f7 hq Spec hf W WS f0 h0 hpad f5c f6c h5c h6c h12)
    isplitl [H6]; · iexact H6
    isplitl [H5]; · iexact H5
    isplitl [H0]; · iexact H0
    isplitl [H3]; · iexact H3
    isplitl [HR]; · iexact HR
    isplitl [HO]; · iexact HO
    isplitl [HK]; · iexact HK
    isplitl [C7]; · iexact C7
    isplitl [HQ]; · iexact HQ
    iexact HD
  iintro %r7 ⟨H6, H5, H0, H3, HR, H8, H9, HO0, HO, HK, HK4, D7, ⟨%D, HD⟩⟩
  unfold busyO
  icases HO with ⟨%fo, %g, %hg, HO, HOR⟩
  unfold oflight
  sl_exec
  sl_step
  isplitl [H0]; · iexact H0
  isplitl [H3]; · iexact H3
  isplitl [H5]; · iexists _; iexact H5
  isplitl [H6]; · iexists _; iexact H6
  isplitl [D0 D1 D2 D3 D4 D5 D6 D7]
  ·
    isplitl [D0]; · iexact D0
    isplitl [D1]; · iexact D1
    isplitl [D2]; · iexact D2
    isplitl [D3]; · iexact D3
    isplitl [D4]; · iexact D4
    isplitl [D5]; · iexact D5
    isplitl [D6]; · iexact D6
    iexact D7
  isplitl [H8]; · iexact H8
  isplitl [H9]; · iexact H9
  isplitl [HR]; · iexact HR
  isplitl [HO0 HO_src HOR HO]
  · iapply (entails_of_eq (show iprop(freeO (F := F) c 0 ∗ freeO (F := F) c 1) = bigSep Finset.univ (freeO (F := F) c) from (BI.bigSep_fin_two _).symm))
    isplitl [HO0]; · iexact HO0
    unfold freeO
    isplitr [HO]
    · iexists g
      iapply (oP_join (F := F) c 1 g)
      isplitl [HO_src]; · iexact HO_src
      iexact HOR
    iexact HO
  isplitl [HK HK4 HO_dst]
  · iapply (col_end Spec c)
    isplitl [HK]; · iexact HK
    isplitl [HK4]; · iexact HK4
    unfold colDone
    iexists _
    isplitr
    · ipureintro; exact colOK_flown Spec c 5 1 fo g hg
    iexact HO_dst
  iexists _; iexact HD
end

end Cert.Proof.KernelIdeal
-- ==== Proof.Blocks.lean ====
/-
  The buffers that the kernel uses in pieces are those pieces: the activations and their fast copy in eight chunks of rows, the ring in twelve
  slots, the output buffer in two, the result in six column pieces, and the weights in read shares.
-/
module

public import proofs.«01_k».proof.Proof.Body
public import Idealize.ShloMosaic.Lib.Ring

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix2 ix3)
open Idealize.ShloMosaic.Pipeline (Dat Cfg Window BodyObligation cellOf)

variable {F : FTy → Type} [FloatOps F]
local notation "𝕄" => MT nD τ sig Unit (Elt F) ℕ (UU nD τ) ℕ

theorem blocks_disjoint {X : Type} {n : ℕ} (I : Fin n → Finset X) (φ : X → ℕ) (h : ∀ b y, y ∈ I b ↔ φ y = b.val) :
    ∀ b b', b ≠ b' → Disjoint (I b) (I b') := by
  intro b b' hne; rw [Finset.disjoint_left]; intro y hy hy'; rw [h] at hy hy'; exact hne (Fin.ext (hy.symm.trans hy'))
theorem blocks_cover {X : Type} [Fintype X] [DecidableEq X] {n : ℕ} (I : Fin n → Finset X) (φ : X → ℕ) (h : ∀ b y, y ∈ I b ↔ φ y = b.val) (hφ : ∀ y, φ y < n) :
    (Finset.univ : Finset (Fin n)).biUnion I = Finset.univ := by
  ext y; simp only [Finset.mem_biUnion, Finset.mem_univ, true_and, iff_true]; exact ⟨⟨φ y, hφ y⟩, (h _ _).2 rfl⟩

/-- The elements of chunk `i`. -/
abbrev X8 (i : Fin 8) : Finset S768x5120.Idx := (Rect.unit (s := S768x5120) (xOff i) S96x5120.size (xOff_inb i)).set
/-- The elements of slot `s` of the ring. -/
abbrev R12 (s : Fin 12) : Finset S12x5120x512.Idx := (Rect.unit (s := S12x5120x512) (wslotOff s) S1x5120x512.size (wslotOff_inb s)).set
/-- The elements of slot `p` of the output buffer. -/
abbrev O2 (p : Fin 2) : Finset S2x896x512.Idx := (Rect.unit (s := S2x896x512) (oslotOff p) S1x896x512.size (oslotOff_inb' p)).set
/-- The elements of column piece `n` of the result. -/
abbrev C6 (n : Fin 6) : Finset S768x3072.Idx := (Rect.unit (s := S768x3072) (ocolOff n) S768x512.size (ocolOff_inb n)).set

theorem mem_X8 (i : Fin 8) (y : S768x5120.Idx) : y ∈ X8 i ↔ (y 0).val / 96 = i.val := by
  rw [Rect.mem_set_unit]
  have h1 : (y 0).val < 768 := (y 0).isLt
  have h2 : (y 1).val < 5120 := (y 1).isLt
  constructor
  · intro H; have a0 : i.val * 96 ≤ (y 0).val ∧ (y 0).val < i.val * 96 + 96 := H 0; omega
  · intro H a; fin_cases a
    · show i.val * 96 ≤ (y 0).val ∧ (y 0).val < i.val * 96 + 96; omega
    · show 0 ≤ (y 1).val ∧ (y 1).val < 0 + 5120; omega
theorem mem_R12 (s : Fin 12) (y : S12x5120x512.Idx) : y ∈ R12 s ↔ (y 0).val = s.val := by
  rw [Rect.mem_set_unit]
  have h1 : (y 1).val < 5120 := (y 1).isLt
  have h2 : (y 2).val < 512 := (y 2).isLt
  constructor
  · intro H; have a0 : s.val ≤ (y 0).val ∧ (y 0).val < s.val + 1 := H 0; omega
  · intro H a; fin_cases a
    · show s.val ≤ (y 0).val ∧ (y 0).val < s.val + 1; omega
    · show 0 ≤ (y 1).val ∧ (y 1).val < 0 + 5120; omega
    · show 0 ≤ (y 2).val ∧ (y 2).val < 0 + 512; omega
theorem mem_O2 (p : Fin 2) (y : S2x896x512.Idx) : y ∈ O2 p ↔ (y 0).val = p.val := by
  rw [Rect.mem_set_unit]
  have h1 : (y 1).val < 896 := (y 1).isLt
  have h2 : (y 2).val < 512 := (y 2).isLt
  constructor
  · intro H; have a0 : p.val ≤ (y 0).val ∧ (y 0).val < p.val + 1 := H 0; omega
  · intro H a; fin_cases a
    · show p.val ≤ (y 0).val ∧ (y 0).val < p.val + 1; omega
    · show 0 ≤ (y 1).val ∧ (y 1).val < 0 + 896; omega
    · show 0 ≤ (y 2).val ∧ (y 2).val < 0 + 512; omega
theorem mem_C6 (n : Fin 6) (y : S768x3072.Idx) : y ∈ C6 n ↔ (y 1).val / 512 = n.val := by
  rw [Rect.mem_set_unit]
  have h1 : (y 0).val < 768 := (y 0).isLt
  have h2 : (y 1).val < 3072 := (y 1).isLt
  constructor
  · intro H; have a0 : n.val * 512 ≤ (y 1).val ∧ (y 1).val < n.val * 512 + 512 := H 1; omega
  · intro H a; fin_cases a
    · show 0 ≤ (y 0).val ∧ (y 0).val < 0 + 768; omega
    · show n.val * 512 ≤ (y 1).val ∧ (y 1).val < n.val * 512 + 512; omega

theorem X8_disjoint : ∀ b b', b ≠ b' → Disjoint (X8 b) (X8 b') := blocks_disjoint X8 (fun y => (y 0).val / 96) mem_X8
theorem X8_cover : (Finset.univ : Finset (Fin 8)).biUnion X8 = Finset.univ :=
  blocks_cover X8 (fun y => (y 0).val / 96) mem_X8 fun y => by have h : (y 0).val < 768 := (y 0).isLt; omega
theorem R12_disjoint : ∀ b b', b ≠ b' → Disjoint (R12 b) (R12 b') := blocks_disjoint R12 (fun y => (y 0).val) mem_R12
theorem R12_cover : (Finset.univ : Finset (Fin 12)).biUnion R12 = Finset.univ :=
  blocks_cover R12 (fun y => (y 0).val) mem_R12 fun y => (y 0).isLt
theorem O2_disjoint : ∀ b b', b ≠ b' → Disjoint (O2 b) (O2 b') := blocks_disjoint O2 (fun y => (y 0).val) mem_O2
theorem O2_cover : (Finset.univ : Finset (Fin 2)).biUnion O2 = Finset.univ :=
  blocks_cover O2 (fun y => (y 0).val) mem_O2 fun y => (y 0).isLt
theorem C6_disjoint : ∀ b b', b ≠ b' → Disjoint (C6 b) (C6 b') := blocks_disjoint C6 (fun y => (y 1).val / 512) mem_C6
theorem C6_cover : (Finset.univ : Finset (Fin 6)).biUnion C6 = Finset.univ :=
  blocks_cover C6 (fun y => (y 1).val / 512) mem_C6 fun y => by have h : (y 1).val < 3072 := (y 1).isLt; omega

theorem wslot_set (s : Fin 12) : (wslot s).view.set = R12 s := (View.set_reshape _ _).trans (View.set_slice_whole _ _)
theorem ofull_set (p : Fin 2) : (ofull p).view.set = O2 p := View.set_slice_whole _ _
theorem ocol_set (n : Fin 6) : (ocol n).view.set = C6 n := View.set_slice_whole _ _

section
variable (c : Dev nD)

omit [FloatOps F] in
/-- The activations whole are their chunks. -/
theorem xsrc_eq (x : Buf (Elt F) ((c : Thread nD τ).loc main_arg0)) :
    (((c : Thread nD τ).loc main_arg0) ↦{fullShare} x : sProp 𝕄) = bigSep Finset.univ (fun i => xsrcP (F := F) c i x) := by
  rw [Ring.pointsTo_blocks (ℓ := (c : Thread nD τ).loc main_arg0) X8 X8_disjoint X8_cover]
  exact bigSep_congr fun b _ => (congrArg (fun S => (((c : Thread nD τ).loc main_arg0) ↦[S]{fullShare} x : sProp 𝕄)) (xsrc_set b)).symm
omit [FloatOps F] in
/-- The fast copy whole is its chunks, -/
theorem xdst_eq (f : Buf (Elt F) ((c : Thread nD τ).loc cc0_scratch2)) :
    (((c : Thread nD τ).loc cc0_scratch2) ↦{fullShare} f : sProp 𝕄) = bigSep Finset.univ (fun i => xdstP (F := F) c i f) := by
  rw [Ring.pointsTo_blocks (ℓ := (c : Thread nD τ).loc cc0_scratch2) X8 X8_disjoint X8_cover]
  exact bigSep_congr fun b _ => (congrArg (fun S => (((c : Thread nD τ).loc cc0_scratch2) ↦[S]{fullShare} f : sProp 𝕄)) (xdst_set b)).symm
/-- and back. -/
theorem xdst_join : bigSep Finset.univ (fun i => iprop(∃ f, xdstP (F := F) c i f))
    ⊢ (iprop(∃ f : Buf (Elt F) ((c : Thread nD τ).loc cc0_scratch2), ((c : Thread nD τ).loc cc0_scratch2) ↦{fullShare} f) : sProp 𝕄) := by
  have e : bigSep Finset.univ (fun i => iprop(∃ f, xdstP (F := F) c i f))
      = (bigSep Finset.univ (fun i => iprop(∃ f, ((c : Thread nD τ).loc cc0_scratch2) ↦[X8 i]{fullShare} f)) : sProp 𝕄) :=
    bigSep_congr fun b _ => congrArg (fun S => (iprop(∃ f, ((c : Thread nD τ).loc cc0_scratch2) ↦[S]{fullShare} f) : sProp 𝕄)) (xdst_set b)
  rw [e]
  exact Ring.pointsTo_blocks_join_exists (ℓ := (c : Thread nD τ).loc cc0_scratch2) X8 X8_disjoint X8_cover (a7.view.junk)

omit [FloatOps F] in
/-- The ring whole is its slots, -/
theorem ring_eq (f : Buf (Elt F) ((c : Thread nD τ).loc cc0_scratch5)) :
    (((c : Thread nD τ).loc cc0_scratch5) ↦{fullShare} f : sProp 𝕄) = bigSep Finset.univ (fun s => slotP (F := F) c s f) := by
  rw [Ring.pointsTo_blocks (ℓ := (c : Thread nD τ).loc cc0_scratch5) R12 R12_disjoint R12_cover]
  exact bigSep_congr fun b _ => by rw [← wslot_set]; rfl
theorem ring_split : (iprop(∃ f : Buf (Elt F) ((c : Thread nD τ).loc cc0_scratch5), ((c : Thread nD τ).loc cc0_scratch5) ↦{fullShare} f) : sProp 𝕄)
    ⊢ bigSep Finset.univ (fun s => iprop(∃ f, slotP (F := F) c s f)) := by
  iintro ⟨%f, H⟩
  ihave H := (entails_of_eq (ring_eq c f)) $$ H
  iapply (show bigSep Finset.univ (fun s => slotP (F := F) c s f) ⊢ bigSep Finset.univ (fun s => iprop(∃ f, slotP (F := F) c s f)) from
    bigSep_mono fun s _ => (show slotP (F := F) c s f ⊢ iprop(∃ f, slotP (F := F) c s f) from by iintro H; iexists f; iexact H))
  iexact H
/-- and back. -/
theorem ring_join : bigSep Finset.univ (fun s => iprop(∃ f, slotP (F := F) c s f))
    ⊢ (iprop(∃ f : Buf (Elt F) ((c : Thread nD τ).loc cc0_scratch5), ((c : Thread nD τ).loc cc0_scratch5) ↦{fullShare} f) : sProp 𝕄) := by
  have e : bigSep Finset.univ (fun s => iprop(∃ f, slotP (F := F) c s f))
      = (bigSep Finset.univ (fun s => iprop(∃ f, ((c : Thread nD τ).loc cc0_scratch5) ↦[R12 s]{fullShare} f)) : sProp 𝕄) :=
    bigSep_congr fun b _ => by rw [← wslot_set]; rfl
  rw [e]
  exact Ring.pointsTo_blocks_join_exists (ℓ := (c : Thread nD τ).loc cc0_scratch5) R12 R12_disjoint R12_cover (a10.view.junk)

omit [FloatOps F] in
/-- The output buffer whole is its slots, -/
theorem out_eq (f : Buf (Elt F) ((c : Thread nD τ).loc cc0_scratch6)) :
    (((c : Thread nD τ).loc cc0_scratch6) ↦{fullShare} f : sProp 𝕄) = bigSep Finset.univ (fun p => oP (F := F) c p f) := by
  rw [Ring.pointsTo_blocks (ℓ := (c : Thread nD τ).loc cc0_scratch6) O2 O2_disjoint O2_cover]
  exact bigSep_congr fun b _ => by unfold oP; rw [← ofull_set]; rfl
theorem out_split : (iprop(∃ f : Buf (Elt F) ((c : Thread nD τ).loc cc0_scratch6), ((c : Thread nD τ).loc cc0_scratch6) ↦{fullShare} f) : sProp 𝕄)
    ⊢ bigSep Finset.univ (fun p => iprop(∃ f, oP (F := F) c p f)) := by
  iintro ⟨%f, H⟩
  ihave H := (entails_of_eq (out_eq c f)) $$ H
  iapply (show bigSep Finset.univ (fun p => oP (F := F) c p f) ⊢ bigSep Finset.univ (fun p => iprop(∃ f, oP (F := F) c p f)) from
    bigSep_mono fun p _ => (show oP (F := F) c p f ⊢ iprop(∃ f, oP (F := F) c p f) from by iintro H; iexists f; iexact H))
  iexact H
/-- and back. -/
theorem out_join : bigSep Finset.univ (fun p => iprop(∃ f, oP (F := F) c p f))
    ⊢ (iprop(∃ f : Buf (Elt F) ((c : Thread nD τ).loc cc0_scratch6), ((c : Thread nD τ).loc cc0_scratch6) ↦{fullShare} f) : sProp 𝕄) := by
  have e : bigSep Finset.univ (fun p => iprop(∃ f, oP (F := F) c p f))
      = (bigSep Finset.univ (fun p => iprop(∃ f, ((c : Thread nD τ).loc cc0_scratch6) ↦[O2 p]{fullShare} f)) : sProp 𝕄) :=
    bigSep_congr fun b _ => by unfold oP; rw [← ofull_set]; rfl
  rw [e]
  exact Ring.pointsTo_blocks_join_exists (ℓ := (c : Thread nD τ).loc cc0_scratch6) O2 O2_disjoint O2_cover (a11.view.junk)

/-- The result whole gives its column pieces; -/
theorem res_split (f : Buf (Elt F) ((c : Thread nD τ).loc main_v0)) :
    (((c : Thread nD τ).loc main_v0) ↦{fullShare} f : sProp 𝕄) ⊢ bigSep Finset.univ (colRaw (F := F) c) := by
  rw [Ring.pointsTo_blocks (ℓ := (c : Thread nD τ).loc main_v0) C6 C6_disjoint C6_cover]
  have e : ∀ b, (((c : Thread nD τ).loc main_v0) ↦[C6 b]{fullShare} f : sProp 𝕄) = ocolP (F := F) c b f := fun b =>
    (congrArg (fun S => (((c : Thread nD τ).loc main_v0) ↦[S]{fullShare} f : sProp 𝕄)) (ocol_set b)).symm
  exact bigSep_mono fun b _ => (show (((c : Thread nD τ).loc main_v0) ↦[C6 b]{fullShare} f : sProp 𝕄) ⊢ colRaw (F := F) c b from by
    rw [e b]
    unfold colRaw
    iintro H
    iexists f
    iexact H)
/-- Every value of the result is as asked. -/
def AllOK (Spec : SpecT F) (g : Buf (Elt F) ((c : Thread nD τ).loc main_v0)) : Prop := ∀ n, ColOK Spec c n g
/-- and column pieces with every value as asked join to the result with every value as asked. -/
theorem res_join (Spec : SpecT F) : bigSep Finset.univ (colDone Spec c)
    ⊢ (iprop(∃ g : Buf (Elt F) ((c : Thread nD τ).loc main_v0), ⌜AllOK c Spec g⌝ ∗ ((c : Thread nD τ).loc main_v0) ↦{fullShare} g) : sProp 𝕄) := by
  have : Nonempty (Buf (Elt F) ((c : Thread nD τ).loc main_v0)) := ⟨a4.view.junk⟩
  have e : bigSep Finset.univ (colDone Spec c)
      = (bigSep Finset.univ (fun n => iprop(∃ f : Buf (Elt F) ((c : Thread nD τ).loc main_v0), ⌜ColOK Spec c n f⌝ ∗ ((c : Thread nD τ).loc main_v0) ↦[C6 n]{fullShare} f)) : sProp 𝕄) :=
    bigSep_congr fun b _ => by unfold colDone ocolP; rw [← ocol_set]; rfl
  rw [e]
  refine (Idealize.SL.BI.bigSep_exists_pi Finset.univ (fun n (f : Buf (Elt F) ((c : Thread nD τ).loc main_v0)) =>
    (iprop(⌜ColOK Spec c n f⌝ ∗ ((c : Thread nD τ).loc main_v0) ↦[C6 n]{fullShare} f) : sProp 𝕄))).trans ?_
  iintro ⟨%fs, H⟩
  ihave H := (bigSep_pure_sep Finset.univ (fun n => ColOK Spec c n (fs n)) (fun n => (((c : Thread nD τ).loc main_v0) ↦[C6 n]{fullShare} (fs n) : sProp 𝕄))) $$ H
  icases H with ⟨%hk, H⟩
  ihave H := (pointsTo_biUnion_join Finset.univ C6 fs a4.view.junk (fun b _ b' _ h => C6_disjoint b b' h)) $$ H
  icases H with ⟨%g, %hg, H⟩
  iexists g
  isplitr
  · ipureintro
    intro n R C
    rw [View.read_congr (v := (ocol n).view) (Val := Elt F) (f := g) (g := fs n) (fun i hi => hg n (Finset.mem_univ _) i (by rw [← ocol_set]; exact hi))]
    exact hk n (Finset.mem_univ _) R C
  rw [C6_cover]
  iexact H

/-- The share of the weights that no slot uses. -/
def wkeep (W : Buf (Elt F) (a2.view.loc (c : Thread nD τ))) : sProp 𝕄 :=
  iprop((a2.view.loc (c : Thread nD τ) ↦[a2.view.set]{Transfers.shareDrop fullShare 22} W)
    ∗ bigSep (Finset.range 10) (fun i => a2.view.loc (c : Thread nD τ) ↦[a2.view.set]{Transfers.shareTokN fullShare i} W))
omit [FloatOps F] in
/-- The weights whole are the slots' read shares and the rest. -/
theorem weights_eq (W : Buf (Elt F) (a2.view.loc (c : Thread nD τ))) :
    (((c : Thread nD τ).loc main_arg2) ↦{fullShare} W : sProp 𝕄) = iprop(wkeep c W ∗ bigSep Finset.univ (wtok (F := F) c W)) := by
  have e0 : (((c : Thread nD τ).loc main_arg2) ↦{fullShare} W : sProp 𝕄) = (a2.view.loc (c : Thread nD τ) ↦[a2.view.set]{fullShare} W) :=
    congrArg (fun S => (a2.view.loc (c : Thread nD τ) ↦[S]{fullShare} W : sProp 𝕄)) (View.set_whole main_arg2).symm
  have e1 : bigSep (Finset.range 22) (fun i => (a2.view.loc (c : Thread nD τ) ↦[a2.view.set]{Transfers.shareTokN fullShare i} W : sProp 𝕄))
      = iprop(bigSep (Finset.range 10) (fun i => a2.view.loc (c : Thread nD τ) ↦[a2.view.set]{Transfers.shareTokN fullShare i} W)
        ∗ bigSep Finset.univ (wtok (F := F) c W)) := by
    have hr : Finset.range 22 = Finset.range 10 ∪ (Finset.univ : Finset (Fin 12)).map ⟨fun s => 10 + s.val, fun a b h => Fin.ext (Nat.add_left_cancel h)⟩ := by decide
    rw [hr, bigSep_union (by decide), bigSep_map]
    rfl
  rw [e0, show (a2.view.loc (c : Thread nD τ) ↦[a2.view.set]{fullShare} W : sProp 𝕄) = _ from BI.equiv_iff.mp ⟨(Transfers.pointsTo_toks_range fullShare 22).1, (Transfers.pointsTo_toks_range fullShare 22).2⟩, e1]
  unfold wkeep
  exact BI.equiv_iff.mp ⟨Idealize.SL.BI.sep_assoc', Idealize.SL.BI.sep_assoc⟩
end

end Cert.Proof.KernelIdeal
-- ==== Proof.Launch.lean ====
/-
  The launch: from the arguments in memory to the kernel and back.
-/
module

public import proofs.«01_k».proof.Proof.Blocks
public import proofs.«01_k».proof.Proof.Gen.KernelIdeal.Launch
public import proofs.«01_k».proof.Proof.Gen.KernelIdeal.Points
public import Idealize.ShloMosaic.Lib.Pipeline.KitQuiescent

@[expose] public section

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ (UU nD τ) ℕ

section
variable (m : (ℓ : Loc nD τ sig) → Buf (Elt F) ℓ) (ρ)
/-- A buffer's contents at launch. -/
abbrev V (c : Dev nD) (b : Ref sig .tc) : Buf (Elt F) ((c : Thread nD τ).loc b) := (s₀ m ρ).mem ((c : Thread nD τ).loc b)

/-! ### The kernel's own counters -/

/-- The counters: eight for the activations, twelve for the ring, two for the result. -/
def owns3 : Fin 8 ⊕ Fin 12 ⊕ Fin 2 → SemLoc sig
  | .inl i => .dma (xsem i).sem
  | .inr (.inl s) => .dma (wsem s).sem
  | .inr (.inr p) => .dma (osem p).sem
theorem ownSemFacts : Pipeline.OwnSemFacts spec0 owns3 := by decide +kernel
omit [FloatOps F] in
theorem ownSems0_eq (c : Dev nD) : (Pipeline.ownSems0 (Ix := Unit) (Name := ℕ) (U := UU nD τ) (Lvl := ℕ) (Val := Elt F) (τ := τ) owns3 c : sProp 𝕄)
    = iprop(bigSep Finset.univ (fun i => xcell (F := F) c i) ∗ bigSep Finset.univ (fun s => cellP (F := F) c s) ∗ bigSep Finset.univ (fun p => cellO (F := F) c p)) := by
  unfold Pipeline.ownSems0
  rw [bigSep_univ_sum, bigSep_univ_sum]
  rfl

/-- Window `w`'s block at point `t`, read off its array at launch. -/
def iblk (c : Dev nD) (w : Fin cfg0.W) (t : Fin cfg0.N) : ((cfg0.win w).xblock (cfg0.grid.coords t)).Idx → Elt F (cfg0.win w).elt :=
  ((cfg0.win w).blk t).view.read (Elt F) (V m ρ c (Pipeline.arrRef spec0 w))
/-- The sizes as the kernel reads them. -/
abbrev sizesAt (c : Dev nD) (t : Fin cfg0.N) : Buf (Elt F) ((st0_0 t).view.loc (c : Thread nD τ)) := (st0_0 t).view.rep (iblk m ρ c 0 t)
/-- The gains as the kernel reads them. -/
abbrev gainsAt (c : Dev nD) (t : Fin cfg0.N) : Buf (Elt F) ((st0_1 t).view.loc (c : Thread nD τ)) := (st0_1 t).view.rep (iblk m ρ c 1 t)

/-- What is known of the arguments and asked of the result. -/
structure Plan where
  sz : Dev nD → ℕ → ℕ
  fits : ∀ c, Fits (sz c)
  sizes : ∀ c t, T0 (F := F) (sz c) c (st0_0 t) (sizesAt m ρ c t)
  QP : (c : Dev nD) → QPT F c
  start : ∀ c f8 f9, QP c 0 f8 f9
  steps : ∀ c t, QSteps c (QP c) (st0_0 t) (hstage0_0 0) (st0_1 t) (hstage0_1 0) (sz c) (wd (act (sz c))) (wd (6 * act (sz c))) (V m ρ c main_arg0)
  Spec : Dev nD → SpecT F
  pad : ∀ c t, PadOK c (QP c) (st0_1 t) (sz c) (Spec c) (V m ρ c main_arg2) (gainsAt m ρ c t)
variable (P : Plan m ρ)

/-! ### What is held before and after the one point -/

def entry (c : Dev nD) : sProp 𝕄 :=
  iprop((∃ f, t5P (F := F) c f) ∗ (∃ f, t6P (F := F) c f) ∗ (∃ f, bigSep Finset.univ (xfree c (V m ρ c main_arg0) f))
    ∗ (∃ f, codesP (F := F) c f) ∗ (∃ f, scalesP (F := F) c f) ∗ bigSep Finset.univ (freeS c (V m ρ c main_arg2))
    ∗ bigSep Finset.univ (freeO (F := F) c) ∗ bigSep Finset.univ (colRaw (F := F) c) ∗ wkeep c (V m ρ c main_arg2))
def exit (Spec : SpecT F) (c : Dev nD) : sProp 𝕄 :=
  iprop((∃ f, t5P (F := F) c f) ∗ (∃ f, t6P (F := F) c f) ∗ bigSep Finset.univ (fun i => xdone c i (V m ρ c main_arg0))
    ∗ (∃ f, codesP (F := F) c f) ∗ (∃ f, scalesP (F := F) c f) ∗ bigSep Finset.univ (freeS c (V m ρ c main_arg2))
    ∗ bigSep Finset.univ (freeO (F := F) c) ∗ bigSep Finset.univ (colDone Spec c) ∗ wkeep c (V m ρ c main_arg2))

def dats (_ : Fin 1) (c : Dev nD) : Dat τ (Elt F) Unit ℕ (UU nD τ) ℕ cfg0 c where
  A w := V m ρ c (Pipeline.arrRef spec0 w)
  after w t := match w with
    | ⟨0, _⟩ => iblk m ρ c 0 t
    | ⟨1, _⟩ => iblk m ρ c 1 t
  Φ t := if t.val = 0 then entry m ρ c else exit m ρ (P.Spec c) c
  q _ := fullShare
  owed _ := 0

theorem before_0 (c : Dev nD) (t : Fin cfg0.N) (d) : (dats m ρ P 0 c).before 0 t d = iblk m ρ c 0 t := by
  unfold Dat.before; rw [if_pos (fetch0_0 t)]; unfold Dat.fetched Dat.blockOf iblk; dsimp only [dats]; rfl
theorem before_1 (c : Dev nD) (t : Fin cfg0.N) (d) : (dats m ρ P 0 c).before 1 t d = iblk m ρ c 1 t := by
  unfold Dat.before; rw [if_pos (fetch0_1 t)]; unfold Dat.fetched Dat.blockOf iblk; dsimp only [dats]; rfl
theorem after_0 (c : Dev nD) (t : Fin cfg0.N) : (dats m ρ P 0 c).after 0 t = iblk m ρ c 0 t := by dsimp only [dats]
theorem after_1 (c : Dev nD) (t : Fin cfg0.N) : (dats m ρ P 0 c).after 1 t = iblk m ρ c 1 t := by dsimp only [dats]

theorem defs_tc : (defs₀ (F := F)) .tc cfg0.body
    = fun a => cc0_grouped_fp8 (F := F) (win0_0.stage (a.2 0)) (hstage0_0 0) a1 (Memref.isWhole_whole _) a2 (Memref.isWhole_whole _) (win0_1.stage (a.2 1)) (hstage0_1 0) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 := rfl
theorem prog_eq (t : Fin cfg0.N) : (defs₀ (F := F)) .tc cfg0.body (cfg0.bodyArgs t (cfg0.slots t)) = cc0_grouped_fp8 (F := F) (st0_0 t) (hstage0_0 0) a1 (Memref.isWhole_whole _) a2 (Memref.isWhole_whole _) (st0_1 t) (hstage0_1 0) a4 (Memref.isWhole_whole _) a5 (Memref.isWhole_whole _) a6 (Memref.isWhole_whole _) a7 (Memref.isWhole_whole _) a8 (Memref.isWhole_whole _) a9 (Memref.isWhole_whole _) a10 (Memref.isWhole_whole _) a11 (Memref.isWhole_whole _) cc0_scratch7 cc0_scratch8 cc0_scratch9 :=
  (congrFun defs_tc _).trans rfl

theorem Φ_castSucc (c : Dev nD) (t : Fin cfg0.N) : (dats m ρ P 0 c).Φ t.castSucc = entry m ρ c := by
  rw [fin_N0 t]; show (if (t0_0.castSucc).val = 0 then entry m ρ c else exit m ρ (P.Spec c) c) = _; rw [if_pos (by decide)]
theorem Φ_succ (c : Dev nD) (t : Fin cfg0.N) : (dats m ρ P 0 c).Φ t.succ = exit m ρ (P.Spec c) c := by
  rw [fin_N0 t]; show (if (t0_0.succ).val = 0 then entry m ρ c else exit m ρ (P.Spec c) c) = _; rw [if_neg (by decide)]

set_option backward.isDefEq.respectTransparency.types false in
theorem body_obligation (c : Dev nD) : BodyObligation (dats m ρ P 0 c) (defs₀ (F := F)) 𝒱₀ () Set.univ := fun t => by
  rw [bigSep_W0, bigSep_W0]
  dsimp only
  simp only [before_0, before_1, after_0, after_1]
  rw [Φ_castSucc, Φ_succ]
  unfold Dat.owesAt Pipeline.owesWithin
  rw [show (dats m ρ P 0 c).owed t.castSucc = 0 from rfl, show (dats m ρ P 0 c).owed t.succ = 0 from rfl]
  unfold owns entry exit
  iintro ⟨⟨H5, H6, ⟨%f7, HX⟩, H8, H9, HR, HO, HK, HW⟩, ⟨%D, -, HD⟩, ⟨%d0, %g0, %hg0, G0⟩, ⟨%d1, %g1, %hg1, G1⟩⟩
  ihave G0 := (pointsTo_rep_entails (c : Thread nD τ) (st0_0 t) g0 fullShare) $$ G0
  ihave G1 := (pointsTo_rep_entails (c : Thread nD τ) (st0_1 t) g1 fullShare) $$ G1
  rw [hg0, hg1]
  sl_rw [prog_eq t]
  iapply (wp_wand_r frame (wpE (defs₀ (F := F)) 𝒱₀ (c : Thread nD τ) none) Set.univ)
  isplitl [G0 G1 H5 H6 HX H8 H9 HR HO HK HD]
  · iapply (body (F := F) c (P.QP c) (st0_0 t) (hstage0_0 0) (st0_1 t) (hstage0_1 0) (P.sz c) (V m ρ c main_arg0) f7 (P.start c) (P.steps c t) (P.Spec c) (P.fits c)
      (V m ρ c main_arg2) (gainsAt m ρ c t) (sizesAt m ρ c t) (P.sizes c t) (P.pad c t))
    isplitl [G0]; · iexact G0
    isplitl [G1]; · iexact G1
    isplitl [H5]; · iexact H5
    isplitl [H6]; · iexact H6
    isplitl [HX]; · iexact HX
    isplitl [H8]; · iexact H8
    isplitl [H9]; · iexact H9
    isplitl [HR]; · iexact HR
    isplitl [HO]; · iexact HO
    isplitl [HK]; · iexact HK
    iexists D; iexact HD
  iintro %_ ⟨G0, G1, H5, H6, HX, H8, H9, HR, HO, HK, ⟨%D', HD⟩⟩
  isplitl [H5 H6 HX H8 H9 HR HO HK HW]
  · isplitl [H5]; · iexact H5
    isplitl [H6]; · iexact H6
    isplitl [HX]; · iexact HX
    isplitl [H8]; · iexact H8
    isplitl [H9]; · iexact H9
    isplitl [HR]; · iexact HR
    isplitl [HO]; · iexact HO
    isplitl [HK]; · iexact HK
    iexact HW
  isplitl [HD]
  · iexists D'; isplitr; · ipureintro; exact fun _ _ => Or.inl trivial
    iexact HD
  isplitl [G0]
  · iexists _; isplitr; · ipureintro; exact View.read_rep _ _
    iexact G0
  iexists _; isplitr; · ipureintro; exact View.read_rep _ _
  iexact G1

/-! ### The run -/

def intoΦ (c : Dev nD) : sProp 𝕄 :=
  iprop((((c : Thread nD τ).loc main_arg0) ↦{fullShare} m ((c : Thread nD τ).loc main_arg0)) ∗ (((c : Thread nD τ).loc main_arg2) ↦{fullShare} m ((c : Thread nD τ).loc main_arg2))
    ∗ (((c : Thread nD τ).loc main_v0) ↦{fullShare} m ((c : Thread nD τ).loc main_v0)) ∗ Pipeline.ownSems0 owns3 c)
def outOfΦ (Spec : SpecT F) (c : Dev nD) : sProp 𝕄 :=
  iprop((((c : Thread nD τ).loc main_arg0) ↦{fullShare} m ((c : Thread nD τ).loc main_arg0)) ∗ (((c : Thread nD τ).loc main_arg2) ↦{fullShare} m ((c : Thread nD τ).loc main_arg2))
    ∗ ∃ g : Buf (Elt F) ((c : Thread nD τ).loc main_v0), ⌜AllOK c Spec g⌝ ∗ ((c : Thread nD τ).loc main_v0) ↦{fullShare} g)
def u₀ : UU nD τ := (initOf (Pipeline.cells cfgs Cert.KernelIdeal.Gen.cellOf_inj) (Pipeline.launchToks cfgs Cert.KernelIdeal.Gen.cellOf_inj), 1)
def finalA (c : Dev nD) (w : Fin cfg0.W) : Buf (Elt F) ((cfg0.win w).arr.view.loc (c : Thread nD τ)) := (dats m ρ P 0 c).arrAt w cfg0.N
def QY (Spec : SpecT F) (c : Dev nD) (s : MemSt nD τ sig (Elt F)) : Prop :=
  s.mem ((c : Thread nD τ).loc main_arg0) = m ((c : Thread nD τ).loc main_arg0) ∧ s.mem ((c : Thread nD τ).loc main_arg2) = m ((c : Thread nD τ).loc main_arg2)
    ∧ AllOK c Spec (s.mem ((c : Thread nD τ).loc main_v0))
def QC : PUnit × MemSt nD τ sig (Elt F) → Prop := fun r =>
  ∀ c : Dev nD, (∀ w : Fin cfg0.W, r.2.mem ((cfg0.win w).arr.view.loc (c : Thread nD τ)) = finalA m ρ P c w) ∧ QY m (P.Spec c) c r.2

omit [FloatOps F] in
theorem bigSep2 {n : ℕ} (A B : Fin n → sProp 𝕄) : bigSep Finset.univ (fun i => iprop(A i ∗ B i)) = iprop(bigSep Finset.univ A ∗ bigSep Finset.univ B) :=
  BI.bigSep_sep _ _ _
omit [FloatOps F] in
theorem bigSep3 {n : ℕ} (A B C : Fin n → sProp 𝕄) :
    bigSep Finset.univ (fun i => iprop(A i ∗ B i ∗ C i)) = iprop(bigSep Finset.univ A ∗ bigSep Finset.univ B ∗ bigSep Finset.univ C) :=
  (bigSep2 A _).trans (congrArg (fun Q => iprop(bigSep Finset.univ A ∗ Q)) (bigSep2 B C))
omit [FloatOps F] in
theorem xfree_eq (c : Dev nD) (x f) : bigSep Finset.univ (xfree (F := F) c x f)
    = iprop(bigSep Finset.univ (fun i => xsrcP (F := F) c i x) ∗ bigSep Finset.univ (fun i => xdstP (F := F) c i f) ∗ bigSep Finset.univ (fun i => xcell (F := F) c i)) := bigSep3 _ _ _
theorem xdone_eq (c : Dev nD) (x) : bigSep Finset.univ (fun i => xdone (F := F) c i x)
    = iprop(bigSep Finset.univ (fun i => xsrcP (F := F) c i x) ∗ bigSep Finset.univ (fun i => xdstP (F := F) c i (xgot c i x)) ∗ bigSep Finset.univ (fun i => xcell (F := F) c i)) := bigSep3 _ _ _
omit [FloatOps F] in
theorem freeS_eq (c : Dev nD) (W) : bigSep Finset.univ (freeS (F := F) c W)
    = iprop(bigSep Finset.univ (fun s => iprop(∃ f, slotP (F := F) c s f)) ∗ bigSep Finset.univ (fun s => cellP (F := F) c s) ∗ bigSep Finset.univ (wtok (F := F) c W)) := bigSep3 _ _ _
omit [FloatOps F] in
theorem freeO_eq (c : Dev nD) : bigSep Finset.univ (freeO (F := F) c)
    = iprop(bigSep Finset.univ (fun p => iprop(∃ g, oP (F := F) c p g)) ∗ bigSep Finset.univ (fun p => cellO (F := F) c p)) := bigSep2 _ _

theorem enter (c : Dev nD) : iprop(intoΦ m c ∗ Pipeline.scopedRest (Ix := Unit) (Name := ℕ) (U := UU nD τ) (Lvl := ℕ) (Val := Elt F) spec0 c) ⊢ entry m ρ c := by
  rw [scopedRest0_eq]
  unfold intoΦ entry
  rw [ownSems0_eq, weights_eq]
  iintro ⟨⟨HX, ⟨HW, HT⟩, HV, CX, CW, CO⟩, ⟨%f7, S7⟩, S8, S9, S10, S11, S5, S6⟩
  isplitl [S5]
  · icases S5 with ⟨%f, S5⟩
    iexists f
    iapply (entails_of_eq (congrArg (fun S => (((c : Thread nD τ).loc cc0_scratch0) ↦[S]{fullShare} f : sProp 𝕄)) (View.set_whole cc0_scratch0).symm)); iexact S5
  isplitl [S6]
  · icases S6 with ⟨%f, S6⟩
    iexists f
    iapply (entails_of_eq (congrArg (fun S => (((c : Thread nD τ).loc cc0_scratch1) ↦[S]{fullShare} f : sProp 𝕄)) (View.set_whole cc0_scratch1).symm)); iexact S6
  isplitl [HX S7 CX]
  · iexists f7
    iapply (entails_of_eq (xfree_eq c (V m ρ c main_arg0) f7).symm)
    isplitl [HX]
    · iapply (entails_of_eq (xsrc_eq c (m ((c : Thread nD τ).loc main_arg0)))); iexact HX
    isplitl [S7]
    · iapply (entails_of_eq (xdst_eq c f7)); iexact S7
    iexact CX
  isplitl [S8]
  · icases S8 with ⟨%f, S8⟩
    iexists f
    iapply (entails_of_eq (congrArg (fun S => (((c : Thread nD τ).loc cc0_scratch3) ↦[S]{fullShare} f : sProp 𝕄)) (View.set_whole cc0_scratch3).symm)); iexact S8
  isplitl [S9]
  · icases S9 with ⟨%f, S9⟩
    iexists f
    iapply (entails_of_eq (congrArg (fun S => (((c : Thread nD τ).loc cc0_scratch4) ↦[S]{fullShare} f : sProp 𝕄)) (View.set_whole cc0_scratch4).symm)); iexact S9
  isplitl [S10 CW HT]
  · iapply (entails_of_eq (freeS_eq c (V m ρ c main_arg2)).symm)
    isplitl [S10]
    · iapply (ring_split c); iexact S10
    isplitl [CW]; · iexact CW
    iexact HT
  isplitl [S11 CO]
  · iapply (entails_of_eq (freeO_eq (F := F) c).symm)
    isplitl [S11]
    · iapply (out_split c); iexact S11
    iexact CO
  isplitl [HV]
  · iapply (res_split c (m ((c : Thread nD τ).loc main_v0))); iexact HV
  iexact HW

theorem leave (Spec : SpecT F) (c : Dev nD) : exit m ρ Spec c
    ⊢ iprop(outOfΦ m Spec c ∗ Pipeline.ownSems0 owns3 c ∗ Pipeline.scopedRest (Ix := Unit) (Name := ℕ) (U := UU nD τ) (Lvl := ℕ) (Val := Elt F) spec0 c) := by
  rw [scopedRest0_eq]
  unfold outOfΦ exit
  rw [ownSems0_eq, weights_eq, xdone_eq, freeS_eq, freeO_eq]
  iintro ⟨⟨%g5, S5⟩, ⟨%g6, S6⟩, ⟨HX, S7, CX⟩, ⟨%g8, S8⟩, ⟨%g9, S9⟩, ⟨S10, CW, HT⟩, ⟨S11, CO⟩, HV, HW⟩
  isplitl [HX HW HT HV]
  · isplitl [HX]
    · iapply (entails_of_eq (xsrc_eq c (m ((c : Thread nD τ).loc main_arg0))).symm); iexact HX
    isplitl [HW HT]
    · isplitl [HW]; · iexact HW
      iexact HT
    iapply (res_join c Spec); iexact HV
  isplitl [CX CW CO]
  · isplitl [CX]; · iexact CX
    isplitl [CW]; · iexact CW
    iexact CO
  isplitl [S7]
  · iapply (xdst_join (F := F) c)
    iapply (show bigSep Finset.univ (fun i => xdstP (F := F) c i (xgot c i (V m ρ c main_arg0))) ⊢ bigSep Finset.univ (fun i => iprop(∃ f, xdstP (F := F) c i f)) from
      bigSep_mono fun i _ => (show xdstP (F := F) c i (xgot c i (V m ρ c main_arg0)) ⊢ iprop(∃ f, xdstP (F := F) c i f) from by iintro H; iexists _; iexact H))
    iexact S7
  isplitl [S8]
  · iexists g8
    iapply (entails_of_eq (congrArg (fun S => (((c : Thread nD τ).loc cc0_scratch3) ↦[S]{fullShare} g8 : sProp 𝕄)) (View.set_whole cc0_scratch3))); iexact S8
  isplitl [S9]
  · iexists g9
    iapply (entails_of_eq (congrArg (fun S => (((c : Thread nD τ).loc cc0_scratch4) ↦[S]{fullShare} g9 : sProp 𝕄)) (View.set_whole cc0_scratch4))); iexact S9
  isplitl [S10]; · iapply (ring_join (F := F) c); iexact S10
  isplitl [S11]; · iapply (out_join (F := F) c); iexact S11
  isplitl [S5]
  · iexists g5
    iapply (entails_of_eq (congrArg (fun S => (((c : Thread nD τ).loc cc0_scratch0) ↦[S]{fullShare} g5 : sProp 𝕄)) (View.set_whole cc0_scratch0))); iexact S5
  iexists g6
  iapply (entails_of_eq (congrArg (fun S => (((c : Thread nD τ).loc cc0_scratch1) ↦[S]{fullShare} g6 : sProp 𝕄)) (View.set_whole cc0_scratch1))); iexact S6

set_option backward.isDefEq.respectTransparency.types false in
/-- Every weakly fair run of the kernel from counters at zero ends, with the arguments as they were, every value of the result as asked, and
    every counter at zero. -/
theorem run_main : θ_run defs (onTc (τ := τ) (main (F := F))) (s₀ m ρ) (fun r => QC m ρ P r ∧ r.2.sem = fun _ => 0) :=
  Pipeline.θ_run_region_kit_quiescent cfgs (dats m ρ P) () (0 : Fin 1) launch0 ownSemFacts EP defs₀ 𝒱₀ m ρ main
    (hbody := fun c => (body_obligation m ρ P c).loose) (hshare := fun c => (dats m ρ P 0 c).share_full fun _ => rfl)
    (howed := fun _ _ => rfl)
    (G := fun _ => iprop(emp)) (u₀ := u₀)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (V := fun c b => m ((c : Thread nD τ).loc b))
    (hmain := fun c Q => by
      simp only [main, Prog.lift, Prog.bind_op, Prog.bind_ret]
      iintro ⟨Hk, Hb⟩; iapply Hk; iexact Hb)
    (hA := fun _ _ => rfl)
    (X := intoΦ m) (Y := fun c => outOfΦ m (P.Spec c) c) (Z := fun _ => iprop(emp))
    (hX := fun c => by
      rw [unscopedRest0_eq]
      unfold intoΦ
      iintro ⟨⟨H0, H2, HV⟩, HS, -⟩; imodintro
      isplitl [H0 H2 HV HS]
      · isplitl [H0]; · iexact H0
        isplitl [H2]; · iexact H2
        isplitl [HV]; · iexact HV
        iexact HS
      iempintro)
    (hin := fun c => by
      rw [show (dats m ρ P 0 c).Φ 0 = entry m ρ c from Φ_castSucc m ρ P c t0_0]
      exact enter m ρ c)
    (hout := fun c => by
      rw [show (dats m ρ P 0 c).Φ (Fin.last cfg0.N) = exit m ρ (P.Spec c) c from (congrArg (dats m ρ P 0 c).Φ (show Fin.last cfg0.N = t0_0.succ from Fin.ext N_0)).trans (Φ_succ m ρ P c t0_0)]
      exact leave m ρ (P.Spec c) c)
    (QY := fun c s => QY m (P.Spec c) c s)
    (hY := fun c s' => by
      unfold outOfΦ
      iintro ⟨⟨H0, H2, ⟨%g, %hg, HV⟩⟩, -, HSI⟩
      icombine HSI H0 gives %e0
      icombine HSI H2 gives %e2
      icombine HSI HV gives %eV
      imodintro
      isplitr
      · ipureintro
        refine ⟨Buf.eq_of_forall_mem_univ e0, Buf.eq_of_forall_mem_univ e2, ?_⟩
        rw [Buf.eq_of_forall_mem_univ eV]
        exact hg
      iexact HSI)
    (hQ := fun _ hh hz => ⟨hh, hz⟩)

theorem finalA_in (c : Dev nD) (w : Fin cfg0.W) (hw : (cfg0.win w).isOut = false) :
    finalA m ρ P c w = (s₀ m ρ).mem ((cfg0.win w).arr.view.loc (c : Thread nD τ)) :=
  (dats m ρ P 0 c).arrAt_in w hw _
end

end Cert.Proof.KernelIdeal
-- ==== Proof.Sizes.lean ====
/-
  What the precondition on the groups' sizes says: each lies between 0 and 768, and they add up to 768.
-/
module

public import proofs.«01_k».proof.Proof.Sched
public import Idealize.ShloMosaic.Lib.ReduceAll
public import Idealize.ShloMosaic.PureOps.Reduce
public import Mathlib.Algebra.BigOperators.Fin
public import Mathlib.Tactic.Ring
public import Mathlib.Tactic.NormNum

@[expose] public section

noncomputable section

namespace Cert.Proof.Sched

open Idealize.ShloMosaic

/-- The shape of the list of sizes. -/
abbrev N9 : Shape := ⟨1, ![9]⟩
abbrev N0 : Shape := ⟨0, ![]⟩

/-- Place `e` of the list. -/
def at9 (e : ℕ) (h : e < 9) : N9.Idx := fun a => ⟨e, by have : a = 0 := Subsingleton.elim _ _; subst this; exact h⟩

theorem at9_surj (i : N9.Idx) : ∃ h : (i 0).val < 9, i = at9 (i 0).val h :=
  ⟨(i 0).isLt, funext fun a => by have : a = 0 := Subsingleton.elim _ _; subst this; rfl⟩

/-- The sizes of the groups as numbers. -/
def szOf (x : IVec N9 32) (e : ℕ) : ℕ := if h : e < 9 then (x (at9 e h)).toNat else 0

theorem szOf_of_lt (x : IVec N9 32) (e : ℕ) (h : e < 9) : szOf x e = (x (at9 e h)).toNat := dif_pos h

theorem foldl_addi_toNat {ι : Type} (f : ι → BitVec 32) : ∀ (l : List ι) (v : BitVec 32),
    (l.foldl (fun r n => IntOp.addi r (f n)) v).toNat = (v.toNat + (l.map fun n => (f n).toNat).sum) % 2 ^ 32
  | [], v => by simp only [List.foldl_nil, List.map_nil, List.sum_nil, Nat.add_zero]; exact (Nat.mod_eq_of_lt v.isLt).symm
  | a :: l, v => by
    rw [List.foldl_cons, foldl_addi_toNat f l]
    have : (IntOp.addi v (f a)).toNat = (v.toNat + (f a).toNat) % 2 ^ 32 := BitVec.toNat_add _ _
    rw [this, List.map_cons, List.sum_cons]
    omega

/-- The places of the list are the numbers below 9. -/
def places : Fin 9 ≃ N9.Idx where
  toFun e := at9 e.val e.isLt
  invFun i := i 0
  left_inv _ := rfl
  right_inv i := funext fun a => by have : a = 0 := Subsingleton.elim _ _; subst this; rfl

theorem start_eq_sum (sz : ℕ → ℕ) : start sz 9 = ∑ e : Fin 9, sz e.val := by
  simp only [Fin.sum_univ_succ, Fin.sum_univ_zero]
  simp only [start, Fin.val_zero, Fin.val_succ, Nat.zero_add]
  norm_num
  ring

/-- The sum of the words is the sum of the numbers, when that is small. -/
theorem reduce_toNat (x : IVec N9 32) (v : IVec N0 32) (h : N9.ReducesTo [0] N0) (hu : 0 < N0.numel) (j : N0.Idx) :
    (Host.reduce IntOp.addi x v h hu j).toNat = ((v (Shape.Idx.first hu)).toNat + start (szOf x) 9) % 2 ^ 32 := by
  rw [Host.reduce_eq_foldl, List.filter_eq_self.2 fun i _ => decide_eq_true (funext fun b => b.elim0), foldl_addi_toNat, start_eq_sum]
  congr 2
  rw [List.map_map]
  have e1 : ((List.finRange N9.numel).map ((fun n => (x n).toNat) ∘ N9.rowMajor.symm)).sum = ∑ n : Fin N9.numel, (x (N9.rowMajor.symm n)).toNat := by
    rw [← List.sum_ofFn, List.ofFn_eq_map]; rfl
  rw [e1, Equiv.sum_comp N9.rowMajor.symm (fun i => (x i).toNat), ← Equiv.sum_comp places (fun i => (x i).toNat)]
  exact Finset.sum_congr rfl fun e _ => (szOf_of_lt x e.val e.isLt).symm

/-- The precondition: the groups share out the rows. -/
theorem fits_of (x : IVec N9 32) (h0 : ∀ i, 0 ≤ (x i).toInt) (h1 : ∀ i, (x i).toInt ≤ 768) (v : IVec N0 32) (hv : ∀ i, v i = 0#32)
    (h : N9.ReducesTo [0] N0) (hu : 0 < N0.numel) (j : N0.Idx) (hs : Host.reduce IntOp.addi x v h hu j = 768#32) : Fits (szOf x) := by
  have hb : ∀ e : Fin 9, szOf x e.val ≤ 768 := fun e => by
    rw [szOf_of_lt x e.val e.isLt]
    have a := h0 (at9 e.val e.isLt); have b := h1 (at9 e.val e.isLt)
    have c := BitVec.toInt_eq_toNat_cond (x (at9 e.val e.isLt))
    split at c <;> omega
  have hle : start (szOf x) 9 ≤ 9 * 768 := by
    have b0 := hb 0; have b1 := hb 1; have b2 := hb 2; have b3 := hb 3; have b4 := hb 4
    have b5 := hb 5; have b6 := hb 6; have b7 := hb 7; have b8 := hb 8
    simp only [start]
    simp only [Fin.isValue] at *
    norm_num at *
    omega
  have e := congrArg BitVec.toNat hs
  rw [reduce_toNat, hv] at e
  have e768 : (768#32 : BitVec 32).toNat = 768 := by decide
  rw [e768, show (0#32 : BitVec 32).toNat = 0 from rfl] at e
  show start (szOf x) 9 = 768
  omega

theorem ofNat_szOf (x : IVec N9 32) (e : ℕ) (h : e < 9) : BitVec.ofNat 32 (szOf x e) = x (at9 e h) := by
  rw [szOf_of_lt x e h]; exact BitVec.ofNat_toNat _ _ |>.trans (BitVec.setWidth_eq _)

end Cert.Proof.Sched

end
-- ==== Proof.Frame.lean ====
/-
  The kernel runs from any arguments whose sizes add up, and changes no argument.
-/
module

public import proofs.«01_k».proof.Proof.Launch
public import proofs.«01_k».proof.Proof.Sizes
public import proofs.«01_k».proof.Pre_sizes_fit
public import proofs.«01_k».proof.Proof.Gen.Pre_sizes_fit
public import Idealize.ShloMosaic.Lib.ReduceAll

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

instance : Subsingleton (Shape.Idx ⟨0, ![]⟩) := ⟨fun a b => funext fun i => i.elim0⟩

section
variable (m : (ℓ : Loc nD τ sig) → Buf (Elt F) ℓ) (ρ)

/-- The sizes in memory. -/
abbrev szAt (c : Dev nD) : ℕ → ℕ := szOf (m ((c : Thread nD τ).loc main_arg1))
/-- On every device the groups share out the rows. -/
def PreOK : Prop := ∀ c : Dev nD, Fits (szAt m c)

/-- A load of a size from the staging buffer gets the size in memory. -/
theorem sizes_at (c : Dev nD) (t : Fin cfg0.N) : T0 (F := F) (szAt m c) c (st0_0 t) (sizesAt m ρ c t) := by
  intro e he o h ho x
  subst ho
  rw [View.readAt_apply, View.read_rep]
  unfold iblk
  rw [View.read_apply]
  rw [show wd (szAt m c e) = m ((c : Thread nD τ).loc main_arg1) (at9 e he) from ofNat_szOf _ e he]
  show m ((c : Thread nD τ).loc main_arg1) _ = _
  refine congrArg _ (funext fun (a : Fin 1) => ?_)
  have ha : a = 0 := Subsingleton.elim _ _
  subst ha
  apply Fin.ext
  have hx : (x 0).val = 0 := by have := (x 0).isLt; change _ < 1 at this; omega
  have ht : t.val = 0 := by have := t.isLt; change _ < 1 at this; omega
  obtain ⟨tv, hv⟩ := t
  subst ht
  first
    | (show 0 * 9 + 1 * (e + 1 * (x 0).val) = e; omega)
    | (show 0 * 9 + (e + 1 * (x 0).val) = e; omega)
    | (show e + (x 0).val = e; omega)
    | (show e + 1 * (x 0).val = e; omega)
    | (show 0 + 1 * (e + 1 * (x 0).val) = e; omega)
    | (show 0 + (e + 1 * (x 0).val) * 1 = e; omega)
    | (show 0 + (e + 1 * (x 0).val) = e; omega)
    | (show 0 + (e + (x 0).val * 1) * 1 = e; omega)

/-- Nothing is said of the values. -/
def plan0 (h : PreOK m) : Plan m ρ where
  sz := szAt m
  fits := h
  sizes := sizes_at m ρ
  QP _ _ _ _ := True
  start _ _ _ := trivial
  steps _ _ := by constructor <;> intros <;> trivial
  Spec _ _ _ _ _ := True
  pad _ _ := by
    intro _ _ _ _ _ _ _ _ _ _ _ _ _ _ _ _ _ _ _
    trivial

/-- What `frame` claims, at any kind of number. -/
def Unchanged : PUnit × MemSt nD τ sig (Elt F) → Prop := fun r => (∀ c : Dev nD,
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3))
  ∧ r.2.sem = fun _ => 0

theorem run_frame (P : Plan m ρ) : θ_run defs (onTc (τ := τ) (main (F := F))) ⟨m, fun _ => 0, ρ⟩ (fun r =>
    Unchanged m r ∧ ∀ c : Dev nD, AllOK c (P.Spec c) (r.2.mem ((c : Thread nD τ).loc main_v0))) :=
  (θ_run defs _ _).mono (fun _ hh => ⟨⟨fun c => ⟨(hh.1 c).2.1, ((hh.1 c).1 0).trans (finalA_in m ρ P c 0 rfl), (hh.1 c).2.2.1,
    ((hh.1 c).1 1).trans (finalA_in m ρ P c 1 rfl)⟩, hh.2⟩, fun c => (hh.1 c).2.2.2⟩) (run_main m ρ P)

theorem frame_of (h : PreOK m) : θ_run defs (onTc (τ := τ) (main (F := F))) ⟨m, fun _ => 0, ρ⟩ (Unchanged m) :=
  (θ_run defs _ _).mono (fun _ hh => hh.1) (run_frame m ρ (plan0 m ρ h))
end

/-- The predicate on the sizes, read. -/
theorem fits_pre (x0 x1 x2 x3) (h : Cert.Pre_sizes_fit.fn (F := F) x0 x1 x2 x3 = fun _ => 1#1) : Fits (szOf x1) := by
  have e := congrFun h (fun i => i.elim0)
  unfold Cert.Pre_sizes_fit.fn at e
  obtain ⟨ea, es⟩ := IntOp.andi_eq_one.1 e
  have eb := fun i => IntOp.andi_eq_one.1 (Host.reduce_andi_all _ _ _ _ _ ea i)
  refine fits_of x1 (fun i => ?_) (fun i => ?_) _ (fun _ => rfl) _ _ _ (IntOp.cmpi_eq.1 es)
  · have := IntOp.cmpi_sge.1 (eb i).1; exact this
  · have := IntOp.cmpi_sle.1 (eb i).2; exact this

end Cert.Proof.KernelIdeal

end
-- ==== Proof.Transport.lean ====
/-
  The kernel as written and the kernel at ideal numbers are one program: what is proved of the second at any kind of
  number holds of the first at bits.
-/
module

public import proofs.«01_k».proof.Proof.Frame
public import proofs.«01_k».proof.Kernel
public import proofs.«01_k».proof.Proof.Gen.Kernel
public import Idealize.ShloMosaic.Lib.Tactic.ProgEq

@[expose] public section

noncomputable section

namespace Cert.Proof.Kernel

open Idealize.ShloMosaic Idealize.SL.Sem Cert.Proof.Sched
open scoped Idealize.ShloMosaic.ProgEq

set_option maxRecDepth 100000 in
prog_eq Cert.Proof.Kernel.kernelEq : Cert.Kernel.cc0_grouped_fp8 Cert.KernelIdeal.cc0_grouped_fp8 from Cert.Kernel to Cert.KernelIdeal at Bits inferInstance by
  fail "the tactic is run though nothing differs"

lift_eq Cert.Proof.Kernel.defsEq0 : Cert.Kernel.defs₀ Cert.KernelIdeal.defs₀ via Cert.Proof.Kernel.kernelEq
    of Cert.Kernel.cc0_grouped_fp8 Cert.KernelIdeal.cc0_grouped_fp8 from Cert.Kernel to Cert.KernelIdeal at Bits inferInstance

lift_eq Cert.Proof.Kernel.defsEq : Cert.Kernel.defs Cert.KernelIdeal.defs via Cert.Proof.Kernel.defsEq0
    of Cert.Kernel.defs₀ Cert.KernelIdeal.defs₀ from Cert.Kernel to Cert.KernelIdeal at Bits inferInstance

/-- The two main programs are one. -/
theorem mainEq : Cert.Kernel.main (F := Bits) = Cert.KernelIdeal.main (F := Bits) := rfl

/-- `frame` at ideal numbers, at bits, of the kernel as written. -/
theorem frame_of (m : (ℓ : Loc Cert.Kernel.nD Cert.Kernel.τ Cert.Kernel.sig) → Buf (Elt Bits) ℓ) (ρ : Dev Cert.Kernel.nD → PrngReg)
    (h : Cert.Proof.KernelIdeal.PreOK (F := Bits) m) :
    θ_run (Cert.Kernel.defs (F := Bits)) (onTc (τ := Cert.Kernel.τ) (Cert.Kernel.main (F := Bits))) ⟨m, fun _ => 0, ρ⟩ (Cert.Proof.KernelIdeal.Unchanged (F := Bits) m) := by
  rw [defsEq, mainEq]
  exact Cert.Proof.KernelIdeal.frame_of (F := Bits) m ρ h

end Cert.Proof.Kernel

end
-- ==== Proof.RefRun.lean ====
/-
  What the reference computes, as one term of its arguments.
-/
module

public import proofs.«01_k».proof.Proof.Gen.ReferenceIdeal.Value
public import Idealize.ShloMosaic.Lib.Pipeline.Value
public import Idealize.ShloMosaic.Lib.ValueIdxCore

@[expose] public section

set_option maxRecDepth 16384

noncomputable section

namespace Cert.Proof.ReferenceIdeal

open Cert.ReferenceIdeal Cert.ReferenceIdeal.Gen
open Idealize.ShloMosaic
open Idealize.ShloMosaic.TcCoe Idealize.ShloMosaic.Tactic
open Idealize.ShloMosaic.ValueIdx (ix1 ix2 ix3)

variable {F : FTy → Type} [FloatOps F]

/-- The row numbers. -/
abbrev rowsOf : IVec S768x3072 32 := iota .tc S768x3072 32 [0] iota_S768x3072_d0_w32
/-- The reference's result from its rows, sizes, matrices and gains. -/
def refOut (X : Vec F S768x5120 .bf16) (s : Fin 9 → BitVec 32) (w : Fin 9 → Vec F S1x5120x3072 .fp8e4m3) (g : Fin 9 → Vec F S1x3072 .f32) :
    Vec F S768x3072 .bf16 :=
  let v33 := k0_pay4 X
  let v38 : BitVec 32 := Scalar.addi 0#32 (s 0)
  let v53 : BitVec 32 := Scalar.addi v38 (s 1)
  let v68 : BitVec 32 := Scalar.addi v53 (s 2)
  let v83 : BitVec 32 := Scalar.addi v68 (s 3)
  let v98 : BitVec 32 := Scalar.addi v83 (s 4)
  let v113 : BitVec 32 := Scalar.addi v98 (s 5)
  let v77 := k0_pay12 v33 rowsOf (k0_pay5 (F := F)) v38 k0_pay7 (k0_pay8 (F := F) (s 0)) (w 0) (s 1) (w 1) (s 2) (w 2)
  let v81 := k0_pay13 rowsOf (k0_pay6 (F := F)) v38 k0_pay7 (k0_pay8 (F := F) (s 0)) (g 0) (s 1) (g 1) (s 2) (g 2)
  let v111 := k0_pay16 rowsOf v68 v81 (s 3) (g 3) (s 4) (g 4)
  let v118 := k0_pay17 (F := F) rowsOf v68 (s 3) (s 4) (s 5)
  let v122 := k0_pay18 v33 rowsOf v68 v77 (s 3) (w 3) (s 4) (w 4) (s 5) (w 5)
  let v152 := k0_pay21 v33 rowsOf v113 v122 (s 6) (w 6) (s 7) (w 7)
  let v156 := k0_pay22 rowsOf v111 v113 v118 (g 5) (s 6) (g 6) (s 7) (g 7)
  let v163 := k0_pay23 (F := F) rowsOf v113 (s 6) (s 7) (s 8)
  k0_pay1 (k0_pay3 X) v33 v152 v156 v163 (w 8) (g 8)

theorem hz : (![0, 0] : Fin 2 → Nat) = fun _ => 0 := funext fun a => match a with | ⟨0, _⟩ => rfl | ⟨1, _⟩ => rfl

/-- The loads of the sizes, of the matrices and of the gains, written with a group number. -/
def ldS (x1 : Vec F S9 .i32) : Fin 9 → BitVec 32 := fun e => x1 (ix1 e)
def ldW (x2 : Vec F S9x5120x3072 .fp8e4m3) : Fin 9 → Vec F S1x5120x3072 .fp8e4m3 := fun e i => x2 (ix3 e (i 1) (i 2))
def ldG (x3 : Vec F S9x3072 .f32) : Fin 9 → Vec F S1x3072 .f32 := fun e i => x3 (ix2 e (i 1))

theorem ldX (arg0 : Memref sig .tc .vmem S768x5120 .bf16) (h0 : arg0.IsWhole) (x0 : Vec F S768x5120 .bf16) (h) :
    View.readAt (Elt F) arg0.view (Rect.unit (s := S768x5120) ![0, 0] S768x5120.size h).toLoadRect (h0.unread x0) = x0 := by
  rw [View.readAt_eq_ld, h0.read_unread, View.ld_unit_zero hz]
theorem ldS_eq (arg1 : Memref sig .tc .smem S9 .i32) (h1 : arg1.IsWhole) (x1 : Vec F S9 .i32) (e : Fin 9) (h) (i : S1.Idx) :
    View.readAt (Elt F) arg1.view (Rect.unit (s := S9) ![e.val] S1.size h).toLoadRect (h1.unread x1) i = ldS x1 e := by
  rw [View.readAt_eq_ld, h1.read_unread]
  refine congrArg x1 (funext fun (a : Fin 1) => ?_)
  have ha : a = 0 := Subsingleton.elim _ _
  subst ha
  apply Fin.ext
  have hx : (i 0).val = 0 := by have := (i 0).isLt; change _ < 1 at this; omega
  show e.val + 1 * (i 0).val = e.val
  omega
theorem ldW_eq (arg2 : Memref sig .tc .vmem S9x5120x3072 .fp8e4m3) (h2 : arg2.IsWhole) (x2 : Vec F S9x5120x3072 .fp8e4m3) (e : Fin 9) (h) :
    View.readAt (Elt F) arg2.view (Rect.unit (s := S9x5120x3072) ![e.val, 0, 0] S1x5120x3072.size h).toLoadRect (h2.unread x2) = ldW x2 e := by
  rw [View.readAt_eq_ld, h2.read_unread]
  funext i
  refine congrArg x2 (funext fun (a : Fin 3) => ?_)
  have hx : (i 0).val = 0 := by have := (i 0).isLt; change _ < 1 at this; omega
  match a with
  | ⟨0, _⟩ => apply Fin.ext; show e.val + 1 * (i 0).val = e.val; omega
  | ⟨1, _⟩ => apply Fin.ext; show 0 + 1 * (i 1).val = (i 1).val; omega
  | ⟨2, _⟩ => apply Fin.ext; show 0 + 1 * (i 2).val = (i 2).val; omega
theorem ldG_eq (arg3 : Memref sig .tc .vmem S9x3072 .f32) (h3 : arg3.IsWhole) (x3 : Vec F S9x3072 .f32) (e : Fin 9) (h) :
    View.readAt (Elt F) arg3.view (Rect.unit (s := S9x3072) ![e.val, 0] S1x3072.size h).toLoadRect (h3.unread x3) = ldG x3 e := by
  rw [View.readAt_eq_ld, h3.read_unread]
  funext i
  refine congrArg x3 (funext fun (a : Fin 2) => ?_)
  have hx : (i 0).val = 0 := by have := (i 0).isLt; change _ < 1 at this; omega
  match a with
  | ⟨0, _⟩ => apply Fin.ext; show e.val + 1 * (i 0).val = e.val; omega
  | ⟨1, _⟩ => apply Fin.ext; show 0 + 1 * (i 1).val = (i 1).val; omega

theorem refOut_congr {X X' : Vec F S768x5120 .bf16} {s s' : Fin 9 → BitVec 32} {w w' : Fin 9 → Vec F S1x5120x3072 .fp8e4m3} {g g' : Fin 9 → Vec F S1x3072 .f32}
    (hX : X = X') (hs : s = s') (hw : w = w') (hg : g = g') : refOut X s w g = refOut X' s' w' g' := by rw [hX, hs, hw, hg]

set_option maxHeartbeats 1000000 in
/-- What the reference leaves is `refOut` of what it reads. -/
theorem out_eq (c : Dev nD) (arg0 : Memref sig .tc .vmem S768x5120 .bf16) (h0 : arg0.IsWhole) (arg1 : Memref sig .tc .smem S9 .i32) (h1 : arg1.IsWhole) (arg2 : Memref sig .tc .vmem S9x5120x3072 .fp8e4m3) (h2 : arg2.IsWhole) (arg3 : Memref sig .tc .vmem S9x3072 .f32) (h3 : arg3.IsWhole) (arg4 : Memref sig .tc .vmem S768x3072 .bf16) (h4 : arg4.IsWhole)
    (x0 : Vec F S768x5120 .bf16) (x1 : Vec F S9 .i32) (x2 : Vec F S9x5120x3072 .fp8e4m3) (x3 : Vec F S9x3072 .f32) :
    out0_A_4 c arg0 h0 arg1 h1 arg2 h2 arg3 h3 arg4 h4 x0 x1 x2 x3 = refOut x0 (ldS x1) (ldW x2) (ldG x3) := by
  refine (View.read_writes_junk_eq_canon _ _).trans ?_
  show View.canon ([⟨Rect.unit (s := S768x3072) ![0, 0] S768x3072.size inb_S768x3072_S768x3072_0_0,
      refOut (View.readAt (Elt F) arg0.view (Rect.unit (s := S768x5120) ![0, 0] S768x5120.size inb_S768x5120_S768x5120_0_0).toLoadRect (h0.unread x0))
        (![View.readAt (Elt F) arg1.view (Rect.unit (s := S9) ![0] S1.size inb_S9_S1_0).toLoadRect (h1.unread x1) (fun a => ⟨0, by revert a; decide⟩), View.readAt (Elt F) arg1.view (Rect.unit (s := S9) ![1] S1.size inb_S9_S1_1).toLoadRect (h1.unread x1) (fun a => ⟨0, by revert a; decide⟩), View.readAt (Elt F) arg1.view (Rect.unit (s := S9) ![2] S1.size inb_S9_S1_2).toLoadRect (h1.unread x1) (fun a => ⟨0, by revert a; decide⟩), View.readAt (Elt F) arg1.view (Rect.unit (s := S9) ![3] S1.size inb_S9_S1_3).toLoadRect (h1.unread x1) (fun a => ⟨0, by revert a; decide⟩), View.readAt (Elt F) arg1.view (Rect.unit (s := S9) ![4] S1.size inb_S9_S1_4).toLoadRect (h1.unread x1) (fun a => ⟨0, by revert a; decide⟩), View.readAt (Elt F) arg1.view (Rect.unit (s := S9) ![5] S1.size inb_S9_S1_5).toLoadRect (h1.unread x1) (fun a => ⟨0, by revert a; decide⟩), View.readAt (Elt F) arg1.view (Rect.unit (s := S9) ![6] S1.size inb_S9_S1_6).toLoadRect (h1.unread x1) (fun a => ⟨0, by revert a; decide⟩), View.readAt (Elt F) arg1.view (Rect.unit (s := S9) ![7] S1.size inb_S9_S1_7).toLoadRect (h1.unread x1) (fun a => ⟨0, by revert a; decide⟩), View.readAt (Elt F) arg1.view (Rect.unit (s := S9) ![8] S1.size inb_S9_S1_8).toLoadRect (h1.unread x1) (fun a => ⟨0, by revert a; decide⟩)])
        (![View.readAt (Elt F) arg2.view (Rect.unit (s := S9x5120x3072) ![0, 0, 0] S1x5120x3072.size inb_S9x5120x3072_S1x5120x3072_0_0_0).toLoadRect (h2.unread x2), View.readAt (Elt F) arg2.view (Rect.unit (s := S9x5120x3072) ![1, 0, 0] S1x5120x3072.size inb_S9x5120x3072_S1x5120x3072_1_0_0).toLoadRect (h2.unread x2), View.readAt (Elt F) arg2.view (Rect.unit (s := S9x5120x3072) ![2, 0, 0] S1x5120x3072.size inb_S9x5120x3072_S1x5120x3072_2_0_0).toLoadRect (h2.unread x2), View.readAt (Elt F) arg2.view (Rect.unit (s := S9x5120x3072) ![3, 0, 0] S1x5120x3072.size inb_S9x5120x3072_S1x5120x3072_3_0_0).toLoadRect (h2.unread x2), View.readAt (Elt F) arg2.view (Rect.unit (s := S9x5120x3072) ![4, 0, 0] S1x5120x3072.size inb_S9x5120x3072_S1x5120x3072_4_0_0).toLoadRect (h2.unread x2), View.readAt (Elt F) arg2.view (Rect.unit (s := S9x5120x3072) ![5, 0, 0] S1x5120x3072.size inb_S9x5120x3072_S1x5120x3072_5_0_0).toLoadRect (h2.unread x2), View.readAt (Elt F) arg2.view (Rect.unit (s := S9x5120x3072) ![6, 0, 0] S1x5120x3072.size inb_S9x5120x3072_S1x5120x3072_6_0_0).toLoadRect (h2.unread x2), View.readAt (Elt F) arg2.view (Rect.unit (s := S9x5120x3072) ![7, 0, 0] S1x5120x3072.size inb_S9x5120x3072_S1x5120x3072_7_0_0).toLoadRect (h2.unread x2), View.readAt (Elt F) arg2.view (Rect.unit (s := S9x5120x3072) ![8, 0, 0] S1x5120x3072.size inb_S9x5120x3072_S1x5120x3072_8_0_0).toLoadRect (h2.unread x2)])
        (![View.readAt (Elt F) arg3.view (Rect.unit (s := S9x3072) ![0, 0] S1x3072.size inb_S9x3072_S1x3072_0_0).toLoadRect (h3.unread x3), View.readAt (Elt F) arg3.view (Rect.unit (s := S9x3072) ![1, 0] S1x3072.size inb_S9x3072_S1x3072_1_0).toLoadRect (h3.unread x3), View.readAt (Elt F) arg3.view (Rect.unit (s := S9x3072) ![2, 0] S1x3072.size inb_S9x3072_S1x3072_2_0).toLoadRect (h3.unread x3), View.readAt (Elt F) arg3.view (Rect.unit (s := S9x3072) ![3, 0] S1x3072.size inb_S9x3072_S1x3072_3_0).toLoadRect (h3.unread x3), View.readAt (Elt F) arg3.view (Rect.unit (s := S9x3072) ![4, 0] S1x3072.size inb_S9x3072_S1x3072_4_0).toLoadRect (h3.unread x3), View.readAt (Elt F) arg3.view (Rect.unit (s := S9x3072) ![5, 0] S1x3072.size inb_S9x3072_S1x3072_5_0).toLoadRect (h3.unread x3), View.readAt (Elt F) arg3.view (Rect.unit (s := S9x3072) ![6, 0] S1x3072.size inb_S9x3072_S1x3072_6_0).toLoadRect (h3.unread x3), View.readAt (Elt F) arg3.view (Rect.unit (s := S9x3072) ![7, 0] S1x3072.size inb_S9x3072_S1x3072_7_0).toLoadRect (h3.unread x3), View.readAt (Elt F) arg3.view (Rect.unit (s := S9x3072) ![8, 0] S1x3072.size inb_S9x3072_S1x3072_8_0).toLoadRect (h3.unread x3)])⟩] :
      List (View.Piece (Elt F) S768x3072 .bf16)) = _
  rw [View.canon_unit_zero hz]
  refine refOut_congr (ldX arg0 h0 x0 _) (funext fun e => ?_) (funext fun e => ?_) (funext fun e => ?_)
  · match e with
    | ⟨0, _⟩ => exact ldS_eq arg1 h1 x1 0 _ _
    | ⟨1, _⟩ => exact ldS_eq arg1 h1 x1 1 _ _
    | ⟨2, _⟩ => exact ldS_eq arg1 h1 x1 2 _ _
    | ⟨3, _⟩ => exact ldS_eq arg1 h1 x1 3 _ _
    | ⟨4, _⟩ => exact ldS_eq arg1 h1 x1 4 _ _
    | ⟨5, _⟩ => exact ldS_eq arg1 h1 x1 5 _ _
    | ⟨6, _⟩ => exact ldS_eq arg1 h1 x1 6 _ _
    | ⟨7, _⟩ => exact ldS_eq arg1 h1 x1 7 _ _
    | ⟨8, _⟩ => exact ldS_eq arg1 h1 x1 8 _ _
  · match e with
    | ⟨0, _⟩ => exact ldW_eq arg2 h2 x2 0 _
    | ⟨1, _⟩ => exact ldW_eq arg2 h2 x2 1 _
    | ⟨2, _⟩ => exact ldW_eq arg2 h2 x2 2 _
    | ⟨3, _⟩ => exact ldW_eq arg2 h2 x2 3 _
    | ⟨4, _⟩ => exact ldW_eq arg2 h2 x2 4 _
    | ⟨5, _⟩ => exact ldW_eq arg2 h2 x2 5 _
    | ⟨6, _⟩ => exact ldW_eq arg2 h2 x2 6 _
    | ⟨7, _⟩ => exact ldW_eq arg2 h2 x2 7 _
    | ⟨8, _⟩ => exact ldW_eq arg2 h2 x2 8 _
  · match e with
    | ⟨0, _⟩ => exact ldG_eq arg3 h3 x3 0 _
    | ⟨1, _⟩ => exact ldG_eq arg3 h3 x3 1 _
    | ⟨2, _⟩ => exact ldG_eq arg3 h3 x3 2 _
    | ⟨3, _⟩ => exact ldG_eq arg3 h3 x3 3 _
    | ⟨4, _⟩ => exact ldG_eq arg3 h3 x3 4 _
    | ⟨5, _⟩ => exact ldG_eq arg3 h3 x3 5 _
    | ⟨6, _⟩ => exact ldG_eq arg3 h3 x3 6 _
    | ⟨7, _⟩ => exact ldG_eq arg3 h3 x3 7 _
    | ⟨8, _⟩ => exact ldG_eq arg3 h3 x3 8 _

end Cert.Proof.ReferenceIdeal

end
-- ==== Proof.RefChain.lean ====
/-
  The value the reference selects for a row: that of the group the row belongs to.
-/
module

public import proofs.«01_k».proof.Proof.RefRun
public import proofs.«01_k».proof.Proof.Sched
public import proofs.«01_k».proof.Proof.Words
public import Idealize.ShloMosaic.Lib.MatmulPlain

@[expose] public section

set_option maxRecDepth 16384

noncomputable section

namespace Cert.Proof.ReferenceIdeal

open Cert.ReferenceIdeal Cert.ReferenceIdeal.Gen
open Idealize.ShloMosaic
open Idealize.ShloMosaic.TcCoe Idealize.ShloMosaic.Tactic
open Idealize.ShloMosaic.ValueIdx (ix1 ix2 ix3)

open Cert.Proof.Sched
open Cert.Proof.KernelIdeal (wd wge wlt wadd)

/-- Whether row `R` lies from `a` up to `b`. -/
def mk (R : Fin 768) (q : Fin 3072) (a b : BitVec 32) : BitVec 1 := IntOp.andi (IntOp.cmpi .sge (rowsOf (ix2 R q)) a) (IntOp.cmpi .slt (rowsOf (ix2 R q)) b)

/-- Nine selects, the last group first. -/
def chain (R : Fin 768) (q : Fin 3072) (s : Fin 9 → BitVec 32) (a : Fin 9 → EReal) (z : EReal) : EReal :=
  (Scalar.select (mk R q (Scalar.addi (Scalar.addi (Scalar.addi (Scalar.addi (Scalar.addi (Scalar.addi (Scalar.addi (Scalar.addi 0#32 (s 0)) (s 1)) (s 2)) (s 3)) (s 4)) (s 5)) (s 6)) (s 7)) (Scalar.addi (Scalar.addi (Scalar.addi (Scalar.addi (Scalar.addi (Scalar.addi (Scalar.addi (Scalar.addi (Scalar.addi 0#32 (s 0)) (s 1)) (s 2)) (s 3)) (s 4)) (s 5)) (s 6)) (s 7)) (s 8))) (a 8) (Scalar.select (mk R q (Scalar.addi (Scalar.addi (Scalar.addi (Scalar.addi (Scalar.addi (Scalar.addi (Scalar.addi 0#32 (s 0)) (s 1)) (s 2)) (s 3)) (s 4)) (s 5)) (s 6)) (Scalar.addi (Scalar.addi (Scalar.addi (Scalar.addi (Scalar.addi (Scalar.addi (Scalar.addi (Scalar.addi 0#32 (s 0)) (s 1)) (s 2)) (s 3)) (s 4)) (s 5)) (s 6)) (s 7))) (a 7) (Scalar.select (mk R q (Scalar.addi (Scalar.addi (Scalar.addi (Scalar.addi (Scalar.addi (Scalar.addi 0#32 (s 0)) (s 1)) (s 2)) (s 3)) (s 4)) (s 5)) (Scalar.addi (Scalar.addi (Scalar.addi (Scalar.addi (Scalar.addi (Scalar.addi (Scalar.addi 0#32 (s 0)) (s 1)) (s 2)) (s 3)) (s 4)) (s 5)) (s 6))) (a 6) (Scalar.select (mk R q (Scalar.addi (Scalar.addi (Scalar.addi (Scalar.addi (Scalar.addi 0#32 (s 0)) (s 1)) (s 2)) (s 3)) (s 4)) (Scalar.addi (Scalar.addi (Scalar.addi (Scalar.addi (Scalar.addi (Scalar.addi 0#32 (s 0)) (s 1)) (s 2)) (s 3)) (s 4)) (s 5))) (a 5) (Scalar.select (mk R q (Scalar.addi (Scalar.addi (Scalar.addi (Scalar.addi 0#32 (s 0)) (s 1)) (s 2)) (s 3)) (Scalar.addi (Scalar.addi (Scalar.addi (Scalar.addi (Scalar.addi 0#32 (s 0)) (s 1)) (s 2)) (s 3)) (s 4))) (a 4) (Scalar.select (mk R q (Scalar.addi (Scalar.addi (Scalar.addi 0#32 (s 0)) (s 1)) (s 2)) (Scalar.addi (Scalar.addi (Scalar.addi (Scalar.addi 0#32 (s 0)) (s 1)) (s 2)) (s 3))) (a 3) (Scalar.select (mk R q (Scalar.addi (Scalar.addi 0#32 (s 0)) (s 1)) (Scalar.addi (Scalar.addi (Scalar.addi 0#32 (s 0)) (s 1)) (s 2))) (a 2) (Scalar.select (mk R q (Scalar.addi 0#32 (s 0)) (Scalar.addi (Scalar.addi 0#32 (s 0)) (s 1))) (a 1) (Scalar.select (mk R q 0#32 (Scalar.addi 0#32 (s 0))) (a 0) z)))))))))

theorem rowsOf_eq (R : Fin 768) (q : Fin 3072) : rowsOf (ix2 R q) = wd R.val := by
  show BitVec.ofNat 32 _ = _
  congr 1
  show 0 * 768 + R.val = R.val
  omega
theorem mk_eq (R : Fin 768) (q : Fin 3072) (a b : ℕ) (ha : a ≤ 768) (hb : b ≤ 768) : mk R q (wd a) (wd b) = if a ≤ R.val ∧ R.val < b then 1#1 else 0#1 := by
  unfold mk
  rw [rowsOf_eq]
  have h1 : IntOp.cmpi .sge (wd R.val) (wd a) = if a ≤ R.val then 1#1 else 0#1 := wge _ _ (by omega) (by omega)
  have h2 : IntOp.cmpi .slt (wd R.val) (wd b) = if R.val < b then 1#1 else 0#1 := wlt _ _ (by omega) (by omega)
  rw [h1, h2]
  by_cases p : a ≤ R.val <;> by_cases q : R.val < b <;> simp only [p, q, if_true, if_false, and_self, and_true, true_and, and_false, false_and] <;> rfl
theorem sel_ite (p : Prop) [Decidable p] (a b : EReal) : Scalar.select (if p then 1#1 else 0#1) a b = if p then a else b := by
  by_cases h : p
  · rw [if_pos h, if_pos h]; exact if_pos rfl
  · rw [if_neg h, if_neg h]; exact if_neg (by decide)

/-- The selects give the value of the group of the row. -/
theorem chain_eq (sz : ℕ → ℕ) (hf : Fits sz) (R : Fin 768) (q : Fin 3072) (s : Fin 9 → BitVec 32) (hs : ∀ e : Fin 9, s e = wd (sz e.val)) (a : Fin 9 → EReal) (z : EReal) (e : Fin 9)
    (h1 : start sz e.val ≤ R.val) (h2 : R.val < start sz e.val + sz e.val) : chain R q s a z = a e := by
  have e0 : start sz 0 = 0 := rfl
  have hf' : start sz 9 = 768 := hf
  have e1 : start sz 1 = start sz 0 + sz 0 := rfl
  have e2 : start sz 2 = start sz 1 + sz 1 := rfl
  have e3 : start sz 3 = start sz 2 + sz 2 := rfl
  have e4 : start sz 4 = start sz 3 + sz 3 := rfl
  have e5 : start sz 5 = start sz 4 + sz 4 := rfl
  have e6 : start sz 6 = start sz 5 + sz 5 := rfl
  have e7 : start sz 7 = start sz 6 + sz 6 := rfl
  have e8 : start sz 8 = start sz 7 + sz 7 := rfl
  have e9 : start sz 9 = start sz 8 + sz 8 := rfl
  have f1 : (Scalar.addi 0#32 (s 0)) = wd (start sz 1) := by rw [show s 0 = wd (sz 0) from hs 0]; exact wadd _ _
  have f2 : (Scalar.addi (Scalar.addi 0#32 (s 0)) (s 1)) = wd (start sz 2) := by rw [f1, show s 1 = wd (sz 1) from hs 1]; exact wadd _ _
  have f3 : (Scalar.addi (Scalar.addi (Scalar.addi 0#32 (s 0)) (s 1)) (s 2)) = wd (start sz 3) := by rw [f2, show s 2 = wd (sz 2) from hs 2]; exact wadd _ _
  have f4 : (Scalar.addi (Scalar.addi (Scalar.addi (Scalar.addi 0#32 (s 0)) (s 1)) (s 2)) (s 3)) = wd (start sz 4) := by rw [f3, show s 3 = wd (sz 3) from hs 3]; exact wadd _ _
  have f5 : (Scalar.addi (Scalar.addi (Scalar.addi (Scalar.addi (Scalar.addi 0#32 (s 0)) (s 1)) (s 2)) (s 3)) (s 4)) = wd (start sz 5) := by rw [f4, show s 4 = wd (sz 4) from hs 4]; exact wadd _ _
  have f6 : (Scalar.addi (Scalar.addi (Scalar.addi (Scalar.addi (Scalar.addi (Scalar.addi 0#32 (s 0)) (s 1)) (s 2)) (s 3)) (s 4)) (s 5)) = wd (start sz 6) := by rw [f5, show s 5 = wd (sz 5) from hs 5]; exact wadd _ _
  have f7 : (Scalar.addi (Scalar.addi (Scalar.addi (Scalar.addi (Scalar.addi (Scalar.addi (Scalar.addi 0#32 (s 0)) (s 1)) (s 2)) (s 3)) (s 4)) (s 5)) (s 6)) = wd (start sz 7) := by rw [f6, show s 6 = wd (sz 6) from hs 6]; exact wadd _ _
  have f8 : (Scalar.addi (Scalar.addi (Scalar.addi (Scalar.addi (Scalar.addi (Scalar.addi (Scalar.addi (Scalar.addi 0#32 (s 0)) (s 1)) (s 2)) (s 3)) (s 4)) (s 5)) (s 6)) (s 7)) = wd (start sz 8) := by rw [f7, show s 7 = wd (sz 7) from hs 7]; exact wadd _ _
  have f9 : (Scalar.addi (Scalar.addi (Scalar.addi (Scalar.addi (Scalar.addi (Scalar.addi (Scalar.addi (Scalar.addi (Scalar.addi 0#32 (s 0)) (s 1)) (s 2)) (s 3)) (s 4)) (s 5)) (s 6)) (s 7)) (s 8)) = wd (start sz 9) := by rw [f8, show s 8 = wd (sz 8) from hs 8]; exact wadd _ _
  have z0 : (0#32 : BitVec 32) = wd (start sz 0) := rfl
  unfold chain
  rw [f9, f8, f7, f6, f5, f4, f3, f2, f1, z0]
  rw [mk_eq R q _ _ (by omega) (by omega), mk_eq R q _ _ (by omega) (by omega), mk_eq R q _ _ (by omega) (by omega), mk_eq R q _ _ (by omega) (by omega), mk_eq R q _ _ (by omega) (by omega), mk_eq R q _ _ (by omega) (by omega), mk_eq R q _ _ (by omega) (by omega), mk_eq R q _ _ (by omega) (by omega), mk_eq R q _ _ (by omega) (by omega)]
  simp only [sel_ite]
  match e, h1, h2 with
  | ⟨0, _⟩, h1, h2 =>
    change start sz 0 ≤ _ at h1; change _ < start sz 0 + sz 0 at h2
    rw [if_neg (by omega), if_neg (by omega), if_neg (by omega), if_neg (by omega), if_neg (by omega), if_neg (by omega), if_neg (by omega), if_neg (by omega), if_pos ⟨by omega, by omega⟩]
    all_goals rfl
  | ⟨1, _⟩, h1, h2 =>
    change start sz 1 ≤ _ at h1; change _ < start sz 1 + sz 1 at h2
    rw [if_neg (by omega), if_neg (by omega), if_neg (by omega), if_neg (by omega), if_neg (by omega), if_neg (by omega), if_neg (by omega), if_pos ⟨by omega, by omega⟩]
    all_goals rfl
  | ⟨2, _⟩, h1, h2 =>
    change start sz 2 ≤ _ at h1; change _ < start sz 2 + sz 2 at h2
    rw [if_neg (by omega), if_neg (by omega), if_neg (by omega), if_neg (by omega), if_neg (by omega), if_neg (by omega), if_pos ⟨by omega, by omega⟩]
    all_goals rfl
  | ⟨3, _⟩, h1, h2 =>
    change start sz 3 ≤ _ at h1; change _ < start sz 3 + sz 3 at h2
    rw [if_neg (by omega), if_neg (by omega), if_neg (by omega), if_neg (by omega), if_neg (by omega), if_pos ⟨by omega, by omega⟩]
    all_goals rfl
  | ⟨4, _⟩, h1, h2 =>
    change start sz 4 ≤ _ at h1; change _ < start sz 4 + sz 4 at h2
    rw [if_neg (by omega), if_neg (by omega), if_neg (by omega), if_neg (by omega), if_pos ⟨by omega, by omega⟩]
    all_goals rfl
  | ⟨5, _⟩, h1, h2 =>
    change start sz 5 ≤ _ at h1; change _ < start sz 5 + sz 5 at h2
    rw [if_neg (by omega), if_neg (by omega), if_neg (by omega), if_pos ⟨by omega, by omega⟩]
    all_goals rfl
  | ⟨6, _⟩, h1, h2 =>
    change start sz 6 ≤ _ at h1; change _ < start sz 6 + sz 6 at h2
    rw [if_neg (by omega), if_neg (by omega), if_pos ⟨by omega, by omega⟩]
    all_goals rfl
  | ⟨7, _⟩, h1, h2 =>
    change start sz 7 ≤ _ at h1; change _ < start sz 7 + sz 7 at h2
    rw [if_neg (by omega), if_pos ⟨by omega, by omega⟩]
    all_goals rfl
  | ⟨8, _⟩, h1, h2 =>
    change start sz 8 ≤ _ at h1; change _ < start sz 8 + sz 8 at h2
    rw [if_pos ⟨by omega, by omega⟩]
    all_goals rfl

/-- The product of the codes with a group's matrix. -/
abbrev accOf (X : Vec Ideal S768x5120 .bf16) (v : Vec Ideal S1x5120x3072 .fp8e4m3) : FVec Ideal S768x3072 .f32 :=
  matmul dot_S768x5120_S5120x3072_S768x3072_1_0_0_1_n_n none (k0_pay4 X) (shapeCast S5120x3072 v shapeCasts_S1x5120x3072_S5120x3072 : FVec Ideal S5120x3072 .fp8e4m3)
    (constant S768x3072 .f32 0x00000000#32)
/-- A group's gains on every row. -/
abbrev gainOf (v : Vec Ideal S1x3072 .f32) : FVec Ideal S768x3072 .f32 :=
  broadcastTo S768x3072 (shapeCast S1x3072 v shapeCasts_S1x3072_S1x3072) broadcasts_S1x3072_S768x3072

/-- The reference's result at an index. -/
theorem refOut_apply (X : Vec Ideal S768x5120 .bf16) (s : Fin 9 → BitVec 32) (w : Fin 9 → Vec Ideal S1x5120x3072 .fp8e4m3) (g : Fin 9 → Vec Ideal S1x3072 .f32)
    (R : Fin 768) (q : Fin 3072) :
    refOut X s w g (ix2 R q) = chain R q s (fun e => accOf X (w e) (ix2 R q)) (Ideal.ofBits .f32 0x00000000#32)
      * broadcastTo S768x3072 (k0_pay3 X) broadcasts_S768x1_S768x3072 (ix2 R q)
      * chain R q s (fun e => gainOf (g e) (ix2 R q)) (Ideal.ofBits .f32 0x00000000#32) := rfl

end Cert.Proof.ReferenceIdeal

end
-- ==== Proof.Scale.lean ====
/-
  The quantiser's scale at ideal numbers: the search for the exponent finds the same power of two as the least power above.
-/
module

public import Idealize.ShloMosaic.PureOps.Ideal.Laws

@[expose] public section

noncomputable section

namespace Cert.Proof.Scale

open Idealize.ShloMosaic

/-- The number whose bits are the exponent field `k` and nothing else. -/
def pw (k : ℕ) : EReal := Ideal.ofBits .f32 (IntOp.shli .vector (BitVec.ofNat 32 k) 23#32)

theorem bits_pw : ∀ k : Fin 256, (IntOp.shli .vector (BitVec.ofNat 32 k.val) 23#32).extractLsb' 31 1 = 0#1
    ∧ ((IntOp.shli .vector (BitVec.ofNat 32 k.val) 23#32).extractLsb' 23 8).toNat = k.val
    ∧ ((IntOp.shli .vector (BitVec.ofNat 32 k.val) 23#32).extractLsb' 0 23).toNat = 0 := by decide +kernel

theorem pw_eq (k : ℕ) (h1 : 1 ≤ k) (h2 : k ≤ 254) : pw k = (((2 : ℝ) ^ ((k : ℤ) - 127) : ℝ) : EReal) := by
  obtain ⟨b1, b2, b3⟩ := bits_pw ⟨k, by omega⟩
  unfold pw Ideal.ofBits
  simp only [Ideal.ieee]
  rw [show (8 + 23 : ℕ) = 31 from rfl, b1, b2, b3]
  rw [if_neg (by simp only; norm_num; omega), if_neg (by simp only; omega)]
  rw [EReal.coe_eq_coe_iff]
  have : (2 : ℝ) ^ ((k : ℤ) - (2 ^ (8 - 1) - 1) - (23 : ℕ)) = 2 ^ ((k : ℤ) - 127) * (2 ^ (23 : ℕ))⁻¹ := by
    rw [← zpow_natCast, ← zpow_neg, ← zpow_add₀ (by norm_num)]; congr 1
  rw [this]
  norm_num
  ring_nf

theorem pw_255 : pw 255 = ⊤ := by
  obtain ⟨b1, b2, b3⟩ := bits_pw ⟨255, by omega⟩
  unfold pw Ideal.ofBits
  simp only [Ideal.ieee]
  rw [show (8 + 23 : ℕ) = 31 from rfl, b1, b2, b3]
  simp

theorem pw_mono (j k : ℕ) (h1 : 1 ≤ j) (h : j ≤ k) (h2 : k ≤ 255) : pw j ≤ pw k := by
  by_cases hk : k = 255
  · subst hk; rw [pw_255]; exact le_top
  · rw [pw_eq j h1 (by omega), pw_eq k (by omega) (by omega), EReal.coe_le_coe_iff]
    exact zpow_le_zpow_right₀ (by norm_num) (by omega)

/-- One step of the search. -/
def stepN (t : EReal) (b v : ℕ) : ℕ := if pw (v + b) ≤ t then v + b else v

theorem step_word (t : EReal) (b v : ℕ) :
    Scalar.select (Ideal.cmp .oge t (Ideal.ofBits .f32 (IntOp.shli .vector (BitVec.ofNat 32 v + BitVec.ofNat 32 b) 23#32)))
      (BitVec.ofNat 32 v + BitVec.ofNat 32 b) (BitVec.ofNat 32 v) = BitVec.ofNat 32 (stepN t b v) := by
  rw [← BitVec.ofNat_add]
  unfold stepN Scalar.select Ideal.cmp
  change (if BitVec.ofBool (decide (pw (v + b) ≤ t)) = 1 then _ else _) = _
  by_cases h : pw (v + b) ≤ t
  · rw [if_pos h, if_pos (by rw [decide_eq_true h]; rfl)]
  · rw [if_neg h, if_neg (by rw [decide_eq_false h]; decide)]

/-- What the search knows when the field lies in the `w` numbers from `v` on. -/
def Inv (t : EReal) (w v : ℕ) : Prop := (v = 0 ∨ (1 ≤ v ∧ pw v ≤ t)) ∧ (∀ k, v + w ≤ k → k ≤ 255 → t < pw k) ∧ v + w ≤ 256

theorem Inv.step {t : EReal} {b v : ℕ} (hb : 1 ≤ b) (h : Inv t (2 * b) v) : Inv t b (stepN t b v) := by
  obtain ⟨h1, h2, h3⟩ := h
  unfold stepN
  by_cases hp : pw (v + b) ≤ t
  · rw [if_pos hp]
    exact ⟨Or.inr ⟨by omega, hp⟩, fun k hk hk' => h2 k (by omega) hk', by omega⟩
  · rw [if_neg hp]
    exact ⟨h1, fun k hk hk' => lt_of_lt_of_le (not_le.1 hp) (pw_mono (v + b) k (by omega) hk hk'), by omega⟩

/-- The field found. -/
def field (t : EReal) : ℕ := stepN t 1 (stepN t 2 (stepN t 4 (stepN t 8 (stepN t 16 (stepN t 32 (stepN t 64 (stepN t 128 0)))))))

theorem field_inv (t : EReal) : Inv t 1 (field t) := by
  have h : Inv t (2 * 128) 0 := ⟨Or.inl rfl, fun k hk hk' => by omega, by omega⟩
  have h := Inv.step (by omega) h
  have h := Inv.step (b := 64) (by omega) h
  have h := Inv.step (b := 32) (by omega) h
  have h := Inv.step (b := 16) (by omega) h
  have h := Inv.step (b := 8) (by omega) h
  have h := Inv.step (b := 4) (by omega) h
  have h := Inv.step (b := 2) (by omega) h
  exact Inv.step (b := 1) (by omega) h

/-- The powers the reference chooses from. -/
def ex2 (i : ℕ) : EReal := (((2 : ℝ) ^ ((i : ℤ) - 125) : ℝ) : EReal)

theorem ex2_mono {i j : ℕ} (h : i ≤ j) : ex2 i ≤ ex2 j := by
  unfold ex2; rw [EReal.coe_le_coe_iff]; exact zpow_le_zpow_right₀ (by norm_num) (by omega)
theorem ex2_pw (i : ℕ) (h : i + 2 ≤ 254) : ex2 i = pw (i + 2) := by
  rw [pw_eq _ (by omega) h]; unfold ex2; congr 2; push_cast; ring
theorem exp2_eq (i : ℕ) : Ideal.exp2 (((((i : ℝ)) : EReal)) - ((125 : ℝ) : EReal)) = ex2 i := by
  rw [← EReal.coe_sub]
  show ((Real.rpow 2 ((i : ℝ) - 125) : ℝ) : EReal) = _
  unfold ex2
  congr 1
  rw [← Real.rpow_intCast]
  show (2 : ℝ) ^ ((i : ℝ) - 125) = (2 : ℝ) ^ ((((i : ℤ) - 125 : ℤ)) : ℝ)
  congr 1; push_cast; ring

/-- The least power above `t`. -/
def above (t : EReal) : EReal := (Finset.univ : Finset (Fin 256)).fold min ⊤ fun i => if t < ex2 i.val then ex2 i.val else ⊤

theorem above_eq (t : EReal) (k : ℕ) (h1 : 1 ≤ k) (h2 : k ≤ 252) (hl : pw k ≤ t) (hu : t < pw (k + 1)) : above t = pw (k + 1) := by
  have e : pw (k + 1) = ex2 (k - 1) := by rw [ex2_pw (k - 1) (by omega)]; congr 1; omega
  unfold above
  apply le_antisymm
  · refine Finset.fold_min_le _ |>.2 (Or.inr ⟨⟨k - 1, by omega⟩, Finset.mem_univ _, ?_⟩)
    rw [if_pos (by rw [← e]; exact hu), e]
  · refine Finset.le_fold_min _ |>.2 ⟨le_top, fun i _ => ?_⟩
    split
    · rename_i hi
      by_cases hk : k - 1 ≤ i.val
      · rw [e]; exact ex2_mono hk
      · exfalso
        rw [ex2_pw i.val (by omega)] at hi
        exact absurd (lt_of_lt_of_le hi ((pw_mono _ k (by omega) (by omega) (by omega)).trans hl)) (lt_irrefl _)
    · exact le_top

/-- The reference's scale. -/
def scaleR (t : EReal) : EReal := if t < pw 1 then 1 else above t

/-- The exponent the kernel takes, as a word. -/
def expW (a t : EReal) : BitVec 32 := if a = 0 then 0#32 else if BitVec.ofNat 32 (field t) = 0#32 then 0#32 else BitVec.ofNat 32 (field t) - 126#32
/-- The kernel's scale, and the number it multiplies with. -/
def scaleK (a t : EReal) : EReal := Ideal.ofBits .f32 (IntOp.shli .vector (127#32 + expW a t) 23#32)
def invK (a t : EReal) : EReal := Ideal.ofBits .f32 (IntOp.shli .vector (127#32 - expW a t) 23#32)

theorem div_one_pw (k : ℕ) (h1 : 1 ≤ k) (h2 : k ≤ 253) : Ideal.div 1 (pw k) = pw (254 - k) := by
  rw [pw_eq k h1 (by omega), pw_eq (254 - k) (by omega) (by omega)]
  have hp : (0 : ℝ) < 2 ^ ((k : ℤ) - 127) := zpow_pos (by norm_num) _
  unfold Ideal.div
  rw [if_neg (by intro h; rw [EReal.coe_eq_zero] at h; exact absurd h hp.ne'), one_mul, ← EReal.coe_inv, ← zpow_neg]
  congr 2
  omega

theorem pw_127 : pw 127 = 1 := by rw [pw_eq 127 (by omega) (by omega)]; norm_num

theorem scale_eq (a t : EReal) (ha : a = 0 → t = 0) (ht : t < pw 253) :
    scaleK a t = scaleR t ∧ invK a t = Ideal.div 1 (scaleR t) := by
  obtain ⟨h1, h2, h3⟩ := field_inv t
  have h0 : 0 < pw 1 := by rw [pw_eq 1 (by omega) (by omega)]; exact EReal.coe_pos.2 (zpow_pos (by norm_num) _)
  by_cases hf : field t = 0
  · have hw : expW a t = 0#32 := by unfold expW; rw [hf]; simp
    have hr : scaleR t = 1 := if_pos (h2 1 (by omega) (by omega))
    unfold scaleK invK
    rw [hw, hr]
    refine ⟨pw_127, ?_⟩
    have := div_one_pw 127 (by omega) (by omega)
    rw [pw_127] at this
    rw [this]
    exact pw_127
  · obtain ⟨h1, h1'⟩ := h1.resolve_left hf
    have hlt : field t ≤ 252 := by
      by_contra hc
      exact absurd (lt_of_lt_of_le ht ((pw_mono 253 (field t) (by omega) (by omega) (by omega)).trans h1')) (lt_irrefl _)
    have hpos : pw 1 ≤ t := (pw_mono 1 (field t) (by omega) h1 (by omega)).trans h1'
    have ha0 : a ≠ 0 := fun h => by rw [ha h] at hpos; exact absurd (lt_of_lt_of_le h0 hpos) (lt_irrefl _)
    have hw : ∀ k : Fin 253, 1 ≤ k.val → ¬ BitVec.ofNat 32 k.val = 0#32 ∧ 127#32 + (BitVec.ofNat 32 k.val - 126#32) = BitVec.ofNat 32 (k.val + 1)
        ∧ 127#32 - (BitVec.ofNat 32 k.val - 126#32) = BitVec.ofNat 32 (253 - k.val) := by decide +kernel
    obtain ⟨w1, w2, w3⟩ := hw ⟨field t, by omega⟩ h1
    have hr : scaleR t = pw (field t + 1) := by
      unfold scaleR
      rw [if_neg (not_lt.2 hpos)]
      exact above_eq t (field t) h1 hlt h1' (h2 _ (by omega) (by omega))
    unfold scaleK invK expW
    rw [if_neg ha0, if_neg w1, hr]
    refine ⟨congrArg (fun w => Ideal.ofBits .f32 (IntOp.shli .vector w 23#32)) w2, ?_⟩
    rw [div_one_pw _ (by omega) (by omega)]
    refine (congrArg (fun w => Ideal.ofBits .f32 (IntOp.shli .vector w 23#32)) w3).trans ?_
    show pw (253 - field t) = pw (254 - (field t + 1))
    congr 1; omega

end Cert.Proof.Scale

end
-- ==== Proof.Blk.lean ====
/-
  One block of 32 rows quantised, as the kernel's payloads write it, read at ideal numbers.
-/
module

public import proofs.«01_k».proof.Proof.Scale
public import proofs.«01_k».proof.Proof.Base
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (X : Fin 40 → FVec F S32x128 .bf16)
/-- The largest modulus in each row. -/
def blkAmax : FVec F S32x1 .f32 := k0_pay4 (k0_pay3 (k0_pay2 (k0_pay1 (X ⟨0, by omega⟩) (X ⟨1, by omega⟩) (X ⟨2, by omega⟩) (X ⟨3, by omega⟩) (X ⟨4, by omega⟩) (X ⟨5, by omega⟩) (X ⟨6, by omega⟩) (X ⟨7, by omega⟩) (X ⟨8, by omega⟩) (X ⟨9, by omega⟩)) (X ⟨10, by omega⟩) (X ⟨11, by omega⟩) (X ⟨12, by omega⟩) (X ⟨13, by omega⟩) (X ⟨14, by omega⟩) (X ⟨15, by omega⟩) (X ⟨16, by omega⟩) (X ⟨17, by omega⟩) (X ⟨18, by omega⟩) (X ⟨19, by omega⟩) (X ⟨20, by omega⟩) (X ⟨21, by omega⟩)) (X ⟨22, by omega⟩) (X ⟨23, by omega⟩) (X ⟨24, by omega⟩) (X ⟨25, by omega⟩) (X ⟨26, by omega⟩) (X ⟨27, by omega⟩) (X ⟨28, by omega⟩) (X ⟨29, by omega⟩) (X ⟨30, by omega⟩) (X ⟨31, by omega⟩) (X ⟨32, by omega⟩) (X ⟨33, by omega⟩)) (X ⟨34, by omega⟩) (X ⟨35, by omega⟩) (X ⟨36, by omega⟩) (X ⟨37, by omega⟩) (X ⟨38, by omega⟩) (X ⟨39, by omega⟩)
/-- The exponent's offset. -/
def blkExp : IVec S32x1 32 := k0_pay8 (k0_pay5 (k0_pay3 (k0_pay2 (k0_pay1 (X ⟨0, by omega⟩) (X ⟨1, by omega⟩) (X ⟨2, by omega⟩) (X ⟨3, by omega⟩) (X ⟨4, by omega⟩) (X ⟨5, by omega⟩) (X ⟨6, by omega⟩) (X ⟨7, by omega⟩) (X ⟨8, by omega⟩) (X ⟨9, by omega⟩)) (X ⟨10, by omega⟩) (X ⟨11, by omega⟩) (X ⟨12, by omega⟩) (X ⟨13, by omega⟩) (X ⟨14, by omega⟩) (X ⟨15, by omega⟩) (X ⟨16, by omega⟩) (X ⟨17, by omega⟩) (X ⟨18, by omega⟩) (X ⟨19, by omega⟩) (X ⟨20, by omega⟩) (X ⟨21, by omega⟩)) (X ⟨22, by omega⟩) (X ⟨23, by omega⟩) (X ⟨24, by omega⟩) (X ⟨25, by omega⟩) (X ⟨26, by omega⟩) (X ⟨27, by omega⟩) (X ⟨28, by omega⟩) (X ⟨29, by omega⟩) (X ⟨30, by omega⟩) (X ⟨31, by omega⟩) (X ⟨32, by omega⟩) (X ⟨33, by omega⟩)) (X ⟨34, by omega⟩) (X ⟨35, by omega⟩) (X ⟨36, by omega⟩) (X ⟨37, by omega⟩) (X ⟨38, by omega⟩) (X ⟨39, by omega⟩)) (k0_pay6 (k0_pay3 (k0_pay2 (k0_pay1 (X ⟨0, by omega⟩) (X ⟨1, by omega⟩) (X ⟨2, by omega⟩) (X ⟨3, by omega⟩) (X ⟨4, by omega⟩) (X ⟨5, by omega⟩) (X ⟨6, by omega⟩) (X ⟨7, by omega⟩) (X ⟨8, by omega⟩) (X ⟨9, by omega⟩)) (X ⟨10, by omega⟩) (X ⟨11, by omega⟩) (X ⟨12, by omega⟩) (X ⟨13, by omega⟩) (X ⟨14, by omega⟩) (X ⟨15, by omega⟩) (X ⟨16, by omega⟩) (X ⟨17, by omega⟩) (X ⟨18, by omega⟩) (X ⟨19, by omega⟩) (X ⟨20, by omega⟩) (X ⟨21, by omega⟩)) (X ⟨22, by omega⟩) (X ⟨23, by omega⟩) (X ⟨24, by omega⟩) (X ⟨25, by omega⟩) (X ⟨26, by omega⟩) (X ⟨27, by omega⟩) (X ⟨28, by omega⟩) (X ⟨29, by omega⟩) (X ⟨30, by omega⟩) (X ⟨31, by omega⟩) (X ⟨32, by omega⟩) (X ⟨33, by omega⟩)) (X ⟨34, by omega⟩) (X ⟨35, by omega⟩) (X ⟨36, by omega⟩) (X ⟨37, by omega⟩) (X ⟨38, by omega⟩) (X ⟨39, by omega⟩)) (k0_pay7 (k0_pay3 (k0_pay2 (k0_pay1 (X ⟨0, by omega⟩) (X ⟨1, by omega⟩) (X ⟨2, by omega⟩) (X ⟨3, by omega⟩) (X ⟨4, by omega⟩) (X ⟨5, by omega⟩) (X ⟨6, by omega⟩) (X ⟨7, by omega⟩) (X ⟨8, by omega⟩) (X ⟨9, by omega⟩)) (X ⟨10, by omega⟩) (X ⟨11, by omega⟩) (X ⟨12, by omega⟩) (X ⟨13, by omega⟩) (X ⟨14, by omega⟩) (X ⟨15, by omega⟩) (X ⟨16, by omega⟩) (X ⟨17, by omega⟩) (X ⟨18, by omega⟩) (X ⟨19, by omega⟩) (X ⟨20, by omega⟩) (X ⟨21, by omega⟩)) (X ⟨22, by omega⟩) (X ⟨23, by omega⟩) (X ⟨24, by omega⟩) (X ⟨25, by omega⟩) (X ⟨26, by omega⟩) (X ⟨27, by omega⟩) (X ⟨28, by omega⟩) (X ⟨29, by omega⟩) (X ⟨30, by omega⟩) (X ⟨31, by omega⟩) (X ⟨32, by omega⟩) (X ⟨33, by omega⟩)) (X ⟨34, by omega⟩) (X ⟨35, by omega⟩) (X ⟨36, by omega⟩) (X ⟨37, by omega⟩) (X ⟨38, by omega⟩) (X ⟨39, by omega⟩)) 23#32
/-- The scales. -/
def blkScale : FVec F S32x128 .f32 := k0_pay10 (blkAmax X) (blkExp X) (FloatOps.ofBits .f32 0#32)
/-- What the rows are multiplied with. -/
def blkInv : FVec F S32x128 .bf16 := k0_pay11 (blkAmax X) (blkExp X) (FloatOps.ofBits .f32 0#32)
end
/-- The codes of one tile of 128 columns. -/
def blkCode (I v : FVec F S32x128 .bf16) : FVec F S32x128 .fp8e4m3 := k0_pay42 I v

/-- The constant 1/448 as written. -/
def gam : EReal := Ideal.ofBits .f32 0x3B124925#32
def c448 : EReal := Ideal.ofBits .f32 0x43E00000#32
def cm448 : EReal := Ideal.ofBits .f32 0xC3E00000#32

section
variable (X : Fin 40 → FVec Ideal S32x128 .bf16) (r : Fin 32) (l : Fin 128)

/-- The largest modulus at one place of the tiles. -/
def topAt : EReal := (max (max (max (max (max (max (max (max (max (max (max (max (max (max (max (max (max (max (max (max (max (max (max (max (max (max (max (max (max (max (max (max (max (max (max (max (max (max (max (max (X ⟨0, by omega⟩ (ix2 r l)) (-(X ⟨0, by omega⟩ (ix2 r l)))) (max (X ⟨1, by omega⟩ (ix2 r l)) (-(X ⟨1, by omega⟩ (ix2 r l))))) (max (X ⟨2, by omega⟩ (ix2 r l)) (-(X ⟨2, by omega⟩ (ix2 r l))))) (max (X ⟨3, by omega⟩ (ix2 r l)) (-(X ⟨3, by omega⟩ (ix2 r l))))) (max (X ⟨4, by omega⟩ (ix2 r l)) (-(X ⟨4, by omega⟩ (ix2 r l))))) (max (X ⟨5, by omega⟩ (ix2 r l)) (-(X ⟨5, by omega⟩ (ix2 r l))))) (max (X ⟨6, by omega⟩ (ix2 r l)) (-(X ⟨6, by omega⟩ (ix2 r l))))) (max (X ⟨7, by omega⟩ (ix2 r l)) (-(X ⟨7, by omega⟩ (ix2 r l))))) (max (X ⟨8, by omega⟩ (ix2 r l)) (-(X ⟨8, by omega⟩ (ix2 r l))))) (max (X ⟨9, by omega⟩ (ix2 r l)) (-(X ⟨9, by omega⟩ (ix2 r l))))) (max (X ⟨10, by omega⟩ (ix2 r l)) (-(X ⟨10, by omega⟩ (ix2 r l))))) (max (X ⟨11, by omega⟩ (ix2 r l)) (-(X ⟨11, by omega⟩ (ix2 r l))))) (max (X ⟨12, by omega⟩ (ix2 r l)) (-(X ⟨12, by omega⟩ (ix2 r l))))) (max (X ⟨13, by omega⟩ (ix2 r l)) (-(X ⟨13, by omega⟩ (ix2 r l))))) (max (X ⟨14, by omega⟩ (ix2 r l)) (-(X ⟨14, by omega⟩ (ix2 r l))))) (max (X ⟨15, by omega⟩ (ix2 r l)) (-(X ⟨15, by omega⟩ (ix2 r l))))) (max (X ⟨16, by omega⟩ (ix2 r l)) (-(X ⟨16, by omega⟩ (ix2 r l))))) (max (X ⟨17, by omega⟩ (ix2 r l)) (-(X ⟨17, by omega⟩ (ix2 r l))))) (max (X ⟨18, by omega⟩ (ix2 r l)) (-(X ⟨18, by omega⟩ (ix2 r l))))) (max (X ⟨19, by omega⟩ (ix2 r l)) (-(X ⟨19, by omega⟩ (ix2 r l))))) (max (X ⟨20, by omega⟩ (ix2 r l)) (-(X ⟨20, by omega⟩ (ix2 r l))))) (max (X ⟨21, by omega⟩ (ix2 r l)) (-(X ⟨21, by omega⟩ (ix2 r l))))) (max (X ⟨22, by omega⟩ (ix2 r l)) (-(X ⟨22, by omega⟩ (ix2 r l))))) (max (X ⟨23, by omega⟩ (ix2 r l)) (-(X ⟨23, by omega⟩ (ix2 r l))))) (max (X ⟨24, by omega⟩ (ix2 r l)) (-(X ⟨24, by omega⟩ (ix2 r l))))) (max (X ⟨25, by omega⟩ (ix2 r l)) (-(X ⟨25, by omega⟩ (ix2 r l))))) (max (X ⟨26, by omega⟩ (ix2 r l)) (-(X ⟨26, by omega⟩ (ix2 r l))))) (max (X ⟨27, by omega⟩ (ix2 r l)) (-(X ⟨27, by omega⟩ (ix2 r l))))) (max (X ⟨28, by omega⟩ (ix2 r l)) (-(X ⟨28, by omega⟩ (ix2 r l))))) (max (X ⟨29, by omega⟩ (ix2 r l)) (-(X ⟨29, by omega⟩ (ix2 r l))))) (max (X ⟨30, by omega⟩ (ix2 r l)) (-(X ⟨30, by omega⟩ (ix2 r l))))) (max (X ⟨31, by omega⟩ (ix2 r l)) (-(X ⟨31, by omega⟩ (ix2 r l))))) (max (X ⟨32, by omega⟩ (ix2 r l)) (-(X ⟨32, by omega⟩ (ix2 r l))))) (max (X ⟨33, by omega⟩ (ix2 r l)) (-(X ⟨33, by omega⟩ (ix2 r l))))) (max (X ⟨34, by omega⟩ (ix2 r l)) (-(X ⟨34, by omega⟩ (ix2 r l))))) (max (X ⟨35, by omega⟩ (ix2 r l)) (-(X ⟨35, by omega⟩ (ix2 r l))))) (max (X ⟨36, by omega⟩ (ix2 r l)) (-(X ⟨36, by omega⟩ (ix2 r l))))) (max (X ⟨37, by omega⟩ (ix2 r l)) (-(X ⟨37, by omega⟩ (ix2 r l))))) (max (X ⟨38, by omega⟩ (ix2 r l)) (-(X ⟨38, by omega⟩ (ix2 r l))))) (max (X ⟨39, by omega⟩ (ix2 r l)) (-(X ⟨39, by omega⟩ (ix2 r l)))))

theorem topAt_le (z : EReal) : topAt X r l ≤ z ↔ ∀ i : Fin 40, max (X i (ix2 r l)) (-(X i (ix2 r l))) ≤ z := by
  unfold topAt
  constructor
  · intro h
    have hs : ∀ a b : EReal, max a b ≤ z → a ≤ z ∧ b ≤ z := fun a b h => max_le_iff.1 h
    obtain ⟨h, h39⟩ := hs _ _ h
    obtain ⟨h, h38⟩ := hs _ _ h
    obtain ⟨h, h37⟩ := hs _ _ h
    obtain ⟨h, h36⟩ := hs _ _ h
    obtain ⟨h, h35⟩ := hs _ _ h
    obtain ⟨h, h34⟩ := hs _ _ h
    obtain ⟨h, h33⟩ := hs _ _ h
    obtain ⟨h, h32⟩ := hs _ _ h
    obtain ⟨h, h31⟩ := hs _ _ h
    obtain ⟨h, h30⟩ := hs _ _ h
    obtain ⟨h, h29⟩ := hs _ _ h
    obtain ⟨h, h28⟩ := hs _ _ h
    obtain ⟨h, h27⟩ := hs _ _ h
    obtain ⟨h, h26⟩ := hs _ _ h
    obtain ⟨h, h25⟩ := hs _ _ h
    obtain ⟨h, h24⟩ := hs _ _ h
    obtain ⟨h, h23⟩ := hs _ _ h
    obtain ⟨h, h22⟩ := hs _ _ h
    obtain ⟨h, h21⟩ := hs _ _ h
    obtain ⟨h, h20⟩ := hs _ _ h
    obtain ⟨h, h19⟩ := hs _ _ h
    obtain ⟨h, h18⟩ := hs _ _ h
    obtain ⟨h, h17⟩ := hs _ _ h
    obtain ⟨h, h16⟩ := hs _ _ h
    obtain ⟨h, h15⟩ := hs _ _ h
    obtain ⟨h, h14⟩ := hs _ _ h
    obtain ⟨h, h13⟩ := hs _ _ h
    obtain ⟨h, h12⟩ := hs _ _ h
    obtain ⟨h, h11⟩ := hs _ _ h
    obtain ⟨h, h10⟩ := hs _ _ h
    obtain ⟨h, h9⟩ := hs _ _ h
    obtain ⟨h, h8⟩ := hs _ _ h
    obtain ⟨h, h7⟩ := hs _ _ h
    obtain ⟨h, h6⟩ := hs _ _ h
    obtain ⟨h, h5⟩ := hs _ _ h
    obtain ⟨h, h4⟩ := hs _ _ h
    obtain ⟨h, h3⟩ := hs _ _ h
    obtain ⟨h, h2⟩ := hs _ _ h
    obtain ⟨h, h1⟩ := hs _ _ h
    intro i
    obtain ⟨i, hi⟩ := i
    interval_cases i
    exacts [h, h1, h2, h3, h4, h5, h6, h7, h8, h9, h10, h11, h12, h13, h14, h15, h16, h17, h18, h19, h20, h21, h22, h23, h24, h25, h26, h27, h28, h29, h30, h31, h32, h33, h34, h35, h36, h37, h38, h39]
  · intro h
    exact max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (max_le (h _) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)) (h _)

theorem ofBits_neg_inf : Ideal.ofBits .f32 0xFF800000#32 = ⊥ := by simp [Ideal.ofBits, Ideal.ieee]

theorem blkAmax_eq : blkAmax X (ix2 r (0 : Fin 1)) = (Finset.univ : Finset (Fin 128)).fold max (Ideal.ofBits .f32 0xFF800000#32) (fun l => topAt X r l) := by
  unfold blkAmax k0_pay4
  refine (Idealize.ShloMosaic.shapeCast_apply _ shapeCasts_S32_S32x1 (ix2 r (0 : Fin 1)) (ix1 r) (by revert r; decide)).trans ?_
  refine (Ideal.multiReduction_maximumf_single _ _ _ _ _ _).trans ?_
  refine congrArg (fun f : Fin 128 → EReal => Finset.fold max (Ideal.ofBits .f32 0xFF800000#32) f Finset.univ) (funext fun l => ?_)
  have hl : reduces_S32x128_S32.lift (ix1 r) l = ix2 r l := by
    funext a; fin_cases a <;> rfl
  rw [Function.comp_apply]
  refine (congrArg _ hl).trans ?_
  rfl

theorem blkAmax_le (z : EReal) : blkAmax X (ix2 r (0 : Fin 1)) ≤ z ↔ ∀ (i : Fin 40) (l : Fin 128), max (X i (ix2 r l)) (-(X i (ix2 r l))) ≤ z := by
  rw [blkAmax_eq, Finset.fold_max_le, ofBits_neg_inf]
  constructor
  · rintro ⟨-, h⟩ i l; exact (topAt_le X r l z).1 (h l (Finset.mem_univ _)) i
  · intro h; exact ⟨bot_le, fun l _ => (topAt_le X r l z).2 fun i => h i l⟩

end

section
variable (X : Fin 40 → FVec Ideal S32x128 .bf16) (r : Fin 32) (l : Fin 128)

/-- One step of the search for the exponent, on vectors. -/
def stV (b : ℕ) (t : FVec Ideal S32x1 .f32) (v : IVec S32x1 32) : IVec S32x1 32 :=
  select (cmpf .oge t (bitcastToFloat .f32 (shli (addi v (broadcast S32x1 (BitVec.ofNat 32 b))) (broadcast S32x1 23#32)))) (addi v (broadcast S32x1 (BitVec.ofNat 32 b))) v

theorem stV_apply (b : ℕ) (t : FVec Ideal S32x1 .f32) (v : IVec S32x1 32) (j : S32x1.Idx) (n : ℕ) (h : v j = BitVec.ofNat 32 n) :
    stV b t v j = BitVec.ofNat 32 (stepN (t j) b n) := by
  rw [← step_word, ← h]; rfl

theorem pay6_eq (a b d e f g h : FVec Ideal S32x128 .bf16) : k0_pay6 a b d e f g h = stV 64 (k0_pay5 a b d e f g h) (stV 128 (k0_pay5 a b d e f g h) (broadcast S32x1 0#32)) := by
  unfold k0_pay6 stV; rfl

theorem pay8_eq (t : FVec Ideal S32x1 .f32) (v : IVec S32x1 32) : k0_pay8 t v (addi v (broadcast S32x1 32#32)) 23#32 =
    select (cmpi .eq (stV 1 t (stV 2 t (stV 4 t (stV 8 t (stV 16 t (stV 32 t v)))))) (broadcast S32x1 0#32)) (broadcast S32x1 0#32)
      (subi (stV 1 t (stV 2 t (stV 4 t (stV 8 t (stV 16 t (stV 32 t v)))))) (broadcast S32x1 126#32)) := by
  unfold k0_pay8 stV; rfl

theorem blkExp_eq : blkExp X (ix2 r (0 : Fin 1)) = (if BitVec.ofNat 32 (field (blkAmax X (ix2 r (0 : Fin 1)) * gam)) = 0#32 then 0#32
    else BitVec.ofNat 32 (field (blkAmax X (ix2 r (0 : Fin 1)) * gam)) - 126#32) := by
  have hs : ∀ v : BitVec 32, Scalar.select (IntOp.cmpi .eq v 0#32) 0#32 (v - 126#32) = if v = 0#32 then 0#32 else v - 126#32 := by
    intro v
    by_cases h : v = 0#32
    · subst h; rfl
    · rw [if_neg h]; exact if_neg fun h' => h (IntOp.cmpi_eq.1 h')
  rw [← hs]
  unfold blkExp k0_pay7
  dsimp only
  rw [pay8_eq, pay6_eq]
  refine (?_ : Scalar.select (IntOp.cmpi .eq _ 0#32) 0#32 (_ - 126#32) = _)
  rw [stV_apply 1 _ _ _ _ (stV_apply 2 _ _ _ _ (stV_apply 4 _ _ _ _ (stV_apply 8 _ _ _ _ (stV_apply 16 _ _ _ _ (stV_apply 32 _ _ _ _ (stV_apply 64 _ _ _ _ (stV_apply 128 _ _ _ 0 rfl)))))))]
  rfl

theorem expW_sel (a t : EReal) : Scalar.select (Ideal.cmp .oeq a (Ideal.ofBits .f32 0#32)) 0#32 (if BitVec.ofNat 32 (field t) = 0#32 then 0#32 else BitVec.ofNat 32 (field t) - 126#32) = expW a t := by
  have h0 : Ideal.ofBits .f32 0#32 = 0 := by simp [Ideal.ofBits, Ideal.ieee]
  unfold expW Scalar.select Ideal.cmp
  rw [h0]
  by_cases h : a = 0 <;> simp [h]

theorem blkScale_eq : blkScale X (ix2 r l) = scaleK (blkAmax X (ix2 r (0 : Fin 1))) (blkAmax X (ix2 r (0 : Fin 1)) * gam) := by
  have h : blkScale X (ix2 r l) = Ideal.ofBits .f32 (IntOp.shli .vector (127#32 + Scalar.select (Ideal.cmp .oeq (blkAmax X (ix2 r (0 : Fin 1))) (Ideal.ofBits .f32 0#32)) 0#32 (blkExp X (ix2 r (0 : Fin 1)))) 23#32) := by
    unfold blkScale k0_pay10 k0_pay9
    have e : ∀ v : FVec Ideal S32x1 .f32, shapeCast S32x128 (broadcastTo S32x128 (shapeCast S32x1 v shapeCasts_S32x1_S32x1) broadcasts_S32x1_S32x128) shapeCasts_S32x128_S32x128 (ix2 r l) = v (ix2 r (0 : Fin 1)) := by
      intro v
      rw [Idealize.ShloMosaic.shapeCast_self, Idealize.ShloMosaic.shapeCast_self]
      refine congrArg v ?_
      funext a; fin_cases a <;> rfl
    exact e _
  rw [h, blkExp_eq]
  exact congrArg (fun w => Ideal.ofBits .f32 (IntOp.shli .vector (127#32 + w) 23#32)) (expW_sel _ _)

theorem blkInv_eq : blkInv X (ix2 r l) = invK (blkAmax X (ix2 r (0 : Fin 1))) (blkAmax X (ix2 r (0 : Fin 1)) * gam) := by
  have h : blkInv X (ix2 r l) = Ideal.ofBits .f32 (IntOp.shli .vector (127#32 - Scalar.select (Ideal.cmp .oeq (blkAmax X (ix2 r (0 : Fin 1))) (Ideal.ofBits .f32 0#32)) 0#32 (blkExp X (ix2 r (0 : Fin 1)))) 23#32) := by
    unfold blkInv k0_pay11 k0_pay9
    have e : ∀ v : FVec Ideal S32x1 .f32, truncf (F := Ideal) .bf16 (broadcastTo S32x128 (shapeCast S32x1 v shapeCasts_S32x1_S32x1) broadcasts_S32x1_S32x128) bitsLt_bf16_f32 (ix2 r l) = v (ix2 r (0 : Fin 1)) := by
      intro v
      rw [Idealize.ShloMosaic.shapeCast_self]
      refine congrArg v ?_
      funext a; fin_cases a <;> rfl
    exact e _
  rw [h, blkExp_eq]
  exact congrArg (fun w => Ideal.ofBits .f32 (IntOp.shli .vector (127#32 - w) 23#32)) (expW_sel _ _)

theorem blkCode_eq (I v : FVec Ideal S32x128 .bf16) : blkCode I v (ix2 r l) = min c448 (max cm448 (v (ix2 r l) * I (ix2 r l))) := by
  unfold blkCode k0_pay42
  refine (congrFun (Idealize.ShloMosaic.shapeCast_self _ _) _).trans ?_
  rfl

end

end Cert.Proof.KernelIdeal

end
-- ==== Proof.Pieces.lean ====
/-
  What one trip of a quantising loop writes: forty tiles of codes and one tile of scales, all at one block of 32 rows.
-/
module

public import proofs.«01_k».proof.Proof.Scale
public import proofs.«01_k».proof.Proof.Blk
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

theorem tile_inb (o : Fin 2 → ℕ) (h : ∀ a, o a + S32x128.size a ≤ S768x5120.size a) (i : Fin 40) :
    ∀ a, (![o 0, 128 * i.val] : Fin 2 → ℕ) a + S32x128.size a ≤ S768x5120.size a := by
  have h0 := h 0
  intro a
  fin_cases a
  · exact h0
  · show 128 * i.val + 128 ≤ 5120; omega

theorem xt_inb (row : ℕ) (h : row + 32 ≤ 768) (i : Fin 40) :
    ∀ a, (![row, 128 * i.val] : Fin 2 → ℕ) a + S32x128.size a ≤ S768x5120.size a := by
  intro a
  fin_cases a
  · exact h
  · show 128 * i.val + 128 ≤ 5120; omega

section
variable (c : Dev nD)

/-- Tile `i` of a block of rows of the fast copy. -/
def xt (f7 : Buf (Elt F) (a7.view.loc (c : Thread nD τ))) (row : ℕ) (h : row + 32 ≤ 768) (i : Fin 40) : FVec F S32x128 .bf16 :=
  a7.view.readAt (Elt F) (Rect.unit (s := S768x5120) ![row, 128 * i.val] S32x128.size (xt_inb row h i)).toLoadRect f7

/-- A piece that is tile `i` of the codes of the block `X`. -/
def IsCode (row : ℕ) (X : Fin 40 → FVec F S32x128 .bf16) (i : Fin 40) (p : View.Piece (Elt F) S896x5120 .fp8e4m3) : Prop :=
  ∃ (off : Fin 2 → ℕ) (inb : ∀ a, off a + S32x128.size a ≤ S896x5120.size a),
    p = ⟨Rect.unit (s := S896x5120) off S32x128.size inb, blkCode (blkInv X) (X i)⟩ ∧ off = ![row, 128 * i.val]

/-- A piece that is the scales of the block `X`. -/
def IsScale (row : ℕ) (X : Fin 40 → FVec F S32x128 .bf16) (p : View.Piece (Elt F) S896x128 .f32) : Prop :=
  ∃ (off : Fin 2 → ℕ) (inb : ∀ a, off a + S32x128.size a ≤ S896x128.size a),
    p = ⟨Rect.unit (s := S896x128) off S32x128.size inb, blkScale X⟩ ∧ off = ![row, 0]

/-- The tiles from the last to the first. -/
def colTiles : List (Fin 40) := [⟨39, by omega⟩, ⟨38, by omega⟩, ⟨37, by omega⟩, ⟨36, by omega⟩, ⟨35, by omega⟩, ⟨34, by omega⟩, ⟨33, by omega⟩, ⟨32, by omega⟩, ⟨31, by omega⟩, ⟨30, by omega⟩, ⟨29, by omega⟩, ⟨28, by omega⟩, ⟨27, by omega⟩, ⟨26, by omega⟩, ⟨25, by omega⟩, ⟨24, by omega⟩, ⟨23, by omega⟩, ⟨22, by omega⟩, ⟨21, by omega⟩, ⟨20, by omega⟩, ⟨19, by omega⟩, ⟨18, by omega⟩, ⟨17, by omega⟩, ⟨16, by omega⟩, ⟨15, by omega⟩, ⟨14, by omega⟩, ⟨13, by omega⟩, ⟨12, by omega⟩, ⟨11, by omega⟩, ⟨10, by omega⟩, ⟨9, by omega⟩, ⟨8, by omega⟩, ⟨7, by omega⟩, ⟨6, by omega⟩, ⟨5, by omega⟩, ⟨4, by omega⟩, ⟨3, by omega⟩, ⟨2, by omega⟩, ⟨1, by omega⟩, ⟨0, by omega⟩]

/-- All that a trip writes. -/
def IsTrip (row : ℕ) (X : Fin 40 → FVec F S32x128 .bf16) (L8 : List (View.Piece (Elt F) S896x5120 .fp8e4m3)) (L9 : List (View.Piece (Elt F) S896x128 .f32)) : Prop :=
  List.Forall₂ (IsCode row X) colTiles L8 ∧ ∃ p, IsScale row X p ∧ L9 = [p]
end

end Cert.Proof.KernelIdeal

end
-- ==== Proof.Steps.lean ====
/-
  What the codes and the scales hold once a number of rows are quantised, and that one trip of a loop adds 32 rows to it.
-/
module

public import proofs.«01_k».proof.Proof.Scale
public import proofs.«01_k».proof.Proof.Pieces
public import proofs.«01_k».proof.Proof.Qreg
public import Idealize.ShloMosaic.Lib.WritesUnit
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

/-! ### The quantiser on one row -/

/-- The largest modulus of a row. -/
def rowMax (v : Fin 5120 → EReal) : EReal := (Finset.univ : Finset (Fin 5120)).fold max ⊥ (fun k => max (v k) (-(v k)))
/-- The scale of a row. -/
def rowScale (v : Fin 5120 → EReal) : EReal := scaleK (rowMax v) (rowMax v * gam)
/-- What a row is multiplied with. -/
def rowInv (v : Fin 5120 → EReal) : EReal := invK (rowMax v) (rowMax v * gam)
/-- The codes of a row. -/
def rowCode (v : Fin 5120 → EReal) (k : Fin 5120) : EReal := min c448 (max cm448 (v k * rowInv v))

theorem rowMax_le (v : Fin 5120 → EReal) (z : EReal) : rowMax v ≤ z ↔ ∀ k, max (v k) (-(v k)) ≤ z := by
  unfold rowMax
  rw [Finset.fold_max_le]
  exact ⟨fun h k => h.2 k (Finset.mem_univ _), fun h => ⟨bot_le, fun k _ => h k⟩⟩

/-- Column `l` of tile `i`. -/
def colOf (i : Fin 40) (l : Fin 128) : Fin 5120 := ⟨128 * i.val + l.val, by omega⟩

section
variable (X : Fin 40 → FVec Ideal S32x128 .bf16) (v : Fin 5120 → EReal) (r : Fin 32) (hX : ∀ i l, X i (ix2 r l) = v (colOf i l))
include hX

theorem amax_row : blkAmax X (ix2 r (0 : Fin 1)) = rowMax v := by
  refine eq_of_forall_ge_iff fun z => ?_
  rw [blkAmax_le, rowMax_le]
  constructor
  · intro h k
    have := h ⟨k.val / 128, by omega⟩ ⟨k.val % 128, by omega⟩
    rw [hX] at this
    have e : colOf ⟨k.val / 128, by omega⟩ ⟨k.val % 128, by omega⟩ = k := Fin.ext (by show 128 * (k.val / 128) + k.val % 128 = k.val; omega)
    rwa [e] at this
  · intro h i l; rw [hX]; exact h _

theorem scale_row (l : Fin 128) : blkScale X (ix2 r l) = rowScale v := by
  rw [blkScale_eq, amax_row X v r hX]; rfl

theorem code_row (i : Fin 40) (l : Fin 128) : blkCode (blkInv X) (X i) (ix2 r l) = rowCode v (colOf i l) := by
  rw [blkCode_eq, blkInv_eq, amax_row X v r hX, hX]; rfl
end

/-! ### Reading the pieces -/

section
variable (c : Dev nD) (row : ℕ) (X : Fin 40 → FVec Ideal S32x128 .bf16)

theorem codes_other (T : List (Fin 40)) (L : List (View.Piece (Elt Ideal) S896x5120 .fp8e4m3)) (h : List.Forall₂ (IsCode row X) T L)
    (f : Buf (Elt Ideal) (a8.view.loc (c : Thread nD τ))) (y : S896x5120.Idx) (hy : (y 0).val < row ∨ row + 32 ≤ (y 0).val) :
    a8.view.read (Elt Ideal) (a8.view.writes (Elt Ideal) f L) y = a8.view.read (Elt Ideal) f y := by
  induction h with
  | nil => rfl
  | cons hp _ ih =>
    obtain ⟨off, inb, rfl, ho⟩ := hp
    exact (View.read_writes_cons_unit_of_not_mem a8.view f inb _ _ y ho 0 hy).trans ih

theorem codes_mine (T : List (Fin 40)) (L : List (View.Piece (Elt Ideal) S896x5120 .fp8e4m3)) (h : List.Forall₂ (IsCode row X) T L)
    (f : Buf (Elt Ideal) (a8.view.loc (c : Thread nD τ))) (y : S896x5120.Idx) (r : Fin 32) (i : Fin 40) (l : Fin 128)
    (h0 : (y 0).val = row + r.val) (h1 : (y 1).val = 128 * i.val + l.val) (hi : i ∈ T) :
    a8.view.read (Elt Ideal) (a8.view.writes (Elt Ideal) f L) y = blkCode (blkInv X) (X i) (ix2 r l) := by
  induction h with
  | nil => cases hi
  | @cons j p T L hp _ ih =>
    obtain ⟨off, inb, rfl, ho⟩ := hp
    by_cases hj : i = j
    · subst hj
      refine View.read_writes_cons_unit_of_mem a8.view f inb _ _ y (ix2 r l) ho fun a => ?_
      fin_cases a
      · exact h0
      · exact h1
    · refine (View.read_writes_cons_unit_of_not_mem a8.view f inb _ _ y ho 1 ?_).trans (ih ((List.mem_cons.1 hi).resolve_left hj))
      have hj : i.val ≠ j.val := fun e => hj (Fin.ext e)
      show (y 1).val < 128 * j.val ∨ 128 * j.val + 128 ≤ (y 1).val
      omega

theorem mem_colTiles (i : Fin 40) : i ∈ colTiles := by revert i; decide

/-- The rows below `n` are quantised. -/
def QPv (xm : Fin 768 → Fin 5120 → EReal) (n : ℕ) (f8 : Buf (Elt Ideal) (a8.view.loc (c : Thread nD τ))) (f9 : Buf (Elt Ideal) (a9.view.loc (c : Thread nD τ))) : Prop :=
  ∀ R : Fin 768, R.val < n →
    (∀ k : Fin 5120, a8.view.read (Elt Ideal) f8 (ix2 (⟨R.val, by omega⟩ : Fin 896) k) = rowCode (xm R) k) ∧
    ∀ l : Fin 128, a9.view.read (Elt Ideal) f9 (ix2 (⟨R.val, by omega⟩ : Fin 896) l) = rowScale (xm R)

theorem trip_step (xm : Fin 768 → Fin 5120 → EReal) (hrow : row + 32 ≤ 768) (hX : ∀ i (r : Fin 32) l, X i (ix2 r l) = xm ⟨row + r.val, by omega⟩ (colOf i l)) (L8 L9)
    (hT : IsTrip row X L8 L9) (f8) (f9) (h : QPv c xm row f8 f9) :
    QPv c xm (row + 32) (a8.view.writes (Elt Ideal) f8 L8) (a9.view.writes (Elt Ideal) f9 L9) := by
  obtain ⟨h8, p, ⟨off, inb, rfl, ho⟩, rfl⟩ := hT
  intro R hR
  by_cases hlt : R.val < row
  · refine ⟨fun k => ?_, fun l => ?_⟩
    · rw [codes_other c row X _ _ h8 f8 _ (Or.inl hlt)]; exact (h R hlt).1 k
    · rw [View.read_writes_cons_unit_of_not_mem a9.view f9 inb _ _ _ ho 0 (Or.inl hlt)]; exact (h R hlt).2 l
  · have hr : R.val - row < 32 := by omega
    have hXr : ∀ i l, X i (ix2 (⟨R.val - row, hr⟩ : Fin 32) l) = xm R (colOf i l) := fun i l => by
      rw [hX]; exact congrArg (fun q => xm q _) (Fin.ext (by show row + (R.val - row) = R.val; omega))
    refine ⟨fun k => ?_, fun l => ?_⟩
    · rw [codes_mine c row X _ _ h8 f8 _ ⟨R.val - row, hr⟩ ⟨k.val / 128, by omega⟩ ⟨k.val % 128, by omega⟩
        (by show R.val = row + (R.val - row); omega) (by show k.val = 128 * (k.val / 128) + k.val % 128; omega) (mem_colTiles _), code_row X _ _ hXr]
      exact congrArg _ (Fin.ext (by show 128 * (k.val / 128) + k.val % 128 = k.val; omega))
    · rw [View.read_writes_cons_unit_of_mem a9.view f9 inb _ _ _ (ix2 (⟨R.val - row, hr⟩ : Fin 32) l) ho (fun a => by
        fin_cases a
        · show R.val = row + (R.val - row); omega
        · show l.val = 0 + l.val; omega)]
      exact scale_row X _ _ hXr l

/-- The activations as they lie in memory. -/
def xmOf (x : Buf (Elt Ideal) (a1.view.loc (c : Thread nD τ))) : Fin 768 → Fin 5120 → EReal := fun R k => a1.view.read (Elt Ideal) x (ix2 R k)

theorem xt_got (i : Fin 8) (x : Buf (Elt Ideal) (a1.view.loc (c : Thread nD τ))) (hrow : row + 32 ≤ 768) (hlo : 96 * i.val ≤ row) (hhi : row + 32 ≤ 96 * i.val + 96)
    (j : Fin 40) (r : Fin 32) (l : Fin 128) :
    xt (F := Ideal) c (xgot c i x) row hrow j (ix2 r l) = xmOf c x ⟨row + r.val, by omega⟩ (colOf j l) := by
  have h : (xdst i).view.read (Elt Ideal) (xgot (F := Ideal) c i x) = ReadAs.same.apply ((xsrc i).view.read (Elt Ideal) x) := View.read_writes_whole _ _ _
  have h := congrFun h (ix2 (⟨row - 96 * i.val + r.val, by omega⟩ : Fin 96) (colOf j l))
  have e1 : (Rect.unit (s := S768x5120) ![row, 128 * j.val] S32x128.size (xt_inb row hrow j)).emb (ix2 r l)
      = (Rect.unit (s := S768x5120) (xOff i) S96x5120.size (xOff_inb i)).emb (ix2 (⟨row - 96 * i.val + r.val, by omega⟩ : Fin 96) (colOf j l)) := by
    funext a
    refine Fin.ext ?_
    fin_cases a
    · show row + 1 * r.val = xOff i 0 + 1 * (row - 96 * i.val + r.val)
      rw [show xOff i 0 = i.val * 96 from rfl]; omega
    · show 128 * j.val + 1 * l.val = xOff i 1 + 1 * (128 * j.val + l.val)
      rw [show xOff i 1 = 0 from rfl]; omega
  have e2 : (Rect.unit (s := S768x5120) (xOff i) S96x5120.size (xOff_inb i)).emb (ix2 (⟨row - 96 * i.val + r.val, by omega⟩ : Fin 96) (colOf j l))
      = ix2 (⟨row + r.val, by omega⟩ : Fin 768) (colOf j l) := by
    funext a
    refine Fin.ext ?_
    fin_cases a
    · show xOff i 0 + 1 * (row - 96 * i.val + r.val) = row + r.val
      rw [show xOff i 0 = i.val * 96 from rfl]; omega
    · show xOff i 1 + 1 * (128 * j.val + l.val) = 128 * j.val + l.val
      rw [show xOff i 1 = 0 from rfl]; omega
  refine (congrArg (a7.view.read (Elt Ideal) (xgot c i x)) e1).trans (Eq.trans h ?_)
  exact congrArg (a1.view.read (Elt Ideal) x) e2

theorem trip_of (i : Fin 8) (k : ℕ) (hk : k < 3) (x : Buf (Elt Ideal) (a1.view.loc (c : Thread nD τ))) (hrow : row + 32 ≤ 768) (e : row = 96 * i.val + 32 * k) (L8 L9)
    (hT : IsTrip row (xt (F := Ideal) c (xgot c i x) row hrow) L8 L9) (f8) (f9) (h : QPv c (xmOf c x) (96 * i.val + 32 * k) f8 f9) :
    QPv c (xmOf c x) (96 * i.val + 32 * (k + 1)) (a8.view.writes (Elt Ideal) f8 L8) (a9.view.writes (Elt Ideal) f9 L9) := by
  have := trip_step c row _ (xmOf c x) hrow (fun j r l => xt_got c row i x hrow (by omega) (by omega) j r l) L8 L9 hT f8 f9 (e ▸ h)
  rwa [show row + 32 = 96 * i.val + 32 * (k + 1) from by omega] at this

end

end Cert.Proof.KernelIdeal

end
-- ==== Proof.Pay.lean ====
/-
  What a trip of the row-tile loops stores, element by element.
-/
module

public import proofs.«01_k».proof.Proof.Scale
public import proofs.«01_k».proof.Proof.Steps
public import proofs.«01_k».proof.Proof.Tiles
public import Idealize.ShloMosaic.Lib.MatmulPlain
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

theorem concat4 (v : FVec Ideal S128x128 .f32) (h : Shape.Concatenates ([(⟨S128x128, v⟩ : (s : Shape) × (s.Idx → EReal)), ⟨S128x128, v⟩, ⟨S128x128, v⟩, ⟨S128x128, v⟩].map (·.1)) S128x512 1)
    (r : Fin 128) (C : Fin 512) :
    concatenate S128x512 1 [⟨S128x128, v⟩, ⟨S128x128, v⟩, ⟨S128x128, v⟩, ⟨S128x128, v⟩] h (ix2 r C) = v (ix2 r (⟨C.val % 128, Nat.mod_lt _ (by omega)⟩ : Fin 128)) := by
  refine concatenate_replicate_apply (1 : Fin S128x512.rank) 4 v h rfl (ix2 r C) _ rfl fun b hb => ?_
  fin_cases b
  · rfl
  · exact absurd rfl hb

section
variable {l z : ℕ} (h : l + z ≤ 768) (t : Fin (k0_t11_loop (wd l) (wd z)).trips)
  (v218 : FVec Ideal S1x512 .f32) (v261 : FVec Ideal S128x5120 .fp8e4m3) (v263 : FVec Ideal S1x5120x512 .fp8e4m3) (v267 : FVec Ideal S128x128 .f32) (v282 : FVec Ideal S1x128x512 .bf16)
  (r : Fin 128) (C : Fin 512)
include h

theorem mine_eq : IntOp.andi (IntOp.cmpi .sge (wd (base l + t.val * 128) + BitVec.ofNat 32 r.val) (wd l)) (IntOp.cmpi .slt (wd (base l + t.val * 128) + BitVec.ofNat 32 r.val) (wend l z))
    = if l ≤ base l + t.val * 128 + r.val ∧ base l + t.val * 128 + r.val < l + z then 1#1 else 0#1 := by
  have hb := tile_le h (t11_lt h t)
  have e : wd (base l + t.val * 128) + BitVec.ofNat 32 r.val = wd (base l + t.val * 128 + r.val) := wadd _ _
  have e2 : wend l z = wd (l + z) := wadd _ _
  rw [e, e2]
  have h1 : IntOp.cmpi .sge (wd (base l + t.val * 128 + r.val)) (wd l) = _ := wge _ _ (by omega) (by omega)
  have h2 : IntOp.cmpi .slt (wd (base l + t.val * 128 + r.val)) (wd (l + z)) = _ := wlt _ _ (by omega) (by omega)
  rw [h1, h2]
  by_cases p : l ≤ base l + t.val * 128 + r.val <;> by_cases q : base l + t.val * 128 + r.val < l + z <;> simp only [p, q, if_true, if_false, and_true, and_false, and_self] <;> rfl

theorem pay505_eq : k0_pay505 (F := Ideal) (wd l) (wd z) (wend l z) (wbase l) v218 t v261 v263 v267 v282 (ix3 (0 : Fin 1) r C) =
    if l ≤ base l + t.val * 128 + r.val ∧ base l + t.val * 128 + r.val < l + z then
      (0 + ∑ k : Fin 5120, v261 (ix2 r k) * v263 (ix3 (0 : Fin 1) k C)) * v267 (ix2 r (⟨C.val % 128, Nat.mod_lt _ (by omega)⟩ : Fin 128)) * v218 (ix2 (0 : Fin 1) C)
    else v282 (ix3 (0 : Fin 1) r C) := by
  unfold k0_pay505
  dsimp only
  refine (shapeCast_apply _ shapeCasts_S128x512_S1x128x512 (ix3 (0 : Fin 1) r C) (ix2 r C) ?_).trans ?_
  · rw [Shape.rowMajor_val_two, Shape.rowMajor_val_three]
    show r.val * 512 + C.val = (0 * 128 + r.val) * 512 + C.val
    omega
  have hw : Scalar.addi (wbase l) (Scalar.muli (Scalar.addi 0#32 (Scalar.muli (Scf.iv 0#32 1#32 t.val) 1#32)) 128#32) = wd (base l + t.val * 128) := by
    rw [wiv]; exact wtile (by omega)
  have hm := mine_eq h t r
  have e1 : ∀ (a b : EReal), Scalar.select (IntOp.andi (IntOp.cmpi .sge (wd (base l + t.val * 128) + BitVec.ofNat 32 r.val) (wd l)) (IntOp.cmpi .slt (wd (base l + t.val * 128) + BitVec.ofNat 32 r.val) (wend l z))) a b
      = if l ≤ base l + t.val * 128 + r.val ∧ base l + t.val * 128 + r.val < l + z then a else b := by
    intro a b; rw [hm]; split <;> rfl
  rw [hw]
  have hi : iota .tc S128x512 32 [0] iota_S128x512_d0_w32 (ix2 r C) = BitVec.ofNat 32 r.val := by
    show BitVec.ofNat 32 _ = _
    congr 1
    show 0 * 128 + r.val = r.val
    omega
  rw [← hi] at e1
  have key : ∀ (A B : FVec Ideal S128x512 .f32), truncf (F := Ideal) .bf16 (select (andi (cmpi .sge (addi (broadcast S128x512 (wd (base l + t.val * 128))) (iota .tc S128x512 32 [0] iota_S128x512_d0_w32)) (broadcast S128x512 (wd l)))
      (cmpi .slt (addi (broadcast S128x512 (wd (base l + t.val * 128))) (iota .tc S128x512 32 [0] iota_S128x512_d0_w32)) (broadcast S128x512 (wend l z)))) A B) bitsLt_bf16_f32 (ix2 r C)
      = Scalar.select (IntOp.andi (IntOp.cmpi .sge (wd (base l + t.val * 128) + iota .tc S128x512 32 [0] iota_S128x512_d0_w32 (ix2 r C)) (wd l)) (IntOp.cmpi .slt (wd (base l + t.val * 128) + iota .tc S128x512 32 [0] iota_S128x512_d0_w32 (ix2 r C)) (wend l z))) (A (ix2 r C)) (B (ix2 r C)) := fun A B => rfl
  refine (key _ _).trans ((e1 _ _).trans ?_)
  have hc : ∀ {p : Prop} [Decidable p] {a b a' b' : EReal}, a = a' → b = b' → (if p then a else b) = if p then a' else b' := fun ha hb => by rw [ha, hb]
  refine hc ?_ ?_
  · have hmul : ∀ {a b c a' b' c' : EReal}, a = a' → b = b' → c = c' → a * b * c = a' * b' * c' := fun ha hb hc => by rw [ha, hb, hc]
    refine hmul ?_ ?_ ?_
    · refine (Ideal.matmul_plain_apply (M := 128) (K := 5120) (N := 512) none v261 _ _ r C).trans ?_
      have hadd : ∀ {a b a' b' : EReal}, a = a' → b = b' → a + b = a' + b' := fun ha hb => by rw [ha, hb]
      refine hadd ?_ (Finset.sum_congr rfl fun k _ => congrArg (v261 (ix2 r k) * ·) ?_)
      · show Ideal.ofBits .f32 0#32 = 0
        simp [Ideal.ofBits, Ideal.ieee]
      · refine shapeCast_apply _ shapeCasts_S1x5120x512_S5120x512 (ix2 k C) (ix3 (0 : Fin 1) k C) ?_
        rw [Shape.rowMajor_val_two, Shape.rowMajor_val_three]
        show (0 * 5120 + k.val) * 512 + C.val = k.val * 512 + C.val
        omega
    · exact concat4 v267 _ r C
    · refine congrArg v218 ?_
      funext a; fin_cases a <;> rfl
  · refine shapeCast_apply _ shapeCasts_S1x128x512_S128x512 (ix2 r C) (ix3 (0 : Fin 1) r C) ?_
    rw [Shape.rowMajor_val_two, Shape.rowMajor_val_three]
    show (0 * 128 + r.val) * 512 + C.val = r.val * 512 + C.val
    omega
end

end Cert.Proof.KernelIdeal

end
-- ==== Proof.Pad.lean ====
/-
  What the result is asked to hold, element by element, and that the row-tile loops store it.
-/
module

public import proofs.«01_k».proof.Proof.Scale
public import proofs.«01_k».proof.Proof.Pay
public import proofs.«01_k».proof.Proof.Ends
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (sz : ℕ → ℕ) (xm : Fin 768 → Fin 5120 → EReal) (Wm : Fin 9 → Fin 5120 → Fin 3072 → EReal) (gm : Fin 9 → Fin 3072 → EReal)

/-- One element of the result: the row's codes against a column of a group's weights, with the row's scale and the column's gain. -/
def outVal (R : Fin 768) (e : Fin 9) (q : Fin 3072) : EReal := (0 + ∑ k : Fin 5120, rowCode (xm R) k * Wm e k q) * rowScale (xm R) * gm e q

/-- The value asked at row `R` of column `C` of column piece `n`: that of the group the row belongs to. -/
def SpecV : SpecT Ideal := fun n R C v => ∃ (hR : R < 768) (hq : n * 512 + C < 3072) (e : Fin 9),
  start sz e.val ≤ R ∧ R < start sz e.val + sz e.val ∧ v = outVal xm Wm gm ⟨R, hR⟩ e ⟨n * 512 + C, hq⟩
end

section
variable (c : Dev nD)

/-- The weights and the gains as they lie in memory. -/
def wmOf (W : Buf (Elt Ideal) (a2.view.loc (c : Thread nD τ))) : Fin 9 → Fin 5120 → Fin 3072 → EReal := fun e k q => a2.view.read (Elt Ideal) W (ix3 e k q)
def gmOf (arg3 : Memref sig .tc .vmem S9x3072 .f32) (WS : Buf (Elt Ideal) (arg3.view.loc (c : Thread nD τ))) : Fin 9 → Fin 3072 → EReal :=
  fun e q => arg3.view.read (Elt Ideal) WS (ix2 e q)

theorem at_codes {off : Fin 2 → ℕ} {b : ℕ} (e : off = ![b, 0]) (hb : b + 128 ≤ 896) (h : ∀ a, off a + S128x5120.size a ≤ S896x5120.size a)
    (f : Buf (Elt Ideal) (a8.view.loc (c : Thread nD τ))) (r : Fin 128) (k : Fin 5120) :
    a8.view.readAt (Elt Ideal) (Rect.unit (s := S896x5120) off S128x5120.size h).toLoadRect f (ix2 r k) = a8.view.read (Elt Ideal) f (ix2 (⟨b + r.val, by omega⟩ : Fin 896) k) := by
  subst e
  refine congrArg (a8.view.read (Elt Ideal) f) (funext fun a => Fin.ext ?_)
  fin_cases a
  · show b + 1 * r.val = b + r.val; omega
  · show 0 + 1 * k.val = k.val; omega

theorem at_scales {off : Fin 2 → ℕ} {b : ℕ} (e : off = ![b, 0]) (hb : b + 128 ≤ 896) (h : ∀ a, off a + S128x128.size a ≤ S896x128.size a)
    (f : Buf (Elt Ideal) (a9.view.loc (c : Thread nD τ))) (r : Fin 128) (k : Fin 128) :
    a9.view.readAt (Elt Ideal) (Rect.unit (s := S896x128) off S128x128.size h).toLoadRect f (ix2 r k) = a9.view.read (Elt Ideal) f (ix2 (⟨b + r.val, by omega⟩ : Fin 896) k) := by
  subst e
  refine congrArg (a9.view.read (Elt Ideal) f) (funext fun a => Fin.ext ?_)
  fin_cases a
  · show b + 1 * r.val = b + r.val; omega
  · show 0 + 1 * k.val = k.val; omega

theorem at_gains (arg3 : Memref sig .tc .vmem S9x3072 .f32) (WS : Buf (Elt Ideal) (arg3.view.loc (c : Thread nD τ))) {off : Fin 2 → ℕ} {e : Fin 9} {n : ℕ} (ho : off = ![e.val, n * 512]) (hn : n < 6)
    (h : ∀ a, off a + S1x512.size a ≤ S9x3072.size a) (C : Fin 512) :
    arg3.view.readAt (Elt Ideal) (Rect.unit (s := S9x3072) off S1x512.size h).toLoadRect WS (ix2 (0 : Fin 1) C) = gmOf c arg3 WS e ⟨n * 512 + C.val, by omega⟩ := by
  subst ho
  refine congrArg (arg3.view.read (Elt Ideal) WS) (funext fun a => Fin.ext ?_)
  fin_cases a
  · show e.val + 1 * 0 = e.val; omega
  · show n * 512 + 1 * C.val = n * 512 + C.val; omega

theorem sq_idx (k : Fin 5120) (C : Fin 512) (h : S5120x512.numel = S1x5120x512.numel) : Shape.reshapeEquiv (s := S1x5120x512) (s' := S5120x512) h (ix2 k C) = ix3 (0 : Fin 1) k C := by
  refine Shape.reshapeEquiv_eq_of_rowMajor h ?_
  rw [Shape.rowMajor_val_two, Shape.rowMajor_val_three]
  show (0 * 5120 + k.val) * 512 + C.val = k.val * 512 + C.val
  omega

theorem at_weights (W : Buf (Elt Ideal) (a2.view.loc (c : Thread nD τ))) {off : Fin 3 → ℕ} (s : Fin 12) (e : Fin 9) (n : Fin 6) (ho : off = ![s.val, 0, 0])
    (h : ∀ a, off a + S1x5120x512.size a ≤ S12x5120x512.size a) (f : Buf (Elt Ideal) ((wslot s).view.loc (c : Thread nD τ))) (k : Fin 5120) (C : Fin 512) :
    a10.view.readAt (Elt Ideal) (Rect.unit (s := S12x5120x512) off S1x5120x512.size h).toLoadRect (landed (F := Ideal) c W s e n f) (ix3 (0 : Fin 1) k C)
      = wmOf c W e k ⟨n.val * 512 + C.val, by omega⟩ := by
  subst ho
  have h1 : (wslot s).view.read (Elt Ideal) (landed (F := Ideal) c W s e n f) = payload (F := Ideal) c W e n := View.read_writes_whole _ _ _
  have h1 := congrFun h1 (ix2 k C)
  have h2 : (wslot s).view.read (Elt Ideal) (landed (F := Ideal) c W s e n f) (ix2 k C)
      = a10.view.readAt (Elt Ideal) (Rect.unit (s := S12x5120x512) ![s.val, 0, 0] S1x5120x512.size h).toLoadRect (landed (F := Ideal) c W s e n f)
        (Shape.reshapeEquiv (s := S1x5120x512) (s' := S5120x512) squeezes_S1x5120x512_S5120x512.numel_eq (ix2 k C)) := rfl
  have h3 : payload (F := Ideal) c W e n (ix2 k C) = a2.view.read (Elt Ideal) W ((Rect.unit (s := S9x5120x3072) (wblkOff e n) S1x5120x512.size (wblkOff_inb e n)).emb
        (Shape.reshapeEquiv (s := S1x5120x512) (s' := S5120x512) squeezes_S1x5120x512_S5120x512.numel_eq (ix2 k C))) := rfl
  have h4 := sq_idx k C squeezes_S1x5120x512_S5120x512.numel_eq
  refine (congrArg (a10.view.readAt (Elt Ideal) (Rect.unit (s := S12x5120x512) ![s.val, 0, 0] S1x5120x512.size h).toLoadRect (landed (F := Ideal) c W s e n f)) h4.symm).trans ?_
  refine h2.symm.trans (h1.trans (h3.trans ?_))
  refine (congrArg (fun q => a2.view.read (Elt Ideal) W ((Rect.unit (s := S9x5120x3072) (wblkOff e n) S1x5120x512.size (wblkOff_inb e n)).emb q)) h4).trans ?_
  refine congrArg (a2.view.read (Elt Ideal) W) (funext fun a => Fin.ext ?_)
  fin_cases a
  · show e.val + 1 * 0 = e.val; omega
  · show 0 + 1 * k.val = k.val; omega
  · show n.val * 512 + 1 * C.val = n.val * 512 + C.val; omega

theorem of_ite {p : Prop} [Decidable p] {a b v : EReal} (P : EReal → Prop) (h : v = if p then a else b) (h1 : p → P a) (h2 : ¬p → P b) : P v := by
  rw [h]
  by_cases hp : p
  · rw [if_pos hp]; exact h1 hp
  · rw [if_neg hp]; exact h2 hp

theorem pad_ok (x : Buf (Elt Ideal) (a1.view.loc (c : Thread nD τ))) (arg3 : Memref sig .tc .vmem S9x3072 .f32) (sz : ℕ → ℕ) (hf : Fits sz)
    (W : Buf (Elt Ideal) (a2.view.loc (c : Thread nD τ))) (WS : Buf (Elt Ideal) (arg3.view.loc (c : Thread nD τ))) :
    PadOK (F := Ideal) c (QPv c (xmOf c x)) arg3 sz (SpecV sz (xmOf c x) (wmOf c W) (gmOf c arg3 WS)) W WS := by
  intro f8 f9 hQ j n s hj hn hs t h670 h671 h672 h673 f v282 r C hv
  have hle : lo sz j + sz (ex sz j) ≤ 768 := hi_le hf j
  have hb := tile_le hle (t11_lt hle t)
  have hpay := pay505_eq hle t
    (arg3.view.readAt (Elt Ideal) (Rect.unit (s := S9x3072) (k0_off670 (wd n) (wd (ex sz j))) S1x512.size h670).toLoadRect WS)
    (a8.view.readAt (Elt Ideal) (Rect.unit (s := S896x5120) (k0_off671 (wd (lo sz j)) (wd (sz (ex sz j))) t) S128x5120.size h671).toLoadRect
      (a8.view.writes (Elt Ideal) f8 [⟨Rect.unit (s := S896x5120) ![768, 0] S128x5120.size inb_S896x5120_S128x5120_768_0, k0_pay517 (F := Ideal)⟩]))
    (a10.view.readAt (Elt Ideal) (Rect.unit (s := S12x5120x512) (k0_off672 (wd s)) S1x5120x512.size h672).toLoadRect (landed (F := Ideal) c W ⟨s, hs⟩ ⟨ex sz j, ex_lt j⟩ ⟨n, hn⟩ f))
    (a9.view.readAt (Elt Ideal) (Rect.unit (s := S896x128) (k0_off673 (wd (lo sz j)) (wd (sz (ex sz j))) t) S128x128.size h673).toLoadRect
      (a9.view.writes (Elt Ideal) f9 [⟨Rect.unit (s := S896x128) ![768, 0] S128x128.size inb_S896x128_S128x128_768_0, k0_pay518 (F := Ideal)⟩])) v282 r C
  refine of_ite (SpecV sz (xmOf c x) (wmOf c W) (gmOf c arg3 WS) n (base (lo sz j) + t.val * 128 + r.val) C.val) hpay (fun hm => ?_) (fun hm => hv.resolve_left hm)
  have hR : base (lo sz j) + t.val * 128 + r.val < 768 := by omega
  refine ⟨hR, by omega, ⟨ex sz j, ex_lt j⟩, hm.1, hm.2, ?_⟩
  have hQR := hQ ⟨_, hR⟩ hR
  have e8 : ∀ k : Fin 5120, a8.view.readAt (Elt Ideal) (Rect.unit (s := S896x5120) (k0_off671 (wd (lo sz j)) (wd (sz (ex sz j))) t) S128x5120.size h671).toLoadRect
      (a8.view.writes (Elt Ideal) f8 [⟨Rect.unit (s := S896x5120) ![768, 0] S128x5120.size inb_S896x5120_S128x5120_768_0, k0_pay517 (F := Ideal)⟩]) (ix2 r k) = rowCode (xmOf c x ⟨_, hR⟩) k := by
    intro k
    rw [at_codes c (off671_eq hle t) hb]
    exact (View.read_writes_cons_unit_of_not_mem a8.view f8 _ _ [] _ rfl 0 (Or.inl hR)).trans (hQR.1 k)
  have e9 : ∀ k : Fin 128, a9.view.readAt (Elt Ideal) (Rect.unit (s := S896x128) (k0_off673 (wd (lo sz j)) (wd (sz (ex sz j))) t) S128x128.size h673).toLoadRect
      (a9.view.writes (Elt Ideal) f9 [⟨Rect.unit (s := S896x128) ![768, 0] S128x128.size inb_S896x128_S128x128_768_0, k0_pay518 (F := Ideal)⟩]) (ix2 r k) = rowScale (xmOf c x ⟨_, hR⟩) := by
    intro k
    rw [at_scales c (off673_eq hle t) hb]
    exact (View.read_writes_cons_unit_of_not_mem a9.view f9 _ _ [] _ rfl 0 (Or.inl hR)).trans (hQR.2 k)
  unfold outVal
  have hmul : ∀ {a b c a' b' c' : EReal}, a = a' → b = b' → c = c' → a * b * c = a' * b' * c' := fun ha hb hc => by rw [ha, hb, hc]
  refine hmul (congrArg (0 + ·) (Finset.sum_congr rfl fun k _ => ?_)) (e9 _) (at_gains c arg3 WS (e := ⟨ex sz j, ex_lt j⟩) (off670_eq hn (ex_lt j)) hn h670 C)
  exact congr (congrArg HMul.hMul (e8 k)) (at_weights c W ⟨s, hs⟩ ⟨ex sz j, ex_lt j⟩ ⟨n, hn⟩ (off672_eq hs) h672 f k C)
end

end Cert.Proof.KernelIdeal

end
-- ==== Proof.RefQuant.lean ====
/-
  The quantiser of the reference, row by row, is the one of the kernel.
-/
module

public import proofs.«01_k».proof.Proof.RefChain
public import proofs.«01_k».proof.Proof.Pad

@[expose] public section

set_option maxRecDepth 16384

noncomputable section

namespace Cert.Proof.ReferenceIdeal

open Cert.ReferenceIdeal Cert.ReferenceIdeal.Gen
open Idealize.ShloMosaic
open Idealize.ShloMosaic.TcCoe Idealize.ShloMosaic.Tactic
open Idealize.ShloMosaic.ValueIdx (ix1 ix2 ix3)

open Cert.Proof.Sched Cert.Proof.Scale
open Cert.Proof.KernelIdeal (outVal rowMax rowScale rowInv rowCode rowMax_le gam c448 cm448 ofBits_neg_inf)

/-- A minimum over one axis. -/
theorem min_single {s t : Shape} {φ : FTy} {a : Fin s.rank} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

variable (X : Vec Ideal S768x5120 .bf16) (R : Fin 768)

/-- Row `R`. -/
def rowOf : Fin 5120 → EReal := fun k => X (ix2 R k)

/-- The row maxima, their scaled values, the powers of two, the powers above a row's value, and the least of them. -/
def mV : FVec Ideal S768 .f32 := multiReduction .maximumf [1] S768 (absf (k0_pay2 X)) 0xFF800000#32 reduces_S768x5120_S768 (.inl rfl) rfl
def tV : FVec Ideal S768x1 .f32 := mulf (shapeCast S768x1 (mV X) shapeCasts_S768_S768x1) (broadcast S768x1 (Scalar.ofBits .f32 0x3B124925#32))
def pV : FVec Ideal S1x256 .f32 := exp2 (subf (sitofp .f32 (iota .tc S1x256 32 [1] iota_S1x256_d1_w32)) (broadcast S1x256 (Scalar.ofBits .f32 0x42FA0000#32)))
def sV (t : FVec Ideal S768x1 .f32) : FVec Ideal S768x256 .f32 :=
  select (cmpf .ogt (broadcastTo S768x256 pV broadcasts_S1x256_S768x256) (broadcastTo S768x256 t broadcasts_S768x1_S768x256))
    (broadcastTo S768x256 (shapeCast S1x256 pV shapeCasts_S1x256_S1x256) broadcasts_S1x256_S768x256) (broadcast S768x256 (Scalar.ofBits .f32 0x7F800000#32))
def nV (t : FVec Ideal S768x1 .f32) : FVec Ideal S768 .f32 := multiReduction .minimumf [1] S768 (sV t) 0x7F800000#32 reduces_S768x256_S768 (.inl rfl) rfl

theorem pay3_eq : k0_pay3 X = select (cmpf .olt (tV X) (broadcast S768x1 (Scalar.ofBits .f32 0x00800000#32))) (broadcast S768x1 (Scalar.ofBits .f32 0x3F800000#32))
    (shapeCast S768x1 (nV (tV X)) shapeCasts_S768_S768x1) := rfl

theorem mV_apply : mV X (ix1 R) = rowMax (rowOf X R) := by
  unfold mV
  refine (Ideal.multiReduction_maximumf_single _ _ _ _ _ _).trans ?_
  unfold rowMax
  rw [show (FloatOps.ofBits .f32 0xFF800000#32 : Ideal .f32) = (⊥ : EReal) from ofBits_neg_inf]
  refine congrArg (fun f : Fin 5120 → EReal => Finset.fold max (⊥ : EReal) f Finset.univ) (funext fun k => ?_)
  have hl : reduces_S768x5120_S768.lift (ix1 R) k = ix2 R k := by
    funext a; fin_cases a <;> rfl
  rw [Function.comp_apply]
  refine (congrArg _ hl).trans ?_
  rfl
theorem mulf_at {s : Shape} (a b : FVec Ideal s .f32) (i : s.Idx) : mulf a b i = (a i * b i : EReal) := rfl
theorem divf_at {s : Shape} (a b : FVec Ideal s .f32) (i : s.Idx) : divf a b i = Ideal.div (a i) (b i) := rfl
theorem bc_at (s : Shape) (w : BitVec 32) (i : s.Idx) : broadcast s (Scalar.ofBits .f32 w : Ideal .f32) i = Ideal.ofBits .f32 w := rfl
theorem tV_apply : tV X (ix2 R 0) = rowMax (rowOf X R) * gam := by
  have h : shapeCast S768x1 (mV X) shapeCasts_S768_S768x1 (ix2 R (0 : Fin 1)) = rowMax (rowOf X R) :=
    (Idealize.ShloMosaic.shapeCast_apply _ shapeCasts_S768_S768x1 (ix2 R (0 : Fin 1)) (ix1 R)
      (by rw [Shape.rowMajor_val_one, Shape.rowMajor_val_two]; show R.val = R.val * 1 + 0; omega)).trans (mV_apply X R)
  unfold tV gam
  rw [mulf_at, h, bc_at]

theorem c125 : Ideal.ofBits .f32 0x42FA0000#32 = ((125 : ℝ) : EReal) := by
  simp [Ideal.ofBits, Ideal.ieee]; rw [← EReal.coe_mul]; congr 1; norm_num
theorem ctop : Ideal.ofBits .f32 0x7F800000#32 = ⊤ := by simp [Ideal.ofBits, Ideal.ieee]
theorem cone : Ideal.ofBits .f32 0x3F800000#32 = 1 := by simp [Ideal.ofBits, Ideal.ieee]; rw [← EReal.coe_mul, ← EReal.coe_one]; congr 1; norm_num

theorem toInt_small : ∀ i : Fin 256, (BitVec.ofNat 32 i.val).toInt = (i.val : ℤ) := by decide +kernel
theorem pV_apply (i : Fin 256) : pV (ix2 (0 : Fin 1) i) = ex2 i.val := by
  have hi : iota .tc S1x256 32 [1] iota_S1x256_d1_w32 (ix2 (0 : Fin 1) i) = BitVec.ofNat 32 i.val := by
    show BitVec.ofNat 32 _ = _
    congr 1
    show 0 * 256 + i.val = i.val
    omega
  have h : pV (ix2 (0 : Fin 1) i) = Ideal.exp2 ((((iota .tc S1x256 32 [1] iota_S1x256_d1_w32 (ix2 (0 : Fin 1) i)).toInt : ℝ) : EReal) - Ideal.ofBits .f32 0x42FA0000#32) := rfl
  rw [h, hi, toInt_small, c125, ← exp2_eq]
  norm_cast
theorem gt_sel (a b x y : EReal) : Scalar.select (Ideal.cmp .ogt a b) x y = if b < a then x else y := by
  unfold Scalar.select Ideal.cmp
  change (if BitVec.ofBool (decide (b < a)) = 1 then _ else _) = _
  by_cases h : b < a
  · rw [if_pos h, if_pos (by rw [decide_eq_true h]; rfl)]
  · rw [if_neg h, if_neg (by rw [decide_eq_false h]; decide)]
theorem lt_sel (a b x y : EReal) : Scalar.select (Ideal.cmp .olt a b) x y = if a < b then x else y := by
  unfold Scalar.select Ideal.cmp
  change (if BitVec.ofBool (decide (a < b)) = 1 then _ else _) = _
  by_cases h : a < b
  · rw [if_pos h, if_pos (by rw [decide_eq_true h]; rfl)]
  · rw [if_neg h, if_neg (by rw [decide_eq_false h]; decide)]
theorem sV_apply (t : FVec Ideal S768x1 .f32) (i : Fin 256) : sV t (ix2 R i) = if t (ix2 R 0) < ex2 i.val then ex2 i.val else ⊤ := by
  have e1 : broadcastTo S768x256 pV broadcasts_S1x256_S768x256 (ix2 R i) = ex2 i.val := by
    refine Eq.trans ?_ (pV_apply i)
    refine congrArg pV ?_; funext a; fin_cases a <;> rfl
  have e2 : broadcastTo S768x256 t broadcasts_S768x1_S768x256 (ix2 R i) = t (ix2 R 0) := by
    refine congrArg t ?_; funext a; fin_cases a <;> rfl
  have e3 : broadcastTo S768x256 (shapeCast S1x256 pV shapeCasts_S1x256_S1x256) broadcasts_S1x256_S768x256 (ix2 R i) = ex2 i.val := by
    rw [Idealize.ShloMosaic.shapeCast_self]; exact e1
  have h : sV t (ix2 R i) = Scalar.select (Ideal.cmp .ogt (broadcastTo S768x256 pV broadcasts_S1x256_S768x256 (ix2 R i)) (broadcastTo S768x256 t broadcasts_S768x1_S768x256 (ix2 R i)))
    (broadcastTo S768x256 (shapeCast S1x256 pV shapeCasts_S1x256_S1x256) broadcasts_S1x256_S768x256 (ix2 R i)) (Ideal.ofBits .f32 0x7F800000#32) := rfl
  rw [h, e1, e2, e3, ctop, gt_sel]
theorem nV_apply (t : FVec Ideal S768x1 .f32) : nV t (ix1 R) = above (t (ix2 R 0)) := by
  unfold nV
  refine (min_single _ _ _ _ _ _).trans ?_
  unfold above
  rw [show (FloatOps.ofBits .f32 0x7F800000#32 : Ideal .f32) = (⊤ : EReal) from ctop]
  refine congrArg (fun f : Fin 256 → EReal => Finset.fold min (⊤ : EReal) f Finset.univ) (funext fun i => ?_)
  have hl : reduces_S768x256_S768.lift (ix1 R) i = ix2 R i := by
    funext a; fin_cases a <;> rfl
  rw [Function.comp_apply]
  exact (congrArg _ hl).trans (sV_apply R t i)
theorem sel_at {s : Shape} (a : FVec Ideal s .f32) (u v : BitVec 32) (b : FVec Ideal s .f32) (i : s.Idx) :
    select (cmpf .olt a (broadcast s (Scalar.ofBits .f32 u : Ideal .f32))) (broadcast s (Scalar.ofBits .f32 v : Ideal .f32)) b i
      = Scalar.select (Ideal.cmp .olt (a i) (Ideal.ofBits .f32 u)) (Ideal.ofBits .f32 v) (b i) := rfl
theorem pay3_apply : k0_pay3 X (ix2 R 0) = scaleR (rowMax (rowOf X R) * gam) := by
  have h : k0_pay3 X (ix2 R 0) = Scalar.select (Ideal.cmp .olt (tV X (ix2 R 0)) (Ideal.ofBits .f32 0x00800000#32)) (Ideal.ofBits .f32 0x3F800000#32)
    (shapeCast S768x1 (nV (tV X)) shapeCasts_S768_S768x1 (ix2 R (0 : Fin 1))) := by
    rw [pay3_eq]
    exact sel_at _ _ _ _ _
  have h2 : shapeCast S768x1 (nV (tV X)) shapeCasts_S768_S768x1 (ix2 R (0 : Fin 1)) = above (tV X (ix2 R 0)) :=
    (Idealize.ShloMosaic.shapeCast_apply _ shapeCasts_S768_S768x1 (ix2 R (0 : Fin 1)) (ix1 R)
      (by rw [Shape.rowMajor_val_one, Shape.rowMajor_val_two]; show R.val = R.val * 1 + 0; omega)).trans (nV_apply R _)
  have h3 : (0x00800000#32 : BitVec 32) = IntOp.shli .vector (BitVec.ofNat 32 1) 23#32 := by decide
  rw [h, h2, lt_sel, tV_apply, cone, h3]
  unfold scaleR pw
  rfl
theorem pay4_apply (k : Fin 5120) : k0_pay4 X (ix2 R k) = min c448 (max cm448 (rowOf X R k * Ideal.div 1 (scaleR (rowMax (rowOf X R) * gam)))) := by
  have e : broadcastTo S768x5120 (divf (broadcast S768x1 (Scalar.ofBits .f32 0x3F800000#32)) (k0_pay3 X)) broadcasts_S768x1_S768x5120 (ix2 R k)
      = Ideal.div 1 (scaleR (rowMax (rowOf X R) * gam)) := by
    have hi : broadcastTo S768x5120 (divf (broadcast S768x1 (Scalar.ofBits .f32 0x3F800000#32)) (k0_pay3 X)) broadcasts_S768x1_S768x5120 (ix2 R k)
      = divf (broadcast S768x1 (Scalar.ofBits .f32 0x3F800000#32)) (k0_pay3 X) (ix2 R 0) := by
      refine congrArg (divf (broadcast S768x1 (Scalar.ofBits .f32 0x3F800000#32)) (k0_pay3 X)) ?_; funext a; fin_cases a <;> rfl
    refine hi.trans ?_
    rw [divf_at, bc_at, cone, pay3_apply]
  exact congrArg (fun z : EReal => min c448 (max cm448 (rowOf X R k * z))) e

/-- The largest finite number of the row's format. -/
def big : EReal := Ideal.ofBits .f32 0x7F7F0000#32

theorem lt_253 (a : EReal) (h : a ≤ big) : a * gam < pw 253 := by
  have hb : big = ((2 ^ 128 - 2 ^ 120 : ℝ) : EReal) := by
    unfold big
    have b1 : (0x7F7F0000#32 : BitVec 32).extractLsb' 31 1 = 0#1 := by decide
    have b2 : ((0x7F7F0000#32 : BitVec 32).extractLsb' 23 8).toNat = 254 := by decide
    have b3 : ((0x7F7F0000#32 : BitVec 32).extractLsb' 0 23).toNat = 8323072 := by decide
    unfold Ideal.ofBits
    simp only [Ideal.ieee]
    rw [show (8 + 23 : ℕ) = 31 from rfl, b1, b2, b3, if_neg (by norm_num), if_neg (by norm_num), EReal.coe_eq_coe_iff]
    norm_num
  have hg : gam = ((9586981 / 2 ^ 32 : ℝ) : EReal) := by
    unfold gam
    have b1 : (0x3B124925#32 : BitVec 32).extractLsb' 31 1 = 0#1 := by decide
    have b2 : ((0x3B124925#32 : BitVec 32).extractLsb' 23 8).toNat = 118 := by decide
    have b3 : ((0x3B124925#32 : BitVec 32).extractLsb' 0 23).toNat = 1198373 := by decide
    unfold Ideal.ofBits
    simp only [Ideal.ieee]
    rw [show (8 + 23 : ℕ) = 31 from rfl, b1, b2, b3, if_neg (by norm_num), if_neg (by norm_num), EReal.coe_eq_coe_iff]
    norm_num
  have h0 : (0 : EReal) ≤ gam := by rw [hg]; exact_mod_cast (by positivity : (0 : ℝ) ≤ 9586981 / 2 ^ 32)
  refine lt_of_le_of_lt (mul_le_mul_of_nonneg_right h h0) ?_
  rw [hb, hg, pw_eq 253 (by omega) (by omega), ← EReal.coe_mul, EReal.coe_lt_coe_iff]
  norm_num

theorem row_scale (h : rowMax (rowOf X R) ≤ big) : k0_pay3 X (ix2 R 0) = rowScale (rowOf X R) := by
  rw [pay3_apply]
  exact ((scale_eq _ _ (fun e => by rw [e, zero_mul]) (lt_253 _ h)).1).symm
theorem row_code (h : rowMax (rowOf X R) ≤ big) (k : Fin 5120) : k0_pay4 X (ix2 R k) = rowCode (rowOf X R) k := by
  rw [pay4_apply]
  unfold rowCode rowInv
  rw [(scale_eq _ _ (fun e => by rw [e, zero_mul]) (lt_253 _ h)).2]

theorem accOf_apply (h : rowMax (rowOf X R) ≤ big) (v : Vec Ideal S1x5120x3072 .fp8e4m3) (q : Fin 3072) :
    accOf X v (ix2 R q) = 0 + ∑ k : Fin 5120, rowCode (rowOf X R) k * v (ix3 (0 : Fin 1) k q) := by
  refine (Ideal.matmul_plain_apply (M := 768) (K := 5120) (N := 3072) none (k0_pay4 X) (shapeCast S5120x3072 v shapeCasts_S1x5120x3072_S5120x3072 : FVec Ideal S5120x3072 .fp8e4m3) _ R q).trans ?_
  have h0 : (constant S768x3072 .f32 0x00000000#32 : FVec Ideal S768x3072 .f32) (ix2 R q) = (0 : EReal) := by
    show Ideal.ofBits .f32 0x00000000#32 = 0
    simp [Ideal.ofBits, Ideal.ieee]
  refine congrArg₂ (fun a b : EReal => a + b) h0 (Finset.sum_congr rfl fun k _ => ?_)
  have hw : shapeCast S5120x3072 v shapeCasts_S1x5120x3072_S5120x3072 (ix2 k q) = v (ix3 (0 : Fin 1) k q) :=
    Idealize.ShloMosaic.shapeCast_apply v shapeCasts_S1x5120x3072_S5120x3072 (ix2 k q) (ix3 (0 : Fin 1) k q)
      (by rw [Shape.rowMajor_val_two, Shape.rowMajor_val_three]; show (0 * 5120 + k.val) * 3072 + q.val = k.val * 3072 + q.val; omega)
  exact congrArg₂ (fun a b : EReal => a * b) (row_code X R h k) hw

/-- The reference's result in row `R` is that of the group the row belongs to. -/
theorem refOut_eq (sz : ℕ → ℕ) (hf : Fits sz) (s : Fin 9 → BitVec 32) (hs : ∀ e : Fin 9, s e = Cert.Proof.KernelIdeal.wd (sz e.val))
    (w : Fin 9 → Vec Ideal S1x5120x3072 .fp8e4m3) (g : Fin 9 → Vec Ideal S1x3072 .f32) (h : rowMax (rowOf X R) ≤ big) (q : Fin 3072) (e : Fin 9)
    (h1 : start sz e.val ≤ R.val) (h2 : R.val < start sz e.val + sz e.val) :
    refOut X s w g (ix2 R q) = outVal (rowOf X) (fun e k q => w e (ix3 (0 : Fin 1) k q)) (fun e q => g e (ix2 (0 : Fin 1) q)) R e q := by
  rw [refOut_apply, chain_eq sz hf R q s hs _ _ e h1 h2, chain_eq sz hf R q s hs _ _ e h1 h2, accOf_apply X R h]
  have hg : gainOf (g e) (ix2 R q) = g e (ix2 (0 : Fin 1) q) := by
    unfold gainOf
    rw [Idealize.ShloMosaic.shapeCast_self]
    refine congrArg (g e) ?_; funext a; fin_cases a <;> rfl
  have hsc : broadcastTo S768x3072 (k0_pay3 X) broadcasts_S768x1_S768x3072 (ix2 R q) = rowScale (rowOf X R) := by
    refine Eq.trans ?_ (row_scale X R h)
    refine congrArg (k0_pay3 X) ?_; funext a; fin_cases a <;> rfl
  rw [hg, hsc]
  rfl

end Cert.Proof.ReferenceIdeal

end
-- ==== Proof.PreFinite.lean ====
/-
  What the predicate on the sizes and the rows says.
-/
module

public import proofs.«01_k».proof.Proof.Frame
public import proofs.«01_k».proof.Proof.RefQuant
public import proofs.«01_k».proof.Pre_sizes_fit_rows_finite
public import proofs.«01_k».proof.Proof.Gen.Pre_sizes_fit_rows_finite

@[expose] public section

set_option maxRecDepth 16384

noncomputable section

namespace Cert.Proof.Finite

open Cert.Proof.Sched
open Cert.Proof.KernelIdeal (rowMax rowMax_le)
open Cert.Proof.ReferenceIdeal (big)
open Idealize.ShloMosaic
open Idealize.ShloMosaic.TcCoe Idealize.ShloMosaic.Tactic
open Idealize.ShloMosaic.ValueIdx (ix1 ix2 ix3)

theorem ole_one (a b : EReal) (h : Ideal.cmp .ole a b = 1#1) : a ≤ b := by
  unfold Ideal.cmp at h
  change BitVec.ofBool (decide (a ≤ b)) = 1#1 at h
  by_cases p : a ≤ b
  · exact p
  · rw [decide_eq_false p] at h; exact absurd h (by decide)

/-- The group sizes add up. -/
theorem fits_pre (x0 x1 x2 x3) (h : Cert.Pre_sizes_fit_rows_finite.fn (F := Ideal) x0 x1 x2 x3 = fun _ => 1#1) : Fits (szOf x1) := by
  have e := congrFun h (fun i => i.elim0)
  unfold Cert.Pre_sizes_fit_rows_finite.fn at e
  obtain ⟨e, -⟩ := IntOp.andi_eq_one.1 e
  obtain ⟨ea, es⟩ := IntOp.andi_eq_one.1 e
  have eb := fun i => IntOp.andi_eq_one.1 (Host.reduce_andi_all _ _ _ _ _ ea i)
  refine fits_of x1 (fun i => ?_) (fun i => ?_) _ (fun _ => rfl) _ _ _ (IntOp.cmpi_eq.1 es)
  · have := IntOp.cmpi_sge.1 (eb i).1; exact this
  · have := IntOp.cmpi_sle.1 (eb i).2; exact this

/-- No row holds more than the largest finite number. -/
theorem rows_pre (x0 x1 x2 x3) (h : Cert.Pre_sizes_fit_rows_finite.fn (F := Ideal) x0 x1 x2 x3 = fun _ => 1#1) (R : Fin 768) :
    rowMax (fun k => x0 (ix2 R k)) ≤ big := by
  have e := congrFun h (fun i => i.elim0)
  unfold Cert.Pre_sizes_fit_rows_finite.fn at e
  obtain ⟨-, er⟩ := IntOp.andi_eq_one.1 e
  rw [rowMax_le]
  intro k
  have := Host.reduce_andi_all _ _ _ _ _ er (ix2 R k)
  exact ole_one _ _ this

end Cert.Proof.Finite

end
-- ==== Proof.Trip2.lean ====
/-
  What one trip of the loop of chunk 0 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip2 (f7 : Buf (Elt F) (a7.view.loc (c : Thread nD τ))) (x1 x2 x3 : BitVec 32) (k : Fin k0_t2_loop.trips) :
    IsTrip (k0_off13 k 0) (xt c f7 (k0_off13 k 0) (k0_off13_inb k 0))
      (qtrip2 c arg0 harg0 arg3 harg3 sz v109 v110 f7 x1 x2 x3 k).1 (qtrip2 c arg0 harg0 arg3 harg3 sz v109 v110 f7 x1 x2 x3 k).2.1 := by
  unfold qtrip2
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row2 (k : Fin k0_t2_loop.trips) : k0_off13 k 0 = 96 * 0 + 32 * k.val := by
  have hk : k.val < 3 := Nat.lt_of_lt_of_le k.isLt k0_t2_abs.2.1
  obtain ⟨k, h⟩ := k
  have hk : k < 3 := hk
  interval_cases k <;> rfl
end

end Cert.Proof.KernelIdeal

end
-- ==== Proof.Trip3.lean ====
/-
  What one trip of the loop of chunk 1 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip3 (f7 : Buf (Elt F) (a7.view.loc (c : Thread nD τ))) (x1 x2 x3 : BitVec 32) (k : Fin k0_t3_loop.trips) :
    IsTrip (k0_off94 k 0) (xt c f7 (k0_off94 k 0) (k0_off94_inb k 0))
      (qtrip3 c arg0 harg0 arg3 harg3 sz v109 v110 f7 x1 x2 x3 k).1 (qtrip3 c arg0 harg0 arg3 harg3 sz v109 v110 f7 x1 x2 x3 k).2.1 := by
  unfold qtrip3
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row3 (k : Fin k0_t3_loop.trips) : k0_off94 k 0 = 96 * 1 + 32 * k.val := by
  have hk : k.val < 3 := Nat.lt_of_lt_of_le k.isLt k0_t3_abs.2.1
  obtain ⟨k, h⟩ := k
  have hk : k < 3 := hk
  interval_cases k <;> rfl
end

end Cert.Proof.KernelIdeal

end
-- ==== Proof.Trip4.lean ====
/-
  What one trip of the loop of chunk 2 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip4 (f7 : Buf (Elt F) (a7.view.loc (c : Thread nD τ))) (x1 x2 x3 : BitVec 32) (k : Fin k0_t4_loop.trips) :
    IsTrip (k0_off175 k 0) (xt c f7 (k0_off175 k 0) (k0_off175_inb k 0))
      (qtrip4 c arg0 harg0 arg3 harg3 sz v109 v110 f7 x1 x2 x3 k).1 (qtrip4 c arg0 harg0 arg3 harg3 sz v109 v110 f7 x1 x2 x3 k).2.1 := by
  unfold qtrip4
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row4 (k : Fin k0_t4_loop.trips) : k0_off175 k 0 = 96 * 2 + 32 * k.val := by
  have hk : k.val < 3 := Nat.lt_of_lt_of_le k.isLt k0_t4_abs.2.1
  obtain ⟨k, h⟩ := k
  have hk : k < 3 := hk
  interval_cases k <;> rfl
end

end Cert.Proof.KernelIdeal

end
-- ==== Proof.Trip5.lean ====
/-
  What one trip of the loop of chunk 3 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip5 (f7 : Buf (Elt F) (a7.view.loc (c : Thread nD τ)))  (k : Fin k0_t5_loop.trips) :
    IsTrip (k0_off256 k 0) (xt c f7 (k0_off256 k 0) (k0_off256_inb k 0))
      (qtrip5 c arg0 harg0 arg3 harg3  f7  k).1 (qtrip5 c arg0 harg0 arg3 harg3  f7  k).2.1 := by
  unfold qtrip5
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row5 (k : Fin k0_t5_loop.trips) : k0_off256 k 0 = 96 * 3 + 32 * k.val := by
  have hk : k.val < 3 := Nat.lt_of_lt_of_le k.isLt k0_t5_abs.2.1
  obtain ⟨k, h⟩ := k
  have hk : k < 3 := hk
  interval_cases k <;> rfl
end

end Cert.Proof.KernelIdeal

end
-- ==== Proof.Trip6.lean ====
/-
  What one trip of the loop of chunk 4 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip6 (f7 : Buf (Elt F) (a7.view.loc (c : Thread nD τ)))  (k : Fin k0_t6_loop.trips) :
    IsTrip (k0_off337 k 0) (xt c f7 (k0_off337 k 0) (k0_off337_inb k 0))
      (qtrip6 c arg0 harg0 arg3 harg3  f7  k).1 (qtrip6 c arg0 harg0 arg3 harg3  f7  k).2.1 := by
  unfold qtrip6
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row6 (k : Fin k0_t6_loop.trips) : k0_off337 k 0 = 96 * 4 + 32 * k.val := by
  have hk : k.val < 3 := Nat.lt_of_lt_of_le k.isLt k0_t6_abs.2.1
  obtain ⟨k, h⟩ := k
  have hk : k < 3 := hk
  interval_cases k <;> rfl
end

end Cert.Proof.KernelIdeal

end
-- ==== Proof.Trip7.lean ====
/-
  What one trip of the loop of chunk 5 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip7 (f7 : Buf (Elt F) (a7.view.loc (c : Thread nD τ)))  (k : Fin k0_t7_loop.trips) :
    IsTrip (k0_off418 k 0) (xt c f7 (k0_off418 k 0) (k0_off418_inb k 0))
      (qtrip7 c arg0 harg0 arg3 harg3  f7  k).1 (qtrip7 c arg0 harg0 arg3 harg3  f7  k).2.1 := by
  unfold qtrip7
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row7 (k : Fin k0_t7_loop.trips) : k0_off418 k 0 = 96 * 5 + 32 * k.val := by
  have hk : k.val < 3 := Nat.lt_of_lt_of_le k.isLt k0_t7_abs.2.1
  obtain ⟨k, h⟩ := k
  have hk : k < 3 := hk
  interval_cases k <;> rfl
end

end Cert.Proof.KernelIdeal

end
-- ==== Proof.Trip8.lean ====
/-
  What one trip of the loop of chunk 6 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip8 (f7 : Buf (Elt F) (a7.view.loc (c : Thread nD τ)))  (k : Fin k0_t8_loop.trips) :
    IsTrip (k0_off499 k 0) (xt c f7 (k0_off499 k 0) (k0_off499_inb k 0))
      (qtrip8 c arg0 harg0 arg3 harg3  f7  k).1 (qtrip8 c arg0 harg0 arg3 harg3  f7  k).2.1 := by
  unfold qtrip8
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row8 (k : Fin k0_t8_loop.trips) : k0_off499 k 0 = 96 * 6 + 32 * k.val := by
  have hk : k.val < 3 := Nat.lt_of_lt_of_le k.isLt k0_t8_abs.2.1
  obtain ⟨k, h⟩ := k
  have hk : k < 3 := hk
  interval_cases k <;> rfl
end

end Cert.Proof.KernelIdeal

end
-- ==== Proof.Trip9.lean ====
/-
  What one trip of the loop of chunk 7 writes.
-/
module

public import proofs.«01_k».proof.Proof.Scale
public import proofs.«01_k».proof.Proof.Pieces
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)

set_option maxHeartbeats 4000000 in
set_option maxRecDepth 100000 in
theorem trip9 (f7 : Buf (Elt F) (a7.view.loc (c : Thread nD τ))) (k12 : k0_chk12 (wd (sz 0)) (wd (sz 1)) (wd (sz 2)) (wd (sz 3)) (wd (sz 4)) (wd (sz 5)) (wd (sz 6)) (wd (sz 7)) (wd (sz 8))) (x1 x2 : BitVec 32) (k : Fin k0_t9_loop.trips) :
    IsTrip (k0_off580 k 0) (xt c f7 (k0_off580 k 0) (k0_off580_inb k 0))
      (qtrip9 c arg0 harg0 arg3 harg3 sz v109 v110 f7 k12 x1 x2 k).1 (qtrip9 c arg0 harg0 arg3 harg3 sz v109 v110 f7 k12 x1 x2 k).2.1 := by
  unfold qtrip9
  exact ⟨.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.cons ⟨_, _, rfl, rfl⟩ (.nil)))))))))))))))))))))))))))))))))))))))), _, ⟨_, _, rfl, rfl⟩, rfl⟩

theorem row9 (k : Fin k0_t9_loop.trips) : k0_off580 k 0 = 96 * 7 + 32 * k.val := by
  have hk : k.val < 3 := Nat.lt_of_lt_of_le k.isLt k0_t9_abs.2.1
  obtain ⟨k, h⟩ := k
  have hk : k < 3 := hk
  interval_cases k <;> rfl
end

end Cert.Proof.KernelIdeal

end
-- ==== Proof.QIdeal.lean ====
/-
  The eight quantising loops keep the account of the quantised rows.
-/
module

public import proofs.«01_k».proof.Proof.Scale
public import proofs.«01_k».proof.Proof.Steps
public import proofs.«01_k».proof.Proof.Trip2
public import proofs.«01_k».proof.Proof.Trip3
public import proofs.«01_k».proof.Proof.Trip4
public import proofs.«01_k».proof.Proof.Trip5
public import proofs.«01_k».proof.Proof.Trip6
public import proofs.«01_k».proof.Proof.Trip7
public import proofs.«01_k».proof.Proof.Trip8
public import proofs.«01_k».proof.Proof.Trip9
public import proofs.«01_k».proof.Proof.Qreg
public import Idealize.ShloMosaic.Lib.WritesUnit
public import proofs.«01_k».proof.Proof.Quant
public import proofs.«01_k».proof.Proof.Gen.KernelIdeal.Skeleton
public import Idealize.ShloMosaic.Lib.ValueIdx
public import Idealize.ShloMosaic.Lib.Pipeline.Value
public import Idealize.ShloMosaic.PureOps.Ideal.Laws
public import Mathlib.Tactic.IntervalCases

@[expose] public section

set_option backward.proofsInPublic true

noncomputable section

namespace Cert.Proof.KernelIdeal

open Cert.KernelIdeal Cert.KernelIdeal.Gen Cert.Proof.Scale
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
open Idealize.ShloMosaic.ValueIdx (ix1 ix2 ix3)

section
variable (c : Dev nD) (arg0 : Memref sig .tc .smem S9 .i32) (harg0 : arg0.IsWhole)
  (arg3 : Memref sig .tc .vmem S9x3072 .f32) (harg3 : arg3.IsWhole) (sz : ℕ → ℕ) (v109 v110 : BitVec 32)
  (x : Buf (Elt Ideal) (a1.view.loc (c : Thread nD τ)))

theorem qsteps : QSteps (F := Ideal) c (QPv c (xmOf c x)) arg0 harg0 arg3 harg3 sz v109 v110 x where
  q2 := fun x1 x2 x3 k f8 f9 h => trip_of c _ 0 k.val (Nat.lt_of_lt_of_le k.isLt k0_t2_abs.2.1) x _ (row2 k) _ _ (trip2 c arg0 harg0 arg3 harg3 sz v109 v110 (xgot c 0 x) x1 x2 x3 k) f8 f9 h
  q3 := fun x1 x2 x3 k f8 f9 h => trip_of c _ 1 k.val (Nat.lt_of_lt_of_le k.isLt k0_t3_abs.2.1) x _ (row3 k) _ _ (trip3 c arg0 harg0 arg3 harg3 sz v109 v110 (xgot c 1 x) x1 x2 x3 k) f8 f9 h
  q4 := fun x1 x2 x3 k f8 f9 h => trip_of c _ 2 k.val (Nat.lt_of_lt_of_le k.isLt k0_t4_abs.2.1) x _ (row4 k) _ _ (trip4 c arg0 harg0 arg3 harg3 sz v109 v110 (xgot c 2 x) x1 x2 x3 k) f8 f9 h
  q5 := fun  k f8 f9 h => trip_of c _ 3 k.val (Nat.lt_of_lt_of_le k.isLt k0_t5_abs.2.1) x _ (row5 k) _ _ (trip5 c arg0 harg0 arg3 harg3  (xgot c 3 x)  k) f8 f9 h
  q6 := fun  k f8 f9 h => trip_of c _ 4 k.val (Nat.lt_of_lt_of_le k.isLt k0_t6_abs.2.1) x _ (row6 k) _ _ (trip6 c arg0 harg0 arg3 harg3  (xgot c 4 x)  k) f8 f9 h
  q7 := fun  k f8 f9 h => trip_of c _ 5 k.val (Nat.lt_of_lt_of_le k.isLt k0_t7_abs.2.1) x _ (row7 k) _ _ (trip7 c arg0 harg0 arg3 harg3  (xgot c 5 x)  k) f8 f9 h
  q8 := fun  k f8 f9 h => trip_of c _ 6 k.val (Nat.lt_of_lt_of_le k.isLt k0_t8_abs.2.1) x _ (row8 k) _ _ (trip8 c arg0 harg0 arg3 harg3  (xgot c 6 x)  k) f8 f9 h
  q9 := fun k12 x1 x2 k f8 f9 h => trip_of c _ 7 k.val (Nat.lt_of_lt_of_le k.isLt k0_t9_abs.2.1) x _ (row9 k) _ _ (trip9 c arg0 harg0 arg3 harg3 sz v109 v110 (xgot c 7 x) k12 x1 x2 k) f8 f9 h
end

end Cert.Proof.KernelIdeal

end
-- ==== Proof.KernelValue.lean ====
/-
  The kernel's run with the value of every element of its result.
-/
module

public import proofs.«01_k».proof.Proof.Frame
public import proofs.«01_k».proof.Proof.QIdeal
public import proofs.«01_k».proof.Proof.Pad

@[expose] public section

noncomputable section

namespace Cert.Proof.KernelIdeal

open Cert.KernelIdeal Cert.KernelIdeal.Gen Cert.Proof.Sched
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx (ix1 ix2 ix3)

variable (m : (ℓ : Loc nD τ sig) → Buf (Elt Ideal) ℓ) (ρ : Dev nD → PrngReg)

/-- The rows, the matrices and the gains in memory. -/
def xAt (c : Dev nD) : Fin 768 → Fin 5120 → EReal := fun R k => m ((c : Thread nD τ).loc main_arg0) (ix2 R k)
def wAt (c : Dev nD) : Fin 9 → Fin 5120 → Fin 3072 → EReal := fun e k q => m ((c : Thread nD τ).loc main_arg2) (ix3 e k q)
def gAt (c : Dev nD) : Fin 9 → Fin 3072 → EReal := fun e q => m ((c : Thread nD τ).loc main_arg3) (ix2 e q)

theorem x_at (c : Dev nD) : xmOf c (V m ρ c main_arg0) = xAt m c := rfl
theorem w_at (c : Dev nD) : wmOf c (V m ρ c main_arg2) = wAt m c := rfl
theorem g_at (c : Dev nD) (t : Fin cfg0.N) : gmOf c (st0_1 t) (gainsAt m ρ c t) = gAt m c := by
  funext e q
  unfold gmOf
  rw [View.read_rep]
  unfold iblk
  rw [View.read_apply]
  show m ((c : Thread nD τ).loc main_arg3) _ = _
  refine congrArg _ (funext fun (a : Fin 2) => ?_)
  have ht : t.val = 0 := by have := t.isLt; change _ < 1 at this; omega
  obtain ⟨tv, hv⟩ := t
  subst ht
  apply Fin.ext
  match a with
  | ⟨0, _⟩ =>
    first
    | (show 0 * 9 + 1 * e.val = e.val; omega)
    | (show 0 + 1 * e.val = e.val; omega)
    | (show 0 + e.val * 1 = e.val; omega)
  | ⟨1, _⟩ =>
    first
    | (show 0 * 3072 + 1 * q.val = q.val; omega)
    | (show 0 + 1 * q.val = q.val; omega)
    | (show 0 + q.val * 1 = q.val; omega)

/-- What is said of the codes and scales as they are made, and of every value of the result. -/
def planV (h : PreOK m) : Plan m ρ where
  sz := szAt m
  fits := h
  sizes := sizes_at m ρ
  QP c := QPv c (xAt m c)
  start c f8 f9 := by
    intro R hR
    exact absurd hR (Nat.not_lt_zero _)
  steps c t := by
    rw [← x_at m ρ c]
    exact qsteps c _ _ _ _ _ _ _ _
  Spec c := SpecV (szAt m c) (xAt m c) (wAt m c) (gAt m c)
  pad c t := by
    rw [← x_at m ρ c, ← w_at m ρ c, ← g_at m ρ c t]
    exact pad_ok c _ _ _ (h c) _ _

/-- An element of the result through its column piece. -/
theorem ocol_read (c : Dev nD) (g : Buf (Elt Ideal) ((c : Thread nD τ).loc main_v0)) (n : Fin 6) (R : Fin 768) (C : Fin 512) (q : Fin 3072) (hq : q.val = n.val * 512 + C.val) :
    (ocol n).view.read (Elt Ideal) g (ix2 R C) = g (ix2 R q) := by
  show g _ = g _
  refine congrArg g (funext fun (a : Fin 2) => ?_)
  apply Fin.ext
  match a with
  | ⟨0, _⟩ =>
    first
    | (show 0 + 1 * R.val = R.val; omega)
    | (show 0 + R.val * 1 = R.val; omega)
  | ⟨1, _⟩ =>
    first
    | (show n.val * 512 + 1 * C.val = q.val; omega)
    | (show 512 * n.val + 1 * C.val = q.val; omega)

/-- The run with the value of every element of the result: that of the group its row belongs to. -/
theorem run_value (h : PreOK m) : θ_run defs (onTc (τ := τ) (main (F := Ideal))) ⟨m, fun _ => 0, ρ⟩ (fun r =>
    Unchanged m r ∧ ∀ (c : Dev nD) (R : Fin 768) (q : Fin 3072), ∃ e : Fin 9, start (szAt m c) e.val ≤ R.val ∧ R.val < start (szAt m c) e.val + szAt m c e.val
      ∧ r.2.mem ((c : Thread nD τ).loc main_v0) (ix2 R q) = outVal (xAt m c) (wAt m c) (gAt m c) R e q) :=
  (θ_run defs _ _).mono (fun r hh => ⟨hh.1, fun c R q => by
    have hC : q.val % 512 < 512 := Nat.mod_lt _ (by omega)
    have hn : q.val / 512 < 6 := by have := q.isLt; omega
    obtain ⟨hR, hq, e, h1, h2, h3⟩ := hh.2 c ⟨q.val / 512, hn⟩ R ⟨q.val % 512, hC⟩
    have hqe : q.val / 512 * 512 + q.val % 512 = q.val := by omega
    refine ⟨e, h1, h2, ?_⟩
    rw [ocol_read c _ ⟨q.val / 512, hn⟩ R ⟨q.val % 512, hC⟩ q hqe.symm] at h3
    rw [h3]
    congr 1
    exact Fin.ext hqe⟩) (run_frame m ρ (planV m ρ h))

end Cert.Proof.KernelIdeal

end
-- ==== Proof.RefFinal.lean ====
/-
  The run of the reference, with its result named.
-/
module

public import proofs.«01_k».proof.Proof.RefRun

@[expose] public section

set_option maxRecDepth 16384

noncomputable section

namespace Cert.Proof.ReferenceIdeal

open Cert.ReferenceIdeal Cert.ReferenceIdeal.Gen
open Idealize.ShloMosaic
open Idealize.ShloMosaic.TcCoe Idealize.ShloMosaic.Tactic
open Idealize.SL.Sem Cert.ReferenceIdeal.Value
open Idealize.ShloMosaic.ValueIdx (ix1 ix2 ix3)

variable {F : FTy → Type} [FloatOps F]
variable (m : (ℓ : Loc nD τ sig) → Buf (Elt F) ℓ) (ρ : Dev nD → PrngReg)

theorem idx_zero0 : ∀ t : Fin cfg0.N, win0_0.index t (0 : Fin 2) = 0 ∧ win0_0.index t (1 : Fin 2) = 0 :=
  (by decide +kernel : ∀ t : Fin grid0.N, _)
theorem emb0 (t : Fin cfg0.N) (j : S768x5120.Idx) : ((cfg0.win 0).blk t).view.emb j = j := by
  obtain ⟨e0, e1⟩ := idx_zero0 t
  funext a; apply Fin.ext
  match a with
  | ⟨0, _⟩ => show win0_0.index t (0 : Fin 2) * 768 + 1 * (j 0).val = (j 0).val; omega
  | ⟨1, _⟩ => show win0_0.index t (1 : Fin 2) * 5120 + 1 * (j 1).val = (j 1).val; omega
theorem iblk0_eq (c : Dev nD) (t : Fin cfg0.N) : iblk m c 0 t = V m c main_arg0 := by
  funext j; show V m c main_arg0 (((cfg0.win 0).blk t).view.emb j) = V m c main_arg0 j; rw [emb0]
theorem idx_zero1 : ∀ t : Fin cfg0.N, win0_1.index t (0 : Fin 1) = 0 :=
  (by decide +kernel : ∀ t : Fin grid0.N, _)
theorem emb1 (t : Fin cfg0.N) (j : S9.Idx) : ((cfg0.win 1).blk t).view.emb j = j := by
  have e0 := idx_zero1 t
  funext a; apply Fin.ext
  match a with
  | ⟨0, _⟩ => show win0_1.index t (0 : Fin 1) * 9 + 1 * (j 0).val = (j 0).val; omega
theorem iblk1_eq (c : Dev nD) (t : Fin cfg0.N) : iblk m c 1 t = V m c main_arg1 := by
  funext j; show V m c main_arg1 (((cfg0.win 1).blk t).view.emb j) = V m c main_arg1 j; rw [emb1]
theorem idx_zero2 : ∀ t : Fin cfg0.N, win0_2.index t (0 : Fin 3) = 0 ∧ win0_2.index t (1 : Fin 3) = 0 ∧ win0_2.index t (2 : Fin 3) = 0 :=
  (by decide +kernel : ∀ t : Fin grid0.N, _)
theorem emb2 (t : Fin cfg0.N) (j : S9x5120x3072.Idx) : ((cfg0.win 2).blk t).view.emb j = j := by
  obtain ⟨e0, e1, e2⟩ := idx_zero2 t
  funext a; apply Fin.ext
  match a with
  | ⟨0, _⟩ => show win0_2.index t (0 : Fin 3) * 9 + 1 * (j 0).val = (j 0).val; omega
  | ⟨1, _⟩ => show win0_2.index t (1 : Fin 3) * 5120 + 1 * (j 1).val = (j 1).val; omega
  | ⟨2, _⟩ => show win0_2.index t (2 : Fin 3) * 3072 + 1 * (j 2).val = (j 2).val; omega
theorem iblk2_eq (c : Dev nD) (t : Fin cfg0.N) : iblk m c 2 t = V m c main_arg2 := by
  funext j; show V m c main_arg2 (((cfg0.win 2).blk t).view.emb j) = V m c main_arg2 j; rw [emb2]
theorem idx_zero3 : ∀ t : Fin cfg0.N, win0_3.index t (0 : Fin 2) = 0 ∧ win0_3.index t (1 : Fin 2) = 0 :=
  (by decide +kernel : ∀ t : Fin grid0.N, _)
theorem emb3 (t : Fin cfg0.N) (j : S9x3072.Idx) : ((cfg0.win 3).blk t).view.emb j = j := by
  obtain ⟨e0, e1⟩ := idx_zero3 t
  funext a; apply Fin.ext
  match a with
  | ⟨0, _⟩ => show win0_3.index t (0 : Fin 2) * 9 + 1 * (j 0).val = (j 0).val; omega
  | ⟨1, _⟩ => show win0_3.index t (1 : Fin 2) * 3072 + 1 * (j 1).val = (j 1).val; omega
theorem iblk3_eq (c : Dev nD) (t : Fin cfg0.N) : iblk m c 3 t = V m c main_arg3 := by
  funext j; show V m c main_arg3 (((cfg0.win 3).blk t).view.emb j) = V m c main_arg3 j; rw [emb3]
theorem idx_zero4 : ∀ t : Fin cfg0.N, win0_4.index t (0 : Fin 2) = 0 ∧ win0_4.index t (1 : Fin 2) = 0 :=
  (by decide +kernel : ∀ t : Fin grid0.N, _)
theorem emb4 (t : Fin cfg0.N) (j : S768x3072.Idx) : ((cfg0.win 4).blk t).view.emb j = j := by
  obtain ⟨e0, e1⟩ := idx_zero4 t
  funext a; apply Fin.ext
  match a with
  | ⟨0, _⟩ => show win0_4.index t (0 : Fin 2) * 768 + 1 * (j 0).val = (j 0).val; omega
  | ⟨1, _⟩ => show win0_4.index t (1 : Fin 2) * 3072 + 1 * (j 1).val = (j 1).val; omega

/-- The result as a function of the arguments. -/
abbrev resOf (x0 : Vec F S768x5120 .bf16) (x1 : Vec F S9 .i32) (x2 : Vec F S9x5120x3072 .fp8e4m3) (x3 : Vec F S9x3072 .f32) : Vec F S768x3072 .bf16 :=
  refOut x0 (ldS x1) (ldW x2) (ldG x3)

theorem cut4_eq (t : Fin cfg0.N) (X : Vec F S768x3072 .bf16) :
    (cfg0.win 4).cut (grid0.coords t) X = ((cfg0.win 4).blk t).view.read (Elt F) X := by
  funext j
  show X j = X (((cfg0.win 4).blk t).view.emb j)
  rw [emb4]
theorem flushed4_eq (c : Dev nD) (t : Fin cfg0.N) :
    (dats m 0 c).flushed 4 t = ((cfg0.win 4).blk t).view.read (Elt F) (resOf (V m c main_arg0) (V m c main_arg1) (V m c main_arg2) (V m c main_arg3)) := by
  rw [flushed4_A, out_eq, iblk0_eq, iblk1_eq, iblk2_eq, iblk3_eq]
  exact cut4_eq t _
theorem covered4 (i : S768x3072.Idx) :
    ∃ t : Fin cfg0.N, (cfg0.win 4).flush t = true ∧ i ∈ ((cfg0.win 4).blk t).view.set :=
  ⟨(⟨0, by decide⟩ : Fin cfg0.N), flush0_4 _, by
    have h := ((cfg0.win 4).blk (⟨0, by decide⟩ : Fin cfg0.N)).view.emb_mem_set i; rwa [emb4] at h⟩
theorem final4 (c : Dev nD) : (dats m 0 c).arrAt 4 cfg0.N
    = resOf (m ((c : Thread nD τ).loc main_arg0)) (m ((c : Thread nD τ).loc main_arg1)) (m ((c : Thread nD τ).loc main_arg2)) (m ((c : Thread nD τ).loc main_arg3)) :=
  ((dats m 0 c).arrAt_eq_of_cover 4 (resOf (V m c main_arg0) (V m c main_arg1) (V m c main_arg2) (V m c main_arg3)) (fun t _ => flushed4_eq m c t) covered4).trans
    (by rw [V_main_arg0, V_main_arg1, V_main_arg2, V_main_arg3])

/-- The run with the result at its function of the arguments. -/
theorem run : θ_run defs (onTc (τ := τ) (main (F := F))) ⟨m, fun _ => 0, ρ⟩ fun r => ∀ c : Dev nD,
      r.2.mem ((c : Thread nD τ).loc main_v0)
        = resOf (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2⟩) (run_blocks m ρ)

end Cert.Proof.ReferenceIdeal

end
-- ==== Proof.Same.lean ====
/-
  The kernel's result is the reference's.
-/
module

public import proofs.«01_k».proof.Proof.KernelValue
public import proofs.«01_k».proof.Proof.RefFinal
public import proofs.«01_k».proof.Proof.RefQuant

@[expose] public section

noncomputable section

namespace Cert.Proof

open Idealize.ShloMosaic Idealize.ShloMosaic.TcCoe
open Idealize.ShloMosaic.ValueIdx (ix1 ix2 ix3)
open Cert.Proof.Sched Cert.Proof.KernelIdeal Cert.Proof.ReferenceIdeal

/-- An array all of whose elements are those of the rows' groups is the reference's result. -/
theorem same_result (m : (ℓ : Loc Cert.KernelIdeal.nD Cert.KernelIdeal.τ Cert.KernelIdeal.sig) → Buf (Elt Ideal) ℓ) (c : Dev Cert.KernelIdeal.nD)
    (hf : Fits (szAt m c)) (hb : ∀ R : Fin 768, rowMax (xAt m c R) ≤ big)
    (g : Vec Ideal Cert.ReferenceIdeal.S768x3072 .bf16)
    (h : ∀ (R : Fin 768) (q : Fin 3072), ∃ e : Fin 9, start (szAt m c) e.val ≤ R.val ∧ R.val < start (szAt m c) e.val + szAt m c e.val
      ∧ g (ix2 R q) = outVal (xAt m c) (wAt m c) (gAt m c) R e q) :
    g = resOf (F := Ideal) (m ((c : Thread Cert.KernelIdeal.nD Cert.KernelIdeal.τ).loc Cert.KernelIdeal.main_arg0)) (m ((c : Thread Cert.KernelIdeal.nD Cert.KernelIdeal.τ).loc Cert.KernelIdeal.main_arg1))
      (m ((c : Thread Cert.KernelIdeal.nD Cert.KernelIdeal.τ).loc Cert.KernelIdeal.main_arg2)) (m ((c : Thread Cert.KernelIdeal.nD Cert.KernelIdeal.τ).loc Cert.KernelIdeal.main_arg3)) := by
  funext i
  have hi : i = ix2 (i 0) (i 1) := by funext (a : Fin 2); match a with | ⟨0, _⟩ => rfl | ⟨1, _⟩ => rfl
  rw [hi]
  obtain ⟨e, h1, h2, h3⟩ := h (i 0) (i 1)
  refine h3.trans (Eq.symm ?_)
  refine (refOut_eq (m ((c : Thread Cert.KernelIdeal.nD Cert.KernelIdeal.τ).loc Cert.KernelIdeal.main_arg0)) (i 0) (szAt m c) hf _ (fun e => ?_) _ _ (hb (i 0)) (i 1) e h1 h2).trans ?_
  · exact ((ofNat_szOf _ e.val e.isLt).trans (congrArg (m ((c : Thread Cert.KernelIdeal.nD Cert.KernelIdeal.τ).loc Cert.KernelIdeal.main_arg1)) (funext fun (a : Fin 1) => by
      have ha : a = 0 := Subsingleton.elim _ _
      subst ha; rfl))).symm
  · rfl

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Value
public import proofs.«01_k».proof.Proof.Gen.Pre_sizes_fit_rows_finite
public import proofs.«01_k».proof.Proof.Gen.Pre_sizes_fit
public import proofs.«01_k».proof.Proof.Frame
public import proofs.«01_k».proof.Proof.Transport
public import proofs.«01_k».proof.Proof.PreFinite
public import proofs.«01_k».proof.Proof.Same

@[expose] public section

noncomputable section

namespace Cert.Proof

open Idealize.ShloMosaic Idealize.SL.Sem

theorem frame_Kernel : Cert.quiescent_Kernel := fun m ρ hpre =>
  Cert.Proof.Kernel.frame_of m ρ fun c => Cert.Proof.KernelIdeal.fits_pre _ _ _ _ (hpre c)

theorem frame_KernelIdeal : Cert.quiescent_KernelIdeal := fun m ρ hpre =>
  Cert.Proof.KernelIdeal.frame_of m ρ fun c => Cert.Proof.KernelIdeal.fits_pre _ _ _ _ (hpre c)

theorem frame_ReferenceIdeal : Cert.quiescent_ReferenceIdeal := fun m ρ _ => Cert.ReferenceIdeal.Gen.frame m ρ

theorem frame_KernelIdeal_finite : Cert.quiescent_KernelIdeal_pre_sizes_fit_rows_finite := fun m ρ hpre =>
  Cert.Proof.KernelIdeal.frame_of m ρ fun c => Cert.Proof.Finite.fits_pre _ _ _ _ (hpre c)

theorem frame_ReferenceIdeal_finite : Cert.quiescent_ReferenceIdeal_pre_sizes_fit_rows_finite := fun m ρ _ => Cert.ReferenceIdeal.Gen.frame m ρ

theorem algebraic : Cert.algebraic_KernelIdeal_ReferenceIdeal_pre_sizes_fit_rows_finite := fun m g m' g' hpre hagree =>
  have hf : Cert.Proof.KernelIdeal.PreOK m := fun c => Cert.Proof.Finite.fits_pre _ _ _ _ (hpre c)
  ⟨fun c => Cert.Proof.ReferenceIdeal.resOf (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    (θ_run Cert.KernelIdeal.defs _ _).mono (fun r h c => ⟨Cert.Proof.same_result m c (hf c) (Cert.Proof.Finite.rows_pre _ _ _ _ (hpre c)) _ (h.2 c), h.1.1 c⟩)
      (Cert.Proof.KernelIdeal.run_value m g hf),
    (θ_run Cert.ReferenceIdeal.defs _ _).mono (fun r h c => ⟨(h c).1.trans (by
        rw [(hagree c).1, (hagree c).2.1, (hagree c).2.2.1, (hagree c).2.2.2]), (h c).2⟩)
      (Cert.Proof.ReferenceIdeal.run m' g')⟩

theorem claim : Cert.Claim :=
  ⟨Cert.Kernel.Gen.facts, Cert.KernelIdeal.Gen.facts, Cert.ReferenceIdeal.Gen.facts, Cert.Pre_sizes_fit.Gen.facts, Cert.Pre_sizes_fit_rows_finite.Gen.facts,
    frame_Kernel, frame_KernelIdeal, frame_KernelIdeal_finite, frame_ReferenceIdeal, frame_ReferenceIdeal_finite, trivial, algebraic⟩

end Cert.Proof

end
